-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_norm [hPre_finite_norm : Cert.Pre_finite_norm.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_norm.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_norm [hPre_finite_norm : Cert.Pre_finite_norm.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_norm.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_finite_norm [hKernel5Ideal : Cert.Kernel5Ideal.Facts] [hPre_finite_norm : Cert.Pre_finite_norm.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_norm m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_finite_norm [hReference5Ideal : Cert.Reference5Ideal.Facts] [hPre_finite_norm : Cert.Pre_finite_norm.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_norm m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_v136) = v1 c
          ∧ r.2.mem ((c.tc : Thread Cert.ReferenceIdeal.nD Cert.ReferenceIdeal.τ).loc Cert.ReferenceIdeal.main_v134) = v2 c
          ∧ r.2.mem ((c.tc : Thread Cert.ReferenceIdeal.nD Cert.ReferenceIdeal.τ).loc Cert.ReferenceIdeal.main_v141) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)) (v4 : (c : Dev Cert.Kernel4Ideal.nD) → Buf (Elt Ideal) ((c.tc : Thread Cert.Kernel4Ideal.nD Cert.Kernel4Ideal.τ).loc Cert.Kernel4Ideal.main_v0_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_v0_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v39) = v0 c
          ∧ r.2.mem ((c.tc : Thread Cert.Reference4Ideal.nD Cert.Reference4Ideal.τ).loc Cert.Reference4Ideal.main_v46) = v1 c
          ∧ r.2.mem ((c.tc : Thread Cert.Reference4Ideal.nD Cert.Reference4Ideal.τ).loc Cert.Reference4Ideal.main_v17) = v2 c
          ∧ r.2.mem ((c.tc : Thread Cert.Reference4Ideal.nD Cert.Reference4Ideal.τ).loc Cert.Reference4Ideal.main_v42) = v3 c
          ∧ r.2.mem ((c.tc : Thread Cert.Reference4Ideal.nD Cert.Reference4Ideal.τ).loc Cert.Reference4Ideal.main_v45) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal_pre_finite_norm [hKernel5Ideal : Cert.Kernel5Ideal.Facts] [hReference5Ideal : Cert.Reference5Ideal.Facts] [hPre_finite_norm : Cert.Pre_finite_norm.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_norm m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v24_0)) (v1 : (c : Dev Cert.Kernel5Ideal.nD) → Buf (Elt Ideal) ((c.tc : Thread Cert.Kernel5Ideal.nD Cert.Kernel5Ideal.τ).loc Cert.Kernel5Ideal.main_v24_1)) (v2 : (c : Dev Cert.Kernel5Ideal.nD) → Buf (Elt Ideal) ((c.tc : Thread Cert.Kernel5Ideal.nD Cert.Kernel5Ideal.τ).loc Cert.Kernel5Ideal.main_v24_2)) (v3 : (c : Dev Cert.Kernel5Ideal.nD) → Buf (Elt Ideal) ((c.tc : Thread Cert.Kernel5Ideal.nD Cert.Kernel5Ideal.τ).loc Cert.Kernel5Ideal.main_v24_3)) (v4 : (c : Dev Cert.Kernel5Ideal.nD) → Buf (Elt Ideal) ((c.tc : Thread Cert.Kernel5Ideal.nD Cert.Kernel5Ideal.τ).loc Cert.Kernel5Ideal.main_v24_4)) (v5 : (c : Dev Cert.Kernel5Ideal.nD) → Buf (Elt Ideal) ((c.tc : Thread Cert.Kernel5Ideal.nD Cert.Kernel5Ideal.τ).loc Cert.Kernel5Ideal.main_v24_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v24_0) = v0 c
          ∧ r.2.mem ((c.tc : Thread Cert.Kernel5Ideal.nD Cert.Kernel5Ideal.τ).loc Cert.Kernel5Ideal.main_v24_1) = v1 c
          ∧ r.2.mem ((c.tc : Thread Cert.Kernel5Ideal.nD Cert.Kernel5Ideal.τ).loc Cert.Kernel5Ideal.main_v24_2) = v2 c
          ∧ r.2.mem ((c.tc : Thread Cert.Kernel5Ideal.nD Cert.Kernel5Ideal.τ).loc Cert.Kernel5Ideal.main_v24_3) = v3 c
          ∧ r.2.mem ((c.tc : Thread Cert.Kernel5Ideal.nD Cert.Kernel5Ideal.τ).loc Cert.Kernel5Ideal.main_v24_4) = v4 c
          ∧ r.2.mem ((c.tc : Thread Cert.Kernel5Ideal.nD Cert.Kernel5Ideal.τ).loc Cert.Kernel5Ideal.main_v24_5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v89) = v0 c
          ∧ r.2.mem ((c.tc : Thread Cert.Reference5Ideal.nD Cert.Reference5Ideal.τ).loc Cert.Reference5Ideal.main_v99) = v1 c
          ∧ r.2.mem ((c.tc : Thread Cert.Reference5Ideal.nD Cert.Reference5Ideal.τ).loc Cert.Reference5Ideal.main_v92) = v2 c
          ∧ r.2.mem ((c.tc : Thread Cert.Reference5Ideal.nD Cert.Reference5Ideal.τ).loc Cert.Reference5Ideal.main_v95) = v3 c
          ∧ r.2.mem ((c.tc : Thread Cert.Reference5Ideal.nD Cert.Reference5Ideal.τ).loc Cert.Reference5Ideal.main_v98) = v4 c
          ∧ r.2.mem ((c.tc : Thread Cert.Reference5Ideal.nD Cert.Reference5Ideal.τ).loc Cert.Reference5Ideal.main_v102) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_inputs : Cert.Pre_finite_inputs.Facts) (hPre_finite_norm : Cert.Pre_finite_norm.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_norm (hKernel5Ideal := hKernel5Ideal) (hPre_finite_norm := hPre_finite_norm)
    ∧ quiescent_Reference5Ideal (hReference5Ideal := hReference5Ideal)
    ∧ quiescent_Reference5Ideal_pre_finite_norm (hReference5Ideal := hReference5Ideal) (hPre_finite_norm := hPre_finite_norm)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_norm (hKernel5Ideal := hKernel5Ideal) (hReference5Ideal := hReference5Ideal) (hPre_finite_norm := hPre_finite_norm)
-- ==== Pre_finite_inputs.lean ====
abbrev S8192x1536 : Shape := ⟨2, ![8192, 1536]⟩
abbrev S2x960x256 : Shape := ⟨3, ![2, 960, 256]⟩
abbrev S8192x1024 : Shape := ⟨2, ![8192, 1024]⟩
abbrev S_ : Shape := ⟨0, ![]⟩

class Facts : Prop where
  bitsLt_bf16_f32 : FTy.bits .bf16 < FTy.bits .f32
  bcast_S_S8192x1536 : S_.BroadcastsInDim S8192x1536 (![] : Fin 0 → Fin S8192x1536.rank)
  reducesTo_S8192x1536_S_d0_1 : S8192x1536.ReducesTo [0, 1] S_
  h_S_ : 0 < S_.numel
  bcast_S_S2x960x256 : S_.BroadcastsInDim S2x960x256 (![] : Fin 0 → Fin S2x960x256.rank)
  reducesTo_S2x960x256_S_d0_1_2 : S2x960x256.ReducesTo [0, 1, 2] S_

variable [Facts]

def fn {F : FTy → Type} [FloatOps F] (main_arg0 : FVec F S8192x1536 .bf16) (main_arg1 : FVec F S2x960x256 .f32) (main_arg2 : FVec F S8192x1024 .f32) : IVec S_ 1 :=
  let main_v0 : FVec F S8192x1536 .f32 := (extf .f32 · bitsLt_bf16_f32) main_arg0
  let main_v1 : FVec F S8192x1536 .f32 := Host.absf main_v0
  let main_cst : FVec F S_ .f32 := constant S_ .f32 0x7F800000#32
  let main_v2 : FVec F S8192x1536 .f32 := broadcastInDim S8192x1536 ![] bcast_S_S8192x1536 main_cst
  let main_v3 : IVec S8192x1536 1 := cmpf .olt main_v1 main_v2
  let main_c : IVec S_ 1 := constantI S_ 1 1#1
  let main_v4 : IVec S_ 1 := (fun x v => Host.reduce IntOp.andi x v reducesTo_S8192x1536_S_d0_1 h_S_) main_v3 main_c
  let main_v5 : FVec F S2x960x256 .f32 := Host.absf main_arg1
  let main_cst_0 : FVec F S_ .f32 := constant S_ .f32 0x7F800000#32
  let main_v6 : FVec F S2x960x256 .f32 := broadcastInDim S2x960x256 ![] bcast_S_S2x960x256 main_cst_0
  let main_v7 : IVec S2x960x256 1 := cmpf .olt main_v5 main_v6
  let main_c_1 : IVec S_ 1 := constantI S_ 1 1#1
  let main_v8 : IVec S_ 1 := (fun x v => Host.reduce IntOp.andi x v reducesTo_S2x960x256_S_d0_1_2 h_S_) main_v7 main_c_1
  let main_v9 : IVec S_ 1 := andi main_v4 main_v8
  main_v9
-- ==== Pre_finite_norm.lean ====
abbrev S8192x1024 : Shape := ⟨2, ![8192, 1024]⟩
abbrev S4x1024x704 : Shape := ⟨3, ![4, 1024, 704]⟩
abbrev S4x704x1024 : Shape := ⟨3, ![4, 704, 1024]⟩
abbrev S1x1024 : Shape := ⟨2, ![1, 1024]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S8192x1024 .f32) (main_arg1 : FVec F S4x1024x704 .bf16) (main_arg2 : FVec F S4x1024x704 .bf16) (main_arg3 : FVec F S4x704x1024 .bf16) (main_arg4 : FVec F S1x1024 .f32) (main_arg5 : FVec F S8192x1024 .f32) : IVec S_ 1 :=
  let main_v0 : FVec F S1x1024 .f32 := Host.absf main_arg4
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S8192x1024 .f32 := Host.absf main_arg5
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S8192x1536 : Shape := ⟨2, ![8192, 1536]⟩
abbrev S2x960x256 : Shape := ⟨3, ![2, 960, 256]⟩
abbrev S8192x1024 : Shape := ⟨2, ![8192, 1024]⟩
abbrev S8192x512 : Shape := ⟨2, ![8192, 512]⟩
abbrev S2048x256 : Shape := ⟨2, ![2048, 256]⟩
abbrev S8192x256 : Shape := ⟨2, ![8192, 256]⟩
abbrev S1x960x256 : Shape := ⟨3, ![1, 960, 256]⟩
abbrev S64x256 : Shape := ⟨2, ![64, 256]⟩
abbrev S256x256 : Shape := ⟨2, ![256, 256]⟩
abbrev S512x256 : Shape := ⟨2, ![512, 256]⟩
abbrev S1x512x256 : Shape := ⟨3, ![1, 512, 256]⟩
abbrev S256 : Shape := ⟨1, ![256]⟩
abbrev S1x256 : Shape := ⟨2, ![1, 256]⟩

abbrev nBuf : Space → Nat
  | .hbm => 7
  | .vmem => 18
  | .smem => 0
  | _ => 0

abbrev bufTy : (tb : Table) → Fin (tcTables nBuf tb) → BufTy
  | .hbm, ⟨0, _⟩ => ⟨S8192x1536, .bf16⟩
  | .hbm, ⟨1, _⟩ => ⟨S2x960x256, .f32⟩
  | .hbm, ⟨2, _⟩ => ⟨S8192x1024, .f32⟩
  | .hbm, ⟨3, _⟩ => ⟨S8192x512, .bf16⟩
  | .hbm, ⟨4, _⟩ => ⟨S8192x512, .bf16⟩
  | .hbm, ⟨5, _⟩ => ⟨S8192x512, .bf16⟩
  | .hbm, ⟨6, _⟩ => ⟨S2x960x256, .f32⟩
  | .local _ .vmem, ⟨0, _⟩ => ⟨S2048x256, .bf16⟩
  | .local _ .vmem, ⟨1, _⟩ => ⟨S2048x256, .bf16⟩
  | .local _ .vmem, ⟨2, _⟩ => ⟨S8192x256, .bf16⟩
  | .local _ .vmem, ⟨3, _⟩ => ⟨S8192x256, .bf16⟩
  | .local _ .vmem, ⟨4, _⟩ => ⟨S1x960x256, .f32⟩
  | .local _ .vmem, ⟨5, _⟩ => ⟨S1x960x256, .f32⟩
  | .local _ .vmem, ⟨6, _⟩ => ⟨S2048x256, .f32⟩
  | .local _ .vmem, ⟨7, _⟩ => ⟨S2048x256, .f32⟩
  | .local _ .vmem, ⟨8, _⟩ => ⟨S2048x256, .bf16⟩
  | .local _ .vmem, ⟨9, _⟩ => ⟨S2048x256, .bf16⟩
  | .local _ .vmem, ⟨10, _⟩ => ⟨S8192x256, .bf16⟩
  | .local _ .vmem, ⟨11, _⟩ => ⟨S8192x256, .bf16⟩
  | .local _ .vmem, ⟨12, _⟩ => ⟨S8192x256, .bf16⟩
  | .local _ .vmem, ⟨13, _⟩ => ⟨S8192x256, .bf16⟩
  | .local _ .vmem, ⟨14, _⟩ => ⟨S1x960x256, .f32⟩
  | .local _ .vmem, ⟨15, _⟩ => ⟨S1x960x256, .f32⟩
  | .local _ .vmem, ⟨16, _⟩ => ⟨S8192x256, .f32⟩
  | .local _ .vmem, ⟨17, _⟩ => ⟨S8192x256, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 4], ![false, false]⟩

def k0_mult1 : BitVec 32 :=
  let c0_i32_5 : BitVec 32 := 0#32
  let c64_i32_6 : BitVec 32 := 64#32
  let v26 : BitVec 32 := Scalar.muli c0_i32_5 c64_i32_6
  v26
def k0_off1 (c0_i32_5 : BitVec 32) : Fin 2 → Nat :=
  let c64_i32_6 : BitVec 32 := 64#32
  let v26 : BitVec 32 := Scalar.muli c0_i32_5 c64_i32_6
  let v27 : BitVec 32 := v26
  let v29 : Index := Scalar.indexCast v27
  let c0 : Index := 0#32
  ![v29.toNat, 0]
def k0_mult2 (i : grid0.Coords) : BitVec 32 :=
  let c120_i32 : BitVec 32 := 120#32
  let c0_i32_7 : BitVec 32 := 0#32
  let arg1 : BitVec 32 := BitVec.ofNat 32 (i 1).val
  let c32_i32 : BitVec 32 := 32#32
  let v0 : BitVec 32 := Scalar.muli arg1 c32_i32
  let c0_i32_5 : BitVec 32 := 0#32
  let v28 : BitVec 32 := Scalar.addi v0 c0_i32_5
  let c4_i32 : BitVec 32 := 4#32
  let v31 : BitVec 32 := Scalar.subi v28 c4_i32
  let v32 : BitVec 32 := Scalar.maxsi c0_i32_7 v31
  let v33 : BitVec 32 := Scalar.minsi c120_i32 v32
  let c64_i32_8 : BitVec 32 := 64#32
  let v42 : BitVec 32 := Scalar.muli v33 c64_i32_8
  v42
def k0_off2 (i : grid0.Coords) (c0_i32_5 : BitVec 32) : Fin 2 → Nat :=
  let c120_i32 : BitVec 32 := 120#32
  let c0_i32_7 : BitVec 32 := 0#32
  let arg1 : BitVec 32 := BitVec.ofNat 32 (i 1).val
  let c32_i32 : BitVec 32 := 32#32
  let v0 : BitVec 32 := Scalar.muli arg1 c32_i32
  let v28 : BitVec 32 := Scalar.addi v0 c0_i32_5
  let c4_i32 : BitVec 32 := 4#32
  let v31 : BitVec 32 := Scalar.subi v28 c4_i32
  let v32 : BitVec 32 := Scalar.maxsi c0_i32_7 v31
  let v33 : BitVec 32 := Scalar.minsi c120_i32 v32
  let c64_i32_8 : BitVec 32 := 64#32
  let v42 : BitVec 32 := Scalar.muli v33 c64_i32_8
  let v43 : BitVec 32 := v42
  let v44 : Index := Scalar.indexCast v43
  let c0_9 : Index := 0#32
  ![v44.toNat, 0]
def k0_mult3 (i : grid0.Coords) : BitVec 32 :=
  let c120_i32 : BitVec 32 := 120#32
  let c0_i32_7 : BitVec 32 := 0#32
  let arg1 : BitVec 32 := BitVec.ofNat 32 (i 1).val
  let c32_i32 : BitVec 32 := 32#32
  let v0 : BitVec 32 := Scalar.muli arg1 c32_i32
  let c0_i32_5 : BitVec 32 := 0#32
  let v28 : BitVec 32 := Scalar.addi v0 c0_i32_5
  let c4_i32 : BitVec 32 := 4#32
  let v31 : BitVec 32 := Scalar.subi v28 c4_i32
  let v32 : BitVec 32 := Scalar.maxsi c0_i32_7 v31
  let v33 : BitVec 32 := Scalar.minsi c120_i32 v32
  let v34 : BitVec 32 := Scalar.subi v33 v28
  let c7_i32 : BitVec 32 := 7#32
  let v35 : BitVec 32 := Scalar.addi v34 c7_i32
  let c64_i32_11 : BitVec 32 := 64#32
  let v48 : BitVec 32 := Scalar.muli v35 c64_i32_11
  v48
def k0_off3 (i : grid0.Coords) (c0_i32_5 : BitVec 32) : Fin 3 → Nat :=
  let c0_14 : Index := 0#32
  let c120_i32 : BitVec 32 := 120#32
  let c0_i32_7 : BitVec 32 := 0#32
  let arg1 : BitVec 32 := BitVec.ofNat 32 (i 1).val
  let c32_i32 : BitVec 32 := 32#32
  let v0 : BitVec 32 := Scalar.muli arg1 c32_i32
  let v28 : BitVec 32 := Scalar.addi v0 c0_i32_5
  let c4_i32 : BitVec 32 := 4#32
  let v31 : BitVec 32 := Scalar.subi v28 c4_i32
  let v32 : BitVec 32 := Scalar.maxsi c0_i32_7 v31
  let v33 : BitVec 32 := Scalar.minsi c120_i32 v32
  let v34 : BitVec 32 := Scalar.subi v33 v28
  let c7_i32 : BitVec 32 := 7#32
  let v35 : BitVec 32 := Scalar.addi v34 c7_i32
  let c64_i32_11 : BitVec 32 := 64#32
  let v48 : BitVec 32 := Scalar.muli v35 c64_i32_11
  let v49 : BitVec 32 := v48
  let v53 : Index := Scalar.indexCast v49
  let c0_15 : Index := 0#32
  ![0, v53.toNat, 0]
def k0_mult4 : BitVec 32 :=
  let c1_i32 : BitVec 32 := 1#32
  let c64_i32_36 : BitVec 32 := 64#32
  let v123 : BitVec 32 := Scalar.muli c1_i32 c64_i32_36
  v123
def k0_mult5 (i : grid0.Coords) : BitVec 32 :=
  let c120_i32_40 : BitVec 32 := 120#32
  let c0_i32_39 : BitVec 32 := 0#32
  let arg1 : BitVec 32 := BitVec.ofNat 32 (i 1).val
  let c32_i32 : BitVec 32 := 32#32
  let v0 : BitVec 32 := Scalar.muli arg1 c32_i32
  let c1_i32 : BitVec 32 := 1#32
  let v125 : BitVec 32 := Scalar.addi v0 c1_i32
  let c4_i32_38 : BitVec 32 := 4#32
  let v128 : BitVec 32 := Scalar.subi v125 c4_i32_38
  let v129 : BitVec 32 := Scalar.maxsi c0_i32_39 v128
  let v130 : BitVec 32 := Scalar.minsi c120_i32_40 v129
  let c64_i32_43 : BitVec 32 := 64#32
  let v139 : BitVec 32 := Scalar.muli v130 c64_i32_43
  v139
def k0_mult6 (i : grid0.Coords) : BitVec 32 :=
  let c120_i32_40 : BitVec 32 := 120#32
  let c0_i32_39 : BitVec 32 := 0#32
  let arg1 : BitVec 32 := BitVec.ofNat 32 (i 1).val
  let c32_i32 : BitVec 32 := 32#32
  let v0 : BitVec 32 := Scalar.muli arg1 c32_i32
  let c1_i32 : BitVec 32 := 1#32
  let v125 : BitVec 32 := Scalar.addi v0 c1_i32
  let c4_i32_38 : BitVec 32 := 4#32
  let v128 : BitVec 32 := Scalar.subi v125 c4_i32_38
  let v129 : BitVec 32 := Scalar.maxsi c0_i32_39 v128
  let v130 : BitVec 32 := Scalar.minsi c120_i32_40 v129
  let v131 : BitVec 32 := Scalar.subi v130 v125
  let c7_i32_41 : BitVec 32 := 7#32
  let v132 : BitVec 32 := Scalar.addi v131 c7_i32_41
  let c64_i32_46 : BitVec 32 := 64#32
  let v145 : BitVec 32 := Scalar.muli v132 c64_i32_46
  v145
def k0_mult7 : BitVec 32 :=
  let c2_i32 : BitVec 32 := 2#32
  let c64_i32_71 : BitVec 32 := 64#32
  let v220 : BitVec 32 := Scalar.muli c2_i32 c64_i32_71
  v220
def k0_mult8 (i : grid0.Coords) : BitVec 32 :=
  let c120_i32_75 : BitVec 32 := 120#32
  let c0_i32_74 : BitVec 32 := 0#32
  let arg1 : BitVec 32 := BitVec.ofNat 32 (i 1).val
  let c32_i32 : BitVec 32 := 32#32
  let v0 : BitVec 32 := Scalar.muli arg1 c32_i32
  let c2_i32 : BitVec 32 := 2#32
  let v222 : BitVec 32 := Scalar.addi v0 c2_i32
  let c4_i32_73 : BitVec 32 := 4#32
  let v225 : BitVec 32 := Scalar.subi v222 c4_i32_73
  let v226 : BitVec 32 := Scalar.maxsi c0_i32_74 v225
  let v227 : BitVec 32 := Scalar.minsi c120_i32_75 v226
  let c64_i32_78 : BitVec 32 := 64#32
  let v236 : BitVec 32 := Scalar.muli v227 c64_i32_78
  v236
def k0_mult9 (i : grid0.Coords) : BitVec 32 :=
  let c120_i32_75 : BitVec 32 := 120#32
  let c0_i32_74 : BitVec 32 := 0#32
  let arg1 : BitVec 32 := BitVec.ofNat 32 (i 1).val
  let c32_i32 : BitVec 32 := 32#32
  let v0 : BitVec 32 := Scalar.muli arg1 c32_i32
  let c2_i32 : BitVec 32 := 2#32
  let v222 : BitVec 32 := Scalar.addi v0 c2_i32
  let c4_i32_73 : BitVec 32 := 4#32
  let v225 : BitVec 32 := Scalar.subi v222 c4_i32_73
  let v226 : BitVec 32 := Scalar.maxsi c0_i32_74 v225
  let v227 : BitVec 32 := Scalar.minsi c120_i32_75 v226
  let v228 : BitVec 32 := Scalar.subi v227 v222
  let c7_i32_76 : BitVec 32 := 7#32
  let v229 : BitVec 32 := Scalar.addi v228 c7_i32_76
  let c64_i32_81 : BitVec 32 := 64#32
  let v242 : BitVec 32 := Scalar.muli v229 c64_i32_81
  v242
def k0_mult10 : BitVec 32 :=
  let c3_i32_106 : BitVec 32 := 3#32
  let c64_i32_107 : BitVec 32 := 64#32
  let v317 : BitVec 32 := Scalar.muli c3_i32_106 c64_i32_107
  v317
def k0_mult11 (i : grid0.Coords) : BitVec 32 :=
  let c120_i32_111 : BitVec 32 := 120#32
  let c0_i32_110 : BitVec 32 := 0#32
  let arg1 : BitVec 32 := BitVec.ofNat 32 (i 1).val
  let c32_i32 : BitVec 32 := 32#32
  let v0 : BitVec 32 := Scalar.muli arg1 c32_i32
  let c3_i32_106 : BitVec 32 := 3#32
  let v319 : BitVec 32 := Scalar.addi v0 c3_i32_106
  let c4_i32_109 : BitVec 32 := 4#32
  let v322 : BitVec 32 := Scalar.subi v319 c4_i32_109
  let v323 : BitVec 32 := Scalar.maxsi c0_i32_110 v322
  let v324 : BitVec 32 := Scalar.minsi c120_i32_111 v323
  let c64_i32_114 : BitVec 32 := 64#32
  let v333 : BitVec 32 := Scalar.muli v324 c64_i32_114
  v333
def k0_mult12 (i : grid0.Coords) : BitVec 32 :=
  let c120_i32_111 : BitVec 32 := 120#32
  let c0_i32_110 : BitVec 32 := 0#32
  let arg1 : BitVec 32 := BitVec.ofNat 32 (i 1).val
  let c32_i32 : BitVec 32 := 32#32
  let v0 : BitVec 32 := Scalar.muli arg1 c32_i32
  let c3_i32_106 : BitVec 32 := 3#32
  let v319 : BitVec 32 := Scalar.addi v0 c3_i32_106
  let c4_i32_109 : BitVec 32 := 4#32
  let v322 : BitVec 32 := Scalar.subi v319 c4_i32_109
  let v323 : BitVec 32 := Scalar.maxsi c0_i32_110 v322
  let v324 : BitVec 32 := Scalar.minsi c120_i32_111 v323
  let v325 : BitVec 32 := Scalar.subi v324 v319
  let c7_i32_112 : BitVec 32 := 7#32
  let v326 : BitVec 32 := Scalar.addi v325 c7_i32_112
  let c64_i32_117 : BitVec 32 := 64#32
  let v339 : BitVec 32 := Scalar.muli v326 c64_i32_117
  v339
def k0_mult13 : BitVec 32 :=
  let c4_i32_142 : BitVec 32 := 4#32
  let c64_i32_143 : BitVec 32 := 64#32
  let v414 : BitVec 32 := Scalar.muli c4_i32_142 c64_i32_143
  v414
def k0_mult14 (i : grid0.Coords) : BitVec 32 :=
  let c120_i32_147 : BitVec 32 := 120#32
  let c0_i32_146 : BitVec 32 := 0#32
  let arg1 : BitVec 32 := BitVec.ofNat 32 (i 1).val
  let c32_i32 : BitVec 32 := 32#32
  let v0 : BitVec 32 := Scalar.muli arg1 c32_i32
  let c4_i32_142 : BitVec 32 := 4#32
  let v416 : BitVec 32 := Scalar.addi v0 c4_i32_142
  let c4_i32_145 : BitVec 32 := 4#32
  let v419 : BitVec 32 := Scalar.subi v416 c4_i32_145
  let v420 : BitVec 32 := Scalar.maxsi c0_i32_146 v419
  let v421 : BitVec 32 := Scalar.minsi c120_i32_147 v420
  let c64_i32_150 : BitVec 32 := 64#32
  let v430 : BitVec 32 := Scalar.muli v421 c64_i32_150
  v430
def k0_mult15 (i : grid0.Coords) : BitVec 32 :=
  let c120_i32_147 : BitVec 32 := 120#32
  let c0_i32_146 : BitVec 32 := 0#32
  let arg1 : BitVec 32 := BitVec.ofNat 32 (i 1).val
  let c32_i32 : BitVec 32 := 32#32
  let v0 : BitVec 32 := Scalar.muli arg1 c32_i32
  let c4_i32_142 : BitVec 32 := 4#32
  let v416 : BitVec 32 := Scalar.addi v0 c4_i32_142
  let c4_i32_145 : BitVec 32 := 4#32
  let v419 : BitVec 32 := Scalar.subi v416 c4_i32_145
  let v420 : BitVec 32 := Scalar.maxsi c0_i32_146 v419
  let v421 : BitVec 32 := Scalar.minsi c120_i32_147 v420
  let v422 : BitVec 32 := Scalar.subi v421 v416
  let c7_i32_148 : BitVec 32 := 7#32
  let v423 : BitVec 32 := Scalar.addi v422 c7_i32_148
  let c64_i32_153 : BitVec 32 := 64#32
  let v436 : BitVec 32 := Scalar.muli v423 c64_i32_153
  v436
def k0_mult16 : BitVec 32 :=
  let c5_i32 : BitVec 32 := 5#32
  let c64_i32_178 : BitVec 32 := 64#32
  let v511 : BitVec 32 := Scalar.muli c5_i32 c64_i32_178
  v511
def k0_mult17 (i : grid0.Coords) : BitVec 32 :=
  let c120_i32_182 : BitVec 32 := 120#32
  let c0_i32_181 : BitVec 32 := 0#32
  let arg1 : BitVec 32 := BitVec.ofNat 32 (i 1).val
  let c32_i32 : BitVec 32 := 32#32
  let v0 : BitVec 32 := Scalar.muli arg1 c32_i32
  let c5_i32 : BitVec 32 := 5#32
  let v513 : BitVec 32 := Scalar.addi v0 c5_i32
  let c4_i32_180 : BitVec 32 := 4#32
  let v516 : BitVec 32 := Scalar.subi v513 c4_i32_180
  let v517 : BitVec 32 := Scalar.maxsi c0_i32_181 v516
  let v518 : BitVec 32 := Scalar.minsi c120_i32_182 v517
  let c64_i32_185 : BitVec 32 := 64#32
  let v527 : BitVec 32 := Scalar.muli v518 c64_i32_185
  v527
def k0_mult18 (i : grid0.Coords) : BitVec 32 :=
  let c120_i32_182 : BitVec 32 := 120#32
  let c0_i32_181 : BitVec 32 := 0#32
  let arg1 : BitVec 32 := BitVec.ofNat 32 (i 1).val
  let c32_i32 : BitVec 32 := 32#32
  let v0 : BitVec 32 := Scalar.muli arg1 c32_i32
  let c5_i32 : BitVec 32 := 5#32
  let v513 : BitVec 32 := Scalar.addi v0 c5_i32
  let c4_i32_180 : BitVec 32 := 4#32
  let v516 : BitVec 32 := Scalar.subi v513 c4_i32_180
  let v517 : BitVec 32 := Scalar.maxsi c0_i32_181 v516
  let v518 : BitVec 32 := Scalar.minsi c120_i32_182 v517
  let v519 : BitVec 32 := Scalar.subi v518 v513
  let c7_i32_183 : BitVec 32 := 7#32
  let v520 : BitVec 32 := Scalar.addi v519 c7_i32_183
  let c64_i32_188 : BitVec 32 := 64#32
  let v533 : BitVec 32 := Scalar.muli v520 c64_i32_188
  v533
def k0_mult19 : BitVec 32 :=
  let c6_i32 : BitVec 32 := 6#32
  let c64_i32_213 : BitVec 32 := 64#32
  let v608 : BitVec 32 := Scalar.muli c6_i32 c64_i32_213
  v608
def k0_mult20 (i : grid0.Coords) : BitVec 32 :=
  let c120_i32_217 : BitVec 32 := 120#32
  let c0_i32_216 : BitVec 32 := 0#32
  let arg1 : BitVec 32 := BitVec.ofNat 32 (i 1).val
  let c32_i32 : BitVec 32 := 32#32
  let v0 : BitVec 32 := Scalar.muli arg1 c32_i32
  let c6_i32 : BitVec 32 := 6#32
  let v610 : BitVec 32 := Scalar.addi v0 c6_i32
  let c4_i32_215 : BitVec 32 := 4#32
  let v613 : BitVec 32 := Scalar.subi v610 c4_i32_215
  let v614 : BitVec 32 := Scalar.maxsi c0_i32_216 v613
  let v615 : BitVec 32 := Scalar.minsi c120_i32_217 v614
  let c64_i32_220 : BitVec 32 := 64#32
  let v624 : BitVec 32 := Scalar.muli v615 c64_i32_220
  v624
def k0_mult21 (i : grid0.Coords) : BitVec 32 :=
  let c120_i32_217 : BitVec 32 := 120#32
  let c0_i32_216 : BitVec 32 := 0#32
  let arg1 : BitVec 32 := BitVec.ofNat 32 (i 1).val
  let c32_i32 : BitVec 32 := 32#32
  let v0 : BitVec 32 := Scalar.muli arg1 c32_i32
  let c6_i32 : BitVec 32 := 6#32
  let v610 : BitVec 32 := Scalar.addi v0 c6_i32
  let c4_i32_215 : BitVec 32 := 4#32
  let v613 : BitVec 32 := Scalar.subi v610 c4_i32_215
  let v614 : BitVec 32 := Scalar.maxsi c0_i32_216 v613
  let v615 : BitVec 32 := Scalar.minsi c120_i32_217 v614
  let v616 : BitVec 32 := Scalar.subi v615 v610
  let c7_i32_218 : BitVec 32 := 7#32
  let v617 : BitVec 32 := Scalar.addi v616 c7_i32_218
  let c64_i32_223 : BitVec 32 := 64#32
  let v630 : BitVec 32 := Scalar.muli v617 c64_i32_223
  v630
def k0_mult22 : BitVec 32 :=
  let c7_i32_248 : BitVec 32 := 7#32
  let c64_i32_249 : BitVec 32 := 64#32
  let v705 : BitVec 32 := Scalar.muli c7_i32_248 c64_i32_249
  v705
def k0_mult23 (i : grid0.Coords) : BitVec 32 :=
  let c120_i32_253 : BitVec 32 := 120#32
  let c0_i32_252 : BitVec 32 := 0#32
  let arg1 : BitVec 32 := BitVec.ofNat 32 (i 1).val
  let c32_i32 : BitVec 32 := 32#32
  let v0 : BitVec 32 := Scalar.muli arg1 c32_i32
  let c7_i32_248 : BitVec 32 := 7#32
  let v707 : BitVec 32 := Scalar.addi v0 c7_i32_248
  let c4_i32_251 : BitVec 32 := 4#32
  let v710 : BitVec 32 := Scalar.subi v707 c4_i32_251
  let v711 : BitVec 32 := Scalar.maxsi c0_i32_252 v710
  let v712 : BitVec 32 := Scalar.minsi c120_i32_253 v711
  let c64_i32_256 : BitVec 32 := 64#32
  let v721 : BitVec 32 := Scalar.muli v712 c64_i32_256
  v721
def k0_mult24 (i : grid0.Coords) : BitVec 32 :=
  let c120_i32_253 : BitVec 32 := 120#32
  let c0_i32_252 : BitVec 32 := 0#32
  let arg1 : BitVec 32 := BitVec.ofNat 32 (i 1).val
  let c32_i32 : BitVec 32 := 32#32
  let v0 : BitVec 32 := Scalar.muli arg1 c32_i32
  let c7_i32_248 : BitVec 32 := 7#32
  let v707 : BitVec 32 := Scalar.addi v0 c7_i32_248
  let c4_i32_251 : BitVec 32 := 4#32
  let v710 : BitVec 32 := Scalar.subi v707 c4_i32_251
  let v711 : BitVec 32 := Scalar.maxsi c0_i32_252 v710
  let v712 : BitVec 32 := Scalar.minsi c120_i32_253 v711
  let v713 : BitVec 32 := Scalar.subi v712 v707
  let c7_i32_254 : BitVec 32 := 7#32
  let v714 : BitVec 32 := Scalar.addi v713 c7_i32_254
  let c64_i32_259 : BitVec 32 := 64#32
  let v727 : BitVec 32 := Scalar.muli v714 c64_i32_259
  v727
def k0_mult25 : BitVec 32 :=
  let c8_i32 : BitVec 32 := 8#32
  let c64_i32_284 : BitVec 32 := 64#32
  let v802 : BitVec 32 := Scalar.muli c8_i32 c64_i32_284
  v802
def k0_mult26 (i : grid0.Coords) : BitVec 32 :=
  let c120_i32_288 : BitVec 32 := 120#32
  let c0_i32_287 : BitVec 32 := 0#32
  let arg1 : BitVec 32 := BitVec.ofNat 32 (i 1).val
  let c32_i32 : BitVec 32 := 32#32
  let v0 : BitVec 32 := Scalar.muli arg1 c32_i32
  let c8_i32 : BitVec 32 := 8#32
  let v804 : BitVec 32 := Scalar.addi v0 c8_i32
  let c4_i32_286 : BitVec 32 := 4#32
  let v807 : BitVec 32 := Scalar.subi v804 c4_i32_286
  let v808 : BitVec 32 := Scalar.maxsi c0_i32_287 v807
  let v809 : BitVec 32 := Scalar.minsi c120_i32_288 v808
  let c64_i32_291 : BitVec 32 := 64#32
  let v818 : BitVec 32 := Scalar.muli v809 c64_i32_291
  v818
def k0_mult27 (i : grid0.Coords) : BitVec 32 :=
  let c120_i32_288 : BitVec 32 := 120#32
  let c0_i32_287 : BitVec 32 := 0#32
  let arg1 : BitVec 32 := BitVec.ofNat 32 (i 1).val
  let c32_i32 : BitVec 32 := 32#32
  let v0 : BitVec 32 := Scalar.muli arg1 c32_i32
  let c8_i32 : BitVec 32 := 8#32
  let v804 : BitVec 32 := Scalar.addi v0 c8_i32
  let c4_i32_286 : BitVec 32 := 4#32
  let v807 : BitVec 32 := Scalar.subi v804 c4_i32_286
  let v808 : BitVec 32 := Scalar.maxsi c0_i32_287 v807
  let v809 : BitVec 32 := Scalar.minsi c120_i32_288 v808
  let v810 : BitVec 32 := Scalar.subi v809 v804
  let c7_i32_289 : BitVec 32 := 7#32
  let v811 : BitVec 32 := Scalar.addi v810 c7_i32_289
  let c64_i32_294 : BitVec 32 := 64#32
  let v824 : BitVec 32 := Scalar.muli v811 c64_i32_294
  v824
def k0_mult28 : BitVec 32 :=
  let c9_i32 : BitVec 32 := 9#32
  let c64_i32_319 : BitVec 32 := 64#32
  let v899 : BitVec 32 := Scalar.muli c9_i32 c64_i32_319
  v899
def k0_mult29 (i : grid0.Coords) : BitVec 32 :=
  let c120_i32_323 : BitVec 32 := 120#32
  let c0_i32_322 : BitVec 32 := 0#32
  let arg1 : BitVec 32 := BitVec.ofNat 32 (i 1).val
  let c32_i32 : BitVec 32 := 32#32
  let v0 : BitVec 32 := Scalar.muli arg1 c32_i32
  let c9_i32 : BitVec 32 := 9#32
  let v901 : BitVec 32 := Scalar.addi v0 c9_i32
  let c4_i32_321 : BitVec 32 := 4#32
  let v904 : BitVec 32 := Scalar.subi v901 c4_i32_321
  let v905 : BitVec 32 := Scalar.maxsi c0_i32_322 v904
  let v906 : BitVec 32 := Scalar.minsi c120_i32_323 v905
  let c64_i32_326 : BitVec 32 := 64#32
  let v915 : BitVec 32 := Scalar.muli v906 c64_i32_326
  v915
def k0_mult30 (i : grid0.Coords) : BitVec 32 :=
  let c120_i32_323 : BitVec 32 := 120#32
  let c0_i32_322 : BitVec 32 := 0#32
  let arg1 : BitVec 32 := BitVec.ofNat 32 (i 1).val
  let c32_i32 : BitVec 32 := 32#32
  let v0 : BitVec 32 := Scalar.muli arg1 c32_i32
  let c9_i32 : BitVec 32 := 9#32
  let v901 : BitVec 32 := Scalar.addi v0 c9_i32
  let c4_i32_321 : BitVec 32 := 4#32
  let v904 : BitVec 32 := Scalar.subi v901 c4_i32_321
  let v905 : BitVec 32 := Scalar.maxsi c0_i32_322 v904
  let v906 : BitVec 32 := Scalar.minsi c120_i32_323 v905
  let v907 : BitVec 32 := Scalar.subi v906 v901
  let c7_i32_324 : BitVec 32 := 7#32
  let v908 : BitVec 32 := Scalar.addi v907 c7_i32_324
  let c64_i32_329 : BitVec 32 := 64#32
  let v921 : BitVec 32 := Scalar.muli v908 c64_i32_329
  v921
def k0_mult31 : BitVec 32 :=
  let c10_i32 : BitVec 32 := 10#32
  let c64_i32_354 : BitVec 32 := 64#32
  let v996 : BitVec 32 := Scalar.muli c10_i32 c64_i32_354
  v996
def k0_mult32 (i : grid0.Coords) : BitVec 32 :=
  let c120_i32_358 : BitVec 32 := 120#32
  let c0_i32_357 : BitVec 32 := 0#32
  let arg1 : BitVec 32 := BitVec.ofNat 32 (i 1).val
  let c32_i32 : BitVec 32 := 32#32
  let v0 : BitVec 32 := Scalar.muli arg1 c32_i32
  let c10_i32 : BitVec 32 := 10#32
  let v998 : BitVec 32 := Scalar.addi v0 c10_i32
  let c4_i32_356 : BitVec 32 := 4#32
  let v1001 : BitVec 32 := Scalar.subi v998 c4_i32_356
  let v1002 : BitVec 32 := Scalar.maxsi c0_i32_357 v1001
  let v1003 : BitVec 32 := Scalar.minsi c120_i32_358 v1002
  let c64_i32_361 : BitVec 32 := 64#32
  let v1012 : BitVec 32 := Scalar.muli v1003 c64_i32_361
  v1012
def k0_mult33 (i : grid0.Coords) : BitVec 32 :=
  let c120_i32_358 : BitVec 32 := 120#32
  let c0_i32_357 : BitVec 32 := 0#32
  let arg1 : BitVec 32 := BitVec.ofNat 32 (i 1).val
  let c32_i32 : BitVec 32 := 32#32
  let v0 : BitVec 32 := Scalar.muli arg1 c32_i32
  let c10_i32 : BitVec 32 := 10#32
  let v998 : BitVec 32 := Scalar.addi v0 c10_i32
  let c4_i32_356 : BitVec 32 := 4#32
  let v1001 : BitVec 32 := Scalar.subi v998 c4_i32_356
  let v1002 : BitVec 32 := Scalar.maxsi c0_i32_357 v1001
  let v1003 : BitVec 32 := Scalar.minsi c120_i32_358 v1002
  let v1004 : BitVec 32 := Scalar.subi v1003 v998
  let c7_i32_359 : BitVec 32 := 7#32
  let v1005 : BitVec 32 := Scalar.addi v1004 c7_i32_359
  let c64_i32_364 : BitVec 32 := 64#32
  let v1018 : BitVec 32 := Scalar.muli v1005 c64_i32_364
  v1018
def k0_mult34 : BitVec 32 :=
  let c11_i32 : BitVec 32 := 11#32
  let c64_i32_389 : BitVec 32 := 64#32
  let v1093 : BitVec 32 := Scalar.muli c11_i32 c64_i32_389
  v1093
def k0_mult35 (i : grid0.Coords) : BitVec 32 :=
  let c120_i32_393 : BitVec 32 := 120#32
  let c0_i32_392 : BitVec 32 := 0#32
  let arg1 : BitVec 32 := BitVec.ofNat 32 (i 1).val
  let c32_i32 : BitVec 32 := 32#32
  let v0 : BitVec 32 := Scalar.muli arg1 c32_i32
  let c11_i32 : BitVec 32 := 11#32
  let v1095 : BitVec 32 := Scalar.addi v0 c11_i32
  let c4_i32_391 : BitVec 32 := 4#32
  let v1098 : BitVec 32 := Scalar.subi v1095 c4_i32_391
  let v1099 : BitVec 32 := Scalar.maxsi c0_i32_392 v1098
  let v1100 : BitVec 32 := Scalar.minsi c120_i32_393 v1099
  let c64_i32_396 : BitVec 32 := 64#32
  let v1109 : BitVec 32 := Scalar.muli v1100 c64_i32_396
  v1109
def k0_mult36 (i : grid0.Coords) : BitVec 32 :=
  let c120_i32_393 : BitVec 32 := 120#32
  let c0_i32_392 : BitVec 32 := 0#32
  let arg1 : BitVec 32 := BitVec.ofNat 32 (i 1).val
  let c32_i32 : BitVec 32 := 32#32
  let v0 : BitVec 32 := Scalar.muli arg1 c32_i32
  let c11_i32 : BitVec 32 := 11#32
  let v1095 : BitVec 32 := Scalar.addi v0 c11_i32
  let c4_i32_391 : BitVec 32 := 4#32
  let v1098 : BitVec 32 := Scalar.subi v1095 c4_i32_391
  let v1099 : BitVec 32 := Scalar.maxsi c0_i32_392 v1098
  let v1100 : BitVec 32 := Scalar.minsi c120_i32_393 v1099
  let v1101 : BitVec 32 := Scalar.subi v1100 v1095
  let c7_i32_394 : BitVec 32 := 7#32
  let v1102 : BitVec 32 := Scalar.addi v1101 c7_i32_394
  let c64_i32_399 : BitVec 32 := 64#32
  let v1115 : BitVec 32 := Scalar.muli v1102 c64_i32_399
  v1115
def k0_mult37 : BitVec 32 :=
  let c12_i32 : BitVec 32 := 12#32
  let c64_i32_424 : BitVec 32 := 64#32
  let v1190 : BitVec 32 := Scalar.muli c12_i32 c64_i32_424
  v1190
def k0_mult38 (i : grid0.Coords) : BitVec 32 :=
  let c120_i32_428 : BitVec 32 := 120#32
  let c0_i32_427 : BitVec 32 := 0#32
  let arg1 : BitVec 32 := BitVec.ofNat 32 (i 1).val
  let c32_i32 : BitVec 32 := 32#32
  let v0 : BitVec 32 := Scalar.muli arg1 c32_i32
  let c12_i32 : BitVec 32 := 12#32
  let v1192 : BitVec 32 := Scalar.addi v0 c12_i32
  let c4_i32_426 : BitVec 32 := 4#32
  let v1195 : BitVec 32 := Scalar.subi v1192 c4_i32_426
  let v1196 : BitVec 32 := Scalar.maxsi c0_i32_427 v1195
  let v1197 : BitVec 32 := Scalar.minsi c120_i32_428 v1196
  let c64_i32_431 : BitVec 32 := 64#32
  let v1206 : BitVec 32 := Scalar.muli v1197 c64_i32_431
  v1206
def k0_mult39 (i : grid0.Coords) : BitVec 32 :=
  let c120_i32_428 : BitVec 32 := 120#32
  let c0_i32_427 : BitVec 32 := 0#32
  let arg1 : BitVec 32 := BitVec.ofNat 32 (i 1).val
  let c32_i32 : BitVec 32 := 32#32
  let v0 : BitVec 32 := Scalar.muli arg1 c32_i32
  let c12_i32 : BitVec 32 := 12#32
  let v1192 : BitVec 32 := Scalar.addi v0 c12_i32
  let c4_i32_426 : BitVec 32 := 4#32
  let v1195 : BitVec 32 := Scalar.subi v1192 c4_i32_426
  let v1196 : BitVec 32 := Scalar.maxsi c0_i32_427 v1195
  let v1197 : BitVec 32 := Scalar.minsi c120_i32_428 v1196
  let v1198 : BitVec 32 := Scalar.subi v1197 v1192
  let c7_i32_429 : BitVec 32 := 7#32
  let v1199 : BitVec 32 := Scalar.addi v1198 c7_i32_429
  let c64_i32_434 : BitVec 32 := 64#32
  let v1212 : BitVec 32 := Scalar.muli v1199 c64_i32_434
  v1212
def k0_mult40 : BitVec 32 :=
  let c13_i32 : BitVec 32 := 13#32
  let c64_i32_459 : BitVec 32 := 64#32
  let v1287 : BitVec 32 := Scalar.muli c13_i32 c64_i32_459
  v1287
def k0_mult41 (i : grid0.Coords) : BitVec 32 :=
  let c120_i32_463 : BitVec 32 := 120#32
  let c0_i32_462 : BitVec 32 := 0#32
  let arg1 : BitVec 32 := BitVec.ofNat 32 (i 1).val
  let c32_i32 : BitVec 32 := 32#32
  let v0 : BitVec 32 := Scalar.muli arg1 c32_i32
  let c13_i32 : BitVec 32 := 13#32
  let v1289 : BitVec 32 := Scalar.addi v0 c13_i32
  let c4_i32_461 : BitVec 32 := 4#32
  let v1292 : BitVec 32 := Scalar.subi v1289 c4_i32_461
  let v1293 : BitVec 32 := Scalar.maxsi c0_i32_462 v1292
  let v1294 : BitVec 32 := Scalar.minsi c120_i32_463 v1293
  let c64_i32_466 : BitVec 32 := 64#32
  let v1303 : BitVec 32 := Scalar.muli v1294 c64_i32_466
  v1303
def k0_mult42 (i : grid0.Coords) : BitVec 32 :=
  let c120_i32_463 : BitVec 32 := 120#32
  let c0_i32_462 : BitVec 32 := 0#32
  let arg1 : BitVec 32 := BitVec.ofNat 32 (i 1).val
  let c32_i32 : BitVec 32 := 32#32
  let v0 : BitVec 32 := Scalar.muli arg1 c32_i32
  let c13_i32 : BitVec 32 := 13#32
  let v1289 : BitVec 32 := Scalar.addi v0 c13_i32
  let c4_i32_461 : BitVec 32 := 4#32
  let v1292 : BitVec 32 := Scalar.subi v1289 c4_i32_461
  let v1293 : BitVec 32 := Scalar.maxsi c0_i32_462 v1292
  let v1294 : BitVec 32 := Scalar.minsi c120_i32_463 v1293
  let v1295 : BitVec 32 := Scalar.subi v1294 v1289
  let c7_i32_464 : BitVec 32 := 7#32
  let v1296 : BitVec 32 := Scalar.addi v1295 c7_i32_464
  let c64_i32_469 : BitVec 32 := 64#32
  let v1309 : BitVec 32 := Scalar.muli v1296 c64_i32_469
  v1309
def k0_mult43 : BitVec 32 :=
  let c14_i32 : BitVec 32 := 14#32
  let c64_i32_494 : BitVec 32 := 64#32
  let v1384 : BitVec 32 := Scalar.muli c14_i32 c64_i32_494
  v1384
def k0_mult44 (i : grid0.Coords) : BitVec 32 :=
  let c120_i32_498 : BitVec 32 := 120#32
  let c0_i32_497 : BitVec 32 := 0#32
  let arg1 : BitVec 32 := BitVec.ofNat 32 (i 1).val
  let c32_i32 : BitVec 32 := 32#32
  let v0 : BitVec 32 := Scalar.muli arg1 c32_i32
  let c14_i32 : BitVec 32 := 14#32
  let v1386 : BitVec 32 := Scalar.addi v0 c14_i32
  let c4_i32_496 : BitVec 32 := 4#32
  let v1389 : BitVec 32 := Scalar.subi v1386 c4_i32_496
  let v1390 : BitVec 32 := Scalar.maxsi c0_i32_497 v1389
  let v1391 : BitVec 32 := Scalar.minsi c120_i32_498 v1390
  let c64_i32_501 : BitVec 32 := 64#32
  let v1400 : BitVec 32 := Scalar.muli v1391 c64_i32_501
  v1400
def k0_mult45 (i : grid0.Coords) : BitVec 32 :=
  let c120_i32_498 : BitVec 32 := 120#32
  let c0_i32_497 : BitVec 32 := 0#32
  let arg1 : BitVec 32 := BitVec.ofNat 32 (i 1).val
  let c32_i32 : BitVec 32 := 32#32
  let v0 : BitVec 32 := Scalar.muli arg1 c32_i32
  let c14_i32 : BitVec 32 := 14#32
  let v1386 : BitVec 32 := Scalar.addi v0 c14_i32
  let c4_i32_496 : BitVec 32 := 4#32
  let v1389 : BitVec 32 := Scalar.subi v1386 c4_i32_496
  let v1390 : BitVec 32 := Scalar.maxsi c0_i32_497 v1389
  let v1391 : BitVec 32 := Scalar.minsi c120_i32_498 v1390
  let v1392 : BitVec 32 := Scalar.subi v1391 v1386
  let c7_i32_499 : BitVec 32 := 7#32
  let v1393 : BitVec 32 := Scalar.addi v1392 c7_i32_499
  let c64_i32_504 : BitVec 32 := 64#32
  let v1406 : BitVec 32 := Scalar.muli v1393 c64_i32_504
  v1406
def k0_mult46 : BitVec 32 :=
  let c15_i32 : BitVec 32 := 15#32
  let c64_i32_529 : BitVec 32 := 64#32
  let v1481 : BitVec 32 := Scalar.muli c15_i32 c64_i32_529
  v1481
def k0_mult47 (i : grid0.Coords) : BitVec 32 :=
  let c120_i32_533 : BitVec 32 := 120#32
  let c0_i32_532 : BitVec 32 := 0#32
  let arg1 : BitVec 32 := BitVec.ofNat 32 (i 1).val
  let c32_i32 : BitVec 32 := 32#32
  let v0 : BitVec 32 := Scalar.muli arg1 c32_i32
  let c15_i32 : BitVec 32 := 15#32
  let v1483 : BitVec 32 := Scalar.addi v0 c15_i32
  let c4_i32_531 : BitVec 32 := 4#32
  let v1486 : BitVec 32 := Scalar.subi v1483 c4_i32_531
  let v1487 : BitVec 32 := Scalar.maxsi c0_i32_532 v1486
  let v1488 : BitVec 32 := Scalar.minsi c120_i32_533 v1487
  let c64_i32_536 : BitVec 32 := 64#32
  let v1497 : BitVec 32 := Scalar.muli v1488 c64_i32_536
  v1497
def k0_mult48 (i : grid0.Coords) : BitVec 32 :=
  let c120_i32_533 : BitVec 32 := 120#32
  let c0_i32_532 : BitVec 32 := 0#32
  let arg1 : BitVec 32 := BitVec.ofNat 32 (i 1).val
  let c32_i32 : BitVec 32 := 32#32
  let v0 : BitVec 32 := Scalar.muli arg1 c32_i32
  let c15_i32 : BitVec 32 := 15#32
  let v1483 : BitVec 32 := Scalar.addi v0 c15_i32
  let c4_i32_531 : BitVec 32 := 4#32
  let v1486 : BitVec 32 := Scalar.subi v1483 c4_i32_531
  let v1487 : BitVec 32 := Scalar.maxsi c0_i32_532 v1486
  let v1488 : BitVec 32 := Scalar.minsi c120_i32_533 v1487
  let v1489 : BitVec 32 := Scalar.subi v1488 v1483
  let c7_i32_534 : BitVec 32 := 7#32
  let v1490 : BitVec 32 := Scalar.addi v1489 c7_i32_534
  let c64_i32_539 : BitVec 32 := 64#32
  let v1503 : BitVec 32 := Scalar.muli v1490 c64_i32_539
  v1503
def k0_mult49 : BitVec 32 :=
  let c16_i32 : BitVec 32 := 16#32
  let c64_i32_564 : BitVec 32 := 64#32
  let v1578 : BitVec 32 := Scalar.muli c16_i32 c64_i32_564
  v1578
def k0_mult50 (i : grid0.Coords) : BitVec 32 :=
  let c120_i32_568 : BitVec 32 := 120#32
  let c0_i32_567 : BitVec 32 := 0#32
  let arg1 : BitVec 32 := BitVec.ofNat 32 (i 1).val
  let c32_i32 : BitVec 32 := 32#32
  let v0 : BitVec 32 := Scalar.muli arg1 c32_i32
  let c16_i32 : BitVec 32 := 16#32
  let v1580 : BitVec 32 := Scalar.addi v0 c16_i32
  let c4_i32_566 : BitVec 32 := 4#32
  let v1583 : BitVec 32 := Scalar.subi v1580 c4_i32_566
  let v1584 : BitVec 32 := Scalar.maxsi c0_i32_567 v1583
  let v1585 : BitVec 32 := Scalar.minsi c120_i32_568 v1584
  let c64_i32_571 : BitVec 32 := 64#32
  let v1594 : BitVec 32 := Scalar.muli v1585 c64_i32_571
  v1594
def k0_mult51 (i : grid0.Coords) : BitVec 32 :=
  let c120_i32_568 : BitVec 32 := 120#32
  let c0_i32_567 : BitVec 32 := 0#32
  let arg1 : BitVec 32 := BitVec.ofNat 32 (i 1).val
  let c32_i32 : BitVec 32 := 32#32
  let v0 : BitVec 32 := Scalar.muli arg1 c32_i32
  let c16_i32 : BitVec 32 := 16#32
  let v1580 : BitVec 32 := Scalar.addi v0 c16_i32
  let c4_i32_566 : BitVec 32 := 4#32
  let v1583 : BitVec 32 := Scalar.subi v1580 c4_i32_566
  let v1584 : BitVec 32 := Scalar.maxsi c0_i32_567 v1583
  let v1585 : BitVec 32 := Scalar.minsi c120_i32_568 v1584
  let v1586 : BitVec 32 := Scalar.subi v1585 v1580
  let c7_i32_569 : BitVec 32 := 7#32
  let v1587 : BitVec 32 := Scalar.addi v1586 c7_i32_569
  let c64_i32_574 : BitVec 32 := 64#32
  let v1600 : BitVec 32 := Scalar.muli v1587 c64_i32_574
  v1600
def k0_mult52 : BitVec 32 :=
  let c17_i32 : BitVec 32 := 17#32
  let c64_i32_599 : BitVec 32 := 64#32
  let v1675 : BitVec 32 := Scalar.muli c17_i32 c64_i32_599
  v1675
def k0_mult53 (i : grid0.Coords) : BitVec 32 :=
  let c120_i32_603 : BitVec 32 := 120#32
  let c0_i32_602 : BitVec 32 := 0#32
  let arg1 : BitVec 32 := BitVec.ofNat 32 (i 1).val
  let c32_i32 : BitVec 32 := 32#32
  let v0 : BitVec 32 := Scalar.muli arg1 c32_i32
  let c17_i32 : BitVec 32 := 17#32
  let v1677 : BitVec 32 := Scalar.addi v0 c17_i32
  let c4_i32_601 : BitVec 32 := 4#32
  let v1680 : BitVec 32 := Scalar.subi v1677 c4_i32_601
  let v1681 : BitVec 32 := Scalar.maxsi c0_i32_602 v1680
  let v1682 : BitVec 32 := Scalar.minsi c120_i32_603 v1681
  let c64_i32_606 : BitVec 32 := 64#32
  let v1691 : BitVec 32 := Scalar.muli v1682 c64_i32_606
  v1691
def k0_mult54 (i : grid0.Coords) : BitVec 32 :=
  let c120_i32_603 : BitVec 32 := 120#32
  let c0_i32_602 : BitVec 32 := 0#32
  let arg1 : BitVec 32 := BitVec.ofNat 32 (i 1).val
  let c32_i32 : BitVec 32 := 32#32
  let v0 : BitVec 32 := Scalar.muli arg1 c32_i32
  let c17_i32 : BitVec 32 := 17#32
  let v1677 : BitVec 32 := Scalar.addi v0 c17_i32
  let c4_i32_601 : BitVec 32 := 4#32
  let v1680 : BitVec 32 := Scalar.subi v1677 c4_i32_601
  let v1681 : BitVec 32 := Scalar.maxsi c0_i32_602 v1680
  let v1682 : BitVec 32 := Scalar.minsi c120_i32_603 v1681
  let v1683 : BitVec 32 := Scalar.subi v1682 v1677
  let c7_i32_604 : BitVec 32 := 7#32
  let v1684 : BitVec 32 := Scalar.addi v1683 c7_i32_604
  let c64_i32_609 : BitVec 32 := 64#32
  let v1697 : BitVec 32 := Scalar.muli v1684 c64_i32_609
  v1697
def k0_mult55 : BitVec 32 :=
  let c18_i32 : BitVec 32 := 18#32
  let c64_i32_634 : BitVec 32 := 64#32
  let v1772 : BitVec 32 := Scalar.muli c18_i32 c64_i32_634
  v1772
def k0_mult56 (i : grid0.Coords) : BitVec 32 :=
  let c120_i32_638 : BitVec 32 := 120#32
  let c0_i32_637 : BitVec 32 := 0#32
  let arg1 : BitVec 32 := BitVec.ofNat 32 (i 1).val
  let c32_i32 : BitVec 32 := 32#32
  let v0 : BitVec 32 := Scalar.muli arg1 c32_i32
  let c18_i32 : BitVec 32 := 18#32
  let v1774 : BitVec 32 := Scalar.addi v0 c18_i32
  let c4_i32_636 : BitVec 32 := 4#32
  let v1777 : BitVec 32 := Scalar.subi v1774 c4_i32_636
  let v1778 : BitVec 32 := Scalar.maxsi c0_i32_637 v1777
  let v1779 : BitVec 32 := Scalar.minsi c120_i32_638 v1778
  let c64_i32_641 : BitVec 32 := 64#32
  let v1788 : BitVec 32 := Scalar.muli v1779 c64_i32_641
  v1788
def k0_mult57 (i : grid0.Coords) : BitVec 32 :=
  let c120_i32_638 : BitVec 32 := 120#32
  let c0_i32_637 : BitVec 32 := 0#32
  let arg1 : BitVec 32 := BitVec.ofNat 32 (i 1).val
  let c32_i32 : BitVec 32 := 32#32
  let v0 : BitVec 32 := Scalar.muli arg1 c32_i32
  let c18_i32 : BitVec 32 := 18#32
  let v1774 : BitVec 32 := Scalar.addi v0 c18_i32
  let c4_i32_636 : BitVec 32 := 4#32
  let v1777 : BitVec 32 := Scalar.subi v1774 c4_i32_636
  let v1778 : BitVec 32 := Scalar.maxsi c0_i32_637 v1777
  let v1779 : BitVec 32 := Scalar.minsi c120_i32_638 v1778
  let v1780 : BitVec 32 := Scalar.subi v1779 v1774
  let c7_i32_639 : BitVec 32 := 7#32
  let v1781 : BitVec 32 := Scalar.addi v1780 c7_i32_639
  let c64_i32_644 : BitVec 32 := 64#32
  let v1794 : BitVec 32 := Scalar.muli v1781 c64_i32_644
  v1794
def k0_mult58 : BitVec 32 :=
  let c19_i32 : BitVec 32 := 19#32
  let c64_i32_669 : BitVec 32 := 64#32
  let v1869 : BitVec 32 := Scalar.muli c19_i32 c64_i32_669
  v1869
def k0_mult59 (i : grid0.Coords) : BitVec 32 :=
  let c120_i32_673 : BitVec 32 := 120#32
  let c0_i32_672 : BitVec 32 := 0#32
  let arg1 : BitVec 32 := BitVec.ofNat 32 (i 1).val
  let c32_i32 : BitVec 32 := 32#32
  let v0 : BitVec 32 := Scalar.muli arg1 c32_i32
  let c19_i32 : BitVec 32 := 19#32
  let v1871 : BitVec 32 := Scalar.addi v0 c19_i32
  let c4_i32_671 : BitVec 32 := 4#32
  let v1874 : BitVec 32 := Scalar.subi v1871 c4_i32_671
  let v1875 : BitVec 32 := Scalar.maxsi c0_i32_672 v1874
  let v1876 : BitVec 32 := Scalar.minsi c120_i32_673 v1875
  let c64_i32_676 : BitVec 32 := 64#32
  let v1885 : BitVec 32 := Scalar.muli v1876 c64_i32_676
  v1885
def k0_mult60 (i : grid0.Coords) : BitVec 32 :=
  let c120_i32_673 : BitVec 32 := 120#32
  let c0_i32_672 : BitVec 32 := 0#32
  let arg1 : BitVec 32 := BitVec.ofNat 32 (i 1).val
  let c32_i32 : BitVec 32 := 32#32
  let v0 : BitVec 32 := Scalar.muli arg1 c32_i32
  let c19_i32 : BitVec 32 := 19#32
  let v1871 : BitVec 32 := Scalar.addi v0 c19_i32
  let c4_i32_671 : BitVec 32 := 4#32
  let v1874 : BitVec 32 := Scalar.subi v1871 c4_i32_671
  let v1875 : BitVec 32 := Scalar.maxsi c0_i32_672 v1874
  let v1876 : BitVec 32 := Scalar.minsi c120_i32_673 v1875
  let v1877 : BitVec 32 := Scalar.subi v1876 v1871
  let c7_i32_674 : BitVec 32 := 7#32
  let v1878 : BitVec 32 := Scalar.addi v1877 c7_i32_674
  let c64_i32_679 : BitVec 32 := 64#32
  let v1891 : BitVec 32 := Scalar.muli v1878 c64_i32_679
  v1891
def k0_mult61 : BitVec 32 :=
  let c20_i32 : BitVec 32 := 20#32
  let c64_i32_704 : BitVec 32 := 64#32
  let v1966 : BitVec 32 := Scalar.muli c20_i32 c64_i32_704
  v1966
def k0_mult62 (i : grid0.Coords) : BitVec 32 :=
  let c120_i32_708 : BitVec 32 := 120#32
  let c0_i32_707 : BitVec 32 := 0#32
  let arg1 : BitVec 32 := BitVec.ofNat 32 (i 1).val
  let c32_i32 : BitVec 32 := 32#32
  let v0 : BitVec 32 := Scalar.muli arg1 c32_i32
  let c20_i32 : BitVec 32 := 20#32
  let v1968 : BitVec 32 := Scalar.addi v0 c20_i32
  let c4_i32_706 : BitVec 32 := 4#32
  let v1971 : BitVec 32 := Scalar.subi v1968 c4_i32_706
  let v1972 : BitVec 32 := Scalar.maxsi c0_i32_707 v1971
  let v1973 : BitVec 32 := Scalar.minsi c120_i32_708 v1972
  let c64_i32_711 : BitVec 32 := 64#32
  let v1982 : BitVec 32 := Scalar.muli v1973 c64_i32_711
  v1982
def k0_mult63 (i : grid0.Coords) : BitVec 32 :=
  let c120_i32_708 : BitVec 32 := 120#32
  let c0_i32_707 : BitVec 32 := 0#32
  let arg1 : BitVec 32 := BitVec.ofNat 32 (i 1).val
  let c32_i32 : BitVec 32 := 32#32
  let v0 : BitVec 32 := Scalar.muli arg1 c32_i32
  let c20_i32 : BitVec 32 := 20#32
  let v1968 : BitVec 32 := Scalar.addi v0 c20_i32
  let c4_i32_706 : BitVec 32 := 4#32
  let v1971 : BitVec 32 := Scalar.subi v1968 c4_i32_706
  let v1972 : BitVec 32 := Scalar.maxsi c0_i32_707 v1971
  let v1973 : BitVec 32 := Scalar.minsi c120_i32_708 v1972
  let v1974 : BitVec 32 := Scalar.subi v1973 v1968
  let c7_i32_709 : BitVec 32 := 7#32
  let v1975 : BitVec 32 := Scalar.addi v1974 c7_i32_709
  let c64_i32_714 : BitVec 32 := 64#32
  let v1988 : BitVec 32 := Scalar.muli v1975 c64_i32_714
  v1988
def k0_mult64 : BitVec 32 :=
  let c21_i32 : BitVec 32 := 21#32
  let c64_i32_739 : BitVec 32 := 64#32
  let v2063 : BitVec 32 := Scalar.muli c21_i32 c64_i32_739
  v2063
def k0_mult65 (i : grid0.Coords) : BitVec 32 :=
  let c120_i32_743 : BitVec 32 := 120#32
  let c0_i32_742 : BitVec 32 := 0#32
  let arg1 : BitVec 32 := BitVec.ofNat 32 (i 1).val
  let c32_i32 : BitVec 32 := 32#32
  let v0 : BitVec 32 := Scalar.muli arg1 c32_i32
  let c21_i32 : BitVec 32 := 21#32
  let v2065 : BitVec 32 := Scalar.addi v0 c21_i32
  let c4_i32_741 : BitVec 32 := 4#32
  let v2068 : BitVec 32 := Scalar.subi v2065 c4_i32_741
  let v2069 : BitVec 32 := Scalar.maxsi c0_i32_742 v2068
  let v2070 : BitVec 32 := Scalar.minsi c120_i32_743 v2069
  let c64_i32_746 : BitVec 32 := 64#32
  let v2079 : BitVec 32 := Scalar.muli v2070 c64_i32_746
  v2079
def k0_mult66 (i : grid0.Coords) : BitVec 32 :=
  let c120_i32_743 : BitVec 32 := 120#32
  let c0_i32_742 : BitVec 32 := 0#32
  let arg1 : BitVec 32 := BitVec.ofNat 32 (i 1).val
  let c32_i32 : BitVec 32 := 32#32
  let v0 : BitVec 32 := Scalar.muli arg1 c32_i32
  let c21_i32 : BitVec 32 := 21#32
  let v2065 : BitVec 32 := Scalar.addi v0 c21_i32
  let c4_i32_741 : BitVec 32 := 4#32
  let v2068 : BitVec 32 := Scalar.subi v2065 c4_i32_741
  let v2069 : BitVec 32 := Scalar.maxsi c0_i32_742 v2068
  let v2070 : BitVec 32 := Scalar.minsi c120_i32_743 v2069
  let v2071 : BitVec 32 := Scalar.subi v2070 v2065
  let c7_i32_744 : BitVec 32 := 7#32
  let v2072 : BitVec 32 := Scalar.addi v2071 c7_i32_744
  let c64_i32_749 : BitVec 32 := 64#32
  let v2085 : BitVec 32 := Scalar.muli v2072 c64_i32_749
  v2085
def k0_mult67 : BitVec 32 :=
  let c22_i32 : BitVec 32 := 22#32
  let c64_i32_774 : BitVec 32 := 64#32
  let v2160 : BitVec 32 := Scalar.muli c22_i32 c64_i32_774
  v2160
def k0_mult68 (i : grid0.Coords) : BitVec 32 :=
  let c120_i32_778 : BitVec 32 := 120#32
  let c0_i32_777 : BitVec 32 := 0#32
  let arg1 : BitVec 32 := BitVec.ofNat 32 (i 1).val
  let c32_i32 : BitVec 32 := 32#32
  let v0 : BitVec 32 := Scalar.muli arg1 c32_i32
  let c22_i32 : BitVec 32 := 22#32
  let v2162 : BitVec 32 := Scalar.addi v0 c22_i32
  let c4_i32_776 : BitVec 32 := 4#32
  let v2165 : BitVec 32 := Scalar.subi v2162 c4_i32_776
  let v2166 : BitVec 32 := Scalar.maxsi c0_i32_777 v2165
  let v2167 : BitVec 32 := Scalar.minsi c120_i32_778 v2166
  let c64_i32_781 : BitVec 32 := 64#32
  let v2176 : BitVec 32 := Scalar.muli v2167 c64_i32_781
  v2176
def k0_mult69 (i : grid0.Coords) : BitVec 32 :=
  let c120_i32_778 : BitVec 32 := 120#32
  let c0_i32_777 : BitVec 32 := 0#32
  let arg1 : BitVec 32 := BitVec.ofNat 32 (i 1).val
  let c32_i32 : BitVec 32 := 32#32
  let v0 : BitVec 32 := Scalar.muli arg1 c32_i32
  let c22_i32 : BitVec 32 := 22#32
  let v2162 : BitVec 32 := Scalar.addi v0 c22_i32
  let c4_i32_776 : BitVec 32 := 4#32
  let v2165 : BitVec 32 := Scalar.subi v2162 c4_i32_776
  let v2166 : BitVec 32 := Scalar.maxsi c0_i32_777 v2165
  let v2167 : BitVec 32 := Scalar.minsi c120_i32_778 v2166
  let v2168 : BitVec 32 := Scalar.subi v2167 v2162
  let c7_i32_779 : BitVec 32 := 7#32
  let v2169 : BitVec 32 := Scalar.addi v2168 c7_i32_779
  let c64_i32_784 : BitVec 32 := 64#32
  let v2182 : BitVec 32 := Scalar.muli v2169 c64_i32_784
  v2182
def k0_mult70 : BitVec 32 :=
  let c23_i32 : BitVec 32 := 23#32
  let c64_i32_809 : BitVec 32 := 64#32
  let v2257 : BitVec 32 := Scalar.muli c23_i32 c64_i32_809
  v2257
def k0_mult71 (i : grid0.Coords) : BitVec 32 :=
  let c120_i32_813 : BitVec 32 := 120#32
  let c0_i32_812 : BitVec 32 := 0#32
  let arg1 : BitVec 32 := BitVec.ofNat 32 (i 1).val
  let c32_i32 : BitVec 32 := 32#32
  let v0 : BitVec 32 := Scalar.muli arg1 c32_i32
  let c23_i32 : BitVec 32 := 23#32
  let v2259 : BitVec 32 := Scalar.addi v0 c23_i32
  let c4_i32_811 : BitVec 32 := 4#32
  let v2262 : BitVec 32 := Scalar.subi v2259 c4_i32_811
  let v2263 : BitVec 32 := Scalar.maxsi c0_i32_812 v2262
  let v2264 : BitVec 32 := Scalar.minsi c120_i32_813 v2263
  let c64_i32_816 : BitVec 32 := 64#32
  let v2273 : BitVec 32 := Scalar.muli v2264 c64_i32_816
  v2273
def k0_mult72 (i : grid0.Coords) : BitVec 32 :=
  let c120_i32_813 : BitVec 32 := 120#32
  let c0_i32_812 : BitVec 32 := 0#32
  let arg1 : BitVec 32 := BitVec.ofNat 32 (i 1).val
  let c32_i32 : BitVec 32 := 32#32
  let v0 : BitVec 32 := Scalar.muli arg1 c32_i32
  let c23_i32 : BitVec 32 := 23#32
  let v2259 : BitVec 32 := Scalar.addi v0 c23_i32
  let c4_i32_811 : BitVec 32 := 4#32
  let v2262 : BitVec 32 := Scalar.subi v2259 c4_i32_811
  let v2263 : BitVec 32 := Scalar.maxsi c0_i32_812 v2262
  let v2264 : BitVec 32 := Scalar.minsi c120_i32_813 v2263
  let v2265 : BitVec 32 := Scalar.subi v2264 v2259
  let c7_i32_814 : BitVec 32 := 7#32
  let v2266 : BitVec 32 := Scalar.addi v2265 c7_i32_814
  let c64_i32_819 : BitVec 32 := 64#32
  let v2279 : BitVec 32 := Scalar.muli v2266 c64_i32_819
  v2279
def k0_mult73 : BitVec 32 :=
  let c24_i32 : BitVec 32 := 24#32
  let c64_i32_844 : BitVec 32 := 64#32
  let v2354 : BitVec 32 := Scalar.muli c24_i32 c64_i32_844
  v2354
def k0_mult74 (i : grid0.Coords) : BitVec 32 :=
  let c120_i32_848 : BitVec 32 := 120#32
  let c0_i32_847 : BitVec 32 := 0#32
  let arg1 : BitVec 32 := BitVec.ofNat 32 (i 1).val
  let c32_i32 : BitVec 32 := 32#32
  let v0 : BitVec 32 := Scalar.muli arg1 c32_i32
  let c24_i32 : BitVec 32 := 24#32
  let v2356 : BitVec 32 := Scalar.addi v0 c24_i32
  let c4_i32_846 : BitVec 32 := 4#32
  let v2359 : BitVec 32 := Scalar.subi v2356 c4_i32_846
  let v2360 : BitVec 32 := Scalar.maxsi c0_i32_847 v2359
  let v2361 : BitVec 32 := Scalar.minsi c120_i32_848 v2360
  let c64_i32_851 : BitVec 32 := 64#32
  let v2370 : BitVec 32 := Scalar.muli v2361 c64_i32_851
  v2370
def k0_mult75 (i : grid0.Coords) : BitVec 32 :=
  let c120_i32_848 : BitVec 32 := 120#32
  let c0_i32_847 : BitVec 32 := 0#32
  let arg1 : BitVec 32 := BitVec.ofNat 32 (i 1).val
  let c32_i32 : BitVec 32 := 32#32
  let v0 : BitVec 32 := Scalar.muli arg1 c32_i32
  let c24_i32 : BitVec 32 := 24#32
  let v2356 : BitVec 32 := Scalar.addi v0 c24_i32
  let c4_i32_846 : BitVec 32 := 4#32
  let v2359 : BitVec 32 := Scalar.subi v2356 c4_i32_846
  let v2360 : BitVec 32 := Scalar.maxsi c0_i32_847 v2359
  let v2361 : BitVec 32 := Scalar.minsi c120_i32_848 v2360
  let v2362 : BitVec 32 := Scalar.subi v2361 v2356
  let c7_i32_849 : BitVec 32 := 7#32
  let v2363 : BitVec 32 := Scalar.addi v2362 c7_i32_849
  let c64_i32_854 : BitVec 32 := 64#32
  let v2376 : BitVec 32 := Scalar.muli v2363 c64_i32_854
  v2376
def k0_mult76 : BitVec 32 :=
  let c25_i32 : BitVec 32 := 25#32
  let c64_i32_879 : BitVec 32 := 64#32
  let v2451 : BitVec 32 := Scalar.muli c25_i32 c64_i32_879
  v2451
def k0_mult77 (i : grid0.Coords) : BitVec 32 :=
  let c120_i32_883 : BitVec 32 := 120#32
  let c0_i32_882 : BitVec 32 := 0#32
  let arg1 : BitVec 32 := BitVec.ofNat 32 (i 1).val
  let c32_i32 : BitVec 32 := 32#32
  let v0 : BitVec 32 := Scalar.muli arg1 c32_i32
  let c25_i32 : BitVec 32 := 25#32
  let v2453 : BitVec 32 := Scalar.addi v0 c25_i32
  let c4_i32_881 : BitVec 32 := 4#32
  let v2456 : BitVec 32 := Scalar.subi v2453 c4_i32_881
  let v2457 : BitVec 32 := Scalar.maxsi c0_i32_882 v2456
  let v2458 : BitVec 32 := Scalar.minsi c120_i32_883 v2457
  let c64_i32_886 : BitVec 32 := 64#32
  let v2467 : BitVec 32 := Scalar.muli v2458 c64_i32_886
  v2467
def k0_mult78 (i : grid0.Coords) : BitVec 32 :=
  let c120_i32_883 : BitVec 32 := 120#32
  let c0_i32_882 : BitVec 32 := 0#32
  let arg1 : BitVec 32 := BitVec.ofNat 32 (i 1).val
  let c32_i32 : BitVec 32 := 32#32
  let v0 : BitVec 32 := Scalar.muli arg1 c32_i32
  let c25_i32 : BitVec 32 := 25#32
  let v2453 : BitVec 32 := Scalar.addi v0 c25_i32
  let c4_i32_881 : BitVec 32 := 4#32
  let v2456 : BitVec 32 := Scalar.subi v2453 c4_i32_881
  let v2457 : BitVec 32 := Scalar.maxsi c0_i32_882 v2456
  let v2458 : BitVec 32 := Scalar.minsi c120_i32_883 v2457
  let v2459 : BitVec 32 := Scalar.subi v2458 v2453
  let c7_i32_884 : BitVec 32 := 7#32
  let v2460 : BitVec 32 := Scalar.addi v2459 c7_i32_884
  let c64_i32_889 : BitVec 32 := 64#32
  let v2473 : BitVec 32 := Scalar.muli v2460 c64_i32_889
  v2473
def k0_mult79 : BitVec 32 :=
  let c26_i32 : BitVec 32 := 26#32
  let c64_i32_914 : BitVec 32 := 64#32
  let v2548 : BitVec 32 := Scalar.muli c26_i32 c64_i32_914
  v2548
def k0_mult80 (i : grid0.Coords) : BitVec 32 :=
  let c120_i32_918 : BitVec 32 := 120#32
  let c0_i32_917 : BitVec 32 := 0#32
  let arg1 : BitVec 32 := BitVec.ofNat 32 (i 1).val
  let c32_i32 : BitVec 32 := 32#32
  let v0 : BitVec 32 := Scalar.muli arg1 c32_i32
  let c26_i32 : BitVec 32 := 26#32
  let v2550 : BitVec 32 := Scalar.addi v0 c26_i32
  let c4_i32_916 : BitVec 32 := 4#32
  let v2553 : BitVec 32 := Scalar.subi v2550 c4_i32_916
  let v2554 : BitVec 32 := Scalar.maxsi c0_i32_917 v2553
  let v2555 : BitVec 32 := Scalar.minsi c120_i32_918 v2554
  let c64_i32_921 : BitVec 32 := 64#32
  let v2564 : BitVec 32 := Scalar.muli v2555 c64_i32_921
  v2564
def k0_mult81 (i : grid0.Coords) : BitVec 32 :=
  let c120_i32_918 : BitVec 32 := 120#32
  let c0_i32_917 : BitVec 32 := 0#32
  let arg1 : BitVec 32 := BitVec.ofNat 32 (i 1).val
  let c32_i32 : BitVec 32 := 32#32
  let v0 : BitVec 32 := Scalar.muli arg1 c32_i32
  let c26_i32 : BitVec 32 := 26#32
  let v2550 : BitVec 32 := Scalar.addi v0 c26_i32
  let c4_i32_916 : BitVec 32 := 4#32
  let v2553 : BitVec 32 := Scalar.subi v2550 c4_i32_916
  let v2554 : BitVec 32 := Scalar.maxsi c0_i32_917 v2553
  let v2555 : BitVec 32 := Scalar.minsi c120_i32_918 v2554
  let v2556 : BitVec 32 := Scalar.subi v2555 v2550
  let c7_i32_919 : BitVec 32 := 7#32
  let v2557 : BitVec 32 := Scalar.addi v2556 c7_i32_919
  let c64_i32_924 : BitVec 32 := 64#32
  let v2570 : BitVec 32 := Scalar.muli v2557 c64_i32_924
  v2570
def k0_mult82 : BitVec 32 :=
  let c27_i32 : BitVec 32 := 27#32
  let c64_i32_949 : BitVec 32 := 64#32
  let v2645 : BitVec 32 := Scalar.muli c27_i32 c64_i32_949
  v2645
def k0_mult83 (i : grid0.Coords) : BitVec 32 :=
  let c120_i32_953 : BitVec 32 := 120#32
  let c0_i32_952 : BitVec 32 := 0#32
  let arg1 : BitVec 32 := BitVec.ofNat 32 (i 1).val
  let c32_i32 : BitVec 32 := 32#32
  let v0 : BitVec 32 := Scalar.muli arg1 c32_i32
  let c27_i32 : BitVec 32 := 27#32
  let v2647 : BitVec 32 := Scalar.addi v0 c27_i32
  let c4_i32_951 : BitVec 32 := 4#32
  let v2650 : BitVec 32 := Scalar.subi v2647 c4_i32_951
  let v2651 : BitVec 32 := Scalar.maxsi c0_i32_952 v2650
  let v2652 : BitVec 32 := Scalar.minsi c120_i32_953 v2651
  let c64_i32_956 : BitVec 32 := 64#32
  let v2661 : BitVec 32 := Scalar.muli v2652 c64_i32_956
  v2661
def k0_mult84 (i : grid0.Coords) : BitVec 32 :=
  let c120_i32_953 : BitVec 32 := 120#32
  let c0_i32_952 : BitVec 32 := 0#32
  let arg1 : BitVec 32 := BitVec.ofNat 32 (i 1).val
  let c32_i32 : BitVec 32 := 32#32
  let v0 : BitVec 32 := Scalar.muli arg1 c32_i32
  let c27_i32 : BitVec 32 := 27#32
  let v2647 : BitVec 32 := Scalar.addi v0 c27_i32
  let c4_i32_951 : BitVec 32 := 4#32
  let v2650 : BitVec 32 := Scalar.subi v2647 c4_i32_951
  let v2651 : BitVec 32 := Scalar.maxsi c0_i32_952 v2650
  let v2652 : BitVec 32 := Scalar.minsi c120_i32_953 v2651
  let v2653 : BitVec 32 := Scalar.subi v2652 v2647
  let c7_i32_954 : BitVec 32 := 7#32
  let v2654 : BitVec 32 := Scalar.addi v2653 c7_i32_954
  let c64_i32_959 : BitVec 32 := 64#32
  let v2667 : BitVec 32 := Scalar.muli v2654 c64_i32_959
  v2667
def k0_mult85 : BitVec 32 :=
  let c28_i32 : BitVec 32 := 28#32
  let c64_i32_984 : BitVec 32 := 64#32
  let v2742 : BitVec 32 := Scalar.muli c28_i32 c64_i32_984
  v2742
def k0_mult86 (i : grid0.Coords) : BitVec 32 :=
  let c120_i32_988 : BitVec 32 := 120#32
  let c0_i32_987 : BitVec 32 := 0#32
  let arg1 : BitVec 32 := BitVec.ofNat 32 (i 1).val
  let c32_i32 : BitVec 32 := 32#32
  let v0 : BitVec 32 := Scalar.muli arg1 c32_i32
  let c28_i32 : BitVec 32 := 28#32
  let v2744 : BitVec 32 := Scalar.addi v0 c28_i32
  let c4_i32_986 : BitVec 32 := 4#32
  let v2747 : BitVec 32 := Scalar.subi v2744 c4_i32_986
  let v2748 : BitVec 32 := Scalar.maxsi c0_i32_987 v2747
  let v2749 : BitVec 32 := Scalar.minsi c120_i32_988 v2748
  let c64_i32_991 : BitVec 32 := 64#32
  let v2758 : BitVec 32 := Scalar.muli v2749 c64_i32_991
  v2758
def k0_mult87 (i : grid0.Coords) : BitVec 32 :=
  let c120_i32_988 : BitVec 32 := 120#32
  let c0_i32_987 : BitVec 32 := 0#32
  let arg1 : BitVec 32 := BitVec.ofNat 32 (i 1).val
  let c32_i32 : BitVec 32 := 32#32
  let v0 : BitVec 32 := Scalar.muli arg1 c32_i32
  let c28_i32 : BitVec 32 := 28#32
  let v2744 : BitVec 32 := Scalar.addi v0 c28_i32
  let c4_i32_986 : BitVec 32 := 4#32
  let v2747 : BitVec 32 := Scalar.subi v2744 c4_i32_986
  let v2748 : BitVec 32 := Scalar.maxsi c0_i32_987 v2747
  let v2749 : BitVec 32 := Scalar.minsi c120_i32_988 v2748
  let v2750 : BitVec 32 := Scalar.subi v2749 v2744
  let c7_i32_989 : BitVec 32 := 7#32
  let v2751 : BitVec 32 := Scalar.addi v2750 c7_i32_989
  let c64_i32_994 : BitVec 32 := 64#32
  let v2764 : BitVec 32 := Scalar.muli v2751 c64_i32_994
  v2764
def k0_mult88 : BitVec 32 :=
  let c29_i32 : BitVec 32 := 29#32
  let c64_i32_1019 : BitVec 32 := 64#32
  let v2839 : BitVec 32 := Scalar.muli c29_i32 c64_i32_1019
  v2839
def k0_mult89 (i : grid0.Coords) : BitVec 32 :=
  let c120_i32_1023 : BitVec 32 := 120#32
  let c0_i32_1022 : BitVec 32 := 0#32
  let arg1 : BitVec 32 := BitVec.ofNat 32 (i 1).val
  let c32_i32 : BitVec 32 := 32#32
  let v0 : BitVec 32 := Scalar.muli arg1 c32_i32
  let c29_i32 : BitVec 32 := 29#32
  let v2841 : BitVec 32 := Scalar.addi v0 c29_i32
  let c4_i32_1021 : BitVec 32 := 4#32
  let v2844 : BitVec 32 := Scalar.subi v2841 c4_i32_1021
  let v2845 : BitVec 32 := Scalar.maxsi c0_i32_1022 v2844
  let v2846 : BitVec 32 := Scalar.minsi c120_i32_1023 v2845
  let c64_i32_1026 : BitVec 32 := 64#32
  let v2855 : BitVec 32 := Scalar.muli v2846 c64_i32_1026
  v2855
def k0_mult90 (i : grid0.Coords) : BitVec 32 :=
  let c120_i32_1023 : BitVec 32 := 120#32
  let c0_i32_1022 : BitVec 32 := 0#32
  let arg1 : BitVec 32 := BitVec.ofNat 32 (i 1).val
  let c32_i32 : BitVec 32 := 32#32
  let v0 : BitVec 32 := Scalar.muli arg1 c32_i32
  let c29_i32 : BitVec 32 := 29#32
  let v2841 : BitVec 32 := Scalar.addi v0 c29_i32
  let c4_i32_1021 : BitVec 32 := 4#32
  let v2844 : BitVec 32 := Scalar.subi v2841 c4_i32_1021
  let v2845 : BitVec 32 := Scalar.maxsi c0_i32_1022 v2844
  let v2846 : BitVec 32 := Scalar.minsi c120_i32_1023 v2845
  let v2847 : BitVec 32 := Scalar.subi v2846 v2841
  let c7_i32_1024 : BitVec 32 := 7#32
  let v2848 : BitVec 32 := Scalar.addi v2847 c7_i32_1024
  let c64_i32_1029 : BitVec 32 := 64#32
  let v2861 : BitVec 32 := Scalar.muli v2848 c64_i32_1029
  v2861
def k0_mult91 : BitVec 32 :=
  let c30_i32 : BitVec 32 := 30#32
  let c64_i32_1054 : BitVec 32 := 64#32
  let v2936 : BitVec 32 := Scalar.muli c30_i32 c64_i32_1054
  v2936
def k0_mult92 (i : grid0.Coords) : BitVec 32 :=
  let c120_i32_1058 : BitVec 32 := 120#32
  let c0_i32_1057 : BitVec 32 := 0#32
  let arg1 : BitVec 32 := BitVec.ofNat 32 (i 1).val
  let c32_i32 : BitVec 32 := 32#32
  let v0 : BitVec 32 := Scalar.muli arg1 c32_i32
  let c30_i32 : BitVec 32 := 30#32
  let v2938 : BitVec 32 := Scalar.addi v0 c30_i32
  let c4_i32_1056 : BitVec 32 := 4#32
  let v2941 : BitVec 32 := Scalar.subi v2938 c4_i32_1056
  let v2942 : BitVec 32 := Scalar.maxsi c0_i32_1057 v2941
  let v2943 : BitVec 32 := Scalar.minsi c120_i32_1058 v2942
  let c64_i32_1061 : BitVec 32 := 64#32
  let v2952 : BitVec 32 := Scalar.muli v2943 c64_i32_1061
  v2952
def k0_mult93 (i : grid0.Coords) : BitVec 32 :=
  let c120_i32_1058 : BitVec 32 := 120#32
  let c0_i32_1057 : BitVec 32 := 0#32
  let arg1 : BitVec 32 := BitVec.ofNat 32 (i 1).val
  let c32_i32 : BitVec 32 := 32#32
  let v0 : BitVec 32 := Scalar.muli arg1 c32_i32
  let c30_i32 : BitVec 32 := 30#32
  let v2938 : BitVec 32 := Scalar.addi v0 c30_i32
  let c4_i32_1056 : BitVec 32 := 4#32
  let v2941 : BitVec 32 := Scalar.subi v2938 c4_i32_1056
  let v2942 : BitVec 32 := Scalar.maxsi c0_i32_1057 v2941
  let v2943 : BitVec 32 := Scalar.minsi c120_i32_1058 v2942
  let v2944 : BitVec 32 := Scalar.subi v2943 v2938
  let c7_i32_1059 : BitVec 32 := 7#32
  let v2945 : BitVec 32 := Scalar.addi v2944 c7_i32_1059
  let c64_i32_1064 : BitVec 32 := 64#32
  let v2958 : BitVec 32 := Scalar.muli v2945 c64_i32_1064
  v2958
def k0_mult94 : BitVec 32 :=
  let c31_i32 : BitVec 32 := 31#32
  let c64_i32_1089 : BitVec 32 := 64#32
  let v3033 : BitVec 32 := Scalar.muli c31_i32 c64_i32_1089
  v3033
def k0_mult95 (i : grid0.Coords) : BitVec 32 :=
  let c120_i32_1093 : BitVec 32 := 120#32
  let c0_i32_1092 : BitVec 32 := 0#32
  let arg1 : BitVec 32 := BitVec.ofNat 32 (i 1).val
  let c32_i32 : BitVec 32 := 32#32
  let v0 : BitVec 32 := Scalar.muli arg1 c32_i32
  let c31_i32 : BitVec 32 := 31#32
  let v3035 : BitVec 32 := Scalar.addi v0 c31_i32
  let c4_i32_1091 : BitVec 32 := 4#32
  let v3038 : BitVec 32 := Scalar.subi v3035 c4_i32_1091
  let v3039 : BitVec 32 := Scalar.maxsi c0_i32_1092 v3038
  let v3040 : BitVec 32 := Scalar.minsi c120_i32_1093 v3039
  let c64_i32_1096 : BitVec 32 := 64#32
  let v3049 : BitVec 32 := Scalar.muli v3040 c64_i32_1096
  v3049
def k0_mult96 (i : grid0.Coords) : BitVec 32 :=
  let c120_i32_1093 : BitVec 32 := 120#32
  let c0_i32_1092 : BitVec 32 := 0#32
  let arg1 : BitVec 32 := BitVec.ofNat 32 (i 1).val
  let c32_i32 : BitVec 32 := 32#32
  let v0 : BitVec 32 := Scalar.muli arg1 c32_i32
  let c31_i32 : BitVec 32 := 31#32
  let v3035 : BitVec 32 := Scalar.addi v0 c31_i32
  let c4_i32_1091 : BitVec 32 := 4#32
  let v3038 : BitVec 32 := Scalar.subi v3035 c4_i32_1091
  let v3039 : BitVec 32 := Scalar.maxsi c0_i32_1092 v3038
  let v3040 : BitVec 32 := Scalar.minsi c120_i32_1093 v3039
  let v3041 : BitVec 32 := Scalar.subi v3040 v3035
  let c7_i32_1094 : BitVec 32 := 7#32
  let v3042 : BitVec 32 := Scalar.addi v3041 c7_i32_1094
  let c64_i32_1099 : BitVec 32 := 64#32
  let v3055 : BitVec 32 := Scalar.muli v3042 c64_i32_1099
  v3055
def k0_cond2 (i : grid0.Coords) : BitVec 1 :=
  let arg1 : BitVec 32 := BitVec.ofNat 32 (i 1).val
  let c3_i32 : BitVec 32 := 3#32
  let v1 : BitVec 1 := Scalar.cmpi .eq arg1 c3_i32
  let v3130 : BitVec 32 := Scalar.extui v1
  let c0_i32_1125 : BitVec 32 := 0#32
  let v3131 : BitVec 1 := Scalar.cmpi .ne v3130 c0_i32_1125
  v3131

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S8192x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x960x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8192x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8192x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x960x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S8192x1536 : Shape := ⟨2, ![8192, 1536]⟩
abbrev S2x960x256 : Shape := ⟨3, ![2, 960, 256]⟩
abbrev S8192x1024 : Shape := ⟨2, ![8192, 1024]⟩
abbrev S8192x512 : Shape := ⟨2, ![8192, 512]⟩
abbrev S2x15x64x4x64 : Shape := ⟨5, ![2, 15, 64, 4, 64]⟩
abbrev S2x4x15x64x64 : Shape := ⟨5, ![2, 4, 15, 64, 64]⟩
abbrev S8x15x64x64 : Shape := ⟨4, ![8, 15, 64, 64]⟩
abbrev S128x64x8x64 : Shape := ⟨4, ![128, 64, 8, 64]⟩
abbrev S128 : Shape := ⟨1, ![128]⟩
abbrev S_ : Shape := ⟨0, ![]⟩
abbrev S128x1 : Shape := ⟨2, ![128, 1]⟩
abbrev S8 : Shape := ⟨1, ![8]⟩
abbrev S1x8 : Shape := ⟨2, ![1, 8]⟩
abbrev S128x8 : Shape := ⟨2, ![128, 8]⟩
abbrev S128x8x1 : Shape := ⟨3, ![128, 8, 1]⟩
abbrev S128x8x64x8x64 : Shape := ⟨5, ![128, 8, 64, 8, 64]⟩
abbrev S128x512x8x64 : Shape := ⟨4, ![128, 512, 8, 64]⟩
abbrev S8x128x8x64x64 : Shape := ⟨5, ![8, 128, 8, 64, 64]⟩
abbrev S8x128x64x8x64 : Shape := ⟨5, ![8, 128, 64, 8, 64]⟩
abbrev S8x128x64x512 : Shape := ⟨4, ![8, 128, 64, 512]⟩
abbrev S8x128x64 : Shape := ⟨3, ![8, 128, 64]⟩
abbrev S8x128x64x1 : Shape := ⟨4, ![8, 128, 64, 1]⟩
abbrev S128x8x64x64 : Shape := ⟨4, ![128, 8, 64, 64]⟩
abbrev S128x8x64x512 : Shape := ⟨4, ![128, 8, 64, 512]⟩
abbrev S8x128x512x64 : Shape := ⟨4, ![8, 128, 512, 64]⟩
abbrev S8x128x64x64 : Shape := ⟨4, ![8, 128, 64, 64]⟩

abbrev nBuf : Space → Nat
  | .hbm => 177
  | .vmem => 0
  | .smem => 0
  | _ => 0

abbrev hbmTy0_0 (i : Nat) : BufTy := match i % 128 with
  | 0 => ⟨S8192x1536, .bf16⟩
  | 1 => ⟨S2x960x256, .f32⟩
  | 2 => ⟨S8192x1024, .f32⟩
  | 3 => ⟨S8192x512, .bf16⟩
  | 4 => ⟨S8192x512, .bf16⟩
  | 5 => ⟨S8192x512, .bf16⟩
  | 6 => ⟨S2x15x64x4x64, .f32⟩
  | 7 => ⟨S2x4x15x64x64, .f32⟩
  | 8 => ⟨S8x15x64x64, .f32⟩
  | 9 => ⟨S8192x512, .f32⟩
  | 10 => ⟨S128x64x8x64, .f32⟩
  | 11 => ⟨S8192x512, .f32⟩
  | 12 => ⟨S128x64x8x64, .f32⟩
  | 13 => ⟨S8192x512, .f32⟩
  | 14 => ⟨S128x64x8x64, .f32⟩
  | 15 => ⟨S128, .i32⟩
  | 16 => ⟨S_, .i32⟩
  | 17 => ⟨S128, .i32⟩
  | 18 => ⟨S128, .i32⟩
  | 19 => ⟨S_, .i32⟩
  | 20 => ⟨S_, .i32⟩
  | 21 => ⟨S_, .i32⟩
  | 22 => ⟨S128, .i32⟩
  | 23 => ⟨S128, .i32⟩
  | 24 => ⟨S_, .i32⟩
  | 25 => ⟨S128, .i32⟩
  | 26 => ⟨S128, .i32⟩
  | 27 => ⟨S128x1, .i32⟩
  | 28 => ⟨S8, .i32⟩
  | 29 => ⟨S1x8, .i32⟩
  | 30 => ⟨S128x8, .i32⟩
  | 31 => ⟨S128x8, .i32⟩
  | 32 => ⟨S128x8, .i32⟩
  | 33 => ⟨S_, .i32⟩
  | 34 => ⟨S128x8, .i32⟩
  | 35 => ⟨S128x8, .i1⟩
  | 36 => ⟨S_, .i32⟩
  | 37 => ⟨S128x8, .i32⟩
  | 38 => ⟨S128x8, .i32⟩
  | 39 => ⟨S128x8, .i32⟩
  | 40 => ⟨S128x8x1, .i32⟩
  | 41 => ⟨S128x8x64x8x64, .f32⟩
  | 42 => ⟨S128x512x8x64, .f32⟩
  | 43 => ⟨S_, .i32⟩
  | 44 => ⟨S128x8, .i32⟩
  | 45 => ⟨S128x8, .i1⟩
  | 46 => ⟨S_, .i32⟩
  | 47 => ⟨S128x8, .i32⟩
  | 48 => ⟨S128x8, .i32⟩
  | 49 => ⟨S128x8, .i32⟩
  | 50 => ⟨S128x8x1, .i32⟩
  | 51 => ⟨S128x8x64x8x64, .f32⟩
  | 52 => ⟨S128x512x8x64, .f32⟩
  | 53 => ⟨S128x1, .i32⟩
  | 54 => ⟨S128x8, .i32⟩
  | 55 => ⟨S128x8, .i32⟩
  | 56 => ⟨S_, .i32⟩
  | 57 => ⟨S128x8, .i32⟩
  | 58 => ⟨S128x8, .i32⟩
  | 59 => ⟨S_, .i32⟩
  | 60 => ⟨S128x8, .i32⟩
  | 61 => ⟨S128x8, .i1⟩
  | 62 => ⟨S_, .i32⟩
  | 63 => ⟨S128x8, .i32⟩
  | 64 => ⟨S128x8, .i32⟩
  | 65 => ⟨S128x8, .i32⟩
  | 66 => ⟨S128x8x1, .i32⟩
  | 67 => ⟨S8x128x8x64x64, .f32⟩
  | 68 => ⟨S8x128x64x8x64, .f32⟩
  | 69 => ⟨S8x128x64x512, .f32⟩
  | 70 => ⟨S8x128x64x512, .f32⟩
  | 71 => ⟨S8x128x64x512, .bf16⟩
  | 72 => ⟨S8x128x64x512, .f32⟩
  | 73 => ⟨S_, .f32⟩
  | 74 => ⟨S8x128x64x512, .f32⟩
  | 75 => ⟨S8x128x64x512, .f32⟩
  | 76 => ⟨S8x128x64x512, .f32⟩
  | 77 => ⟨S_, .f32⟩
  | 78 => ⟨S8x128x64, .f32⟩
  | 79 => ⟨S8x128x64x1, .f32⟩
  | 80 => ⟨S8x128x64x512, .f32⟩
  | 81 => ⟨S8x128x64x512, .i1⟩
  | 82 => ⟨S8x128x64x512, .f32⟩
  | 83 => ⟨S_, .f32⟩
  | 84 => ⟨S8x128x64, .f32⟩
  | 85 => ⟨S_, .f32⟩
  | 86 => ⟨S8x128x64, .f32⟩
  | 87 => ⟨S8x128x64, .f32⟩
  | 88 => ⟨S_, .f32⟩
  | 89 => ⟨S8x128x64, .f32⟩
  | 90 => ⟨S8x128x64, .i1⟩
  | 91 => ⟨S_, .f32⟩
  | 92 => ⟨S8x128x64, .f32⟩
  | 93 => ⟨S8x128x64, .i1⟩
  | 94 => ⟨S_, .f32⟩
  | 95 => ⟨S8x128x64, .f32⟩
  | 96 => ⟨S_, .f32⟩
  | 97 => ⟨S8x128x64, .f32⟩
  | 98 => ⟨S_, .f32⟩
  | 99 => ⟨S8x128x64, .f32⟩
  | 100 => ⟨S8x128x64, .f32⟩
  | 101 => ⟨S8x128x64, .f32⟩
  | 102 => ⟨S8x128x64x1, .f32⟩
  | 103 => ⟨S8x128x64x512, .f32⟩
  | 104 => ⟨S8x128x64x512, .f32⟩
  | 105 => ⟨S8x128x64x512, .f32⟩
  | 106 => ⟨S_, .f32⟩
  | 107 => ⟨S8x128x64, .f32⟩
  | 108 => ⟨S8x128x64x1, .f32⟩
  | 109 => ⟨S8x128x64x512, .f32⟩
  | 110 => ⟨S8x128x64x512, .f32⟩
  | 111 => ⟨S8x128x64x1, .f32⟩
  | 112 => ⟨S_, .f32⟩
  | 113 => ⟨S8x128x64x1, .f32⟩
  | 114 => ⟨S8x128x64x1, .f32⟩
  | 115 => ⟨S8x128x64x512, .bf16⟩
  | 116 => ⟨S8x128x64x512, .f32⟩
  | 117 => ⟨S128x8x64x64, .f32⟩
  | 118 => ⟨S128x64x8x64, .f32⟩
  | 119 => ⟨S8192x512, .f32⟩
  | 120 => ⟨S8192x512, .bf16⟩
  | 121 => ⟨S8192x512, .f32⟩
  | 122 => ⟨S8192x512, .bf16⟩
  | 123 => ⟨S8192x512, .f32⟩
  | 124 => ⟨S128x64x8x64, .f32⟩
  | 125 => ⟨S128x8x64x64, .f32⟩
  | 126 => ⟨S128x8x64x512, .f32⟩
  | 127 => ⟨S8x128x64x512, .f32⟩
  | _ => ⟨S8192x1536, .bf16⟩

abbrev hbmTy0_1 (i : Nat) : BufTy := match i % 128 with
  | 0 => ⟨S128x8x64x512, .f32⟩
  | 1 => ⟨S128x512x8x64, .f32⟩
  | 2 => ⟨S8x128x64x512, .bf16⟩
  | 3 => ⟨S8x128x64x512, .f32⟩
  | 4 => ⟨S8x128x64x512, .f32⟩
  | 5 => ⟨S8x128x64x512, .f32⟩
  | 6 => ⟨S8x128x64x512, .f32⟩
  | 7 => ⟨S_, .f32⟩
  | 8 => ⟨S8x128x64, .f32⟩
  | 9 => ⟨S8x128x64x1, .f32⟩
  | 10 => ⟨S8x128x64x1, .f32⟩
  | 11 => ⟨S8x128x64x512, .f32⟩
  | 12 => ⟨S8x128x64x512, .f32⟩
  | 13 => ⟨S_, .f32⟩
  | 14 => ⟨S8x128x64, .f32⟩
  | 15 => ⟨S8x128x64x512, .f32⟩
  | 16 => ⟨S8x128x64x512, .f32⟩
  | 17 => ⟨S8x128x64x512, .f32⟩
  | 18 => ⟨S_, .f32⟩
  | 19 => ⟨S8x128x64x512, .f32⟩
  | 20 => ⟨S8x128x64x512, .f32⟩
  | 21 => ⟨S8x128x64x512, .bf16⟩
  | 22 => ⟨S8x128x64x512, .f32⟩
  | 23 => ⟨S8x128x512x64, .f32⟩
  | 24 => ⟨S128x512x8x64, .f32⟩
  | 25 => ⟨S8x128x64x64, .f32⟩
  | 26 => ⟨S128x64x8x64, .f32⟩
  | 27 => ⟨S8x128x64x8x64, .f32⟩
  | 28 => ⟨S8x128x8x64x64, .f32⟩
  | 29 => ⟨S_, .f32⟩
  | 30 => ⟨S8x15x64x64, .f32⟩
  | 31 => ⟨S8x15x64x64, .f32⟩
  | 32 => ⟨S128x8x64x8x64, .f32⟩
  | 33 => ⟨S_, .f32⟩
  | 34 => ⟨S128x64x8x64, .f32⟩
  | 35 => ⟨S128x64x8x64, .f32⟩
  | 36 => ⟨S128x8x64x8x64, .f32⟩
  | 37 => ⟨S_, .f32⟩
  | 38 => ⟨S128x64x8x64, .f32⟩
  | 39 => ⟨S128x64x8x64, .f32⟩
  | 40 => ⟨S8192x512, .f32⟩
  | 41 => ⟨S8192x512, .bf16⟩
  | 42 => ⟨S8192x512, .f32⟩
  | 43 => ⟨S8192x512, .bf16⟩
  | 44 => ⟨S8192x512, .f32⟩
  | 45 => ⟨S8192x512, .bf16⟩
  | 46 => ⟨S2x4x15x64x64, .f32⟩
  | 47 => ⟨S2x15x64x4x64, .f32⟩
  | 48 => ⟨S2x960x256, .f32⟩
  | _ => ⟨S8192x1536, .bf16⟩

abbrev hbmTy (i : Nat) : BufTy := match i / 128 with
  | 0 => hbmTy0_0 i
  | 1 => hbmTy0_1 i
  | _ => ⟨S8192x1536, .bf16⟩

abbrev bufTy : (tb : Table) → Fin (tcTables nBuf tb) → BufTy
  | .hbm, ⟨i, _⟩ => hbmTy i
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c : Ref sig .tc := ⟨.hbm, 16, rfl⟩
abbrev main_v13 : Ref sig .tc := ⟨.hbm, 17, rfl⟩
abbrev main_v14 : Ref sig .tc := ⟨.hbm, 18, rfl⟩
abbrev main_c_0 : Ref sig .tc := ⟨.hbm, 19, rfl⟩
abbrev main_c_1 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_2 : Ref sig .tc := ⟨.hbm, 33, rfl⟩
abbrev main_v22 : Ref sig .tc := ⟨.hbm, 34, rfl⟩
abbrev main_v23 : Ref sig .tc := ⟨.hbm, 35, rfl⟩
abbrev main_c_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_4 : Ref sig .tc := ⟨.hbm, 43, rfl⟩
abbrev main_v30 : Ref sig .tc := ⟨.hbm, 44, rfl⟩
abbrev main_v31 : Ref sig .tc := ⟨.hbm, 45, rfl⟩
abbrev main_c_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c_6 : Ref sig .tc := ⟨.hbm, 56, rfl⟩
abbrev main_v41 : Ref sig .tc := ⟨.hbm, 57, rfl⟩
abbrev main_v42 : Ref sig .tc := ⟨.hbm, 58, rfl⟩
abbrev main_c_7 : Ref sig .tc := ⟨.hbm, 59, rfl⟩
abbrev main_v43 : Ref sig .tc := ⟨.hbm, 60, rfl⟩
abbrev main_v44 : Ref sig .tc := ⟨.hbm, 61, rfl⟩
abbrev main_c_8 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_9 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_10 : Ref sig .tc := ⟨.hbm, 83, rfl⟩
abbrev main_v63 : Ref sig .tc := ⟨.hbm, 84, rfl⟩
abbrev main_cst_11 : Ref sig .tc := ⟨.hbm, 85, rfl⟩
abbrev main_v64 : Ref sig .tc := ⟨.hbm, 86, rfl⟩
abbrev main_v65 : Ref sig .tc := ⟨.hbm, 87, rfl⟩
abbrev main_cst_12 : Ref sig .tc := ⟨.hbm, 88, rfl⟩
abbrev main_v66 : Ref sig .tc := ⟨.hbm, 89, rfl⟩
abbrev main_v67 : Ref sig .tc := ⟨.hbm, 90, rfl⟩
abbrev main_cst_13 : Ref sig .tc := ⟨.hbm, 91, rfl⟩
abbrev main_v68 : Ref sig .tc := ⟨.hbm, 92, rfl⟩
abbrev main_v69 : Ref sig .tc := ⟨.hbm, 93, rfl⟩
abbrev main_cst_14 : Ref sig .tc := ⟨.hbm, 94, rfl⟩
abbrev main_v70 : Ref sig .tc := ⟨.hbm, 95, rfl⟩
abbrev main_cst_15 : Ref sig .tc := ⟨.hbm, 96, rfl⟩
abbrev main_v71 : Ref sig .tc := ⟨.hbm, 97, rfl⟩
abbrev main_cst_16 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_17 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_18 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_cst_19 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_cst_20 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_cst_21 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_cst_22 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_cst_23 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_cst_24 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩

abbrev nD : Nat := 1
abbrev τ : Topo := Topo.v7x

variable {F : FTy → Type} [FloatOps F]
-- ==== Kernel2.lean ====
abbrev S8192x1024 : Shape := ⟨2, ![8192, 1024]⟩
abbrev S4x8192x704 : Shape := ⟨3, ![4, 8192, 704]⟩
abbrev S4x2048x704 : Shape := ⟨3, ![4, 2048, 704]⟩
abbrev S2048x1024 : Shape := ⟨2, ![2048, 1024]⟩
abbrev S1x2048x704 : Shape := ⟨3, ![1, 2048, 704]⟩
abbrev S2048x704 : Shape := ⟨2, ![2048, 704]⟩
abbrev S1x1024x704 : Shape := ⟨3, ![1, 1024, 704]⟩
abbrev S1024x704 : Shape := ⟨2, ![1024, 704]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S4x8192x704, .bf16⟩
  | .hbm, ⟨2, _⟩ => ⟨S4x8192x704, .bf16⟩
  | .hbm, ⟨3, _⟩ => ⟨S4x2048x704, .f32⟩
  | .local _ .vmem, ⟨0, _⟩ => ⟨S2048x1024, .bf16⟩
  | .local _ .vmem, ⟨1, _⟩ => ⟨S2048x1024, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x2048x704, .bf16⟩
  | .local _ .vmem, ⟨5, _⟩ => ⟨S1x2048x704, .bf16⟩
  | .local _ .vmem, ⟨6, _⟩ => ⟨S1x2048x704, .f32⟩
  | .local _ .vmem, ⟨7, _⟩ => ⟨S1x2048x704, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference2Ideal.lean ====
abbrev S8192x1024 : Shape := ⟨2, ![8192, 1024]⟩
abbrev S4x8192x704 : Shape := ⟨3, ![4, 8192, 704]⟩
abbrev S_ : Shape := ⟨0, ![]⟩
abbrev S4x1024x704 : Shape := ⟨3, ![4, 1024, 704]⟩
abbrev S4x704x8192 : Shape := ⟨3, ![4, 704, 8192]⟩
abbrev S4x704x1024 : Shape := ⟨3, ![4, 704, 1024]⟩
abbrev S4x2048x704 : Shape := ⟨3, ![4, 2048, 704]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x8192x704, .bf16⟩
  | .hbm, ⟨2, _⟩ => ⟨S4x8192x704, .bf16⟩
  | .hbm, ⟨3, _⟩ => ⟨S8192x1024, .f32⟩
  | .hbm, ⟨4, _⟩ => ⟨S_, .f32⟩
  | .hbm, ⟨5, _⟩ => ⟨S4x1024x704, .f32⟩
  | .hbm, ⟨6, _⟩ => ⟨S4x704x8192, .f32⟩
  | .hbm, ⟨7, _⟩ => ⟨S4x8192x704, .f32⟩
  | .hbm, ⟨8, _⟩ => ⟨S4x704x8192, .f32⟩
  | .hbm, ⟨9, _⟩ => ⟨S4x8192x704, .f32⟩
  | .hbm, ⟨10, _⟩ => ⟨S4x8192x704, .f32⟩
  | .hbm, ⟨11, _⟩ => ⟨S4x8192x704, .f32⟩
  | .hbm, ⟨12, _⟩ => ⟨S4x704x8192, .f32⟩
  | .hbm, ⟨13, _⟩ => ⟨S4x704x1024, .f32⟩
  | .hbm, ⟨14, _⟩ => ⟨S4x1024x704, .f32⟩
  | .hbm, ⟨15, _⟩ => ⟨S4x704x8192, .f32⟩
  | .hbm, ⟨16, _⟩ => ⟨S4x704x1024, .f32⟩
  | .hbm, ⟨17, _⟩ => ⟨S4x1024x704, .f32⟩
  | .hbm, ⟨18, _⟩ => ⟨S4x2048x704, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Kernel3.lean ====
abbrev S4x8192x704 : Shape := ⟨3, ![4, 8192, 704]⟩
abbrev S8192x1024 : Shape := ⟨2, ![8192, 1024]⟩
abbrev S4x704x1024 : Shape := ⟨3, ![4, 704, 1024]⟩
abbrev S1x2048x704 : Shape := ⟨3, ![1, 2048, 704]⟩
abbrev S2048x1024 : Shape := ⟨2, ![2048, 1024]⟩
abbrev S1x704x1024 : Shape := ⟨3, ![1, 704, 1024]⟩
abbrev S704x1024 : Shape := ⟨2, ![704, 1024]⟩
abbrev S2048x704 : Shape := ⟨2, ![2048, 704]⟩

abbrev nBuf : Space → Nat
  | .hbm => 3
  | .vmem => 6
  | .smem => 0
  | _ => 0

abbrev bufTy : (tb : Table) → Fin (tcTables nBuf tb) → BufTy
  | .hbm, ⟨0, _⟩ => ⟨S4x8192x704, .bf16⟩
  | .hbm, ⟨1, _⟩ => ⟨S8192x1024, .bf16⟩
  | .hbm, ⟨2, _⟩ => ⟨S4x704x1024, .f32⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .bf16⟩
  | .local _ .vmem, ⟨3, _⟩ => ⟨S2048x1024, .bf16⟩
  | .local _ .vmem, ⟨4, _⟩ => ⟨S1x704x1024, .f32⟩
  | .local _ .vmem, ⟨5, _⟩ => ⟨S1x704x1024, .f32⟩
  | _, _ => ⟨S4x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S4x8192x704 : Shape := ⟨3, ![4, 8192, 704]⟩
abbrev S8192x1024 : Shape := ⟨2, ![8192, 1024]⟩
abbrev S_ : Shape := ⟨0, ![]⟩
abbrev S4x704x1024 : Shape := ⟨3, ![4, 704, 1024]⟩
abbrev S1024x4x704 : Shape := ⟨3, ![1024, 4, 704]⟩

abbrev nBuf : Space → Nat
  | .hbm => 9
  | .vmem => 0
  | .smem => 0
  | _ => 0

abbrev bufTy : (tb : Table) → Fin (tcTables nBuf tb) → BufTy
  | .hbm, ⟨0, _⟩ => ⟨S4x8192x704, .bf16⟩
  | .hbm, ⟨1, _⟩ => ⟨S8192x1024, .bf16⟩
  | .hbm, ⟨2, _⟩ => ⟨S4x8192x704, .f32⟩
  | .hbm, ⟨3, _⟩ => ⟨S_, .f32⟩
  | .hbm, ⟨4, _⟩ => ⟨S4x704x1024, .f32⟩
  | .hbm, ⟨5, _⟩ => ⟨S8192x1024, .f32⟩
  | .hbm, ⟨6, _⟩ => ⟨S8192x1024, .f32⟩
  | .hbm, ⟨7, _⟩ => ⟨S1024x4x704, .f32⟩
  | .hbm, ⟨8, _⟩ => ⟨S4x704x1024, .f32⟩
  | _, _ => ⟨S4x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S8192x1024 : Shape := ⟨2, ![8192, 1024]⟩
abbrev S4x1024x704 : Shape := ⟨3, ![4, 1024, 704]⟩
abbrev S4x704x1024 : Shape := ⟨3, ![4, 704, 1024]⟩
abbrev S1x1024 : Shape := ⟨2, ![1, 1024]⟩
abbrev S4x8192x704 : Shape := ⟨3, ![4, 8192, 704]⟩
abbrev S512x1024 : Shape := ⟨2, ![512, 1024]⟩
abbrev S4x512x704 : Shape := ⟨3, ![4, 512, 704]⟩
abbrev S1x1024x704 : Shape := ⟨3, ![1, 1024, 704]⟩
abbrev S1024x704 : Shape := ⟨2, ![1024, 704]⟩
abbrev S512x704 : Shape := ⟨2, ![512, 704]⟩
abbrev S1x512x704 : Shape := ⟨3, ![1, 512, 704]⟩
abbrev S1x704x1024 : Shape := ⟨3, ![1, 704, 1024]⟩
abbrev S704x1024 : Shape := ⟨2, ![704, 1024]⟩
abbrev S512 : Shape := ⟨1, ![512]⟩
abbrev S512x1 : Shape := ⟨2, ![512, 1]⟩

abbrev nBuf : Space → Nat
  | .hbm => 11
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S4x1024x704, .bf16⟩
  | .hbm, ⟨2, _⟩ => ⟨S4x1024x704, .bf16⟩
  | .hbm, ⟨3, _⟩ => ⟨S4x704x1024, .bf16⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .bf16⟩
  | .hbm, ⟨8, _⟩ => ⟨S8192x1024, .f32⟩
  | .hbm, ⟨9, _⟩ => ⟨S4x8192x704, .bf16⟩
  | .hbm, ⟨10, _⟩ => ⟨S4x8192x704, .bf16⟩
  | .local _ .vmem, ⟨0, _⟩ => ⟨S512x1024, .f32⟩
  | .local _ .vmem, ⟨1, _⟩ => ⟨S512x1024, .f32⟩
  | .local _ .vmem, ⟨2, _⟩ => ⟨S4x1024x704, .bf16⟩
  | .local _ .vmem, ⟨3, _⟩ => ⟨S4x1024x704, .bf16⟩
  | .local _ .vmem, ⟨4, _⟩ => ⟨S4x704x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | .local _ .vmem, ⟨13, _⟩ => ⟨S4x512x704, .bf16⟩
  | .local _ .vmem, ⟨14, _⟩ => ⟨S4x512x704, .bf16⟩
  | .local _ .vmem, ⟨15, _⟩ => ⟨S4x512x704, .bf16⟩
  | .local _ .vmem, ⟨16, _⟩ => ⟨S4x512x704, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x704 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x704 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x512x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x512x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S8192x1024 : Shape := ⟨2, ![8192, 1024]⟩
abbrev S4x1024x704 : Shape := ⟨3, ![4, 1024, 704]⟩
abbrev S4x704x1024 : Shape := ⟨3, ![4, 704, 1024]⟩
abbrev S1x1024 : Shape := ⟨2, ![1, 1024]⟩
abbrev S1024x4x704 : Shape := ⟨3, ![1024, 4, 704]⟩
abbrev S1024x2816 : Shape := ⟨2, ![1024, 2816]⟩
abbrev S2816x1024 : Shape := ⟨2, ![2816, 1024]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S8192x4x704 : Shape := ⟨3, ![8192, 4, 704]⟩
abbrev S4x8192x704 : Shape := ⟨3, ![4, 8192, 704]⟩

abbrev nBuf : Space → Nat
  | .hbm => 68
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x1024x704, .bf16⟩
  | .hbm, ⟨2, _⟩ => ⟨S4x1024x704, .bf16⟩
  | .hbm, ⟨3, _⟩ => ⟨S4x704x1024, .bf16⟩
  | .hbm, ⟨4, _⟩ => ⟨S1x1024, .f32⟩
  | .hbm, ⟨5, _⟩ => ⟨S1x1024, .f32⟩
  | .hbm, ⟨6, _⟩ => ⟨S4x1024x704, .f32⟩
  | .hbm, ⟨7, _⟩ => ⟨S1024x4x704, .f32⟩
  | .hbm, ⟨8, _⟩ => ⟨S1024x2816, .f32⟩
  | .hbm, ⟨9, _⟩ => ⟨S4x1024x704, .f32⟩
  | .hbm, ⟨10, _⟩ => ⟨S1024x4x704, .f32⟩
  | .hbm, ⟨11, _⟩ => ⟨S1024x2816, .f32⟩
  | .hbm, ⟨12, _⟩ => ⟨S4x704x1024, .f32⟩
  | .hbm, ⟨13, _⟩ => ⟨S2816x1024, .f32⟩
  | .hbm, ⟨14, _⟩ => ⟨S8192x2816, .f32⟩
  | .hbm, ⟨15, _⟩ => ⟨S8192x2816, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S8192x2816, .f32⟩
  | .hbm, ⟨20, _⟩ => ⟨S8192x2816, .f32⟩
  | .hbm, ⟨21, _⟩ => ⟨S_, .f32⟩
  | .hbm, ⟨22, _⟩ => ⟨S8192x2816, .f32⟩
  | .hbm, ⟨23, _⟩ => ⟨S8192x2816, .f32⟩
  | .hbm, ⟨24, _⟩ => ⟨S_, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S8192x1, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x4x704, .f32⟩
  | .hbm, ⟨62, _⟩ => ⟨S4x8192x704, .f32⟩
  | .hbm, ⟨63, _⟩ => ⟨S4x8192x704, .bf16⟩
  | .hbm, ⟨64, _⟩ => ⟨S8192x4x704, .f32⟩
  | .hbm, ⟨65, _⟩ => ⟨S4x8192x704, .f32⟩
  | .hbm, ⟨66, _⟩ => ⟨S4x8192x704, .bf16⟩
  | .hbm, ⟨67, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩

abbrev nD : Nat := 1
abbrev τ : Topo := Topo.v7x

variable {F : FTy → Type} [FloatOps F]
-- ==== Kernel5.lean ====
abbrev S8192x1024 : Shape := ⟨2, ![8192, 1024]⟩
abbrev S4x1024x704 : Shape := ⟨3, ![4, 1024, 704]⟩
abbrev S4x704x1024 : Shape := ⟨3, ![4, 704, 1024]⟩
abbrev S1x1024 : Shape := ⟨2, ![1, 1024]⟩
abbrev S1024x4x704 : Shape := ⟨3, ![1024, 4, 704]⟩
abbrev S1024x2816 : Shape := ⟨2, ![1024, 2816]⟩
abbrev S8192x2816 : Shape := ⟨2, ![8192, 2816]⟩
abbrev S_ : Shape := ⟨0, ![]⟩
abbrev S2816x1024 : Shape := ⟨2, ![2816, 1024]⟩
abbrev S8192x4x704 : Shape := ⟨3, ![8192, 4, 704]⟩
abbrev S4x8192x704 : Shape := ⟨3, ![4, 8192, 704]⟩
abbrev S8x1024 : Shape := ⟨2, ![8, 1024]⟩
abbrev S256x1024 : Shape := ⟨2, ![256, 1024]⟩
abbrev S4x256x704 : Shape := ⟨3, ![4, 256, 704]⟩
abbrev S256 : Shape := ⟨1, ![256]⟩
abbrev S256x1 : Shape := ⟨2, ![256, 1]⟩
abbrev S1024 : Shape := ⟨1, ![1024]⟩
abbrev S1x704x1024 : Shape := ⟨3, ![1, 704, 1024]⟩
abbrev S704x1024 : Shape := ⟨2, ![704, 1024]⟩
abbrev S256x704 : Shape := ⟨2, ![256, 704]⟩
abbrev S1x256x704 : Shape := ⟨3, ![1, 256, 704]⟩
abbrev S1x1024x704 : Shape := ⟨3, ![1, 1024, 704]⟩
abbrev S1024x704 : Shape := ⟨2, ![1024, 704]⟩

abbrev nBuf : Space → Nat
  | .hbm => 46
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S4x1024x704, .bf16⟩
  | .hbm, ⟨2, _⟩ => ⟨S4x1024x704, .bf16⟩
  | .hbm, ⟨3, _⟩ => ⟨S4x704x1024, .bf16⟩
  | .hbm, ⟨4, _⟩ => ⟨S1x1024, .f32⟩
  | .hbm, ⟨5, _⟩ => ⟨S8192x1024, .f32⟩
  | .hbm, ⟨6, _⟩ => ⟨S4x1024x704, .f32⟩
  | .hbm, ⟨7, _⟩ => ⟨S1024x4x704, .f32⟩
  | .hbm, ⟨8, _⟩ => ⟨S1024x2816, .f32⟩
  | .hbm, ⟨9, _⟩ => ⟨S4x1024x704, .f32⟩
  | .hbm, ⟨10, _⟩ => ⟨S1024x4x704, .f32⟩
  | .hbm, ⟨11, _⟩ => ⟨S1024x2816, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x2816, .f32⟩
  | .hbm, ⟨18, _⟩ => ⟨S8192x2816, .f32⟩
  | .hbm, ⟨19, _⟩ => ⟨S_, .f32⟩
  | .hbm, ⟨20, _⟩ => ⟨S8192x2816, .f32⟩
  | .hbm, ⟨21, _⟩ => ⟨S8192x2816, .f32⟩
  | .hbm, ⟨22, _⟩ => ⟨S_, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S4x704x1024, .f32⟩
  | .hbm, ⟨28, _⟩ => ⟨S2816x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x4x704, .f32⟩
  | .hbm, ⟨35, _⟩ => ⟨S4x8192x704, .f32⟩
  | .hbm, ⟨36, _⟩ => ⟨S4x8192x704, .bf16⟩
  | .hbm, ⟨37, _⟩ => ⟨S8192x4x704, .f32⟩
  | .hbm, ⟨38, _⟩ => ⟨S4x8192x704, .f32⟩
  | .hbm, ⟨39, _⟩ => ⟨S4x8192x704, .bf16⟩
  | .hbm, ⟨40, _⟩ => ⟨S8192x1024, .f32⟩
  | .hbm, ⟨41, _⟩ => ⟨S8192x1024, .bf16⟩
  | .hbm, ⟨42, _⟩ => ⟨S4x8192x704, .bf16⟩
  | .hbm, ⟨43, _⟩ => ⟨S4x8192x704, .bf16⟩
  | .hbm, ⟨44, _⟩ => ⟨S4x8192x704, .bf16⟩
  | .hbm, ⟨45, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S4x256x704, .bf16⟩
  | .local _ .vmem, ⟨7, _⟩ => ⟨S4x256x704, .bf16⟩
  | .local _ .vmem, ⟨8, _⟩ => ⟨S4x256x704, .bf16⟩
  | .local _ .vmem, ⟨9, _⟩ => ⟨S4x256x704, .bf16⟩
  | .local _ .vmem, ⟨10, _⟩ => ⟨S4x1024x704, .bf16⟩
  | .local _ .vmem, ⟨11, _⟩ => ⟨S4x1024x704, .bf16⟩
  | .local _ .vmem, ⟨12, _⟩ => ⟨S4x704x1024, .bf16⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | .local _ .vmem, ⟨17, _⟩ => ⟨S256x1024, .bf16⟩
  | .local _ .vmem, ⟨18, _⟩ => ⟨S4x256x704, .bf16⟩
  | .local _ .vmem, ⟨19, _⟩ => ⟨S4x256x704, .bf16⟩
  | .local _ .vmem, ⟨20, _⟩ => ⟨S4x256x704, .bf16⟩
  | .local _ .vmem, ⟨21, _⟩ => ⟨S4x256x704, .bf16⟩
  | .local _ .vmem, ⟨22, _⟩ => ⟨S4x256x704, .bf16⟩
  | .local _ .vmem, ⟨23, _⟩ => ⟨S4x256x704, .bf16⟩
  | .local _ .vmem, ⟨24, _⟩ => ⟨S8x1024, .f32⟩
  | .local _ .vmem, ⟨25, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24_0 : Ref sig .tc := ⟨.hbm, 40, rfl⟩
abbrev main_v24_1 : Ref sig .tc := ⟨.hbm, 41, rfl⟩
abbrev main_v24_2 : Ref sig .tc := ⟨.hbm, 42, rfl⟩
abbrev main_v24_3 : Ref sig .tc := ⟨.hbm, 43, rfl⟩
abbrev main_v24_4 : Ref sig .tc := ⟨.hbm, 44, rfl⟩
abbrev main_v24_5 : Ref sig .tc := ⟨.hbm, 45, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_scratch0 : Ref sig .tc := ⟨.vmem, 25, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x256x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x1024x704 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1024x704 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x704x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x256x704 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x256x704 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4x256x704 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference5Ideal.lean ====
abbrev S8192x1024 : Shape := ⟨2, ![8192, 1024]⟩
abbrev S4x1024x704 : Shape := ⟨3, ![4, 1024, 704]⟩
abbrev S4x704x1024 : Shape := ⟨3, ![4, 704, 1024]⟩
abbrev S1x1024 : Shape := ⟨2, ![1, 1024]⟩
abbrev S1024x4x704 : Shape := ⟨3, ![1024, 4, 704]⟩
abbrev S1024x2816 : Shape := ⟨2, ![1024, 2816]⟩
abbrev S2816x1024 : Shape := ⟨2, ![2816, 1024]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1024 : Shape := ⟨1, ![1024]⟩
abbrev S8192x4x704 : Shape := ⟨3, ![8192, 4, 704]⟩
abbrev S4x8192x704 : Shape := ⟨3, ![4, 8192, 704]⟩
abbrev S2x1024 : Shape := ⟨2, ![2, 1024]⟩
abbrev S6x1024 : Shape := ⟨2, ![6, 1024]⟩
abbrev S8x1024 : Shape := ⟨2, ![8, 1024]⟩

abbrev nBuf : Space → Nat
  | .hbm => 146
  | .vmem => 0
  | .smem => 0
  | _ => 0

abbrev hbmTy0_0 (i : Nat) : BufTy := match i % 128 with
  | 0 => ⟨S8192x1024, .f32⟩
  | 1 => ⟨S4x1024x704, .bf16⟩
  | 2 => ⟨S4x1024x704, .bf16⟩
  | 3 => ⟨S4x704x1024, .bf16⟩
  | 4 => ⟨S1x1024, .f32⟩
  | 5 => ⟨S8192x1024, .f32⟩
  | 6 => ⟨S4x1024x704, .f32⟩
  | 7 => ⟨S1024x4x704, .f32⟩
  | 8 => ⟨S1024x2816, .f32⟩
  | 9 => ⟨S4x1024x704, .f32⟩
  | 10 => ⟨S1024x4x704, .f32⟩
  | 11 => ⟨S1024x2816, .f32⟩
  | 12 => ⟨S4x704x1024, .f32⟩
  | 13 => ⟨S2816x1024, .f32⟩
  | 14 => ⟨S8192x2816, .f32⟩
  | 15 => ⟨S8192x2816, .f32⟩
  | 16 => ⟨S8192x2816, .f32⟩
  | 17 => ⟨S8192x2816, .f32⟩
  | 18 => ⟨S_, .f32⟩
  | 19 => ⟨S8192x2816, .f32⟩
  | 20 => ⟨S8192x2816, .f32⟩
  | 21 => ⟨S_, .f32⟩
  | 22 => ⟨S8192x2816, .f32⟩
  | 23 => ⟨S8192x2816, .f32⟩
  | 24 => ⟨S_, .f32⟩
  | 25 => ⟨S8192x2816, .f32⟩
  | 26 => ⟨S8192x2816, .f32⟩
  | 27 => ⟨S8192x2816, .f32⟩
  | 28 => ⟨S8192x2816, .f32⟩
  | 29 => ⟨S8192x2816, .f32⟩
  | 30 => ⟨S8192x1024, .f32⟩
  | 31 => ⟨S_, .f32⟩
  | 32 => ⟨S8192x1024, .f32⟩
  | 33 => ⟨S8192x1024, .f32⟩
  | 34 => ⟨S_, .f32⟩
  | 35 => ⟨S8192x1024, .f32⟩
  | 36 => ⟨S8192x1024, .f32⟩
  | 37 => ⟨S8192x1024, .f32⟩
  | 38 => ⟨S_, .f32⟩
  | 39 => ⟨S1x1024, .f32⟩
  | 40 => ⟨S_, .f32⟩
  | 41 => ⟨S8192, .f32⟩
  | 42 => ⟨S8192x1, .f32⟩
  | 43 => ⟨S_, .f32⟩
  | 44 => ⟨S8192x1, .f32⟩
  | 45 => ⟨S8192x1, .f32⟩
  | 46 => ⟨S8192x1024, .f32⟩
  | 47 => ⟨S8192x1024, .f32⟩
  | 48 => ⟨S8192x1024, .f32⟩
  | 49 => ⟨S_, .f32⟩
  | 50 => ⟨S8192x1024, .f32⟩
  | 51 => ⟨S8192x1024, .f32⟩
  | 52 => ⟨S_, .f32⟩
  | 53 => ⟨S8192, .f32⟩
  | 54 => ⟨S8192x1, .f32⟩
  | 55 => ⟨S_, .f32⟩
  | 56 => ⟨S8192x1, .f32⟩
  | 57 => ⟨S8192x1, .f32⟩
  | 58 => ⟨S8192x1024, .f32⟩
  | 59 => ⟨S8192x1024, .f32⟩
  | 60 => ⟨S_, .f32⟩
  | 61 => ⟨S8192x1, .f32⟩
  | 62 => ⟨S8192x1, .f32⟩
  | 63 => ⟨S8192x1, .f32⟩
  | 64 => ⟨S8192x1, .f32⟩
  | 65 => ⟨S_, .f32⟩
  | 66 => ⟨S8192x1, .f32⟩
  | 67 => ⟨S8192x1, .f32⟩
  | 68 => ⟨S8192x1024, .f32⟩
  | 69 => ⟨S8192x1024, .f32⟩
  | 70 => ⟨S8192x1024, .f32⟩
  | 71 => ⟨S8192x1024, .f32⟩
  | 72 => ⟨S8192x1024, .f32⟩
  | 73 => ⟨S8192x1024, .f32⟩
  | 74 => ⟨S8192x1024, .f32⟩
  | 75 => ⟨S_, .f32⟩
  | 76 => ⟨S1024, .f32⟩
  | 77 => ⟨S1x1024, .f32⟩
  | 78 => ⟨S8192x1024, .f32⟩
  | 79 => ⟨S_, .f32⟩
  | 80 => ⟨S1024, .f32⟩
  | 81 => ⟨S1x1024, .f32⟩
  | 82 => ⟨S8192x1024, .f32⟩
  | 83 => ⟨S8192x1024, .f32⟩
  | 84 => ⟨S8192x1024, .f32⟩
  | 85 => ⟨S_, .f32⟩
  | 86 => ⟨S8192, .f32⟩
  | 87 => ⟨S8192x1, .f32⟩
  | 88 => ⟨S8192x1024, .f32⟩
  | 89 => ⟨S8192x1024, .f32⟩
  | 90 => ⟨S8192x1, .f32⟩
  | 91 => ⟨S8192x1024, .f32⟩
  | 92 => ⟨S_, .f32⟩
  | 93 => ⟨S8192, .f32⟩
  | 94 => ⟨S8192x1, .f32⟩
  | 95 => ⟨S_, .f32⟩
  | 96 => ⟨S8192x1, .f32⟩
  | 97 => ⟨S8192x1, .f32⟩
  | 98 => ⟨S_, .f32⟩
  | 99 => ⟨S8192, .f32⟩
  | 100 => ⟨S8192x1024, .f32⟩
  | 101 => ⟨S8192x1024, .f32⟩
  | 102 => ⟨S8192x1024, .f32⟩
  | 103 => ⟨S_, .f32⟩
  | 104 => ⟨S8192, .f32⟩
  | 105 => ⟨S8192x1, .f32⟩
  | 106 => ⟨S8192x1024, .f32⟩
  | 107 => ⟨S8192x1, .f32⟩
  | 108 => ⟨S_, .f32⟩
  | 109 => ⟨S8192x1, .f32⟩
  | 110 => ⟨S8192x1, .f32⟩
  | 111 => ⟨S_, .f32⟩
  | 112 => ⟨S8192, .f32⟩
  | 113 => ⟨S8192x1024, .f32⟩
  | 114 => ⟨S8192x1024, .f32⟩
  | 115 => ⟨S_, .f32⟩
  | 116 => ⟨S8192x1024, .f32⟩
  | 117 => ⟨S8192x1024, .f32⟩
  | 118 => ⟨S_, .f32⟩
  | 119 => ⟨S8192x1024, .f32⟩
  | 120 => ⟨S8192x1024, .f32⟩
  | 121 => ⟨S8192x2816, .f32⟩
  | 122 => ⟨S8192x2816, .f32⟩
  | 123 => ⟨S8192x2816, .f32⟩
  | 124 => ⟨S8192x2816, .f32⟩
  | 125 => ⟨S8192x2816, .f32⟩
  | 126 => ⟨S8192x2816, .f32⟩
  | 127 => ⟨S8192x2816, .f32⟩
  | _ => ⟨S8192x1024, .f32⟩

abbrev hbmTy0_1 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S8192x4x704, .f32⟩
  | 5 => ⟨S4x8192x704, .f32⟩
  | 6 => ⟨S4x8192x704, .bf16⟩
  | 7 => ⟨S8192x4x704, .f32⟩
  | 8 => ⟨S4x8192x704, .f32⟩
  | 9 => ⟨S4x8192x704, .bf16⟩
  | 10 => ⟨S8192x4x704, .f32⟩
  | 11 => ⟨S4x8192x704, .f32⟩
  | 12 => ⟨S4x8192x704, .bf16⟩
  | 13 => ⟨S8192x1024, .bf16⟩
  | 14 => ⟨S2x1024, .f32⟩
  | 15 => ⟨S_, .f32⟩
  | 16 => ⟨S6x1024, .f32⟩
  | 17 => ⟨S8x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_v10_2 : Ref sig .tc := ⟨.hbm, 23, rfl⟩
abbrev main_call0_cst_1 : Ref sig .tc := ⟨.hbm, 24, rfl⟩
abbrev main_call0_v6 : Ref sig .tc := ⟨.hbm, 25, rfl⟩
abbrev main_call0_v7 : Ref sig .tc := ⟨.hbm, 26, rfl⟩
abbrev main_v10_1 : Ref sig .tc := ⟨.hbm, 27, rfl⟩
abbrev main_v10_0 : Ref sig .tc := ⟨.hbm, 28, rfl⟩
abbrev main_v11 : Ref sig .tc := ⟨.hbm, 29, rfl⟩
abbrev main_v12 : Ref sig .tc := ⟨.hbm, 30, rfl⟩
abbrev main_cst : Ref sig .tc := ⟨.hbm, 31, rfl⟩
abbrev main_v13 : Ref sig .tc := ⟨.hbm, 32, rfl⟩
abbrev main_v14 : Ref sig .tc := ⟨.hbm, 33, rfl⟩
abbrev main_cst_0 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_1 : Ref sig .tc := ⟨.hbm, 38, rfl⟩
abbrev main_v18 : Ref sig .tc := ⟨.hbm, 39, rfl⟩
abbrev main_cst_2 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_4 : Ref sig .tc := ⟨.hbm, 49, rfl⟩
abbrev main_v26 : Ref sig .tc := ⟨.hbm, 50, rfl⟩
abbrev main_v27 : Ref sig .tc := ⟨.hbm, 51, rfl⟩
abbrev main_cst_5 : Ref sig .tc := ⟨.hbm, 52, rfl⟩
abbrev main_v28 : Ref sig .tc := ⟨.hbm, 53, rfl⟩
abbrev main_v29 : Ref sig .tc := ⟨.hbm, 54, rfl⟩
abbrev main_cst_6 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_7 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_8 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_9 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_10 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_11 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_12 : Ref sig .tc := ⟨.hbm, 92, rfl⟩
abbrev main_v61 : Ref sig .tc := ⟨.hbm, 93, rfl⟩
abbrev main_v62 : Ref sig .tc := ⟨.hbm, 94, rfl⟩
abbrev main_cst_13 : Ref sig .tc := ⟨.hbm, 95, rfl⟩
abbrev main_v63 : Ref sig .tc := ⟨.hbm, 96, rfl⟩
abbrev main_v64 : Ref sig .tc := ⟨.hbm, 97, rfl⟩
abbrev main_cst_14 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_15 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_16 : Ref sig .tc := ⟨.hbm, 108, rfl⟩
abbrev main_v73 : Ref sig .tc := ⟨.hbm, 109, rfl⟩
abbrev main_v74 : Ref sig .tc := ⟨.hbm, 110, rfl⟩
abbrev main_cst_17 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_18 : Ref sig .tc := ⟨.hbm, 115, rfl⟩
abbrev main_v78 : Ref sig .tc := ⟨.hbm, 116, rfl⟩
abbrev main_v79 : Ref sig .tc := ⟨.hbm, 117, rfl⟩
abbrev main_cst_19 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_call1_v0 : Ref sig .tc := ⟨.hbm, 124, rfl⟩
abbrev main_call1_v1 : Ref sig .tc := ⟨.hbm, 125, rfl⟩
abbrev main_call1_v2 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_cst_20 : Ref sig .tc := ⟨.hbm, 143, rfl⟩
abbrev main_v101 : Ref sig .tc := ⟨.hbm, 144, rfl⟩
abbrev main_v102 : Ref sig .tc := ⟨.hbm, 145, rfl⟩

abbrev nD : Nat := 1
abbrev τ : Topo := Topo.v7x

variable {F : FTy → Type} [FloatOps F]
-- ==== Proof.Step.lean ====
/-
  One query row of the attention's gradient.

  The kernel's body visits the 32 query rows of its block one after the other, and every row runs the same
  operations on other rows of the staged arrays. `step` is that row as a program of its own, over the values
  it computes: the stacked heads, the probabilities, the gradient of the scores and the four updates.
-/
module

public import proofs.«01_k».proof.KernelIdeal

@[expose] public section

noncomputable section

namespace Cert.Proof.Attn

open Cert.KernelIdeal
open Idealize.ShloMosaic Idealize.SL.Sem

variable {F : FTy → Type} [FloatOps F]

section
variable [Facts]
open Facts₀ Facts

/-! ## What one query row computes -/

/-- The lane numbers of a row of queries. -/
def lanes : IVec S64x256 32 := iota .tc S64x256 32 [1] iota_S64x256_d1_w32

/-- The lanes of one head: those from `a` on and below `b`. -/
def headMask (a b : BitVec 32) : IVec S64x256 1 :=
  andi (cmpi .sge lanes (broadcast S64x256 a)) (cmpi .slt lanes (broadcast S64x256 b))

/-- A row of queries repeated once per head, each copy zero outside its head's lanes. -/
def stack (x : FVec F S64x256 .bf16) : FVec F S256x256 .bf16 :=
  concatenate S256x256 0 [⟨S64x256, select (headMask 0#32 64#32) x (broadcast S64x256 (Scalar.ofBits .bf16 0x0000#16))⟩,
    ⟨S64x256, select (headMask 64#32 128#32) x (broadcast S64x256 (Scalar.ofBits .bf16 0x0000#16))⟩,
    ⟨S64x256, select (headMask 128#32 192#32) x (broadcast S64x256 (Scalar.ofBits .bf16 0x0000#16))⟩,
    ⟨S64x256, select (headMask 192#32 256#32) x (broadcast S64x256 (Scalar.ofBits .bf16 0x0000#16))⟩]
    concatenates_S64x256_S64x256_S64x256_S64x256_S256x256_d0

/-- From the four heads' copies the row again: at each lane the copy of the lane's head. -/
def unstack (y : FVec F S256x256 .f32) : FVec F S64x256 .f32 :=
  select (headMask 192#32 256#32) (extractStridedSlice S64x256 ![192, 0] y slices_S256x256_o192_0_S64x256)
    (select (headMask 128#32 192#32) (extractStridedSlice S64x256 ![128, 0] y slices_S256x256_o128_0_S64x256)
      (select (headMask 64#32 128#32) (extractStridedSlice S64x256 ![64, 0] y slices_S256x256_o64_0_S64x256)
        (extractStridedSlice S64x256 ![0, 0] y slices_S256x256_o0_0_S64x256)))

/-- The scores of a row against a window of keys, the bias added. -/
def scores (kb : Vec F S512x256 .bf16) (q2 : FVec F S256x256 .bf16) (b : Vec F S1x512x256 .f32) : FVec F S512x256 .f32 :=
  addf (mulf (matmul dot_S512x256_S256x256_S512x256_1_1_0_0_n_n none kb q2 (constant S512x256 .f32 0x00000000#32))
    (broadcast S512x256 (Scalar.ofBits .f32 0x3E000000#32))) (shapeCast S512x256 b shapeCasts_S1x512x256_S512x256)

/-- The column sums of a window-high array, repeated over the window. -/
def colSum (x : FVec F S512x256 .f32) : FVec F S512x256 .f32 :=
  broadcastTo S512x256 (shapeCast S1x256 (multiReduction .add [0] S256 x 0x00000000#32 reduces_S512x256_S256 (.inl rfl) rfl)
    shapeCasts_S256_S1x256) broadcasts_S1x256_S512x256

/-- The column maxima of a window-high array, repeated over the window. -/
def colMax (x : FVec F S512x256 .f32) : FVec F S512x256 .f32 :=
  broadcastTo S512x256 (shapeCast S1x256 (multiReduction .maximumf [0] S256 x 0xFF800000#32 reduces_S512x256_S256 (.inl rfl) rfl)
    shapeCasts_S256_S1x256) broadcasts_S1x256_S512x256

/-- The exponentials of the scores less their column maximum. -/
def expo (s : FVec F S512x256 .f32) : FVec F S512x256 .f32 := exp (subf s (colMax s))

/-- The probabilities: each column's exponentials over their sum. -/
def prob (s : FVec F S512x256 .f32) : FVec F S512x256 .f32 := divf (expo s) (colSum (expo s))

/-- The gradient of the scores from the probabilities and the gradient of the probabilities. -/
def gradS (p dp : FVec F S512x256 .f32) : FVec F S512x256 .f32 := mulf p (subf dp (colSum (mulf p dp)))

/-- The gradient of the probabilities: the values against the stacked output gradient. -/
def gradP (vb : Vec F S512x256 .bf16) (do2 : FVec F S256x256 .bf16) : FVec F S512x256 .f32 :=
  matmul dot_S512x256_S256x256_S512x256_1_1_0_0_n_n none vb do2 (constant S512x256 .f32 0x00000000#32)

/-- A row's stacked output gradient, rounded. -/
def stackDo (g : Vec F S64x256 .f32) : FVec F S256x256 .bf16 := stack (truncf .bf16 g bitsLt_bf16_f32)

/-- The probabilities of a row. -/
def rowP (q : Vec F S64x256 .bf16) (kb : Vec F S512x256 .bf16) (b : Vec F S1x512x256 .f32) : FVec F S512x256 .f32 :=
  prob (scores kb (stack q) b)

/-- The gradient of the scores of a row. -/
def rowS (q : Vec F S64x256 .bf16) (kb vb : Vec F S512x256 .bf16) (b : Vec F S1x512x256 .f32) (g : Vec F S64x256 .f32) :
    FVec F S512x256 .f32 := gradS (rowP q kb b) (gradP vb (stackDo g))

/-- What the row's gradient of the scores adds to the bias gradient's window. -/
def updB (old : Vec F S1x512x256 .f32) (ds : FVec F S512x256 .f32) : FVec F S1x512x256 .f32 :=
  shapeCast S1x512x256 (addf (shapeCast S512x256 old shapeCasts_S1x512x256_S512x256) ds) shapeCasts_S512x256_S1x512x256

/-- The row's gradient of the queries. -/
def outQ (kb : Vec F S512x256 .bf16) (ds : FVec F S512x256 .f32) : FVec F S64x256 .bf16 :=
  truncf .bf16 (unstack (mulf (matmul dot_S512x256_S512x256_S256x256_0_0_1_1_n_n none (truncf .bf16 ds bitsLt_bf16_f32) kb
    (constant S256x256 .f32 0x00000000#32)) (broadcast S256x256 (Scalar.ofBits .f32 0x3E000000#32)))) bitsLt_bf16_f32

/-- The window of the keys' gradient with the row's share added. -/
def updK (old : Vec F S512x256 .f32) (q : Vec F S64x256 .bf16) (ds : FVec F S512x256 .f32) : FVec F S512x256 .f32 :=
  shapeCast S512x256 (addf old (mulf (matmul dot_S512x256_S256x256_S512x256_1_0_0_1_n_n none (truncf .bf16 ds bitsLt_bf16_f32) (stack q)
    (constant S512x256 .f32 0x00000000#32)) (broadcast S512x256 (Scalar.ofBits .f32 0x3E000000#32)))) shapeCasts_S512x256_S512x256

/-- The window of the values' gradient with the row's share added. -/
def updV (old : Vec F S512x256 .f32) (p : FVec F S512x256 .f32) (g : Vec F S64x256 .f32) : FVec F S512x256 .f32 :=
  shapeCast S512x256 (addf old (matmul dot_S512x256_S256x256_S512x256_1_0_0_1_n_n none (truncf .bf16 p bitsLt_bf16_f32) (stackDo g)
    (constant S512x256 .f32 0x00000000#32))) shapeCasts_S512x256_S512x256

/-! ## The row as a program -/

variable (i : grid0.Coords)
  (arg2 : Memref sig .tc .vmem S2048x256 .bf16) (harg2 : arg2.IsWhole) (arg3 : Memref sig .tc .vmem S8192x256 .bf16) (harg3 : arg3.IsWhole)
  (arg4 : Memref sig .tc .vmem S8192x256 .bf16) (harg4 : arg4.IsWhole) (arg5 : Memref sig .tc .vmem S1x960x256 .f32) (harg5 : arg5.IsWhole)
  (arg6 : Memref sig .tc .vmem S2048x256 .f32) (harg6 : arg6.IsWhole) (arg7 : Memref sig .tc .vmem S2048x256 .bf16) (harg7 : arg7.IsWhole)
  (arg8 : Memref sig .tc .vmem S8192x256 .bf16) (harg8 : arg8.IsWhole) (arg9 : Memref sig .tc .vmem S8192x256 .bf16) (harg9 : arg9.IsWhole)
  (arg10 : Memref sig .tc .vmem S1x960x256 .f32) (harg10 : arg10.IsWhole) (arg11 : Memref sig .tc .vmem S8192x256 .f32) (harg11 : arg11.IsWhole)
  (arg12 : Memref sig .tc .vmem S8192x256 .f32) (harg12 : arg12.IsWhole)

/-- Query row `r` of the block, read at the printed offsets of the word `w` that counts it. -/
def step (r : Fin 32) (w : BitVec 32) (hw : w = BitVec.ofNat 32 r.val) : Prog (TpuEff nD τ sig (Elt F) Λ₀ .tc) PUnit := do
  let q : Vec F S64x256 .bf16 ← Prog.lift (.load arg2 (Rect.unit (s := S2048x256) (k0_off1 w) S64x256.size (hw ▸ k0_off1_inb r)).toLoadRect (View.loadsAt_vmem h_S64x256))
  let kb : Vec F S512x256 .bf16 ← Prog.lift (.load arg3 (Rect.unit (s := S8192x256) (k0_off2 i w) S512x256.size (hw ▸ k0_off2_inb i r)).toLoadRect (View.loadsAt_vmem h_S512x256))
  let vb : Vec F S512x256 .bf16 ← Prog.lift (.load arg4 (Rect.unit (s := S8192x256) (k0_off2 i w) S512x256.size (hw ▸ k0_off2_inb i r)).toLoadRect (View.loadsAt_vmem h_S512x256))
  let b : Vec F S1x512x256 .f32 ← Prog.lift (.load arg5 (Rect.unit (s := S1x960x256) (k0_off3 i w) S1x512x256.size (hw ▸ k0_off3_inb i r)).toLoadRect (View.loadsAt_vmem h_S1x512x256))
  let g : Vec F S64x256 .f32 ← Prog.lift (.load arg6 (Rect.unit (s := S2048x256) (k0_off1 w) S64x256.size (hw ▸ k0_off1_inb r)).toLoadRect (View.loadsAt_vmem h_S64x256))
  let b0 : Vec F S1x512x256 .f32 ← Prog.lift (.load arg10 (Rect.unit (s := S1x960x256) (k0_off3 i w) S1x512x256.size (hw ▸ k0_off3_inb i r)).toLoadRect (View.loadsAt_vmem h_S1x512x256))
  let _ ← Prog.lift (.load arg10 (Rect.unit (s := S1x960x256) (k0_off3 i w) S1x512x256.size (hw ▸ k0_off3_inb i r)).toLoadRect (View.loadsAt_vmem h_S1x512x256))
  Prog.lift (.store arg10 (Rect.unit (s := S1x960x256) (k0_off3 i w) S1x512x256.size (hw ▸ k0_off3_inb i r)) (updB b0 (rowS q kb vb b g)) Finset.univ (View.stores_vmem_bits_univ h_S1x512x256 rfl) (.inl rfl))
  let _ ← Prog.lift (.load arg7 (Rect.unit (s := S2048x256) (k0_off1 w) S64x256.size (hw ▸ k0_off1_inb r)).toLoadRect (View.loadsAt_vmem h_S64x256))
  Prog.lift (.store arg7 (Rect.unit (s := S2048x256) (k0_off1 w) S64x256.size (hw ▸ k0_off1_inb r)) (outQ kb (rowS q kb vb b g)) Finset.univ (View.stores_vmem h_S64x256 (harg7.storeExact_slice rfl _ (by subst hw; exact k0_off1_packedbf16 r)) (fun _ => rfl)) (.inl rfl))
  let k0 : Vec F S512x256 .f32 ← Prog.lift (.load arg11 (Rect.unit (s := S8192x256) (k0_off2 i w) S512x256.size (hw ▸ k0_off2_inb i r)).toLoadRect (View.loadsAt_vmem h_S512x256))
  let _ ← Prog.lift (.load arg11 (Rect.unit (s := S8192x256) (k0_off2 i w) S512x256.size (hw ▸ k0_off2_inb i r)).toLoadRect (View.loadsAt_vmem h_S512x256))
  Prog.lift (.store arg11 (Rect.unit (s := S8192x256) (k0_off2 i w) S512x256.size (hw ▸ k0_off2_inb i r)) (updK k0 q (rowS q kb vb b g)) Finset.univ (View.stores_vmem_bits_univ h_S512x256 rfl) (.inl rfl))
  let v0 : Vec F S512x256 .f32 ← Prog.lift (.load arg12 (Rect.unit (s := S8192x256) (k0_off2 i w) S512x256.size (hw ▸ k0_off2_inb i r)).toLoadRect (View.loadsAt_vmem h_S512x256))
  let _ ← Prog.lift (.load arg12 (Rect.unit (s := S8192x256) (k0_off2 i w) S512x256.size (hw ▸ k0_off2_inb i r)).toLoadRect (View.loadsAt_vmem h_S512x256))
  Prog.lift (.store arg12 (Rect.unit (s := S8192x256) (k0_off2 i w) S512x256.size (hw ▸ k0_off2_inb i r)) (updV v0 (rowP q kb b) g) Finset.univ (View.stores_vmem_bits_univ h_S512x256 rfl) (.inl rfl))

/-- The first part: at a head group's first block the three accumulators are cleared; `rest` follows. -/
def prelude (rest : Prog (TpuEff nD τ sig (Elt F) Λ₀ .tc) PUnit) : Prog (TpuEff nD τ sig (Elt F) Λ₀ .tc) PUnit := do
  if h : Scalar.cmpi .ne (Scalar.extui (Scalar.cmpi .eq (BitVec.ofNat 32 (i 1).val) 0#32) : BitVec 32) 0#32 = 1#1 then do
    let _ ← Prog.lift (.load arg11 (Rect.unit (s := S8192x256) ![0, 0] S8192x256.size inb_S8192x256_S8192x256_0_0).toLoadRect (View.loadsAt_vmem h_S8192x256))
    Prog.lift (.store arg11 (Rect.unit (s := S8192x256) ![0, 0] S8192x256.size inb_S8192x256_S8192x256_0_0) (shapeCast S8192x256 (broadcast S8192x256 (Scalar.ofBits .f32 0x00000000#32)) shapeCasts_S8192x256_S8192x256) Finset.univ (View.stores_vmem_bits_univ h_S8192x256 rfl) (.inl rfl))
    let _ ← Prog.lift (.load arg12 (Rect.unit (s := S8192x256) ![0, 0] S8192x256.size inb_S8192x256_S8192x256_0_0).toLoadRect (View.loadsAt_vmem h_S8192x256))
    Prog.lift (.store arg12 (Rect.unit (s := S8192x256) ![0, 0] S8192x256.size inb_S8192x256_S8192x256_0_0) (shapeCast S8192x256 (broadcast S8192x256 (Scalar.ofBits .f32 0x00000000#32)) shapeCasts_S8192x256_S8192x256) Finset.univ (View.stores_vmem_bits_univ h_S8192x256 rfl) (.inl rfl))
    let _ ← Prog.lift (.load arg10 (Rect.unit (s := S1x960x256) ![0, 0, 0] S1x960x256.size inb_S1x960x256_S1x960x256_0_0_0).toLoadRect (View.loadsAt_vmem h_S1x960x256))
    Prog.lift (.store arg10 (Rect.unit (s := S1x960x256) ![0, 0, 0] S1x960x256.size inb_S1x960x256_S1x960x256_0_0_0) (broadcast S1x960x256 (Scalar.ofBits .f32 0x00000000#32)) Finset.univ (View.stores_vmem_bits_univ h_S1x960x256 rfl) (.inl rfl))
    rest
  else
    rest

/-- The last part: at a head group's last block the two accumulators of the keys and values are rounded into their results. -/
def finish : Prog (TpuEff nD τ sig (Elt F) Λ₀ .tc) PUnit := do
  if h : Scalar.cmpi .ne (Scalar.extui (Scalar.cmpi .eq (BitVec.ofNat 32 (i 1).val) 3#32) : BitVec 32) 0#32 = 1#1 then do
    let a : Vec F S8192x256 .f32 ← Prog.lift (.load arg11 (Rect.unit (s := S8192x256) ![0, 0] S8192x256.size inb_S8192x256_S8192x256_0_0).toLoadRect (View.loadsAt_vmem h_S8192x256))
    let _ ← Prog.lift (.load arg8 (Rect.unit (s := S8192x256) ![0, 0] S8192x256.size inb_S8192x256_S8192x256_0_0).toLoadRect (View.loadsAt_vmem h_S8192x256))
    Prog.lift (.store arg8 (Rect.unit (s := S8192x256) ![0, 0] S8192x256.size inb_S8192x256_S8192x256_0_0) (truncf .bf16 a bitsLt_bf16_f32) Finset.univ (View.stores_vmem h_S8192x256 (harg8.storeExact_slice rfl _ packedbf16_S8192x256_S8192x256_0_0) (fun _ => rfl)) (.inl rfl))
    let a : Vec F S8192x256 .f32 ← Prog.lift (.load arg12 (Rect.unit (s := S8192x256) ![0, 0] S8192x256.size inb_S8192x256_S8192x256_0_0).toLoadRect (View.loadsAt_vmem h_S8192x256))
    let _ ← Prog.lift (.load arg9 (Rect.unit (s := S8192x256) ![0, 0] S8192x256.size inb_S8192x256_S8192x256_0_0).toLoadRect (View.loadsAt_vmem h_S8192x256))
    Prog.lift (.store arg9 (Rect.unit (s := S8192x256) ![0, 0] S8192x256.size inb_S8192x256_S8192x256_0_0) (truncf .bf16 a bitsLt_bf16_f32) Finset.univ (View.stores_vmem h_S8192x256 (harg9.storeExact_slice rfl _ packedbf16_S8192x256_S8192x256_0_0) (fun _ => rfl)) (.inl rfl))
    pure ⟨⟩
  else do
    pure ⟨⟩

/-- The rows from `r` on, `n` of them, then `rest`. -/
def rows (rest : Prog (TpuEff nD τ sig (Elt F) Λ₀ .tc) PUnit) : (n : Nat) → (r : Nat) → (h : r + n = 32) → Prog (TpuEff nD τ sig (Elt F) Λ₀ .tc) PUnit
  | 0, _, _ => rest
  | n + 1, r, h => do
    step i arg2 arg3 arg4 arg5 arg6 arg7 harg7 arg10 arg11 arg12 ⟨r, by omega⟩ (BitVec.ofNat 32 r) rfl
    rows rest n (r + 1) (by omega)

/-- The whole body: the clearing, the 32 rows, the rounding. -/
def body : Prog (TpuEff nD τ sig (Elt F) Λ₀ .tc) PUnit :=
  prelude i arg10 arg11 arg12 (rows i arg2 arg3 arg4 arg5 arg6 arg7 harg7 arg10 arg11 arg12
    (finish i arg8 harg8 arg9 harg9 arg11 arg12) 32 0 rfl)

end

end Cert.Proof.Attn

end
-- ==== Proof.Rules.lean ====
/-
  Loads and stores of a memref owned at its contents.

  The body's triples are stated over `owns`: a memref held with the vector it reads. A load through a unit-stride
  rectangle reads a window of that vector, a store puts its payload over one.
-/
module

public import Idealize.ShloMosaic.Lib.Tactic
public import Idealize.ShloMosaic.Lib.Writes
public import Idealize.ShloMosaic.Lib.VecWindow
public import Idealize.ShloMosaic.Lib.Pipeline.Kit

@[expose] public section

noncomputable section

namespace Cert.Proof.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Ix : Type} [DecidableEq Ix] {Val : EltTy → Type} {Name : Type} [DecidableEq Name] {U : Type} [URA U]
variable {Lvl : Type} {Λ : Labels}
variable [Preorder Lvl] {defs : Defs nD τ sig Val Λ} (𝒱 : Variants) (c : Thread nD τ) (bd : Option 𝒱.V) (E : Set Name)
variable {s : Shape} {e : EltTy} {α : Type} {Q : α → sProp (MT nD τ sig Ix Val Name U Lvl)}

/-- A load at the head of a program, the memref owned at `X`: the program goes on at the window of `X`. -/
theorem owns_load {cs : CoreSpace} {m : Memref sig c.2.kind cs s e} {off size : Fin s.rank → ℕ} {inb : ∀ a, off a + size a ≤ s.size a}
    {hl : m.view.LoadsAt (Rect.unit off size inb).toLoadRect} {q : PosShare TreeShare} {X : s.Idx → Val e}
    {k : ((Rect.unit off size inb).shape.Idx → Val e) → Prog (TpuEff nD τ sig Val Λ c.2) α} :
    (owns c m q X : sProp (MT nD τ sig Ix Val Name U Lvl))
      ⊢ iprop((owns c m q X -∗ wp frame (wpE defs 𝒱 c bd) E (k (VecWindow.window X off size inb)) Q)
        -∗ wp frame (wpE defs 𝒱 c bd) E (.op (.load m (Rect.unit off size inb).toLoadRect hl) k) Q) := by
  unfold owns
  iintro ⟨%f, %hf, H⟩ Hk
  subst hf
  iapply (wp_load 𝒱 c bd E (Q := Q) (hl := hl) (k := k) (S := m.view.set) (q := q) (f := f) (by
    rw [View.set]; exact Finset.map_subset_map.mpr (Finset.subset_univ _))) $$ H
  iintro H
  iapply Hk
  iexists f
  isplitr; · ipureintro; rfl
  iexact H

/-- An unmasked store at the head of a program, the memref owned at `X`: it is handed back with the payload put over the window. -/
theorem owns_store {cs : CoreSpace} {m : Memref sig c.2.kind cs s e} {off size : Fin s.rank → ℕ} {inb : ∀ a, off a + size a ≤ s.size a}
    {w : (Rect.unit off size inb).shape.Idx → Val e} {hx : (m.access (Rect.unit off size inb)).Stores Finset.univ}
    {hm : Finset.univ = Finset.univ ∨ ∀ a, (Rect.unit off size inb).stride a = 1} {X : s.Idx → Val e}
    {k : PUnit → Prog (TpuEff nD τ sig Val Λ c.2) α} :
    (owns c m fullShare X : sProp (MT nD τ sig Ix Val Name U Lvl))
      ⊢ iprop((owns c m fullShare (VecWindow.put X off size w) -∗ wp frame (wpE defs 𝒱 c bd) E (k ⟨⟩) Q)
        -∗ wp frame (wpE defs 𝒱 c bd) E (.op (.store m (Rect.unit off size inb) w Finset.univ hx hm) k) Q) := by
  unfold owns
  iintro ⟨%f, %hf, H⟩ Hk
  subst hf
  iapply (wp_store_writes₀ 𝒱 c bd E (Q := Q) (hx := hx) (hm := hm) (k := k) (S := m.view.set) (f := f) (w := w) (m.view.set_slice_subset _)) $$ H
  iintro H
  iapply Hk
  iexists _
  isplitr; swap; · iexact H
  ipureintro
  exact (View.read_writes_cons_put m.view f inb w [] rfl).trans (by rw [View.writes_nil])

end Cert.Proof.Attn

end
-- ==== Proof.BodyRun.lean ====
/-
  What the kernel's body leaves at a grid point, as a function of what it finds.

  `Ins` is what the five input windows hold, `St` what the four written buffers hold: the queries' gradient, the bias's,
  and the two accumulators of the keys' and values' gradients. `stepSt` is one query row's effect, `runSt` the 32 rows',
  and `body_run` the triple of the whole body.
-/
module

public import proofs.«01_k».proof.Proof.Step
public import proofs.«01_k».proof.Proof.Rules
public import Idealize.ShloMosaic.Lib.Pointwise

@[expose] public section

noncomputable section

namespace Cert.Proof.Attn

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The contents of the five input windows: queries, keys, values, bias, output gradient. -/
structure Ins (F : FTy → Type) where
  q : Vec F S2048x256 .bf16
  k : Vec F S8192x256 .bf16
  v : Vec F S8192x256 .bf16
  b : Vec F S1x960x256 .f32
  g : Vec F S2048x256 .f32

/-- The contents of the buffers the rows write: the queries' gradient, the bias's gradient, the keys' and values' accumulators. -/
structure St (F : FTy → Type) where
  dq : Vec F S2048x256 .bf16
  db : Vec F S1x960x256 .f32
  dk : Vec F S8192x256 .f32
  dv : Vec F S8192x256 .f32

section
variable [Facts]
open Facts₀ Facts

variable (i : grid0.Coords)

/-- Row `r`'s queries, its windows of keys, values and bias, and its output gradient. -/
def rq (x : Ins F) (r : Fin 32) : Vec F S64x256 .bf16 := VecWindow.window x.q (k0_off1 (BitVec.ofNat 32 r.val)) S64x256.size (k0_off1_inb r)
def rk (x : Ins F) (r : Fin 32) : Vec F S512x256 .bf16 := VecWindow.window x.k (k0_off2 i (BitVec.ofNat 32 r.val)) S512x256.size (k0_off2_inb i r)
def rv (x : Ins F) (r : Fin 32) : Vec F S512x256 .bf16 := VecWindow.window x.v (k0_off2 i (BitVec.ofNat 32 r.val)) S512x256.size (k0_off2_inb i r)
def rb (x : Ins F) (r : Fin 32) : Vec F S1x512x256 .f32 := VecWindow.window x.b (k0_off3 i (BitVec.ofNat 32 r.val)) S1x512x256.size (k0_off3_inb i r)
def rg (x : Ins F) (r : Fin 32) : Vec F S64x256 .f32 := VecWindow.window x.g (k0_off1 (BitVec.ofNat 32 r.val)) S64x256.size (k0_off1_inb r)

/-- Row `r`'s probabilities and gradient of the scores. -/
def pAt (x : Ins F) (r : Fin 32) : FVec F S512x256 .f32 := rowP (rq x r) (rk i x r) (rb i x r)
def sAt (x : Ins F) (r : Fin 32) : FVec F S512x256 .f32 := rowS (rq x r) (rk i x r) (rv i x r) (rb i x r) (rg x r)

/-- One query row's effect. -/
def stepSt (x : Ins F) (r : Fin 32) (y : St F) : St F where
  dq := VecWindow.put y.dq (k0_off1 (BitVec.ofNat 32 r.val)) S64x256.size (outQ (rk i x r) (sAt i x r))
  db := VecWindow.put y.db (k0_off3 i (BitVec.ofNat 32 r.val)) S1x512x256.size
    (updB (VecWindow.window y.db (k0_off3 i (BitVec.ofNat 32 r.val)) S1x512x256.size (k0_off3_inb i r)) (sAt i x r))
  dk := VecWindow.put y.dk (k0_off2 i (BitVec.ofNat 32 r.val)) S512x256.size
    (updK (VecWindow.window y.dk (k0_off2 i (BitVec.ofNat 32 r.val)) S512x256.size (k0_off2_inb i r)) (rq x r) (sAt i x r))
  dv := VecWindow.put y.dv (k0_off2 i (BitVec.ofNat 32 r.val)) S512x256.size
    (updV (VecWindow.window y.dv (k0_off2 i (BitVec.ofNat 32 r.val)) S512x256.size (k0_off2_inb i r)) (pAt i x r) (rg x r))

/-- The effect of the `n` rows from `r` on. -/
def rowsSt (x : Ins F) : (n r : Nat) → (h : r + n = 32) → St F → St F
  | 0, _, _, y => y
  | n + 1, r, h, y => rowsSt x n (r + 1) (by omega) (stepSt i x ⟨r, by omega⟩ y)

/-- The accumulators and the bias's gradient cleared. -/
def zeroSt (y : St F) : St F where
  dq := y.dq
  db := broadcast S1x960x256 (Scalar.ofBits .f32 0x00000000#32)
  dk := broadcast S8192x256 (Scalar.ofBits .f32 0x00000000#32)
  dv := broadcast S8192x256 (Scalar.ofBits .f32 0x00000000#32)

/-- Whether the point is a head group's first block, and its last. -/
abbrev isFirst : Prop := Scalar.cmpi .ne (Scalar.extui (Scalar.cmpi .eq (BitVec.ofNat 32 (i 1).val) 0#32) : BitVec 32) 0#32 = 1#1
abbrev isLast : Prop := Scalar.cmpi .ne (Scalar.extui (Scalar.cmpi .eq (BitVec.ofNat 32 (i 1).val) 3#32) : BitVec 32) 0#32 = 1#1

/-- The whole body's effect on the four buffers. -/
def runSt (x : Ins F) (y : St F) : St F := rowsSt i x 32 0 rfl (if isFirst i then zeroSt y else y)

/-! ## The triples -/

local notation "𝕄" => MT nD τ sig Unit (Elt F) ℕ (UR sig nD τ) ℕ

variable (c : Dev nD)
  (arg2 : Memref sig .tc .vmem S2048x256 .bf16) (arg3 : Memref sig .tc .vmem S8192x256 .bf16)
  (arg4 : Memref sig .tc .vmem S8192x256 .bf16) (arg5 : Memref sig .tc .vmem S1x960x256 .f32)
  (arg6 : Memref sig .tc .vmem S2048x256 .f32) (arg7 : Memref sig .tc .vmem S2048x256 .bf16) (harg7 : arg7.IsWhole)
  (arg8 : Memref sig .tc .vmem S8192x256 .bf16) (harg8 : arg8.IsWhole) (arg9 : Memref sig .tc .vmem S8192x256 .bf16) (harg9 : arg9.IsWhole)
  (arg10 : Memref sig .tc .vmem S1x960x256 .f32) (arg11 : Memref sig .tc .vmem S8192x256 .f32)
  (arg12 : Memref sig .tc .vmem S8192x256 .f32)

/-- The input windows held at `x`. -/
def insAt (x : Ins F) : sProp 𝕄 :=
  iprop(owns (c : Thread nD τ) arg2 fullShare x.q ∗ owns (c : Thread nD τ) arg3 fullShare x.k ∗ owns (c : Thread nD τ) arg4 fullShare x.v
    ∗ owns (c : Thread nD τ) arg5 fullShare x.b ∗ owns (c : Thread nD τ) arg6 fullShare x.g)

/-- The written buffers held at `y`. -/
def stAt (y : St F) : sProp 𝕄 :=
  iprop(owns (c : Thread nD τ) arg7 fullShare y.dq ∗ owns (c : Thread nD τ) arg10 fullShare y.db ∗ owns (c : Thread nD τ) arg11 fullShare y.dk
    ∗ owns (c : Thread nD τ) arg12 fullShare y.dv)

/-- One row, then `k`. -/
theorem step_run (r : Fin 32) (x : Ins F) (y : St F) (k : Prog (TpuEff nD τ sig (Elt F) Λ₀ .tc) PUnit) (Q : PUnit → sProp 𝕄) :
    iprop(insAt c arg2 arg3 arg4 arg5 arg6 x ∗ stAt c arg7 arg10 arg11 arg12 y
      ∗ (iprop(insAt c arg2 arg3 arg4 arg5 arg6 x ∗ stAt c arg7 arg10 arg11 arg12 (stepSt i x r y))
          -∗ wp frame (wpE (defs₀ (F := F)) Variants.none c none) Set.univ k Q))
    ⊢ wp frame (wpE (defs₀ (F := F)) Variants.none c none) Set.univ
        (step i arg2 arg3 arg4 arg5 arg6 arg7 harg7 arg10 arg11 arg12 r (BitVec.ofNat 32 r.val) rfl >>= fun _ => k) Q := by
  unfold insAt stAt
  iintro ⟨⟨H2, H3, H4, H5, H6⟩, ⟨H7, H10, H11, H12⟩, Hk⟩
  unfold step
  iapply (owns_load Variants.none c none Set.univ) $$ H2; iintro H2
  iapply (owns_load Variants.none c none Set.univ) $$ H3; iintro H3
  iapply (owns_load Variants.none c none Set.univ) $$ H4; iintro H4
  iapply (owns_load Variants.none c none Set.univ) $$ H5; iintro H5
  iapply (owns_load Variants.none c none Set.univ) $$ H6; iintro H6
  iapply (owns_load Variants.none c none Set.univ) $$ H10; iintro H10
  iapply (owns_load Variants.none c none Set.univ) $$ H10; iintro H10
  iapply (owns_store Variants.none c none Set.univ) $$ H10; iintro H10
  iapply (owns_load Variants.none c none Set.univ) $$ H7; iintro H7
  iapply (owns_store Variants.none c none Set.univ) $$ H7; iintro H7
  iapply (owns_load Variants.none c none Set.univ) $$ H11; iintro H11
  iapply (owns_load Variants.none c none Set.univ) $$ H11; iintro H11
  iapply (owns_store Variants.none c none Set.univ) $$ H11; iintro H11
  iapply (owns_load Variants.none c none Set.univ) $$ H12; iintro H12
  iapply (owns_load Variants.none c none Set.univ) $$ H12; iintro H12
  iapply (owns_store Variants.none c none Set.univ) $$ H12; iintro H12
  iapply Hk
  isplitl [H2 H3 H4 H5 H6]
  · isplitl [H2]; · iexact H2
    isplitl [H3]; · iexact H3
    isplitl [H4]; · iexact H4
    isplitl [H5]; · iexact H5
    iexact H6
  isplitl [H7]; · iexact H7
  isplitl [H10]; · iexact H10
  isplitl [H11]; · iexact H11
  iexact H12

/-- The rows from `r` on, then `rest`. -/
theorem rows_run (x : Ins F) (rest : Prog (TpuEff nD τ sig (Elt F) Λ₀ .tc) PUnit) (Q : PUnit → sProp 𝕄) :
    (n r : Nat) → (h : r + n = 32) → (y : St F) →
    iprop(insAt c arg2 arg3 arg4 arg5 arg6 x ∗ stAt c arg7 arg10 arg11 arg12 y
      ∗ (iprop(insAt c arg2 arg3 arg4 arg5 arg6 x ∗ stAt c arg7 arg10 arg11 arg12 (rowsSt i x n r h y))
          -∗ wp frame (wpE (defs₀ (F := F)) Variants.none c none) Set.univ rest Q))
    ⊢ wp frame (wpE (defs₀ (F := F)) Variants.none c none) Set.univ
        (rows i arg2 arg3 arg4 arg5 arg6 arg7 harg7 arg10 arg11 arg12 rest n r h) Q
  | 0, r, h, y => by
    unfold rows rowsSt
    iintro ⟨HI, HS, Hk⟩
    iapply Hk
    isplitl [HI]; · iexact HI
    iexact HS
  | n + 1, r, h, y => by
    have hr : r < 32 := by omega
    have hn : r + 1 + n = 32 := by omega
    unfold rows rowsSt
    iintro ⟨HI, HS, Hk⟩
    iapply (step_run i c arg2 arg3 arg4 arg5 arg6 arg7 harg7 arg10 arg11 arg12 ⟨r, hr⟩ x y)
    isplitl [HI]; · iexact HI
    isplitl [HS]; · iexact HS
    iintro ⟨HI, HS⟩
    iapply (rows_run x rest Q n (r + 1) hn (stepSt i x ⟨r, hr⟩ y))
    isplitl [HI]; · iexact HI
    isplitl [HS]; · iexact HS
    iexact Hk

/-- A put of a shape's own sizes at offset zero leaves the payload. -/
theorem put_full {α : Type} {s : Shape} (x : s.Idx → α) (off : Fin s.rank → ℕ) (h0 : ∀ a, off a = 0) (w : ((a : Fin s.rank) → Fin (s.size a)) → α) :
    VecWindow.put x off s.size w = w := by
  funext j
  have h : ∀ a, off a ≤ (j a).val ∧ (j a).val < off a + s.size a := fun a => by have := (j a).isLt; have := h0 a; omega
  unfold VecWindow.put
  rw [dif_pos h]
  exact congrArg w (funext fun a => Fin.ext (by show (j a).val - off a = _; rw [h0 a, Nat.sub_zero]))

/-- A window of a shape's own sizes at offset zero is the vector. -/
theorem window_full {α : Type} {s : Shape} (x : s.Idx → α) (off : Fin s.rank → ℕ) (h0 : ∀ a, off a = 0) (inb) :
    VecWindow.window x off s.size inb = x := by
  funext j
  exact congrArg x (funext fun a => Fin.ext (by show off a + 1 * (j a).val = _; rw [h0 a]; omega))

/-- The clearing, then `rest`. -/
theorem prelude_run (y : St F) (rest : Prog (TpuEff nD τ sig (Elt F) Λ₀ .tc) PUnit) (Q : PUnit → sProp 𝕄) :
    iprop(stAt c arg7 arg10 arg11 arg12 y
      ∗ (stAt c arg7 arg10 arg11 arg12 (if isFirst i then zeroSt y else y)
          -∗ wp frame (wpE (defs₀ (F := F)) Variants.none c none) Set.univ rest Q))
    ⊢ wp frame (wpE (defs₀ (F := F)) Variants.none c none) Set.univ (prelude i arg10 arg11 arg12 rest) Q := by
  unfold prelude
  by_cases h : isFirst i
  · rw [dif_pos h, if_pos h]
    unfold stAt
    iintro ⟨⟨H7, H10, H11, H12⟩, Hk⟩
    iapply (owns_load Variants.none c none Set.univ) $$ H11; iintro H11
    iapply (owns_store Variants.none c none Set.univ) $$ H11; iintro H11
    iapply (owns_load Variants.none c none Set.univ) $$ H12; iintro H12
    iapply (owns_store Variants.none c none Set.univ) $$ H12; iintro H12
    iapply (owns_load Variants.none c none Set.univ) $$ H10; iintro H10
    iapply (owns_store Variants.none c none Set.univ) $$ H10; iintro H10
    rw [put_full (s := S8192x256) y.dk ![0, 0] (by decide), put_full (s := S8192x256) y.dv ![0, 0] (by decide),
      put_full (s := S1x960x256) y.db ![0, 0, 0] (by decide), shapeCast_id]
    iapply Hk
    isplitl [H7]; · iexact H7
    isplitl [H10]; · iexact H10
    isplitl [H11]; · iexact H11
    iexact H12
  · rw [dif_neg h, if_neg h]
    iintro ⟨HS, Hk⟩
    iapply Hk
    iexact HS

/-- A program that has returned. -/
theorem ret_run (Q : PUnit → sProp 𝕄) :
    Q ⟨⟩ ⊢ wp frame (wpE (defs₀ (F := F)) Variants.none c none) Set.univ (Prog.ret ⟨⟩) Q := by
  iintro H
  sl_step
  iexact H

/-- The rounding of the two accumulators. -/
theorem finish_run (y : St F) (X8 X9 : Vec F S8192x256 .bf16) (Q : PUnit → sProp 𝕄) :
    iprop(stAt c arg7 arg10 arg11 arg12 y ∗ owns (c : Thread nD τ) arg8 fullShare X8 ∗ owns (c : Thread nD τ) arg9 fullShare X9
      ∗ (iprop(stAt c arg7 arg10 arg11 arg12 y
            ∗ owns (c : Thread nD τ) arg8 fullShare (if isLast i then truncf .bf16 y.dk bitsLt_bf16_f32 else X8)
            ∗ owns (c : Thread nD τ) arg9 fullShare (if isLast i then truncf .bf16 y.dv bitsLt_bf16_f32 else X9)) -∗ Q ⟨⟩))
    ⊢ wp frame (wpE (defs₀ (F := F)) Variants.none c none) Set.univ (finish i arg8 harg8 arg9 harg9 arg11 arg12) Q := by
  unfold finish
  by_cases h : isLast i
  · rw [dif_pos h, if_pos h, if_pos h]
    unfold stAt
    iintro ⟨⟨H7, H10, H11, H12⟩, H8, H9, Hk⟩
    iapply (owns_load Variants.none c none Set.univ) $$ H11; iintro H11
    iapply (owns_load Variants.none c none Set.univ) $$ H8; iintro H8
    iapply (owns_store Variants.none c none Set.univ) $$ H8; iintro H8
    iapply (owns_load Variants.none c none Set.univ) $$ H12; iintro H12
    iapply (owns_load Variants.none c none Set.univ) $$ H9; iintro H9
    iapply (owns_store Variants.none c none Set.univ) $$ H9; iintro H9
    rw [put_full (s := S8192x256) X8 ![0, 0] (by decide), put_full (s := S8192x256) X9 ![0, 0] (by decide),
      window_full (s := S8192x256) y.dk ![0, 0] (by decide), window_full (s := S8192x256) y.dv ![0, 0] (by decide)]
    iapply (ret_run c)
    iapply Hk
    isplitl [H7 H10 H11 H12]
    · isplitl [H7]; · iexact H7
      isplitl [H10]; · iexact H10
      isplitl [H11]; · iexact H11
      iexact H12
    isplitl [H8]; · iexact H8
    iexact H9
  · rw [dif_neg h, if_neg h, if_neg h]
    iintro ⟨HS, H8, H9, Hk⟩
    iapply (ret_run c)
    iapply Hk
    isplitl [HS]; · iexact HS
    isplitl [H8]; · iexact H8
    iexact H9

/-- The whole body. -/
theorem body_run (x : Ins F) (y : St F) (X8 X9 : Vec F S8192x256 .bf16) (Q : PUnit → sProp 𝕄) :
    iprop(insAt c arg2 arg3 arg4 arg5 arg6 x ∗ stAt c arg7 arg10 arg11 arg12 y
      ∗ owns (c : Thread nD τ) arg8 fullShare X8 ∗ owns (c : Thread nD τ) arg9 fullShare X9
      ∗ (iprop(insAt c arg2 arg3 arg4 arg5 arg6 x ∗ stAt c arg7 arg10 arg11 arg12 (runSt i x y)
            ∗ owns (c : Thread nD τ) arg8 fullShare (if isLast i then truncf .bf16 (runSt i x y).dk bitsLt_bf16_f32 else X8)
            ∗ owns (c : Thread nD τ) arg9 fullShare (if isLast i then truncf .bf16 (runSt i x y).dv bitsLt_bf16_f32 else X9)) -∗ Q ⟨⟩))
    ⊢ wp frame (wpE (defs₀ (F := F)) Variants.none c none) Set.univ
        (body i arg2 arg3 arg4 arg5 arg6 arg7 harg7 arg8 harg8 arg9 harg9 arg10 arg11 arg12) Q := by
  unfold body
  iintro ⟨HI, HS, H8, H9, Hk⟩
  iapply (prelude_run i c arg7 arg10 arg11 arg12 y)
  isplitl [HS]; · iexact HS
  iintro HS
  iapply (rows_run i c arg2 arg3 arg4 arg5 arg6 arg7 harg7 arg10 arg11 arg12 x _ _ 32 0 rfl)
  isplitl [HI]; · iexact HI
  isplitl [HS]; · iexact HS
  iintro ⟨HI, HS⟩
  iapply (finish_run i c arg7 arg8 harg8 arg9 harg9 arg10 arg11 arg12)
  isplitl [HS]; · iexact HS
  isplitl [H8]; · iexact H8
  isplitl [H9]; · iexact H9
  iintro ⟨HS, H8, H9⟩
  iapply Hk
  isplitl [HI]; · iexact HI
  isplitl [HS]; · iexact HS
  isplitl [H8]; · iexact H8
  iexact H9

end

end Cert.Proof.Attn

end
-- ==== Proof.State.lean ====
/-
  What of the body's effect depends on what.

  A block of queries' gradient is written over whole, so what the buffer held before does not matter; the accumulators do
  not read that buffer; and at a head group's first block nothing of the accumulators' past is left.
-/
module

public import proofs.«01_k».proof.Proof.BodyRun

@[expose] public section

noncomputable section

namespace Cert.Proof.Attn

open Cert.KernelIdeal
open Idealize.ShloMosaic Idealize.ShloMosaic.TcCoe

variable {F : FTy → Type} [FloatOps F]
variable [Facts]
open Facts₀ Facts

variable (i : grid0.Coords)

/-- The row number as the printed offsets count it. -/
theorem off1_val (r : Fin 32) : k0_off1 (BitVec.ofNat 32 r.val) = ![r.val * 64, 0] := by
  revert r; decide

/-- The queries' gradient of the whole block: each row's, side by side. -/
def dqOut (x : Ins F) : Vec F S2048x256 .bf16 := fun j =>
  outQ (rk i x ⟨(j 0).val / 64, Nat.div_lt_of_lt_mul (j 0).isLt⟩) (sAt i x ⟨(j 0).val / 64, Nat.div_lt_of_lt_mul (j 0).isLt⟩)
    (fun | 0 => ⟨(j 0).val % 64, Nat.mod_lt _ (by decide)⟩ | 1 => j 1)

/-- After the rows from `r` on, the block's later rows hold their gradients and the earlier ones what they held. -/
theorem rowsSt_dq (x : Ins F) : (n r : Nat) → (h : r + n = 32) → (y : St F) → (j : S2048x256.Idx) →
    (rowsSt i x n r h y).dq j = if r * 64 ≤ (j 0).val then dqOut i x j else y.dq j
  | 0, r, h, y, j => by
    unfold rowsSt
    have hj : (j 0).val < 2048 := (j 0).isLt
    rw [if_neg (by omega)]
  | n + 1, r, h, y, j => by
    unfold rowsSt
    rw [rowsSt_dq x n (r + 1) (by omega) _ j]
    have hj : (j 0).val < 2048 := (j 0).isLt
    have hj1 : (j 1).val < 256 := (j 1).isLt
    by_cases h1 : (r + 1) * 64 ≤ (j 0).val
    · rw [if_pos h1, if_pos (by omega)]
    · rw [if_neg h1]
      unfold stepSt
      dsimp only
      unfold VecWindow.put
      by_cases h2 : r * 64 ≤ (j 0).val
      · rw [if_pos h2, dif_pos ?_]
        · have e : (j 0).val / 64 = r := by omega
          have eF : (⟨(j 0).val / 64, Nat.div_lt_of_lt_mul (j 0).isLt⟩ : Fin 32) = ⟨r, by omega⟩ := Fin.ext e
          unfold dqOut
          rw [eF]
          congr 1
          funext a
          refine Fin.ext ?_
          match a with
          | 0 =>
            show (j 0).val - k0_off1 (BitVec.ofNat 32 r) 0 = (j 0).val % 64
            rw [off1_val ⟨r, by omega⟩]
            show (j 0).val - r * 64 = (j 0).val % 64
            omega
          | 1 =>
            show (j 1).val - k0_off1 (BitVec.ofNat 32 r) 1 = (j 1).val
            rw [off1_val ⟨r, by omega⟩]
            rfl
        · intro a
          dsimp only
          rw [off1_val ⟨r, by omega⟩]
          match a with
          | 0 => exact ⟨h2, by show (j 0).val < r * 64 + 64; omega⟩
          | 1 => exact ⟨Nat.zero_le _, by show (j 1).val < 0 + 256; omega⟩
      · rw [if_neg h2, dif_neg]
        intro hall
        have := (hall 0).1
        dsimp only at this
        rw [off1_val ⟨r, by omega⟩] at this
        exact h2 this

/-- The whole body leaves the block of queries' gradient, whatever was there. -/
theorem runSt_dq (x : Ins F) (y : St F) : (runSt i x y).dq = dqOut i x := by
  funext j
  unfold runSt
  rw [rowsSt_dq, if_pos (by omega)]

/-- Two states that agree off the queries' gradient agree there after the rows. -/
theorem rowsSt_congr (x : Ins F) : (n r : Nat) → (h : r + n = 32) → (y y' : St F) → y.db = y'.db → y.dk = y'.dk → y.dv = y'.dv →
    (rowsSt i x n r h y).db = (rowsSt i x n r h y').db ∧ (rowsSt i x n r h y).dk = (rowsSt i x n r h y').dk
      ∧ (rowsSt i x n r h y).dv = (rowsSt i x n r h y').dv
  | 0, _, _, _, _, hb, hk, hv => ⟨hb, hk, hv⟩
  | n + 1, r, h, y, y', hb, hk, hv => by
    unfold rowsSt
    refine rowsSt_congr x n (r + 1) (by omega) _ _ ?_ ?_ ?_
    · unfold stepSt; dsimp only; rw [hb]
    · unfold stepSt; dsimp only; rw [hk]
    · unfold stepSt; dsimp only; rw [hv]

/-- The accumulators after the body: at a head group's first block whatever was there, else by what was there. -/
theorem runSt_congr (x : Ins F) (y y' : St F) (h : isFirst i ∨ (y.db = y'.db ∧ y.dk = y'.dk ∧ y.dv = y'.dv)) :
    (runSt i x y).db = (runSt i x y').db ∧ (runSt i x y).dk = (runSt i x y').dk ∧ (runSt i x y).dv = (runSt i x y').dv := by
  unfold runSt
  by_cases hf : isFirst i
  · rw [if_pos hf, if_pos hf]
    exact rowsSt_congr i x 32 0 rfl _ _ rfl rfl rfl
  · rw [if_neg hf, if_neg hf]
    rcases h with h | ⟨hb, hk, hv⟩
    · exact absurd h hf
    · exact rowsSt_congr i x 32 0 rfl _ _ hb hk hv

end Cert.Proof.Attn

end
-- ==== Proof.BodyEq.lean ====
/- The printed body is the clearing, the 32 rows and the rounding. -/
module

public import proofs.«01_k».proof.Proof.Step

@[expose] public section

noncomputable section

namespace Cert.Proof.Attn

open Cert.KernelIdeal
open Idealize.ShloMosaic Idealize.SL.Sem

variable {F : FTy → Type} [FloatOps F] [Facts]

/-- What follows a case distinction follows in either case. -/
theorem dite_bind {E : Type → Type} {α β : Type} {c : Prop} [Decidable c] (a : c → Prog E α) (b : ¬c → Prog E α) (k : α → Prog E β) :
    (dite c a b >>= k) = dite c (fun h => a h >>= k) (fun h => b h >>= k) := by
  split <;> rfl

set_option maxRecDepth 100000 in
set_option maxHeartbeats 0 in
/-- The printed body is `body`: by definitional unfolding. -/
theorem body_eq (i : grid0.Coords)
    (arg2 : Memref sig .tc .vmem S2048x256 .bf16) (harg2 : arg2.IsWhole) (arg3 : Memref sig .tc .vmem S8192x256 .bf16) (harg3 : arg3.IsWhole)
    (arg4 : Memref sig .tc .vmem S8192x256 .bf16) (harg4 : arg4.IsWhole) (arg5 : Memref sig .tc .vmem S1x960x256 .f32) (harg5 : arg5.IsWhole)
    (arg6 : Memref sig .tc .vmem S2048x256 .f32) (harg6 : arg6.IsWhole) (arg7 : Memref sig .tc .vmem S2048x256 .bf16) (harg7 : arg7.IsWhole)
    (arg8 : Memref sig .tc .vmem S8192x256 .bf16) (harg8 : arg8.IsWhole) (arg9 : Memref sig .tc .vmem S8192x256 .bf16) (harg9 : arg9.IsWhole)
    (arg10 : Memref sig .tc .vmem S1x960x256 .f32) (harg10 : arg10.IsWhole) (arg11 : Memref sig .tc .vmem S8192x256 .f32) (harg11 : arg11.IsWhole)
    (arg12 : Memref sig .tc .vmem S8192x256 .f32) (harg12 : arg12.IsWhole) :
    cc0_attn_bwd (F := F) i arg2 harg2 arg3 harg3 arg4 harg4 arg5 harg5 arg6 harg6 arg7 harg7 arg8 harg8 arg9 harg9 arg10 harg10 arg11 harg11 arg12 harg12
      = body i arg2 arg3 arg4 arg5 arg6 arg7 harg7 arg8 harg8 arg9 harg9 arg10 arg11 arg12 := by
  unfold cc0_attn_bwd k0_part74 k0_part1
  dsimp only
  rw [dite_bind, dite_bind]
  unfold body prelude
  refine congr (congrArg _ (funext fun h => ?_)) (funext fun h => ?_)
  · rfl
  · rfl

end Cert.Proof.Attn

end
-- ==== Proof.Run.lean ====
/-
  The run of the kernel, over any float values.

  The grid visits two head groups of four blocks of 32 query rows. `acc n` is what the written buffers hold after the first
  `n` points; the run ends with every written array at those contents and every counter at zero.
-/
module

public import proofs.«01_k».proof.Proof.State
public import proofs.«01_k».proof.Proof.BodyEq
public import proofs.«01_k».proof.Proof.Gen.KernelIdeal.Frame

@[expose] public section

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-- What the input windows hold at point `t`. -/
def insOf (t : Fin cfg0.N) : Ins F := ⟨iblk m c 0 t, iblk m c 1 t, iblk m c 2 t, iblk m c 3 t, iblk m c 4 t⟩

/-- What the written buffers hold after the first `n` points. -/
def acc : Nat → St F
  | 0 => ⟨broadcast _ (Scalar.ofBits .bf16 0#16), broadcast _ (Scalar.ofBits .f32 0#32), broadcast _ (Scalar.ofBits .f32 0#32), broadcast _ (Scalar.ofBits .f32 0#32)⟩
  | n + 1 => if h : n < cfg0.N then runSt (grid0.coords ⟨n, h⟩) (insOf m c ⟨n, h⟩) (acc n) else acc n

theorem acc_succ (t : Fin cfg0.N) : acc m c (t.val + 1) = runSt (grid0.coords t) (insOf m c t) (acc m c t.val) := by
  show (if h : t.val < cfg0.N then _ else _) = _
  rw [dif_pos t.isLt]

/-- The first and the last block of a head group, by the point's number. -/
theorem isFirst_iff (t : Fin cfg0.N) : isFirst (grid0.coords t) ↔ t.val % 4 = 0 :=
  (by decide : ∀ t : Fin grid0.N, isFirst (grid0.coords t) ↔ t.val % 4 = 0) t
theorem isLast_iff (t : Fin cfg0.N) : isLast (grid0.coords t) ↔ t.val % 4 = 3 :=
  (by decide : ∀ t : Fin grid0.N, isLast (grid0.coords t) ↔ t.val % 4 = 3) t

/-- The scratch before point `n`: at anything where a head group begins, else at the accumulators. -/
def scratchAt (n : Nat) : sProp 𝕄 :=
  iprop((∃ f : Vec F S8192x256 .f32, ∃ g : Vec F S8192x256 .f32, ⌜n % 4 ≠ 0 → f = (acc m c n).dk ∧ g = (acc m c n).dv⌝
    ∗ owns (c : Thread nD τ) (Memref.whole cc0_scratch0) fullShare f ∗ owns (c : Thread nD τ) (Memref.whole cc0_scratch1) fullShare g)
    ∗ ∃ r, prngReg c r)

/-- The proof data of the pipeline. -/
def dats (p : Fin 1) : Dat τ (Elt F) Unit ℕ (UR sig nD τ) ℕ (cfgs p) c :=
  match p with
  | 0 =>
    { A := fun w => V m c (Pipeline.arrRef spec0 w)
      after := fun
        | 0 => fun t => iblk m c 0 t
        | 1 => fun t => iblk m c 1 t
        | 2 => fun t => iblk m c 2 t
        | 3 => fun t => iblk m c 3 t
        | 4 => fun t => iblk m c 4 t
        | 5 => fun t => dqOut (grid0.coords t) (insOf m c t)
        | 6 => fun t => truncf .bf16 (acc m c (t.val + 1)).dk bitsLt_bf16_f32
        | 7 => fun t => truncf .bf16 (acc m c (t.val + 1)).dv bitsLt_bf16_f32
        | 8 => fun t => (acc m c (t.val + 1)).db
      Φ := fun t => scratchAt m c t.val
      q := Pipeline.shareOf spec0
      owed := fun _ => 0 }

/-- The kernel's row of the definitions at point `t` is the printed body there. -/
theorem defs₀_row (t : Fin cfg0.N) : defs₀ (F := F) .tc cfg0.body (cfg0.bodyArgs t (cfg0.slots t)) = bodyAt0 t := by
  unfold defs₀; rw [Defs.onTc_tc]

/-- The bias's gradient before a block that is not its head group's first. -/
theorem before_db (t : Fin cfg0.N) (ht : t.val % 4 ≠ 0) (d) : (dats m c 0).before 8 t d = (acc m c t.val).db := by
  have h0 : t.val ≠ 0 := fun h => ht (by rw [h])
  rw [(dats m c 0).before_out_kept 8 rfl t h0 (by
    rw [Bool.eq_false_iff]; intro h; rw [flush0_8] at h; dsimp only at h; omega) (fun _ => rfl) (fun _ _ => rfl) d]
  show (acc m c (t.val - 1 + 1)).db = _
  rw [Nat.sub_add_cancel (Nat.pos_of_ne_zero h0)]

/-- The keys' and values' gradients are left alone except at a head group's last block. -/
theorem idle_last (t : Fin cfg0.N) (h : t.val % 4 = 3) : (cfgs 0).idle 6 ((cfgs 0).grid.coords t) = false ∧ (cfgs 0).idle 7 ((cfgs 0).grid.coords t) = false :=
  (by decide : ∀ t : Fin grid0.N, t.val % 4 = 3 → idle0 6 (grid0.coords t) = false ∧ idle0 7 (grid0.coords t) = false) t h
theorem idle_else (t : Fin cfg0.N) (h : t.val % 4 ≠ 3) : (cfgs 0).idle 6 ((cfgs 0).grid.coords t) = true ∧ (cfgs 0).idle 7 ((cfgs 0).grid.coords t) = true :=
  (by decide : ∀ t : Fin grid0.N, t.val % 4 ≠ 3 → idle0 6 (grid0.coords t) = true ∧ idle0 7 (grid0.coords t) = true) t h
theorem flush_else (t : Fin cfg0.N) (h : t.val % 4 ≠ 3) : ((cfgs 0).win 6).flush t = false ∧ ((cfgs 0).win 7).flush t = false :=
  ⟨Bool.eq_false_iff.mpr fun e => h ((flush0_6 t).mp e), Bool.eq_false_iff.mpr fun e => h ((flush0_7 t).mp e)⟩

/-- What the body is handed at point `t`, from what the pipeline holds. -/
def found (t : Fin cfg0.N) (d5 : Vec F S2048x256 .bf16) (d8 : Vec F S1x960x256 .f32) (f g : Vec F S8192x256 .f32) : St F :=
  ⟨(dats m c 0).before 5 t d5, (dats m c 0).before 8 t d8, f, g⟩

/-- From it the body leaves the block of queries' gradient and the accumulators of the next point. -/
theorem found_run (t : Fin cfg0.N) (d5 : Vec F S2048x256 .bf16) (d8 : Vec F S1x960x256 .f32) (f g : Vec F S8192x256 .f32)
    (h : t.val % 4 ≠ 0 → f = (acc m c t.val).dk ∧ g = (acc m c t.val).dv) :
    runSt (grid0.coords t) (insOf m c t) (found m c t d5 d8 f g)
      = ⟨dqOut (grid0.coords t) (insOf m c t), (acc m c (t.val + 1)).db, (acc m c (t.val + 1)).dk, (acc m c (t.val + 1)).dv⟩ := by
  rw [acc_succ]
  have hc := runSt_congr (grid0.coords t) (insOf m c t) (found m c t d5 d8 f g) (acc m c t.val) (by
    by_cases h0 : t.val % 4 = 0
    · exact .inl ((isFirst_iff t).mpr h0)
    · exact .inr ⟨before_db m c t h0 d8, (h h0).1, (h h0).2⟩)
  have hd := runSt_dq (grid0.coords t) (insOf m c t) (found m c t d5 d8 f g)
  generalize runSt (grid0.coords t) (insOf m c t) (found m c t d5 d8 f g) = z at hc hd ⊢
  cases z
  exact congr (congr (congr (congrArg St.mk hd) hc.1) hc.2.1) hc.2.2

/-- The body obligation: at every point the body runs to the next point's contents. -/
theorem sound : BodyObligationLoose (dats m c 0) (defs₀ (F := F)) Variants.none () Set.univ := by
  intro t
  rw [bigSep_W0, bigSep_W0, defs₀_row]
  unfold bodyAt0
  rw [body_eq]
  rewrite [show (dats m c 0).Φ t.castSucc = scratchAt m c t.val from rfl, show (dats m c 0).Φ t.succ = scratchAt m c (t.val + 1) from rfl]
  unfold scratchAt
  by_cases hL : t.val % 4 = 3
  · rewrite [(idle_last t hL).1]
    iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    rw [before0_0_of m (dats m c 0) rfl (fun _ => rfl), before0_1_of m (dats m c 0) rfl (fun _ => rfl), before0_2_of m (dats m c 0) rfl (fun _ => rfl),
      before0_3_of m (dats m c 0) rfl (fun _ => rfl), before0_4_of m (dats m c 0) rfl (fun _ => rfl)]
    icases HΦ with ⟨⟨%f, %g, %hfg, Hs0, Hs1⟩, Hp⟩
    have est := found_run m c t d5 d8 f g hfg
    iapply (body_run (grid0.coords t) c _ _ _ _ _ _ _ _ _ _ _ _ _ _ (insOf m c t) (found m c t d5 d8 f g) ((dats m c 0).before 6 t d6) ((dats m c 0).before 7 t d7))
    isplitl [H0 H1 H2 H3 H4]
    · unfold insAt
      isplitl [H0]; · iexact H0
      isplitl [H1]; · iexact H1
      isplitl [H2]; · iexact H2
      isplitl [H3]; · iexact H3
      iexact H4
    isplitl [H5 H8 Hs0 Hs1]
    · unfold stAt
      isplitl [H5]; · iexact H5
      isplitl [H8]; · iexact H8
      isplitl [Hs0]; · iexact Hs0
      iexact Hs1
    isplitl [H6]; · iexact H6
    isplitl [H7]; · iexact H7
    rw [if_pos ((isLast_iff t).mpr hL), if_pos ((isLast_iff t).mpr hL)]
    rw [est]
    unfold insAt stAt
    iintro ⟨⟨H0, H1, H2, H3, H4⟩, ⟨H5, H8, Hs0, Hs1⟩, H6, H7⟩
    isplitl [Hs0 Hs1 Hp]
    · isplitl [Hs0 Hs1]
      · iexists _, _
        isplitr
        swap
        · isplitl [Hs0]; · iexact Hs0
          iexact Hs1
        ipureintro
        exact fun _ => ⟨rfl, rfl⟩
      iexact Hp
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rewrite [(idle_else t hL).1, (flush_else t hL).1, (flush_else t hL).2]
    iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    rw [before0_0_of m (dats m c 0) rfl (fun _ => rfl), before0_1_of m (dats m c 0) rfl (fun _ => rfl), before0_2_of m (dats m c 0) rfl (fun _ => rfl),
      before0_3_of m (dats m c 0) rfl (fun _ => rfl), before0_4_of m (dats m c 0) rfl (fun _ => rfl)]
    icases HΦ with ⟨⟨%f, %g, %hfg, Hs0, Hs1⟩, Hp⟩
    have est := found_run m c t d5 d8 f g hfg
    iapply (body_run (grid0.coords t) c _ _ _ _ _ _ _ _ _ _ _ _ _ _ (insOf m c t) (found m c t d5 d8 f g) ((dats m c 0).before 6 t d6) ((dats m c 0).before 7 t d7))
    isplitl [H0 H1 H2 H3 H4]
    · unfold insAt
      isplitl [H0]; · iexact H0
      isplitl [H1]; · iexact H1
      isplitl [H2]; · iexact H2
      isplitl [H3]; · iexact H3
      iexact H4
    isplitl [H5 H8 Hs0 Hs1]
    · unfold stAt
      isplitl [H5]; · iexact H5
      isplitl [H8]; · iexact H8
      isplitl [Hs0]; · iexact Hs0
      iexact Hs1
    isplitl [H6]; · iexact H6
    isplitl [H7]; · iexact H7
    rw [if_neg (fun h => hL ((isLast_iff t).mp h)), if_neg (fun h => hL ((isLast_iff t).mp h))]
    rw [est]
    unfold insAt stAt
    iintro ⟨⟨H0, H1, H2, H3, H4⟩, ⟨H5, H8, Hs0, Hs1⟩, H6, H7⟩
    isplitl [Hs0 Hs1 Hp]
    · isplitl [Hs0 Hs1]
      · iexists _, _
        isplitr
        swap
        · isplitl [Hs0]; · iexact Hs0
          iexact Hs1
        ipureintro
        exact fun _ => ⟨rfl, rfl⟩
      iexact Hp
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexists d6; iexact H6
    isplitl [H7]; · iexists d7; iexact H7
    iexact H8

end Cert.Proof.Attn

end
-- ==== Proof.RunMain.lean ====
/-
  The whole program's run: from any memory it ends with every window's array at the contents of `dats`, everything
  outside the windows unchanged, and every counter at zero.
-/
module

public import proofs.«01_k».proof.Proof.Run

@[expose] public section

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data, the device last. -/
abbrev datsP (p : Fin 1) (c : Dev nD) : Dat τ (Elt F) Unit ℕ (UR sig nD τ) ℕ (cfgs p) c := dats m c p

/-- The two scratch buffers at anything are what the region is handed. -/
theorem scratch_in (c : Dev nD) : (Pipeline.ΦA spec0 c : sProp 𝕄) ⊢ scratchAt m c 0 := by
  unfold Pipeline.ΦA
  rw [scopedRest0_eq]
  unfold scratchAt
  iintro ⟨⟨⟨%f, Hf⟩, ⟨%g, Hg⟩⟩, Hp⟩
  isplitl [Hf Hg]
  · iexists f, g
    isplitr
    · ipureintro
      exact fun h => absurd rfl h
    rw [owns_whole, owns_whole]
    isplitl [Hf]; · iexact Hf
    iexact Hg
  iexact Hp

/-- A buffer held at contents is the buffer held at some. -/
theorem held_some (c : Dev nD) (b : Ref sig .tc) (f : b.ty.Contents (Elt F)) :
    (owns (c : Thread nD τ) (Memref.whole b) fullShare f : sProp 𝕄) ⊢ iprop(∃ f : Buf (Elt F) ((c : Thread nD τ).loc b), ((c : Thread nD τ).loc b) ↦{fullShare} f) := by
  rw [owns_whole]
  iintro H
  iexists f
  iexact H

/-- And what it gives back. -/
theorem scratch_out (c : Dev nD) : scratchAt (F := F) m c 8 ⊢ (Pipeline.ΦA spec0 c : sProp 𝕄) := by
  unfold Pipeline.ΦA
  rw [scopedRest0_eq]
  unfold scratchAt
  iintro ⟨⟨%f, %g, %_, Hf, Hg⟩, Hp⟩
  isplitl [Hf Hg]
  · isplitl [Hf]
    · iapply (held_some c cc0_scratch0 f); iexact Hf
    iapply (held_some c cc0_scratch1 g); iexact Hg
  iexact Hp

/-- THE RUN. -/
theorem run_main : θ_run defs (onTc (τ := τ) (main (F := F))) (s₀ m ρ)
    (fun r => Pipeline.FramePost cfgs (datsP m) 0 (V m) r ∧ r.2.sem = (fun _ => 0)) :=
  Pipeline.θ_run_frame_track_shared cfgs (datsP m) 0 launch₀0 defs₀ Variants.none m ρ main (fun c => sound m c) (fun _ _ _ => rfl) (fun _ _ => rfl)
    (V m) (hmain m Variants.none) (fun _ _ => rfl) (scratch_in m) (scratch_out m) _ (fun _ h => h)

/-- The argument arrays end unchanged and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c =>
    ⟨((h.1 c).1 2).trans ((dats m c 0).arrAt_in 2 rfl _), ((h.1 c).1 3).trans ((dats m c 0).arrAt_in 3 rfl _), ((h.1 c).1 4).trans ((dats m c 0).arrAt_in 4 rfl _)⟩, h.2⟩) (run_main m ρ)

end Cert.Proof.Attn

end
-- ==== Proof.Model.lean ====
/-
  The gradient of the neighbourhood attention as sums over extended reals.

  `x` is the array of queries, keys and values side by side, `b` the bias's table and `g` the output's gradient, each read at
  natural numbers. Query row `r` of the grid looks at the eight rows from `rs r` on. `ds` is the gradient of the scores as the
  kernel takes it, `dsR` as differentiating the softmax line by line gives it; `dsR_eq` says the two agree on finite scores.
-/
module

public import Idealize.ShloMosaic.PureOps
public import Idealize.ShloMosaic.PureOps.Ideal.Laws

@[expose] public section

noncomputable section

namespace Cert.Proof.Attn

open Idealize.ShloMosaic
open scoped BigOperators

/-! ## Finite values -/

/-- A finite value. -/
def Fin' (a : EReal) : Prop := ∃ r : ℝ, a = (r : EReal)

theorem Fin'.add {a b : EReal} : Fin' a → Fin' b → Fin' (a + b)
  | ⟨r, hr⟩, ⟨s, hs⟩ => ⟨r + s, by rw [hr, hs, EReal.coe_add]⟩
theorem Fin'.mul {a b : EReal} : Fin' a → Fin' b → Fin' (a * b)
  | ⟨r, hr⟩, ⟨s, hs⟩ => ⟨r * s, by rw [hr, hs, EReal.coe_mul]⟩
theorem Fin'.sum {ι : Type} (s : Finset ι) (f : ι → EReal) (h : ∀ i, Fin' (f i)) : Fin' (∑ i ∈ s, f i) := by
  classical
  induction s using Finset.induction_on with
  | empty => exact ⟨0, by simp⟩
  | insert a s ha ih => rw [Finset.sum_insert ha]; exact (h a).add ih
theorem fin'_of_lt {a : EReal} (h1 : ⊥ < a) (h2 : a < ⊤) : Fin' a :=
  ⟨a.toReal, (EReal.coe_toReal h2.ne h1.ne').symm⟩

/-- A finite factor at least zero goes into a sum of two. -/
theorem mul_add' {c : EReal} (h0 : 0 ≤ c) (hc : Fin' c) (a b : EReal) : c * (a + b) = c * a + c * b := by
  obtain ⟨r, rfl⟩ := hc
  exact EReal.left_distrib_of_nonneg_of_ne_top h0 (EReal.coe_ne_top r) a b

/-- And into any sum. -/
theorem mul_sum' {ι : Type} {c : EReal} (h0 : 0 ≤ c) (hc : Fin' c) (s : Finset ι) (f : ι → EReal) : c * ∑ i ∈ s, f i = ∑ i ∈ s, c * f i := by
  classical
  induction s using Finset.induction_on with
  | empty => simp
  | insert a s ha ih => rw [Finset.sum_insert ha, Finset.sum_insert ha, mul_add' h0 hc, ih]
theorem sum_mul' {ι : Type} {c : EReal} (h0 : 0 ≤ c) (hc : Fin' c) (s : Finset ι) (f : ι → EReal) : (∑ i ∈ s, f i) * c = ∑ i ∈ s, f i * c := by
  rw [mul_comm, mul_sum' h0 hc]
  exact Finset.sum_congr rfl fun i _ => mul_comm _ _

/-! ## The softmax's gradient, two ways -/

section Softmax
variable {K : ℕ}

/-- On finite positive exponentials `e`: differentiating the quotient and the sum separately, against the probabilities times
    the gradient less its mean. -/
theorem softmax_grad (hK : 0 < K) (e D : Fin K → EReal) (he : ∀ k, ∃ r : ℝ, 0 < r ∧ e k = (r : EReal)) (k : Fin K) :
    (Ideal.div (D k) (∑ j, e j) + -(∑ j, (D j * Ideal.div 1 ((∑ j, e j) * (∑ j, e j))) * e j)) * e k
      = Ideal.div (e k) (∑ j, e j) * (D k - ∑ j, Ideal.div (e j) (∑ j, e j) * D j) := by
  choose r hr he using he
  obtain ⟨S, hS, hSe⟩ : ∃ S : ℝ, 0 < S ∧ (∑ j, e j) = (S : EReal) := by
    refine ⟨∑ j, r j, Finset.sum_pos (fun j _ => hr j) ⟨⟨0, hK⟩, Finset.mem_univ _⟩, ?_⟩
    have : ∀ s : Finset (Fin K), ∑ j ∈ s, e j = ((∑ j ∈ s, r j : ℝ) : EReal) := by
      intro s
      classical
      induction s using Finset.induction_on with
      | empty => simp
      | insert a s ha ih => rw [Finset.sum_insert ha, Finset.sum_insert ha, ih, he, EReal.coe_add]
    exact this _
  rw [hSe]
  have hd : ∀ x : EReal, Ideal.div x (S : EReal) = x * ((1 / S : ℝ) : EReal) := fun x => Ideal.div_coe hS.ne' x
  have hd2 : Ideal.div 1 ((S : EReal) * (S : EReal)) = ((1 / S : ℝ) : EReal) * ((1 / S : ℝ) : EReal) := by
    rw [← EReal.coe_mul, Ideal.div_coe (mul_pos hS hS).ne', one_mul, ← EReal.coe_mul]
    congr 1
    field_simp
  rw [hd2]
  simp only [hd]
  generalize hA : ((1 / S : ℝ) : EReal) = A
  have hA0 : 0 ≤ A := by rw [← hA]; exact_mod_cast (one_div_pos.mpr hS).le
  have hAf : Fin' A := ⟨_, hA.symm⟩
  rw [show e k * A * (D k - ∑ j, e j * A * D j) = e k * (A * (D k + -∑ j, e j * A * D j)) by rw [sub_eq_add_neg, mul_assoc],
    mul_add' hA0 hAf, mul_comm _ (e k), mul_comm A (D k)]
  congr 2
  rw [mul_neg, mul_sum' hA0 hAf]
  congr 1
  refine Finset.sum_congr rfl fun j _ => ?_
  ac_rfl

end Softmax

/-! ## The attention -/

/-- The first of the eight rows that query row `r` looks at. -/
def rs (r : ℕ) : ℕ := min 120 (r - 4)
theorem rs_le (r : ℕ) : rs r ≤ 120 := Nat.min_le_left _ _
/-- The first row of the bias's table for it. -/
def bs (r : ℕ) : ℕ := rs r + 7 - r
theorem bs_le (r : ℕ) (h : r < 128) : bs r ≤ 7 := by unfold bs rs; omega

/-- The scores' scale. -/
def scale : EReal := Ideal.ofBits .f32 0x3E000000#32
theorem scale_eq : scale = (((1 : ℝ) / 8 : ℝ) : EReal) := by
  unfold scale
  simp [Ideal.ofBits, Ideal.ieee]
  norm_num [← EReal.coe_mul]
theorem scale_fin : Fin' scale := ⟨_, scale_eq⟩
theorem scale_nonneg : 0 ≤ scale := by
  rw [scale_eq]
  exact_mod_cast (by norm_num : (0 : ℝ) ≤ 1 / 8)

variable (x : ℕ → ℕ → EReal) (b : ℕ → ℕ → ℕ → EReal) (g : ℕ → ℕ → EReal)

/-- The score of key `k` of the window for query `q` of row `r`, head `h`. -/
def sc (r h q k : ℕ) : EReal :=
  (∑ d : Fin 64, x (r * 64 + q) (h * 64 + d.val) * x (rs r * 64 + k) (512 + h * 64 + d.val)) * scale
    + b (h / 4) (bs r * 64 + k) (h % 4 * 64 + q)
/-- The largest score. -/
def mx (r h q : ℕ) : EReal := (Finset.univ : Finset (Fin 512)).fold max ⊥ fun k => sc x b r h q k.val
/-- The exponentials, their sum, the probabilities. -/
def ex (r h q k : ℕ) : EReal := Ideal.exp (sc x b r h q k - mx x b r h q)
def sm (r h q : ℕ) : EReal := ∑ k : Fin 512, ex x b r h q k.val
def pr (r h q k : ℕ) : EReal := Ideal.div (ex x b r h q k) (sm x b r h q)
/-- The gradient of the probabilities. -/
def dp (r h q k : ℕ) : EReal := ∑ d : Fin 64, g (r * 64 + q) (512 + h * 64 + d.val) * x (rs r * 64 + k) (1024 + h * 64 + d.val)
/-- The gradient of the scores, as the kernel takes it. -/
def ds (r h q k : ℕ) : EReal := pr x b r h q k * (dp x g r h q k - ∑ j : Fin 512, pr x b r h q j.val * dp x g r h q j.val)
/-- The gradient of the scores, as the plain softmax's derivative takes it. -/
def dsR (r h q k : ℕ) : EReal :=
  (Ideal.div (dp x g r h q k) (sm x b r h q)
    + -(∑ j : Fin 512, (dp x g r h q j.val * Ideal.div 1 (sm x b r h q * sm x b r h q)) * ex x b r h q j.val)) * ex x b r h q k

/-- The four gradients. -/
def DQ (p l : ℕ) : EReal := (∑ k : Fin 512, ds x b g (p / 64) (l / 64) (p % 64) k.val * x (rs (p / 64) * 64 + k.val) (512 + l)) * scale
def dkRow (r p l : ℕ) : EReal := if rs r ≤ p / 64 ∧ p / 64 < rs r + 8 then
  (∑ q : Fin 64, ds x b g r (l / 64) q.val (p - rs r * 64) * x (r * 64 + q.val) l) * scale else 0
def DK (p l : ℕ) : EReal := ∑ r ∈ Finset.range 128, dkRow x b g r p l
def dvRow (r p l : ℕ) : EReal := if rs r ≤ p / 64 ∧ p / 64 < rs r + 8 then
  ∑ q : Fin 64, pr x b r (l / 64) q.val (p - rs r * 64) * g (r * 64 + q.val) (512 + l) else 0
def DV (p l : ℕ) : EReal := ∑ r ∈ Finset.range 128, dvRow x b g r p l
def dbRow (r u a c : ℕ) : EReal := if bs r ≤ a / 64 ∧ a / 64 < bs r + 8 then ds x b g r (u * 4 + c / 64) (c % 64) (a - bs r * 64) else 0
def DB (u a c : ℕ) : EReal := ∑ r ∈ Finset.range 128, dbRow x b g r u a c

/-! ## On finite queries, keys, values and bias -/

section Finite
variable (hx : ∀ p l, Fin' (x p l)) (hb : ∀ u a c, Fin' (b u a c))
include hx hb

theorem sc_fin (r h q k : ℕ) : Fin' (sc x b r h q k) :=
  ((Fin'.sum _ _ fun d => (hx _ _).mul (hx _ _)).mul scale_fin).add (hb _ _ _)

theorem mx_fin (r h q : ℕ) : Fin' (mx x b r h q) := by
  refine fin'_of_lt ?_ ?_
  · unfold mx
    rw [Finset.lt_fold_max]
    obtain ⟨t, ht⟩ := sc_fin x b hx hb r h q 0
    exact .inr ⟨0, Finset.mem_univ _, by show ⊥ < sc x b r h q 0; rw [ht]; exact EReal.bot_lt_coe t⟩
  · unfold mx
    rw [Finset.fold_max_lt]
    refine ⟨bot_lt_top, fun k _ => ?_⟩
    obtain ⟨t, ht⟩ := sc_fin x b hx hb r h q k.val
    rw [ht]; exact EReal.coe_lt_top t

theorem ex_pos (r h q k : ℕ) : ∃ t : ℝ, 0 < t ∧ ex x b r h q k = (t : EReal) := by
  obtain ⟨s, hs⟩ := sc_fin x b hx hb r h q k
  obtain ⟨t, ht⟩ := mx_fin x b hx hb r h q
  refine ⟨Real.exp (s - t), Real.exp_pos _, ?_⟩
  unfold ex
  rw [hs, ht, ← EReal.coe_sub]
  rfl

theorem dsR_eq (r h q k : ℕ) (hk : k < 512) : dsR x b g r h q k = ds x b g r h q k :=
  softmax_grad (K := 512) (by decide) (fun j => ex x b r h q j.val) (fun j => dp x g r h q j.val) (fun j => ex_pos x b hx hb r h q j.val) ⟨k, hk⟩

end Finite

end Cert.Proof.Attn

end
-- ==== Proof.RowRead.lean ====
/-
  One query row's operations read at an index, over the extended reals.

  Stacking puts a row's four heads under each other, each zero outside its own lanes; so a product that contracts the lanes or
  the stacked queries is a sum over one head's 64.
-/
module

public import proofs.«01_k».proof.Proof.Model
public import proofs.«01_k».proof.Proof.Step
public import Idealize.ShloMosaic.Lib.ValueIdx
public import Idealize.ShloMosaic.Lib.IdealHost
public import Idealize.ShloMosaic.Lib.Pipeline.Value

@[expose] public section

noncomputable section

namespace Cert.Proof.Attn

open Cert.KernelIdeal
open Idealize.ShloMosaic
open Idealize.ShloMosaic.ValueIdx
open scoped BigOperators

/-- Head `h`'s place `d` among 256. -/
def hd (h : Fin 4) (d : Fin 64) : Fin 256 := ⟨h.val * 64 + d.val, by have := h.isLt; have := d.isLt; omega⟩
/-- The head and the place of one of 256. -/
def hOf (l : Fin 256) : Fin 4 := ⟨l.val / 64, by have := l.isLt; omega⟩
def dOf (l : Fin 256) : Fin 64 := ⟨l.val % 64, by omega⟩
theorem hd_hOf (l : Fin 256) : hd (hOf l) (dOf l) = l := Fin.ext (by show l.val / 64 * 64 + l.val % 64 = l.val; omega)
theorem hOf_hd (h : Fin 4) (d : Fin 64) : hOf (hd h d) = h := Fin.ext (by show (h.val * 64 + d.val) / 64 = h.val; have := d.isLt; omega)
theorem dOf_hd (h : Fin 4) (d : Fin 64) : dOf (hd h d) = d := Fin.ext (by show (h.val * 64 + d.val) % 64 = d.val; have := d.isLt; omega)

/-- A sum over 256 of what is zero off head `h` is the sum over the head. -/
theorem sum_head (h : Fin 4) (f g : Fin 256 → EReal) : ∑ l, f l * (if hOf l = h then g l else 0) = ∑ d : Fin 64, f (hd h d) * g (hd h d) := by
  rw [← Finset.sum_filter_add_sum_filter_not Finset.univ (fun l => hOf l = h)]
  rw [Finset.sum_eq_zero (s := Finset.univ.filter fun l => ¬ hOf l = h) (fun l hl => by rw [if_neg (Finset.mem_filter.mp hl).2, mul_zero]), add_zero]
  refine Finset.sum_bij' (fun l _ => dOf l) (fun d _ => hd h d) ?_ ?_ ?_ ?_ ?_
  · intros; exact Finset.mem_univ _
  · intro d _; exact Finset.mem_filter.mpr ⟨Finset.mem_univ _, hOf_hd h d⟩
  · intro l hl
    have := (Finset.mem_filter.mp hl).2
    show hd h (dOf l) = l
    rw [← this]; exact hd_hOf l
  · intro d _; exact dOf_hd h d
  · intro l hl
    have := (Finset.mem_filter.mp hl).2
    rw [if_pos this]
    show _ = f (hd h (dOf l)) * g (hd h (dOf l))
    rw [← this, hd_hOf]

variable [Facts]
open Facts₀ Facts

theorem mask_word : ∀ (h : Fin 4) (l : Fin 256),
    IntOp.andi (IntOp.cmpi .sge (BitVec.ofNat 32 l.val) (BitVec.ofNat 32 (h.val * 64))) (IntOp.cmpi .slt (BitVec.ofNat 32 l.val) (BitVec.ofNat 32 (h.val * 64 + 64)))
      = if hOf l = h then 1#1 else 0#1 := by
  decide

/-- A head's mask at a lane. -/
theorem headMask_apply (h : Fin 4) (q : Fin 64) (l : Fin 256) :
    headMask (BitVec.ofNat 32 (h.val * 64)) (BitVec.ofNat 32 (h.val * 64 + 64)) (ix2 q l) = if hOf l = h then 1#1 else 0#1 := by
  have e : lanes (ix2 q l) = BitVec.ofNat 32 l.val := iota_single_apply _ _ _ _ _ _
  show IntOp.andi (IntOp.cmpi .sge (lanes (ix2 q l)) _) (IntOp.cmpi .slt (lanes (ix2 q l)) _) = _
  rw [e]
  exact mask_word h l

theorem masked_apply {α : Type} (h : Fin 4) (x y : S64x256.Idx → α) (q : Fin 64) (l : Fin 256) :
    select (headMask (BitVec.ofNat 32 (h.val * 64)) (BitVec.ofNat 32 (h.val * 64 + 64))) x y (ix2 q l) = if hOf l = h then x (ix2 q l) else y (ix2 q l) := by
  show Scalar.select (headMask _ _ (ix2 q l)) (x (ix2 q l)) (y (ix2 q l)) = _
  rw [headMask_apply]
  by_cases e : hOf l = h
  · rw [if_pos e, if_pos e]; rfl
  · rw [if_neg e, if_neg e]; rfl

/-- The stacked row at stacked query `c` and lane `l`. -/
theorem stack_apply (y : FVec Ideal S64x256 .bf16) (c l : Fin 256) :
    stack y (ix2 c l) = if hOf l = hOf c then y (ix2 (dOf c) l) else (0 : EReal) := by
  have key : ∀ (h : Fin 4), hOf c = h → stack y (ix2 c l) = select (headMask (BitVec.ofNat 32 (h.val * 64)) (BitVec.ofNat 32 (h.val * 64 + 64))) y
      (broadcast S64x256 (Scalar.ofBits .bf16 0x0000#16)) (ix2 (dOf c) l) := by
    intro h e
    have hc : h.val * 64 + (dOf c).val = c.val := by
      rw [← e]; exact congrArg Fin.val (hd_hOf c)
    unfold stack
    match h with
    | 0 => exact concatenate_apply_piece (t := S256x256) 0 _ _ _ 0 (by show 0 < 4; decide) S64x256 _ (by rfl) rfl 0 (by rfl) _ (fun b hb => match b with | 0 => absurd rfl hb | 1 => rfl) hc
    | 1 => exact concatenate_apply_piece (t := S256x256) 0 _ _ _ 1 (by show 1 < 4; decide) S64x256 _ (by rfl) rfl 64 (by rfl) _ (fun b hb => match b with | 0 => absurd rfl hb | 1 => rfl) hc
    | 2 => exact concatenate_apply_piece (t := S256x256) 0 _ _ _ 2 (by show 2 < 4; decide) S64x256 _ (by rfl) rfl 128 (by rfl) _ (fun b hb => match b with | 0 => absurd rfl hb | 1 => rfl) hc
    | 3 => exact concatenate_apply_piece (t := S256x256) 0 _ _ _ 3 (by show 3 < 4; decide) S64x256 _ (by rfl) rfl 192 (by rfl) _ (fun b hb => match b with | 0 => absurd rfl hb | 1 => rfl) hc
  rw [key _ rfl, masked_apply]
  congr 1
  exact Ideal.ofBits_zero_bf16

/-- The unstacked row: at lane `l` the copy of the lane's head. -/
theorem unstack_apply (y : FVec Ideal S256x256 .f32) (q : Fin 64) (l : Fin 256) :
    unstack y (ix2 q l) = y (ix2 (hd (hOf l) q) l) := by
  have piece : ∀ (h : Fin 4) (o : ℕ) (hs : S256x256.Slices ![o, 0] S64x256), o = h.val * 64 → extractStridedSlice S64x256 ![o, 0] y hs (ix2 q l) = y (ix2 (hd h q) l) := by
    intro h o hs e
    refine extractStridedSlice_apply _ _ _ _ _ fun a => ?_
    match a with
    | 0 => show h.val * 64 + q.val = o + q.val; omega
    | 1 => show l.val = 0 + l.val; omega
  have m0 := fun (a b : S64x256.Idx → EReal) => masked_apply 1 a b q l
  have m1 := fun (a b : S64x256.Idx → EReal) => masked_apply 2 a b q l
  have m2 := fun (a b : S64x256.Idx → EReal) => masked_apply 3 a b q l
  unfold unstack
  refine (m2 _ _).trans ?_
  rw [piece 3 192 _ rfl]
  by_cases h3 : hOf l = 3
  · rw [if_pos h3, h3]
  rw [if_neg h3]
  refine (m1 _ _).trans ?_
  rw [piece 2 128 _ rfl]
  by_cases h2 : hOf l = 2
  · rw [if_pos h2, h2]
  rw [if_neg h2]
  refine (m0 _ _).trans ?_
  rw [piece 1 64 _ rfl, piece 0 0 _ rfl]
  by_cases h1 : hOf l = 1
  · rw [if_pos h1, h1]
  rw [if_neg h1]
  have h0 : hOf l = 0 := by
    generalize hOf l = h at h1 h2 h3 ⊢
    clear m0 m1 m2 piece
    revert h; decide
  rw [h0]

/-! ## The products -/

abbrev D11 : DotDims S512x256 S256x256 S512x256 := dot_S512x256_S256x256_S512x256_1_1_0_0_n_n
abbrev D00 : DotDims S512x256 S512x256 S256x256 := dot_S512x256_S512x256_S256x256_0_0_1_1_n_n
abbrev D10 : DotDims S512x256 S256x256 S512x256 := dot_S512x256_S256x256_S512x256_1_0_0_1_n_n

theorem D11_apply (a : FVec Ideal S512x256 .bf16) (y : FVec Ideal S256x256 .bf16) (k : Fin 512) (c : Fin 256) :
    matmul D11 none a y (constant S512x256 .f32 0x00000000#32) (ix2 k c) = ∑ l : Fin 256, a (ix2 k l) * y (ix2 c l) := by
  refine (Ideal.matmul_constant_zero_apply _ none a y _).trans ?_
  refine (Fintype.sum_equiv (contrEquiv1 D11 256 rfl rfl) _ (fun l => a (D11.lhsIdx (ix2 k c) ((contrEquiv1 D11 256 rfl rfl).symm l)) * y (D11.rhsIdx (ix2 k c) ((contrEquiv1 D11 256 rfl rfl).symm l)))
    (fun q => by rw [Equiv.symm_apply_apply])).trans ?_
  refine Finset.sum_congr rfl fun l _ => ?_
  congr 2
  · funext d
    refine Fin.ext ?_
    match d with
    | 0 => rfl
    | 1 => exact (D11.lhsIdx_val_of_single rfl _ _).trans (contrEquiv1_symm_val D11 256 rfl rfl l)
  · funext d
    refine Fin.ext ?_
    match d with
    | 0 => rfl
    | 1 => exact (D11.rhsIdx_val_of_single rfl _ _).trans (contrEquiv1_symm_val D11 256 rfl rfl l)

theorem D00_apply (a y : FVec Ideal S512x256 .bf16) (c l : Fin 256) :
    matmul D00 none a y (constant S256x256 .f32 0x00000000#32) (ix2 c l) = ∑ k : Fin 512, a (ix2 k c) * y (ix2 k l) := by
  refine (Ideal.matmul_constant_zero_apply _ none a y _).trans ?_
  refine (Fintype.sum_equiv (contrEquiv1 D00 512 rfl rfl) _ (fun k => a (D00.lhsIdx (ix2 c l) ((contrEquiv1 D00 512 rfl rfl).symm k)) * y (D00.rhsIdx (ix2 c l) ((contrEquiv1 D00 512 rfl rfl).symm k)))
    (fun q => by rw [Equiv.symm_apply_apply])).trans ?_
  refine Finset.sum_congr rfl fun k _ => ?_
  congr 2
  · funext d
    refine Fin.ext ?_
    match d with
    | 0 => exact (D00.lhsIdx_val_of_single rfl _ _).trans (contrEquiv1_symm_val D00 512 rfl rfl k)
    | 1 => rfl
  · funext d
    refine Fin.ext ?_
    match d with
    | 0 => exact (D00.rhsIdx_val_of_single rfl _ _).trans (contrEquiv1_symm_val D00 512 rfl rfl k)
    | 1 => rfl

theorem D10_apply (a : FVec Ideal S512x256 .bf16) (y : FVec Ideal S256x256 .bf16) (k : Fin 512) (l : Fin 256) :
    matmul D10 none a y (constant S512x256 .f32 0x00000000#32) (ix2 k l) = ∑ c : Fin 256, a (ix2 k c) * y (ix2 c l) := by
  refine (Ideal.matmul_constant_zero_apply _ none a y _).trans ?_
  refine (Fintype.sum_equiv (contrEquiv1 D10 256 rfl rfl) _ (fun c => a (D10.lhsIdx (ix2 k l) ((contrEquiv1 D10 256 rfl rfl).symm c)) * y (D10.rhsIdx (ix2 k l) ((contrEquiv1 D10 256 rfl rfl).symm c)))
    (fun q => by rw [Equiv.symm_apply_apply])).trans ?_
  refine Finset.sum_congr rfl fun c _ => ?_
  congr 2
  · funext d
    refine Fin.ext ?_
    match d with
    | 0 => rfl
    | 1 => exact (D10.lhsIdx_val_of_single rfl _ _).trans (contrEquiv1_symm_val D10 256 rfl rfl c)
  · funext d
    refine Fin.ext ?_
    match d with
    | 0 => exact (D10.rhsIdx_val_of_single rfl _ _).trans (contrEquiv1_symm_val D10 256 rfl rfl c)
    | 1 => rfl

/-- Contracting the lanes of a stacked row: the head's lanes. -/
theorem dot_stack (a : FVec Ideal S512x256 .bf16) (y : FVec Ideal S64x256 .bf16) (k : Fin 512) (c : Fin 256) :
    matmul D11 none a (stack y) (constant S512x256 .f32 0x00000000#32) (ix2 k c)
      = ∑ d : Fin 64, a (ix2 k (hd (hOf c) d)) * y (ix2 (dOf c) (hd (hOf c) d)) := by
  rw [D11_apply]
  simp only [stack_apply]
  exact sum_head (hOf c) (fun l => a (ix2 k l)) (fun l => y (ix2 (dOf c) l))

/-- Contracting the stacked queries: the queries of the lane's head. -/
theorem dot_stack_tn (a : FVec Ideal S512x256 .bf16) (y : FVec Ideal S64x256 .bf16) (k : Fin 512) (l : Fin 256) :
    matmul D10 none a (stack y) (constant S512x256 .f32 0x00000000#32) (ix2 k l)
      = ∑ q : Fin 64, a (ix2 k (hd (hOf l) q)) * y (ix2 q l) := by
  rw [D10_apply]
  simp only [stack_apply]
  refine (Finset.sum_congr rfl fun c _ => ?_).trans ((sum_head (hOf l) (fun c => a (ix2 k c)) (fun c => y (ix2 (dOf c) l))).trans ?_)
  · by_cases e : hOf l = hOf c
    · rw [if_pos e, if_pos e.symm]
    · rw [if_neg e, if_neg (Ne.symm e)]
  · exact Finset.sum_congr rfl fun q _ => by rw [dOf_hd]

/-! ## The softmax and its gradient -/

/-- A window-high array's column sum, anywhere in the column. -/
theorem colSum_apply (y : FVec Ideal S512x256 .f32) (k : Fin 512) (c : Fin 256) : colSum y (ix2 k c) = ∑ j : Fin 512, y (ix2 j c) := by
  unfold colSum
  rw [broadcastTo_apply _ _ _ (ix2 (0 : Fin 1) c) (fun a => match a with | 0 => rfl | 1 => rfl),
    shapeCast_apply _ _ _ (ix1 c) (by rw [Shape.rowMajor_val_two]; show _ = 0 * 256 + c.val; rw [Shape.rowMajor_val_one]; simp)]
  refine (Ideal.multiReduction_add_single y _ _ _ _ _).trans ?_
  refine Finset.sum_congr rfl fun j _ => congrArg y (funext fun d => ?_)
  match d with
  | 0 => rfl
  | 1 => rfl

/-- And its maximum. -/
theorem colMax_apply (y : FVec Ideal S512x256 .f32) (k : Fin 512) (c : Fin 256) :
    colMax y (ix2 k c) = (Finset.univ : Finset (Fin 512)).fold max ⊥ fun j => y (ix2 j c) := by
  unfold colMax
  rw [broadcastTo_apply _ _ _ (ix2 (0 : Fin 1) c) (fun a => match a with | 0 => rfl | 1 => rfl),
    shapeCast_apply _ _ _ (ix1 c) (by rw [Shape.rowMajor_val_two]; show _ = 0 * 256 + c.val; rw [Shape.rowMajor_val_one]; simp)]
  refine (Ideal.multiReduction_maximumf_single y _ _ _ _ _).trans ?_
  rw [show (FloatOps.ofBits (F := Ideal) .f32 0xFF800000#32) = (⊥ : EReal) by simp [Ideal.ofBits, Ideal.ieee]]
  congr 1
  funext j
  refine congrArg y (funext fun d => ?_)
  match d with
  | 0 => rfl
  | 1 => rfl

/-! ## The row's functions -/

theorem scores_apply (kb : FVec Ideal S512x256 .bf16) (q : FVec Ideal S64x256 .bf16) (b : FVec Ideal S1x512x256 .f32) (k : Fin 512) (c : Fin 256) :
    scores kb (stack q) b (ix2 k c)
      = (∑ d : Fin 64, q (ix2 (dOf c) (hd (hOf c) d)) * kb (ix2 k (hd (hOf c) d))) * scale + b (ix3 0 k c) := by
  show matmul D11 none kb (stack q) (constant S512x256 .f32 0x00000000#32) (ix2 k c) * scale + shapeCast S512x256 b _ (ix2 k c) = _
  rw [dot_stack, shapeCast_apply _ _ _ (ix3 0 k c) (by
    rw [Shape.rowMajor_val_two, Shape.rowMajor_val_three]; show (0 * 512 + k.val) * 256 + c.val = k.val * 256 + c.val; omega)]
  congr 2
  exact Finset.sum_congr rfl fun d _ => mul_comm _ _

theorem gradP_apply (vb : FVec Ideal S512x256 .bf16) (g : FVec Ideal S64x256 .f32) (k : Fin 512) (c : Fin 256) :
    gradP vb (stackDo g) (ix2 k c) = ∑ d : Fin 64, g (ix2 (dOf c) (hd (hOf c) d)) * vb (ix2 k (hd (hOf c) d)) := by
  show matmul D11 none vb (stack (truncf .bf16 g bitsLt_bf16_f32)) (constant S512x256 .f32 0x00000000#32) (ix2 k c) = _
  rw [dot_stack]
  exact Finset.sum_congr rfl fun d _ => mul_comm _ _

theorem expo_apply (s : FVec Ideal S512x256 .f32) (k : Fin 512) (c : Fin 256) :
    expo s (ix2 k c) = Ideal.exp (s (ix2 k c) - (Finset.univ : Finset (Fin 512)).fold max ⊥ fun j => s (ix2 j c)) := by
  show Ideal.exp (s (ix2 k c) - colMax s (ix2 k c)) = _
  rw [colMax_apply]

theorem prob_apply (s : FVec Ideal S512x256 .f32) (k : Fin 512) (c : Fin 256) :
    prob s (ix2 k c) = Ideal.div (expo s (ix2 k c)) (∑ j : Fin 512, expo s (ix2 j c)) := by
  show Ideal.div (expo s (ix2 k c)) (colSum (expo s) (ix2 k c)) = _
  rw [colSum_apply]

theorem gradS_apply (p d : FVec Ideal S512x256 .f32) (k : Fin 512) (c : Fin 256) :
    gradS p d (ix2 k c) = p (ix2 k c) * (d (ix2 k c) - ∑ j : Fin 512, p (ix2 j c) * d (ix2 j c)) := by
  show p (ix2 k c) * (d (ix2 k c) - colSum (mulf p d) (ix2 k c)) = _
  rw [colSum_apply]
  rfl

theorem updB_apply (old : FVec Ideal S1x512x256 .f32) (s : FVec Ideal S512x256 .f32) (k : Fin 512) (c : Fin 256) :
    updB old s (ix3 0 k c) = old (ix3 0 k c) + s (ix2 k c) := by
  unfold updB
  have e : (S512x256.rowMajor (ix2 k c)).val = (S1x512x256.rowMajor (ix3 0 k c)).val := by
    rw [Shape.rowMajor_val_two, Shape.rowMajor_val_three]; show k.val * 256 + c.val = (0 * 512 + k.val) * 256 + c.val; omega
  rw [shapeCast_apply _ _ _ (ix2 k c) e]
  show shapeCast S512x256 old _ (ix2 k c) + s (ix2 k c) = _
  rw [shapeCast_apply _ _ _ (ix3 0 k c) e.symm]

theorem outQ_apply (kb : FVec Ideal S512x256 .bf16) (s : FVec Ideal S512x256 .f32) (q : Fin 64) (l : Fin 256) :
    outQ kb s (ix2 q l) = (∑ k : Fin 512, s (ix2 k (hd (hOf l) q)) * kb (ix2 k l)) * scale := by
  show unstack _ (ix2 q l) = _
  rw [unstack_apply]
  show matmul D00 none (truncf .bf16 s bitsLt_bf16_f32) kb (constant S256x256 .f32 0x00000000#32) (ix2 (hd (hOf l) q) l) * scale = _
  rw [D00_apply]
  rfl

theorem updK_apply (old : FVec Ideal S512x256 .f32) (q : FVec Ideal S64x256 .bf16) (s : FVec Ideal S512x256 .f32) (k : Fin 512) (l : Fin 256) :
    updK old q s (ix2 k l) = old (ix2 k l) + (∑ c : Fin 64, s (ix2 k (hd (hOf l) c)) * q (ix2 c l)) * scale := by
  unfold updK
  rw [shapeCast_apply _ _ _ (ix2 k l) rfl]
  show old (ix2 k l) + matmul D10 none (truncf .bf16 s bitsLt_bf16_f32) (stack q) (constant S512x256 .f32 0x00000000#32) (ix2 k l) * scale = _
  rw [dot_stack_tn]
  rfl

theorem updV_apply (old : FVec Ideal S512x256 .f32) (p : FVec Ideal S512x256 .f32) (g : FVec Ideal S64x256 .f32) (k : Fin 512) (l : Fin 256) :
    updV old p g (ix2 k l) = old (ix2 k l) + ∑ c : Fin 64, p (ix2 k (hd (hOf l) c)) * g (ix2 c l) := by
  unfold updV
  rw [shapeCast_apply _ _ _ (ix2 k l) rfl]
  show old (ix2 k l) + matmul D10 none (truncf .bf16 p bitsLt_bf16_f32) (stack (truncf .bf16 g bitsLt_bf16_f32)) (constant S512x256 .f32 0x00000000#32) (ix2 k l) = _
  rw [dot_stack_tn]
  rfl

/-! ## Arrays at natural indices -/

/-- An array at natural indices, zero outside. -/
def nat2 {n m' : ℕ} (X : (⟨2, ![n, m']⟩ : Shape).Idx → EReal) (p l : ℕ) : EReal := if h : p < n ∧ l < m' then X (ix2 ⟨p, h.1⟩ ⟨l, h.2⟩) else 0
def nat3 {n m' k : ℕ} (X : (⟨3, ![n, m', k]⟩ : Shape).Idx → EReal) (u p l : ℕ) : EReal :=
  if h : u < n ∧ p < m' ∧ l < k then X (ix3 ⟨u, h.1⟩ ⟨p, h.2.1⟩ ⟨l, h.2.2⟩) else 0
omit [Cert.KernelIdeal.Facts] in
theorem nat2_of {n m' : ℕ} (X : (⟨2, ![n, m']⟩ : Shape).Idx → EReal) (j) : X j = nat2 X (j 0).val (j 1).val := by
  unfold nat2
  rw [dif_pos ⟨(j 0).isLt, (j 1).isLt⟩]
  exact congrArg X (eq_ix2 j)
omit [Cert.KernelIdeal.Facts] in
theorem nat3_of {n m' k : ℕ} (X : (⟨3, ![n, m', k]⟩ : Shape).Idx → EReal) (j) : X j = nat3 X (j 0).val (j 1).val (j 2).val := by
  unfold nat3
  rw [dif_pos ⟨(j 0).isLt, (j 1).isLt, (j 2).isLt⟩]
  exact congrArg X (eq_ix3 j)
omit [Cert.KernelIdeal.Facts] in
theorem nat2_fin {n m' : ℕ} (X : (⟨2, ![n, m']⟩ : Shape).Idx → EReal) (h : ∀ j, Fin' (X j)) (p l : ℕ) : Fin' (nat2 X p l) := by
  unfold nat2
  split
  · exact h _
  · exact ⟨0, rfl⟩
omit [Cert.KernelIdeal.Facts] in
theorem nat3_fin {n m' k : ℕ} (X : (⟨3, ![n, m', k]⟩ : Shape).Idx → EReal) (h : ∀ j, Fin' (X j)) (u p l : ℕ) : Fin' (nat3 X u p l) := by
  unfold nat3
  split
  · exact h _
  · exact ⟨0, rfl⟩

end Cert.Proof.Attn

end
-- ==== Proof.PointRead.lean ====
/-
  A grid point's rows by the sums of `Model`.

  At head group `u` and block `w` the windows hold blocks of the whole arrays (`Reads`); row `r` of the block is row `w·32 + r`
  of the grid, and its updates of the four buffers are the summands of the four gradients.
-/
module

public import proofs.«01_k».proof.Proof.RowRead
public import proofs.«01_k».proof.Proof.State

@[expose] public section

noncomputable section

namespace Cert.Proof.Attn

open Cert.KernelIdeal
open Idealize.ShloMosaic hiding ix1 ix2 ix3 ix4 ix5 eq_ix1 eq_ix2 eq_ix3 eq_ix4 eq_ix5
open Idealize.ShloMosaic.ValueIdx
open scoped BigOperators

variable [Facts]
open Facts₀ Facts

/-- The windows' first rows. -/
theorem off2_val (i : grid0.Coords) (r : Fin 32) : k0_off2 i (BitVec.ofNat 32 r.val) = ![rs ((i 1).val * 32 + r.val) * 64, 0] :=
  (by decide +kernel : ∀ i : grid0.Coords, ∀ r : Fin 32, k0_off2 i (BitVec.ofNat 32 r.val) = ![rs ((i 1).val * 32 + r.val) * 64, 0]) i r
theorem off3_val (i : grid0.Coords) (r : Fin 32) : k0_off3 i (BitVec.ofNat 32 r.val) = ![0, bs ((i 1).val * 32 + r.val) * 64, 0] :=
  (by decide +kernel : ∀ i : grid0.Coords, ∀ r : Fin 32, k0_off3 i (BitVec.ofNat 32 r.val) = ![0, bs ((i 1).val * 32 + r.val) * 64, 0]) i r

variable (X : ℕ → ℕ → EReal) (B : ℕ → ℕ → ℕ → EReal) (G : ℕ → ℕ → EReal)

/-- The windows hold head group `u`'s lanes and block `w`'s rows of the arrays. -/
structure Reads (i : grid0.Coords) (x : Ins Ideal) : Prop where
  q : ∀ (a : Fin 2048) (l : Fin 256), x.q (ix2 a l) = X ((i 1).val * 2048 + a.val) ((i 0).val * 256 + l.val)
  k : ∀ (a : Fin 8192) (l : Fin 256), x.k (ix2 a l) = X a.val (512 + (i 0).val * 256 + l.val)
  v : ∀ (a : Fin 8192) (l : Fin 256), x.v (ix2 a l) = X a.val (1024 + (i 0).val * 256 + l.val)
  b : ∀ (a : Fin 960) (l : Fin 256), x.b (ix3 0 a l) = B (i 0).val a.val l.val
  g : ∀ (a : Fin 2048) (l : Fin 256), x.g (ix2 a l) = G ((i 1).val * 2048 + a.val) (512 + (i 0).val * 256 + l.val)

variable {X B G}
variable {i : grid0.Coords} {x : Ins Ideal} (hR : Reads X B G i x)

/-- Row `r`'s number in the grid of rows. -/
def row (i : grid0.Coords) (r : Fin 32) : ℕ := (i 1).val * 32 + r.val
theorem row_lt (i : grid0.Coords) (r : Fin 32) : row i r < 128 := by
  have h : (i 1).val < 4 := (i 1).isLt
  have := r.isLt
  unfold row; omega

theorem window2 {n m n' m' : ℕ} {α : Type} (y : (⟨2, ![n, m]⟩ : Shape).Idx → α) (off : Fin 2 → ℕ) (inb) (a : Fin n') (l : Fin m') (k : (⟨2, ![n, m]⟩ : Shape).Idx)
    (h0 : (k 0).val = off 0 + a.val) (h1 : (k 1).val = off 1 + l.val) :
    VecWindow.window (s := ⟨2, ![n, m]⟩) y off ![n', m'] inb (ix2 a l) = y k := by
  refine congrArg y (funext fun d => Fin.ext ?_)
  match d with
  | 0 => show off 0 + 1 * a.val = _; rw [h0, one_mul]
  | 1 => show off 1 + 1 * l.val = _; rw [h1, one_mul]

section
include hR

theorem rq_apply (r : Fin 32) (q : Fin 64) (l : Fin 256) : rq x r (ix2 q l) = X (row i r * 64 + q.val) ((i 0).val * 256 + l.val) := by
  have := r.isLt
  have := q.isLt
  unfold rq
  refine (window2 x.q _ _ q l (ix2 ⟨r.val * 64 + q.val, by omega⟩ l) ?_ ?_).trans ?_
  · rw [off1_val]; rfl
  · rw [off1_val]; show l.val = 0 + l.val; omega
  · rw [hR.q]
    congr 1
    show (i 1).val * 2048 + (r.val * 64 + q.val) = ((i 1).val * 32 + r.val) * 64 + q.val
    omega

theorem rg_apply (r : Fin 32) (q : Fin 64) (l : Fin 256) : rg x r (ix2 q l) = G (row i r * 64 + q.val) (512 + (i 0).val * 256 + l.val) := by
  have := r.isLt
  have := q.isLt
  unfold rg
  refine (window2 x.g _ _ q l (ix2 ⟨r.val * 64 + q.val, by omega⟩ l) ?_ ?_).trans ?_
  · rw [off1_val]; rfl
  · rw [off1_val]; show l.val = 0 + l.val; omega
  · rw [hR.g]
    congr 1
    show (i 1).val * 2048 + (r.val * 64 + q.val) = ((i 1).val * 32 + r.val) * 64 + q.val
    omega

theorem rk_apply (r : Fin 32) (k : Fin 512) (l : Fin 256) : rk i x r (ix2 k l) = X (rs (row i r) * 64 + k.val) (512 + (i 0).val * 256 + l.val) := by
  have := rs_le (row i r)
  have := k.isLt
  unfold rk
  refine (window2 x.k _ _ k l (ix2 ⟨rs (row i r) * 64 + k.val, by omega⟩ l) ?_ ?_).trans ?_
  · rw [off2_val]; rfl
  · rw [off2_val]; show l.val = 0 + l.val; omega
  · rw [hR.k]

theorem rv_apply (r : Fin 32) (k : Fin 512) (l : Fin 256) : rv i x r (ix2 k l) = X (rs (row i r) * 64 + k.val) (1024 + (i 0).val * 256 + l.val) := by
  have := rs_le (row i r)
  have := k.isLt
  unfold rv
  refine (window2 x.v _ _ k l (ix2 ⟨rs (row i r) * 64 + k.val, by omega⟩ l) ?_ ?_).trans ?_
  · rw [off2_val]; rfl
  · rw [off2_val]; show l.val = 0 + l.val; omega
  · rw [hR.v]

theorem rb_apply (r : Fin 32) (k : Fin 512) (l : Fin 256) : rb i x r (ix3 0 k l) = B (i 0).val (bs (row i r) * 64 + k.val) l.val := by
  have := bs_le (row i r) (row_lt i r)
  have := k.isLt
  unfold rb
  refine Eq.trans (congrArg x.b (funext fun d => Fin.ext ?_) : _ = x.b (ix3 0 ⟨bs (row i r) * 64 + k.val, by omega⟩ l)) (hR.b _ _)
  match d with
  | 0 => show k0_off3 i (BitVec.ofNat 32 r.val) 0 + 1 * 0 = 0; rw [off3_val]; rfl
  | 1 => show k0_off3 i (BitVec.ofNat 32 r.val) 1 + 1 * k.val = bs (row i r) * 64 + k.val; rw [off3_val, one_mul]; rfl
  | 2 => show k0_off3 i (BitVec.ofNat 32 r.val) 2 + 1 * l.val = l.val; rw [off3_val, one_mul]; exact Nat.zero_add _

theorem lane_head (u : ℕ) (c : Fin 256) (d : Fin 64) : u * 256 + (hd (hOf c) d).val = (u * 4 + c.val / 64) * 64 + d.val := by
  show u * 256 + (c.val / 64 * 64 + d.val) = _
  omega

/-- The scores of the row. -/
theorem scores_row (r : Fin 32) (k : Fin 512) (c : Fin 256) :
    scores (rk i x r) (stack (rq x r)) (rb i x r) (ix2 k c) = sc X B (row i r) ((i 0).val * 4 + c.val / 64) (c.val % 64) k.val := by
  have hc := c.isLt
  rw [scores_apply, rb_apply hR]
  unfold sc
  congr 2
  · refine Finset.sum_congr rfl fun d _ => ?_
    rw [rq_apply hR, rk_apply hR, Nat.add_assoc 512, lane_head hR, Nat.add_assoc 512]
    rfl
  · omega
  · omega

theorem expo_row (r : Fin 32) (k : Fin 512) (c : Fin 256) :
    expo (scores (rk i x r) (stack (rq x r)) (rb i x r)) (ix2 k c) = ex X B (row i r) ((i 0).val * 4 + c.val / 64) (c.val % 64) k.val := by
  rw [expo_apply]
  simp only [scores_row hR]
  rfl

/-- The probabilities of the row. -/
theorem pAt_apply (r : Fin 32) (k : Fin 512) (c : Fin 256) :
    pAt i x r (ix2 k c) = pr X B (row i r) ((i 0).val * 4 + c.val / 64) (c.val % 64) k.val := by
  unfold pAt rowP
  rw [prob_apply]
  simp only [expo_row hR]
  rfl

theorem gradP_row (r : Fin 32) (k : Fin 512) (c : Fin 256) :
    gradP (rv i x r) (stackDo (rg x r)) (ix2 k c) = dp X G (row i r) ((i 0).val * 4 + c.val / 64) (c.val % 64) k.val := by
  rw [gradP_apply]
  unfold dp
  refine Finset.sum_congr rfl fun d _ => ?_
  rw [rg_apply hR, rv_apply hR, Nat.add_assoc 512, Nat.add_assoc 1024, lane_head hR, Nat.add_assoc 512, Nat.add_assoc 1024]
  rfl

/-- The gradient of the row's scores. -/
theorem sAt_apply (r : Fin 32) (k : Fin 512) (c : Fin 256) :
    sAt i x r (ix2 k c) = ds X B G (row i r) ((i 0).val * 4 + c.val / 64) (c.val % 64) k.val := by
  have hp : ∀ k c, rowP (rq x r) (rk i x r) (rb i x r) (ix2 k c) = pr X B (row i r) ((i 0).val * 4 + c.val / 64) (c.val % 64) k.val := fun k c => pAt_apply hR r k c
  unfold sAt rowS
  rw [gradS_apply]
  simp only [hp, gradP_row hR]
  rfl

/-- The block of queries' gradient. -/
theorem dqOut_apply (a : Fin 2048) (l : Fin 256) : dqOut i x (ix2 a l) = DQ X B G ((i 1).val * 2048 + a.val) ((i 0).val * 256 + l.val) := by
  have ha := a.isLt
  have hl := l.isLt
  have e : dqOut i x (ix2 a l) = outQ (rk i x ⟨a.val / 64, by omega⟩) (sAt i x ⟨a.val / 64, by omega⟩) (ix2 ⟨a.val % 64, by omega⟩ l) := by
    unfold dqOut
    refine congrArg _ (funext fun d => ?_)
    match d with
    | 0 => rfl
    | 1 => rfl
  rw [e, outQ_apply]
  unfold DQ
  have e1 : ((i 1).val * 2048 + a.val) / 64 = row i ⟨a.val / 64, by omega⟩ := by show _ = (i 1).val * 32 + a.val / 64; omega
  have e2 : ((i 1).val * 2048 + a.val) % 64 = a.val % 64 := by omega
  rw [e1, e2]
  congr 1
  refine Finset.sum_congr rfl fun k _ => ?_
  rw [sAt_apply hR, rk_apply hR, Nat.add_assoc 512]
  have e3 : ((i 0).val * 256 + l.val) / 64 = (i 0).val * 4 + l.val / 64 := by omega
  have e4 : (hd (hOf l) (⟨a.val % 64, by omega⟩ : Fin 64)).val = l.val / 64 * 64 + a.val % 64 := rfl
  rw [e3, e4]
  congr 2
  · congr 1; omega
  · omega

end

/-! ## The accumulators' steps -/

section
include hR

theorem stepSt_dk (r : Fin 32) (y : St Ideal) (p : Fin 8192) (l : Fin 256) :
    (stepSt i x r y).dk (ix2 p l) = y.dk (ix2 p l) + dkRow X B G (row i r) p.val ((i 0).val * 256 + l.val) := by
  have hl := l.isLt
  have hp := p.isLt
  have hrs := rs_le (row i r)
  unfold stepSt dkRow
  dsimp only
  unfold VecWindow.put
  by_cases h : rs (row i r) ≤ p.val / 64 ∧ p.val / 64 < rs (row i r) + 8
  · rw [if_pos h, dif_pos ?_]
    · have e : (Rect.unitLocal (s := S8192x256) (off := k0_off2 i (BitVec.ofNat 32 r.val)) (size := S512x256.size) (ix2 p l) (by
          intro a
          rw [off2_val]
          match a with
          | 0 => exact ⟨by show rs (row i r) * 64 ≤ p.val; omega, by show p.val < rs (row i r) * 64 + 512; omega⟩
          | 1 => exact ⟨Nat.zero_le _, by show l.val < 0 + 256; omega⟩)) = ix2 (⟨p.val - rs (row i r) * 64, by omega⟩ : Fin 512) l := by
        funext a
        refine Fin.ext ?_
        match a with
        | 0 => show p.val - k0_off2 i (BitVec.ofNat 32 r.val) 0 = _; rw [off2_val]; rfl
        | 1 => show l.val - k0_off2 i (BitVec.ofNat 32 r.val) 1 = _; rw [off2_val]; exact Nat.sub_zero _
      refine (congrArg _ e).trans ?_
      rw [updK_apply]
      congr 1
      · refine window2 y.dk _ _ _ _ (ix2 p l) ?_ ?_
        · rw [off2_val]; show p.val = rs (row i r) * 64 + (p.val - rs (row i r) * 64); omega
        · rw [off2_val]; show l.val = 0 + l.val; omega
      · congr 1
        refine Finset.sum_congr rfl fun c _ => ?_
        have hc := c.isLt
        rw [sAt_apply hR, rq_apply hR]
        have e4 : (hd (hOf l) c).val = l.val / 64 * 64 + c.val := rfl
        rw [e4]
        congr 2
        · omega
        · omega
  · rw [if_neg h, add_zero, dif_neg]
    intro hall
    have := hall 0
    rw [off2_val] at this
    have h1 : rs (row i r) * 64 ≤ p.val := this.1
    have h2 : p.val < rs (row i r) * 64 + 512 := this.2
    exact h ⟨by omega, by omega⟩

theorem stepSt_dv (r : Fin 32) (y : St Ideal) (p : Fin 8192) (l : Fin 256) :
    (stepSt i x r y).dv (ix2 p l) = y.dv (ix2 p l) + dvRow X B G (row i r) p.val ((i 0).val * 256 + l.val) := by
  have hl := l.isLt
  have hp := p.isLt
  have hrs := rs_le (row i r)
  unfold stepSt dvRow
  dsimp only
  unfold VecWindow.put
  by_cases h : rs (row i r) ≤ p.val / 64 ∧ p.val / 64 < rs (row i r) + 8
  · rw [if_pos h, dif_pos ?_]
    · have e : (Rect.unitLocal (s := S8192x256) (off := k0_off2 i (BitVec.ofNat 32 r.val)) (size := S512x256.size) (ix2 p l) (by
          intro a
          rw [off2_val]
          match a with
          | 0 => exact ⟨by show rs (row i r) * 64 ≤ p.val; omega, by show p.val < rs (row i r) * 64 + 512; omega⟩
          | 1 => exact ⟨Nat.zero_le _, by show l.val < 0 + 256; omega⟩)) = ix2 (⟨p.val - rs (row i r) * 64, by omega⟩ : Fin 512) l := by
        funext a
        refine Fin.ext ?_
        match a with
        | 0 => show p.val - k0_off2 i (BitVec.ofNat 32 r.val) 0 = _; rw [off2_val]; rfl
        | 1 => show l.val - k0_off2 i (BitVec.ofNat 32 r.val) 1 = _; rw [off2_val]; exact Nat.sub_zero _
      refine (congrArg _ e).trans ?_
      rw [updV_apply]
      congr 1
      · refine window2 y.dv _ _ _ _ (ix2 p l) ?_ ?_
        · rw [off2_val]; show p.val = rs (row i r) * 64 + (p.val - rs (row i r) * 64); omega
        · rw [off2_val]; show l.val = 0 + l.val; omega
      · refine Finset.sum_congr rfl fun c _ => ?_
        have hc := c.isLt
        rw [pAt_apply hR, rg_apply hR, Nat.add_assoc 512]
        have e4 : (hd (hOf l) c).val = l.val / 64 * 64 + c.val := rfl
        rw [e4]
        congr 2
        · omega
        · omega
  · rw [if_neg h, add_zero, dif_neg]
    intro hall
    have := hall 0
    rw [off2_val] at this
    have h1 : rs (row i r) * 64 ≤ p.val := this.1
    have h2 : p.val < rs (row i r) * 64 + 512 := this.2
    exact h ⟨by omega, by omega⟩

theorem stepSt_db (r : Fin 32) (y : St Ideal) (p : Fin 960) (l : Fin 256) :
    (stepSt i x r y).db (ix3 0 p l) = y.db (ix3 0 p l) + dbRow X B G (row i r) (i 0).val p.val l.val := by
  have hl := l.isLt
  have hp := p.isLt
  have hbs := bs_le (row i r) (row_lt i r)
  unfold stepSt dbRow
  dsimp only
  unfold VecWindow.put
  by_cases h : bs (row i r) ≤ p.val / 64 ∧ p.val / 64 < bs (row i r) + 8
  · rw [if_pos h, dif_pos ?_]
    · have e : (Rect.unitLocal (s := S1x960x256) (off := k0_off3 i (BitVec.ofNat 32 r.val)) (size := S1x512x256.size) (ix3 0 p l) (by
          intro a
          rw [off3_val]
          match a with
          | 0 => exact ⟨Nat.zero_le _, Nat.one_pos⟩
          | 1 => exact ⟨by show bs (row i r) * 64 ≤ p.val; omega, by show p.val < bs (row i r) * 64 + 512; omega⟩
          | 2 => exact ⟨Nat.zero_le _, by show l.val < 0 + 256; omega⟩)) = ix3 (0 : Fin 1) (⟨p.val - bs (row i r) * 64, by omega⟩ : Fin 512) l := by
        funext a
        refine Fin.ext ?_
        match a with
        | 0 => show 0 - k0_off3 i (BitVec.ofNat 32 r.val) 0 = _; rw [off3_val]; rfl
        | 1 => show p.val - k0_off3 i (BitVec.ofNat 32 r.val) 1 = _; rw [off3_val]; rfl
        | 2 => show l.val - k0_off3 i (BitVec.ofNat 32 r.val) 2 = _; rw [off3_val]; exact Nat.sub_zero _
      refine (congrArg _ e).trans ?_
      rw [updB_apply, sAt_apply hR]
      congr 1
      refine congrArg y.db (funext fun d => Fin.ext ?_)
      match d with
      | 0 => show k0_off3 i (BitVec.ofNat 32 r.val) 0 + 1 * 0 = 0; rw [off3_val]; rfl
      | 1 => show k0_off3 i (BitVec.ofNat 32 r.val) 1 + 1 * (p.val - bs (row i r) * 64) = p.val; rw [off3_val]; show bs (row i r) * 64 + 1 * (p.val - bs (row i r) * 64) = p.val; omega
      | 2 => show k0_off3 i (BitVec.ofNat 32 r.val) 2 + 1 * l.val = l.val; rw [off3_val, one_mul]; exact Nat.zero_add _
  · rw [if_neg h, add_zero, dif_neg]
    intro hall
    have := hall 1
    rw [off3_val] at this
    have h1 : bs (row i r) * 64 ≤ p.val := this.1
    have h2 : p.val < bs (row i r) * 64 + 512 := this.2
    exact h ⟨by omega, by omega⟩

/-- After the `n` rows from `r` on: what was there and the rows' shares. -/
theorem rowsSt_acc (n r : ℕ) (h : r + n = 32) (y : St Ideal) :
    (∀ p l, (rowsSt i x n r h y).dk (ix2 p l) = y.dk (ix2 p l) + ∑ s ∈ Finset.range n, dkRow X B G ((i 1).val * 32 + r + s) p.val ((i 0).val * 256 + l.val))
    ∧ (∀ p l, (rowsSt i x n r h y).dv (ix2 p l) = y.dv (ix2 p l) + ∑ s ∈ Finset.range n, dvRow X B G ((i 1).val * 32 + r + s) p.val ((i 0).val * 256 + l.val))
    ∧ (∀ p l, (rowsSt i x n r h y).db (ix3 0 p l) = y.db (ix3 0 p l) + ∑ s ∈ Finset.range n, dbRow X B G ((i 1).val * 32 + r + s) (i 0).val p.val l.val) := by
  induction n generalizing r y with
  | zero =>
    unfold rowsSt
    refine ⟨?_, ?_, ?_⟩ <;> · intro p l; rw [Finset.range_zero, Finset.sum_empty, add_zero]
  | succ n ih =>
    obtain ⟨h1, h2, h3⟩ := ih (r + 1) (by omega) (stepSt i x ⟨r, by omega⟩ y)
    unfold rowsSt
    refine ⟨fun p l => ?_, fun p l => ?_, fun p l => ?_⟩
    · rw [h1, stepSt_dk hR, Finset.sum_range_succ', add_assoc, add_comm (dkRow X B G _ _ _)]
      congr 2
      refine Finset.sum_congr rfl fun s _ => ?_
      congr 1; omega
    · rw [h2, stepSt_dv hR, Finset.sum_range_succ', add_assoc, add_comm (dvRow X B G _ _ _)]
      congr 2
      refine Finset.sum_congr rfl fun s _ => ?_
      congr 1; omega
    · rw [h3, stepSt_db hR, Finset.sum_range_succ', add_assoc, add_comm (dbRow X B G _ _ _ _)]
      congr 2
      refine Finset.sum_congr rfl fun s _ => ?_
      congr 1; omega

end

end Cert.Proof.Attn

end
-- ==== Proof.Arrays.lean ====
/-
  The arrays after the run: the four gradients of `Model`, of the arrays the program is given.
-/
module

public import proofs.«01_k».proof.Proof.PointRead
public import proofs.«01_k».proof.Proof.RunMain
public import Idealize.ShloMosaic.Lib.Pipeline.ValueKit.Geometry

@[expose] public section

noncomputable section

namespace Cert.Proof.Attn

open Cert.KernelIdeal Cert.KernelIdeal.Gen
open Idealize.ShloMosaic.TcCoe
open Idealize.ShloMosaic hiding ix1 ix2 ix3 ix4 ix5 eq_ix1 eq_ix2 eq_ix3 eq_ix4 eq_ix5
open Idealize.ShloMosaic.ValueIdx
open scoped BigOperators

/-- The arrays as launched, on one device, at natural indices. -/
abbrev xOf (m : (ℓ : Loc nD τ sig) → Buf (Elt Ideal) ℓ) (c : Dev nD) : ℕ → ℕ → EReal := nat2 (n := 8192) (m' := 1536) (m ((c : Thread nD τ).loc main_arg0))
abbrev bOf (m : (ℓ : Loc nD τ sig) → Buf (Elt Ideal) ℓ) (c : Dev nD) : ℕ → ℕ → ℕ → EReal := nat3 (n := 2) (m' := 960) (k := 256) (m ((c : Thread nD τ).loc main_arg1))
abbrev gOf (m : (ℓ : Loc nD τ sig) → Buf (Elt Ideal) ℓ) (c : Dev nD) : ℕ → ℕ → EReal := nat2 (n := 8192) (m' := 1024) (m ((c : Thread nD τ).loc main_arg2))

variable (m : (ℓ : Loc nD τ sig) → Buf (Elt Ideal) ℓ) (c : Dev nD)

/-- Point `t` is head group `t / 4`, block `t % 4`. -/
theorem coords_val (t : Fin cfg0.N) : (grid0.coords t 0).val = t.val / 4 ∧ (grid0.coords t 1).val = t.val % 4 :=
  (by decide +kernel : ∀ t : Fin grid0.N, (grid0.coords t 0).val = t.val / 4 ∧ (grid0.coords t 1).val = t.val % 4) t

theorem idx_0 (t : Fin cfg0.N) : win0_0.index t = ![(grid0.coords t 1).val, (grid0.coords t 0).val] := (by decide +kernel : ∀ t : Fin grid0.N, win0_0.index t = ![(grid0.coords t 1).val, (grid0.coords t 0).val]) t
theorem idx_1 (t : Fin cfg0.N) : win0_1.index t = ![0, 2 + (grid0.coords t 0).val] := (by decide +kernel : ∀ t : Fin grid0.N, win0_1.index t = ![0, 2 + (grid0.coords t 0).val]) t
theorem idx_2 (t : Fin cfg0.N) : win0_2.index t = ![0, 4 + (grid0.coords t 0).val] := (by decide +kernel : ∀ t : Fin grid0.N, win0_2.index t = ![0, 4 + (grid0.coords t 0).val]) t
theorem idx_3 (t : Fin cfg0.N) : win0_3.index t = ![(grid0.coords t 0).val, 0, 0] := (by decide +kernel : ∀ t : Fin grid0.N, win0_3.index t = ![(grid0.coords t 0).val, 0, 0]) t
theorem idx_4 (t : Fin cfg0.N) : win0_4.index t = ![(grid0.coords t 1).val, 2 + (grid0.coords t 0).val] := (by decide +kernel : ∀ t : Fin grid0.N, win0_4.index t = ![(grid0.coords t 1).val, 2 + (grid0.coords t 0).val]) t
theorem idx_5 (t : Fin cfg0.N) : win0_5.index t = ![(grid0.coords t 1).val, (grid0.coords t 0).val] := (by decide +kernel : ∀ t : Fin grid0.N, win0_5.index t = ![(grid0.coords t 1).val, (grid0.coords t 0).val]) t
theorem idx_6 (t : Fin cfg0.N) : win0_6.index t = ![0, (grid0.coords t 0).val] := (by decide +kernel : ∀ t : Fin grid0.N, win0_6.index t = ![0, (grid0.coords t 0).val]) t
theorem idx_7 (t : Fin cfg0.N) : win0_7.index t = ![0, (grid0.coords t 0).val] := (by decide +kernel : ∀ t : Fin grid0.N, win0_7.index t = ![0, (grid0.coords t 0).val]) t
theorem idx_8 (t : Fin cfg0.N) : win0_8.index t = ![(grid0.coords t 0).val, 0, 0] := (by decide +kernel : ∀ t : Fin grid0.N, win0_8.index t = ![(grid0.coords t 0).val, 0, 0]) t

/-! ## The input windows at point `t` -/

theorem iblk_0 (t : Fin cfg0.N) (a : Fin 2048) (l : Fin 256) : (iblk m c 0 t : S2048x256.Idx → EReal) (ix2 a l) = xOf m c ((grid0.coords t 1).val * 2048 + a.val) ((grid0.coords t 0).val * 256 + l.val) := by
  refine (nat2_of (n := 8192) (m' := 1536) (m ((c : Thread nD τ).loc main_arg0)) (((cfg0.win 0).blk t).view.emb (ix2 a l : S2048x256.Idx))).trans ?_
  blk_simp [idx_0]
theorem iblk_1 (t : Fin cfg0.N) (a : Fin 8192) (l : Fin 256) : (iblk m c 1 t : S8192x256.Idx → EReal) (ix2 a l) = xOf m c a.val (512 + (grid0.coords t 0).val * 256 + l.val) := by
  refine (nat2_of (n := 8192) (m' := 1536) (m ((c : Thread nD τ).loc main_arg0)) (((cfg0.win 1).blk t).view.emb (ix2 a l : S8192x256.Idx))).trans ?_
  blk_simp [idx_1]
  refine congrArg₂ (xOf m c) rfl ?_
  show (2 + (grid0.coords t 0).val) * 256 + l.val = _
  omega
theorem iblk_2 (t : Fin cfg0.N) (a : Fin 8192) (l : Fin 256) : (iblk m c 2 t : S8192x256.Idx → EReal) (ix2 a l) = xOf m c a.val (1024 + (grid0.coords t 0).val * 256 + l.val) := by
  refine (nat2_of (n := 8192) (m' := 1536) (m ((c : Thread nD τ).loc main_arg0)) (((cfg0.win 2).blk t).view.emb (ix2 a l : S8192x256.Idx))).trans ?_
  blk_simp [idx_2]
  refine congrArg₂ (xOf m c) rfl ?_
  show (4 + (grid0.coords t 0).val) * 256 + l.val = _
  omega
theorem iblk_3 (t : Fin cfg0.N) (a : Fin 960) (l : Fin 256) : (iblk m c 3 t : S1x960x256.Idx → EReal) (ix3 0 a l) = bOf m c (grid0.coords t 0).val a.val l.val := by
  refine (nat3_of (n := 2) (m' := 960) (k := 256) (m ((c : Thread nD τ).loc main_arg1)) (((cfg0.win 3).blk t).view.emb (ix3 0 a l : S1x960x256.Idx))).trans ?_
  blk_simp [idx_3]
theorem iblk_4 (t : Fin cfg0.N) (a : Fin 2048) (l : Fin 256) : (iblk m c 4 t : S2048x256.Idx → EReal) (ix2 a l) = gOf m c ((grid0.coords t 1).val * 2048 + a.val) (512 + (grid0.coords t 0).val * 256 + l.val) := by
  refine (nat2_of (n := 8192) (m' := 1024) (m ((c : Thread nD τ).loc main_arg2)) (((cfg0.win 4).blk t).view.emb (ix2 a l : S2048x256.Idx))).trans ?_
  blk_simp [idx_4]
  refine congrArg₂ (gOf m c) rfl ?_
  show (2 + (grid0.coords t 0).val) * 256 + l.val = _
  omega

theorem reads (t : Fin cfg0.N) : Reads (xOf m c) (bOf m c) (gOf m c) (grid0.coords t) (insOf m c t) :=
  ⟨iblk_0 m c t, iblk_1 m c t, iblk_2 m c t, iblk_3 m c t, iblk_4 m c t⟩

/-- The accumulators after point `t`: the rows of its head group so far. -/
theorem acc_sum (n : ℕ) (h : n < cfg0.N) :
    (∀ p l, (acc m c (n + 1)).dk (ix2 p l) = ∑ s ∈ Finset.range ((n % 4 + 1) * 32), dkRow (xOf m c) (bOf m c) (gOf m c) s p.val (n / 4 * 256 + l.val))
    ∧ (∀ p l, (acc m c (n + 1)).dv (ix2 p l) = ∑ s ∈ Finset.range ((n % 4 + 1) * 32), dvRow (xOf m c) (bOf m c) (gOf m c) s p.val (n / 4 * 256 + l.val))
    ∧ (∀ p l, (acc m c (n + 1)).db (ix3 0 p l) = ∑ s ∈ Finset.range ((n % 4 + 1) * 32), dbRow (xOf m c) (bOf m c) (gOf m c) s (n / 4) p.val l.val) := by
  induction n with
  | zero =>
    have e := acc_succ m c ⟨0, h⟩
    obtain ⟨c0, c1⟩ := coords_val ⟨0, h⟩
    obtain ⟨h1, h2, h3⟩ := rowsSt_acc (reads m c ⟨0, h⟩) 32 0 rfl (zeroSt (acc m c 0))
    unfold runSt at e
    rw [if_pos ((isFirst_iff ⟨0, h⟩).mpr rfl)] at e
    rw [c0, c1] at h1 h2 h3
    dsimp only at h1 h2 h3
    refine ⟨fun p l => ?_, fun p l => ?_, fun p l => ?_⟩
    · refine (congrFun (congrArg St.dk e) _).trans ((h1 p l).trans ?_)
      rw [show (zeroSt (acc m c 0)).dk (ix2 p l) = 0 from Ideal.ofBits_zero_f32, zero_add]
      exact Finset.sum_congr rfl fun s _ => by congr 1; omega
    · refine (congrFun (congrArg St.dv e) _).trans ((h2 p l).trans ?_)
      rw [show (zeroSt (acc m c 0)).dv (ix2 p l) = 0 from Ideal.ofBits_zero_f32, zero_add]
      exact Finset.sum_congr rfl fun s _ => by congr 1; omega
    · refine (congrFun (congrArg St.db e) _).trans ((h3 p l).trans ?_)
      rw [show (zeroSt (acc m c 0)).db (ix3 0 p l) = 0 from Ideal.ofBits_zero_f32, zero_add]
      exact Finset.sum_congr rfl fun s _ => by congr 1; omega
  | succ n ih =>
    obtain ⟨i1, i2, i3⟩ := ih (by omega)
    have e := acc_succ m c ⟨n + 1, h⟩
    obtain ⟨c0, c1⟩ := coords_val ⟨n + 1, h⟩
    unfold runSt at e
    dsimp only at c0 c1
    by_cases hf : (n + 1) % 4 = 0
    · obtain ⟨h1, h2, h3⟩ := rowsSt_acc (reads m c ⟨n + 1, h⟩) 32 0 rfl (zeroSt (acc m c (n + 1)))
      rw [if_pos ((isFirst_iff ⟨n + 1, h⟩).mpr hf)] at e
      rw [c0, c1] at h1 h2 h3
      refine ⟨fun p l => ?_, fun p l => ?_, fun p l => ?_⟩
      · refine (congrFun (congrArg St.dk e) _).trans ((h1 p l).trans ?_)
        rw [show (zeroSt (acc m c (n + 1))).dk (ix2 p l) = 0 from Ideal.ofBits_zero_f32, zero_add, hf]
        exact Finset.sum_congr rfl fun s _ => by congr 1; omega
      · refine (congrFun (congrArg St.dv e) _).trans ((h2 p l).trans ?_)
        rw [show (zeroSt (acc m c (n + 1))).dv (ix2 p l) = 0 from Ideal.ofBits_zero_f32, zero_add, hf]
        exact Finset.sum_congr rfl fun s _ => by congr 1; omega
      · refine (congrFun (congrArg St.db e) _).trans ((h3 p l).trans ?_)
        rw [show (zeroSt (acc m c (n + 1))).db (ix3 0 p l) = 0 from Ideal.ofBits_zero_f32, zero_add, hf]
        exact Finset.sum_congr rfl fun s _ => by congr 1; omega
    · obtain ⟨h1, h2, h3⟩ := rowsSt_acc (reads m c ⟨n + 1, h⟩) 32 0 rfl (acc m c (n + 1))
      rw [if_neg fun hh => hf ((isFirst_iff ⟨n + 1, h⟩).mp hh)] at e
      rw [c0, c1] at h1 h2 h3
      have e1 : n / 4 = (n + 1) / 4 := by omega
      have e2 : ((n + 1) % 4 + 1) * 32 = (n % 4 + 1) * 32 + 32 := by omega
      have e3 : (n + 1) % 4 = n % 4 + 1 := by omega
      rw [e1] at i1 i2 i3
      refine ⟨fun p l => ?_, fun p l => ?_, fun p l => ?_⟩
      · refine (congrFun (congrArg St.dk e) _).trans ((h1 p l).trans ?_)
        rw [i1, e2, Finset.sum_range_add, e3]
        rfl
      · refine (congrFun (congrArg St.dv e) _).trans ((h2 p l).trans ?_)
        rw [i2, e2, Finset.sum_range_add, e3]
        rfl
      · refine (congrFun (congrArg St.db e) _).trans ((h3 p l).trans ?_)
        rw [i3, e2, Finset.sum_range_add, e3]
        rfl

/-- The four result arrays. -/
theorem final_dq : (dats m c 0).arrAt 5 cfg0.N = fun j : S8192x512.Idx => DQ (xOf m c) (bOf m c) (gOf m c) (j 0).val (j 1).val := by
  have key : ∀ t : Fin cfg0.N, ∀ y : S2048x256.Idx, dqOut (grid0.coords t) (insOf m c t) y
      = DQ (xOf m c) (bOf m c) (gOf m c) ((grid0.coords t 1).val * 2048 + (y 0).val) ((grid0.coords t 0).val * 256 + (y 1).val) :=
    fun t y => (congrArg _ (eq_ix2 y)).trans (dqOut_apply (reads m c t) (y 0) (y 1))
  refine (dats m c 0).arrAt_eq_of_covers 5 _ (by decide +kernel) fun t hf y => ?_
  blk_simp [idx_5]
  exact key t y

theorem final_dk : (dats m c 0).arrAt 6 cfg0.N = fun j : S8192x512.Idx => DK (xOf m c) (bOf m c) (gOf m c) (j 0).val (j 1).val := by
  have key : ∀ t : Fin cfg0.N, t.val % 4 = 3 → ∀ y : S8192x256.Idx, (acc m c (t.val + 1)).dk y
      = DK (xOf m c) (bOf m c) (gOf m c) (y 0).val ((grid0.coords t 0).val * 256 + (y 1).val) := fun t h3 y => by
    refine (congrArg _ (eq_ix2 y)).trans (((acc_sum m c t.val t.isLt).1 (y 0) (y 1)).trans ?_)
    rw [h3, (coords_val t).1]
    rfl
  refine (dats m c 0).arrAt_eq_of_covers 6 _ (by decide +kernel) fun t hf y => ?_
  blk_simp [idx_6]
  exact key t ((flush0_6 t).mp hf) y

theorem final_dv : (dats m c 0).arrAt 7 cfg0.N = fun j : S8192x512.Idx => DV (xOf m c) (bOf m c) (gOf m c) (j 0).val (j 1).val := by
  have key : ∀ t : Fin cfg0.N, t.val % 4 = 3 → ∀ y : S8192x256.Idx, (acc m c (t.val + 1)).dv y
      = DV (xOf m c) (bOf m c) (gOf m c) (y 0).val ((grid0.coords t 0).val * 256 + (y 1).val) := fun t h3 y => by
    refine (congrArg _ (eq_ix2 y)).trans (((acc_sum m c t.val t.isLt).2.1 (y 0) (y 1)).trans ?_)
    rw [h3, (coords_val t).1]
    rfl
  refine (dats m c 0).arrAt_eq_of_covers 7 _ (by decide +kernel) fun t hf y => ?_
  blk_simp [idx_7]
  exact key t ((flush0_7 t).mp hf) y

theorem final_db : (dats m c 0).arrAt 8 cfg0.N = fun j : S2x960x256.Idx => DB (xOf m c) (bOf m c) (gOf m c) (j 0).val (j 1).val (j 2).val := by
  have key : ∀ t : Fin cfg0.N, t.val % 4 = 3 → ∀ y : S1x960x256.Idx, (acc m c (t.val + 1)).db y
      = DB (xOf m c) (bOf m c) (gOf m c) (grid0.coords t 0).val (y 1).val (y 2).val := fun t h3 y => by
    have e : y = ix3 (0 : Fin 1) (y 1) (y 2) := by
      funext a
      match a with
      | 0 => exact Fin.ext (by have : (y 0).val < 1 := (y 0).isLt; show (y 0).val = 0; omega)
      | 1 => rfl
      | 2 => rfl
    refine (congrArg _ e).trans (((acc_sum m c t.val t.isLt).2.2 (y 1) (y 2)).trans ?_)
    rw [h3, (coords_val t).1]
    rfl
  refine (dats m c 0).arrAt_eq_of_covers 8 _ (by decide +kernel) fun t hf y => ?_
  blk_simp [idx_8]
  exact key t ((flush0_8 t).mp hf) y

end Cert.Proof.Attn

end
-- ==== Proof.RefIndex.lean ====
/-
  Where the reference's gathers read and its scatters land: row `r` of the grid reads the eight rows from `rs r` on, and the
  eight rows of the bias's table from `bs r` on.
-/
module

public import proofs.«01_k».proof.Proof.Gen.ReferenceIdeal.Read
public import proofs.«01_k».proof.Proof.Model
public import proofs.«01_k».proof.Proof.RowRead
public import Idealize.ShloMosaic.Lib.Routing.OpsPair

@[expose] public section

noncomputable section

namespace Cert.Proof.Attn.Ref

open Cert.ReferenceIdeal Cert.ReferenceIdeal.Gen Cert.ReferenceIdeal.Read
open Idealize.ShloMosaic Idealize.ShloMosaic.ValueIdx
open scoped BigOperators

/-! ## The index words -/

theorem word27 (r : Fin 128) (j : Fin 8) : val_main_v27 (F := Ideal) (ix3 r j 0) = BitVec.ofNat 32 (rs r.val + j.val) := by
  simp only [val_main_v27_apply, val_main_v26_apply, val_main_v25_apply, val_main_v24_apply, val_main_c_3_apply, val_main_v23_apply, val_main_v22_apply, val_main_c_2_apply,
    val_main_v21_apply, val_main_v20_apply, val_main_v19_apply, val_main_v18_apply, val_main_v17_apply, val_main_v16_apply, val_main_v15_apply, val_main_call0_v4_apply,
    val_main_call0_v3_apply, val_main_call0_v2_apply, val_main_call0_v1_apply, val_main_call0_v0_apply, val_main_c_1_apply, val_main_c_0_apply, val_main_v14_apply,
    val_main_v13_apply, val_main_c_apply, val_main_v12_apply]
  revert r j
  decide +kernel

theorem word35 (r : Fin 128) (j : Fin 8) : val_main_v35 (F := Ideal) (ix3 r j 0) = BitVec.ofNat 32 (rs r.val + j.val) := by
  simp only [val_main_v35_apply, val_main_v34_apply, val_main_v33_apply, val_main_v32_apply, val_main_c_5_apply, val_main_v31_apply, val_main_v30_apply, val_main_c_4_apply,
    val_main_v21_apply, val_main_v20_apply, val_main_v19_apply, val_main_v18_apply, val_main_v17_apply, val_main_v16_apply, val_main_v15_apply, val_main_call0_v4_apply,
    val_main_call0_v3_apply, val_main_call0_v2_apply, val_main_call0_v1_apply, val_main_call0_v0_apply, val_main_c_1_apply, val_main_c_0_apply, val_main_v14_apply,
    val_main_v13_apply, val_main_c_apply, val_main_v12_apply]
  revert r j
  decide +kernel

theorem word48 (r : Fin 128) (j : Fin 8) : val_main_v48 (F := Ideal) (ix3 r j 0) = BitVec.ofNat 32 (bs r.val + j.val) := by
  simp only [val_main_v48_apply, val_main_v47_apply, val_main_v46_apply, val_main_v45_apply, val_main_c_8_apply, val_main_v44_apply, val_main_v43_apply, val_main_c_7_apply,
    val_main_v42_apply, val_main_v41_apply, val_main_c_6_apply, val_main_v40_apply, val_main_v39_apply, val_main_v38_apply,
    val_main_v21_apply, val_main_v20_apply, val_main_v19_apply, val_main_v18_apply, val_main_v17_apply, val_main_v16_apply, val_main_v15_apply, val_main_call0_v4_apply,
    val_main_call0_v3_apply, val_main_call0_v2_apply, val_main_call0_v1_apply, val_main_call0_v0_apply, val_main_c_1_apply, val_main_c_0_apply, val_main_v14_apply,
    val_main_v13_apply, val_main_c_apply, val_main_v12_apply]
  revert r j
  decide +kernel

theorem toInt_ofNat (n : ℕ) (h : n < 128) : (BitVec.ofNat 32 n).toInt = (n : Int) := by
  rw [BitVec.toInt_eq_toNat_cond, BitVec.toNat_ofNat, Nat.mod_eq_of_lt (by omega), if_pos (by omega)]

/-! ## The gathers -/

abbrev DG := gather_S128x64x8x64_S128x8x1_S128x8x64x8x64_234_0_n_n_0_2_164864
abbrev DGb := gather_S8x15x64x64_S128x8x1_S8x128x8x64x64_034_1_n_n_1_2_816464

theorem gather_rows (x : S128x64x8x64.Idx → EReal) (idx : IVec S128x8x1 32) (r : Fin 128) (j : Fin 8) (q : Fin 64) (h : Fin 8) (d : Fin 64)
    (n : ℕ) (hn : n < 128) (hi : idx (ix3 r j 0) = BitVec.ofNat 32 n) :
    Host.gather DG x idx (ix5 r j q h d) = x (ix4 ⟨n, hn⟩ q h d) := by
  unfold Host.gather
  congr 1
  funext a
  refine Fin.ext ?_
  show DG.start (ix5 r j q h d) idx a + DG.batchCoord (ix5 r j q h d) a + DG.offCoord (ix5 r j q h d) a = _
  rw [GatherDims.batchCoord_eq_zero _ _ _ (List.not_mem_nil)]
  match a with
  | ⟨0, _⟩ =>
    show DG.start (ix5 r j q h d) idx 0 + 0 + DG.offCoord (ix5 r j q h d) 0 = n
    rw [GatherDims.offCoord_eq_zero _ _ _ (show (0 : Fin 4) ∉ DG.sKept by decide)]
    unfold GatherDims.start
    rw [dif_pos (show (0 : Fin 4) ∈ DG.startIndexMap by decide)]
    have hsi : DG.siIdx (ix5 r j q h d) ⟨List.idxOf (0 : Fin 4) DG.startIndexMap, by decide⟩ = ix3 r j 0 := by
      funext b
      refine Fin.ext ?_
      match b with
      | ⟨0, _⟩ => rfl
      | ⟨1, _⟩ => rfl
      | ⟨2, _⟩ => rfl
    rw [hsi, hi, toInt_ofNat n hn]
    show min n (128 - 1) + 0 + 0 = n
    omega
  | ⟨1, _⟩ =>
    have h1 : DG.start (ix5 r j q h d) idx 1 = 0 := by unfold GatherDims.start; rw [dif_neg (show (1 : Fin 4) ∉ DG.startIndexMap by decide)]
    have h2 : DG.offCoord (ix5 r j q h d) 1 = (ix4 (⟨n, hn⟩ : Fin 128) q h d 1).val := by unfold GatherDims.offCoord; rw [dif_pos (show (1 : Fin 4) ∈ DG.sKept by decide)]; rfl
    exact (congrArg₂ (fun s o : ℕ => s + 0 + o) h1 h2).trans (Nat.zero_add _)
  | ⟨2, _⟩ =>
    have h1 : DG.start (ix5 r j q h d) idx 2 = 0 := by unfold GatherDims.start; rw [dif_neg (show (2 : Fin 4) ∉ DG.startIndexMap by decide)]
    have h2 : DG.offCoord (ix5 r j q h d) 2 = (ix4 (⟨n, hn⟩ : Fin 128) q h d 2).val := by unfold GatherDims.offCoord; rw [dif_pos (show (2 : Fin 4) ∈ DG.sKept by decide)]; rfl
    exact (congrArg₂ (fun s o : ℕ => s + 0 + o) h1 h2).trans (Nat.zero_add _)
  | ⟨3, _⟩ =>
    have h1 : DG.start (ix5 r j q h d) idx 3 = 0 := by unfold GatherDims.start; rw [dif_neg (show (3 : Fin 4) ∉ DG.startIndexMap by decide)]
    have h2 : DG.offCoord (ix5 r j q h d) 3 = (ix4 (⟨n, hn⟩ : Fin 128) q h d 3).val := by unfold GatherDims.offCoord; rw [dif_pos (show (3 : Fin 4) ∈ DG.sKept by decide)]; rfl
    exact (congrArg₂ (fun s o : ℕ => s + 0 + o) h1 h2).trans (Nat.zero_add _)

theorem gather_bias (x : S8x15x64x64.Idx → EReal) (idx : IVec S128x8x1 32) (h : Fin 8) (r : Fin 128) (j : Fin 8) (q : Fin 64) (k : Fin 64)
    (n : ℕ) (hn : n < 15) (hi : idx (ix3 r j 0) = BitVec.ofNat 32 n) :
    Host.gather DGb x idx (ix5 h r j q k) = x (ix4 h ⟨n, hn⟩ q k) := by
  unfold Host.gather
  congr 1
  funext a
  refine Fin.ext ?_
  show DGb.start (ix5 h r j q k) idx a + DGb.batchCoord (ix5 h r j q k) a + DGb.offCoord (ix5 h r j q k) a = _
  rw [GatherDims.batchCoord_eq_zero _ _ _ (List.not_mem_nil)]
  match a with
  | ⟨1, _⟩ =>
    show DGb.start (ix5 h r j q k) idx 1 + 0 + DGb.offCoord (ix5 h r j q k) 1 = n
    rw [GatherDims.offCoord_eq_zero _ _ _ (show (1 : Fin 4) ∉ DGb.sKept by decide)]
    unfold GatherDims.start
    rw [dif_pos (show (1 : Fin 4) ∈ DGb.startIndexMap by decide)]
    have hsi : DGb.siIdx (ix5 h r j q k) ⟨List.idxOf (1 : Fin 4) DGb.startIndexMap, by decide⟩ = ix3 r j 0 := by
      funext b
      refine Fin.ext ?_
      match b with
      | ⟨0, _⟩ => rfl
      | ⟨1, _⟩ => rfl
      | ⟨2, _⟩ => rfl
    rw [hsi, hi, toInt_ofNat n (by omega)]
    show min n (15 - 1) + 0 + 0 = n
    omega
  | ⟨0, _⟩ =>
    have h1 : DGb.start (ix5 h r j q k) idx 0 = 0 := by unfold GatherDims.start; rw [dif_neg (show (0 : Fin 4) ∉ DGb.startIndexMap by decide)]
    have h2 : DGb.offCoord (ix5 h r j q k) 0 = (ix4 h (⟨n, hn⟩ : Fin 15) q k 0).val := by unfold GatherDims.offCoord; rw [dif_pos (show (0 : Fin 4) ∈ DGb.sKept by decide)]; rfl
    exact (congrArg₂ (fun s o : ℕ => s + 0 + o) h1 h2).trans (Nat.zero_add _)
  | ⟨2, _⟩ =>
    have h1 : DGb.start (ix5 h r j q k) idx 2 = 0 := by unfold GatherDims.start; rw [dif_neg (show (2 : Fin 4) ∉ DGb.startIndexMap by decide)]
    have h2 : DGb.offCoord (ix5 h r j q k) 2 = (ix4 h (⟨n, hn⟩ : Fin 15) q k 2).val := by unfold GatherDims.offCoord; rw [dif_pos (show (2 : Fin 4) ∈ DGb.sKept by decide)]; rfl
    exact (congrArg₂ (fun s o : ℕ => s + 0 + o) h1 h2).trans (Nat.zero_add _)
  | ⟨3, _⟩ =>
    have h1 : DGb.start (ix5 h r j q k) idx 3 = 0 := by unfold GatherDims.start; rw [dif_neg (show (3 : Fin 4) ∉ DGb.startIndexMap by decide)]
    have h2 : DGb.offCoord (ix5 h r j q k) 3 = (ix4 h (⟨n, hn⟩ : Fin 15) q k 3).val := by unfold GatherDims.offCoord; rw [dif_pos (show (3 : Fin 4) ∈ DGb.sKept by decide)]; rfl
    exact (congrArg₂ (fun s o : ℕ => s + 0 + o) h1 h2).trans (Nat.zero_add _)

/-! ## The scatters -/

abbrev DS := scatter_S128x64x8x64_S128x8x1_S128x8x64x8x64_234_0_0_2
abbrev DSb := scatter_S8x15x64x64_S128x8x1_S8x128x8x64x64_034_1_1_2

theorem lands_rows (idx : IVec S128x8x1 32) (hi : ∀ (r : Fin 128) (j : Fin 8), idx (ix3 r j 0) = BitVec.ofNat 32 (rs r.val + j.val))
    (y : S128x8x64x8x64.Idx) (i : S128x64x8x64.Idx) :
    DS.resultIdx? y idx = some i ↔ rs (y 0).val + (y 1).val = (i 0).val ∧ (y 2).val = (i 1).val ∧ (y 3).val = (i 2).val ∧ (y 4).val = (i 3).val := by
  rw [Routing.resultIdx?_eq_some]
  have hj : (y 1).val < 8 := (y 1).isLt
  have hb := rs_le (y 0).val
  have s0 : DS.start y idx 0 = ((rs (y 0).val + (y 1).val : ℕ) : Int) := by
    unfold ScatterDims.start
    rw [dif_pos (show (0 : Fin 4) ∈ DS.scatterDimsToOperandDims by decide)]
    have hsi : DS.siIdx y ⟨List.idxOf (0 : Fin 4) DS.scatterDimsToOperandDims, by decide⟩ = ix3 (y 0) (y 1) 0 := by
      funext b
      refine Fin.ext ?_
      match b with
      | ⟨0, _⟩ => rfl
      | ⟨1, _⟩ => rfl
      | ⟨2, _⟩ => rfl
    rw [hsi]
    exact (congrArg BitVec.toInt (hi (y 0) (y 1))).trans (toInt_ofNat _ (by omega))
  have s1 : DS.start y idx 1 = 0 := by unfold ScatterDims.start; rw [dif_neg (show (1 : Fin 4) ∉ DS.scatterDimsToOperandDims by decide)]
  have s2 : DS.start y idx 2 = 0 := by unfold ScatterDims.start; rw [dif_neg (show (2 : Fin 4) ∉ DS.scatterDimsToOperandDims by decide)]
  have s3 : DS.start y idx 3 = 0 := by unfold ScatterDims.start; rw [dif_neg (show (3 : Fin 4) ∉ DS.scatterDimsToOperandDims by decide)]
  have w0 : DS.window y 0 = 0 := by unfold ScatterDims.window; rw [dif_neg (show (0 : Fin 4) ∉ DS.sKept by decide)]
  have w1 : DS.window y 1 = (y 2).val := by unfold ScatterDims.window; rw [dif_pos (show (1 : Fin 4) ∈ DS.sKept by decide)]; rfl
  have w2 : DS.window y 2 = (y 3).val := by unfold ScatterDims.window; rw [dif_pos (show (2 : Fin 4) ∈ DS.sKept by decide)]; rfl
  have w3 : DS.window y 3 = (y 4).val := by unfold ScatterDims.window; rw [dif_pos (show (3 : Fin 4) ∈ DS.sKept by decide)]; rfl
  constructor
  · intro h
    have h0 := h 0
    have h1 := h 1
    have h2 := h 2
    have h3 := h 3
    rw [s0, w0] at h0
    rw [s1, w1] at h1
    rw [s2, w2] at h2
    rw [s3, w3] at h3
    exact ⟨by omega, by omega, by omega, by omega⟩
  · rintro ⟨h0, h1, h2, h3⟩ a
    match a with
    | ⟨0, _⟩ => show DS.start y idx 0 + (DS.window y 0 : Int) = ((i 0).val : Int); rw [s0, w0]; omega
    | ⟨1, _⟩ => show DS.start y idx 1 + (DS.window y 1 : Int) = ((i 1).val : Int); rw [s1, w1]; omega
    | ⟨2, _⟩ => show DS.start y idx 2 + (DS.window y 2 : Int) = ((i 2).val : Int); rw [s2, w2]; omega
    | ⟨3, _⟩ => show DS.start y idx 3 + (DS.window y 3 : Int) = ((i 3).val : Int); rw [s3, w3]; omega

theorem lands_bias (idx : IVec S128x8x1 32) (hi : ∀ (r : Fin 128) (j : Fin 8), idx (ix3 r j 0) = BitVec.ofNat 32 (bs r.val + j.val))
    (y : S8x128x8x64x64.Idx) (i : S8x15x64x64.Idx) :
    DSb.resultIdx? y idx = some i ↔ bs (y 1).val + (y 2).val = (i 1).val ∧ (y 0).val = (i 0).val ∧ (y 3).val = (i 2).val ∧ (y 4).val = (i 3).val := by
  rw [Routing.resultIdx?_eq_some]
  have hj : (y 2).val < 8 := (y 2).isLt
  have hb := bs_le (y 1).val (y 1).isLt
  have s1 : DSb.start y idx 1 = ((bs (y 1).val + (y 2).val : ℕ) : Int) := by
    unfold ScatterDims.start
    rw [dif_pos (show (1 : Fin 4) ∈ DSb.scatterDimsToOperandDims by decide)]
    have hsi : DSb.siIdx y ⟨List.idxOf (1 : Fin 4) DSb.scatterDimsToOperandDims, by decide⟩ = ix3 (y 1) (y 2) 0 := by
      funext b
      refine Fin.ext ?_
      match b with
      | ⟨0, _⟩ => rfl
      | ⟨1, _⟩ => rfl
      | ⟨2, _⟩ => rfl
    rw [hsi]
    exact (congrArg BitVec.toInt (hi (y 1) (y 2))).trans (toInt_ofNat _ (by omega))
  have s0 : DSb.start y idx 0 = 0 := by unfold ScatterDims.start; rw [dif_neg (show (0 : Fin 4) ∉ DSb.scatterDimsToOperandDims by decide)]
  have s2 : DSb.start y idx 2 = 0 := by unfold ScatterDims.start; rw [dif_neg (show (2 : Fin 4) ∉ DSb.scatterDimsToOperandDims by decide)]
  have s3 : DSb.start y idx 3 = 0 := by unfold ScatterDims.start; rw [dif_neg (show (3 : Fin 4) ∉ DSb.scatterDimsToOperandDims by decide)]
  have w1 : DSb.window y 1 = 0 := by unfold ScatterDims.window; rw [dif_neg (show (1 : Fin 4) ∉ DSb.sKept by decide)]
  have w0 : DSb.window y 0 = (y 0).val := by unfold ScatterDims.window; rw [dif_pos (show (0 : Fin 4) ∈ DSb.sKept by decide)]; rfl
  have w2 : DSb.window y 2 = (y 3).val := by unfold ScatterDims.window; rw [dif_pos (show (2 : Fin 4) ∈ DSb.sKept by decide)]; rfl
  have w3 : DSb.window y 3 = (y 4).val := by unfold ScatterDims.window; rw [dif_pos (show (3 : Fin 4) ∈ DSb.sKept by decide)]; rfl
  constructor
  · intro h
    have h0 := h 0
    have h1 := h 1
    have h2 := h 2
    have h3 := h 3
    rw [s0, w0] at h0
    rw [s1, w1] at h1
    rw [s2, w2] at h2
    rw [s3, w3] at h3
    exact ⟨by omega, by omega, by omega, by omega⟩
  · rintro ⟨h1, h0, h2, h3⟩ a
    match a with
    | ⟨0, _⟩ => show DSb.start y idx 0 + (DSb.window y 0 : Int) = ((i 0).val : Int); rw [s0, w0]; omega
    | ⟨1, _⟩ => show DSb.start y idx 1 + (DSb.window y 1 : Int) = ((i 1).val : Int); rw [s1, w1]; omega
    | ⟨2, _⟩ => show DSb.start y idx 2 + (DSb.window y 2 : Int) = ((i 2).val : Int); rw [s2, w2]; omega
    | ⟨3, _⟩ => show DSb.start y idx 3 + (DSb.window y 3 : Int) = ((i 3).val : Int); rw [s3, w3]; omega

/-- The scattered sum at one element: over the rows whose window holds it. -/
theorem scatter_rows (x : S128x64x8x64.Idx → EReal) (idx : IVec S128x8x1 32) (hi : ∀ (r : Fin 128) (j : Fin 8), idx (ix3 r j 0) = BitVec.ofNat 32 (rs r.val + j.val))
    (upd : S128x8x64x8x64.Idx → EReal) (U : ℕ → ℕ → ℕ → ℕ → ℕ → EReal) (hU : ∀ y, upd y = U (y 0).val (y 1).val (y 2).val (y 3).val (y 4).val) (i : S128x64x8x64.Idx) :
    Ideal.hostScatterAdd DS x idx upd i
      = x i + ∑ r ∈ Finset.range 128, if rs r ≤ (i 0).val ∧ (i 0).val < rs r + 8 then U r ((i 0).val - rs r) (i 1).val (i 2).val (i 3).val else 0 := by
  unfold Ideal.hostScatterAdd
  congr 1
  rw [← Finset.sum_filter]
  have hb : ∀ r, rs r ≤ (i 0).val ∧ (i 0).val < rs r + 8 → (i 0).val - rs r < 8 := fun r h => by omega
  refine Finset.sum_bij' (fun y _ => (y 0).val)
    (fun r hr => ix5 (⟨r, Finset.mem_range.mp (Finset.mem_filter.mp hr).1⟩ : Fin 128) (⟨(i 0).val - rs r, hb r (Finset.mem_filter.mp hr).2⟩ : Fin 8) (i 1) (i 2) (i 3))
    ?_ ?_ ?_ ?_ ?_
  · intro y hy
    have h := (lands_rows idx hi y i).mp (Finset.mem_filter.mp hy).2
    have h1 : (y 1).val < 8 := (y 1).isLt
    exact Finset.mem_filter.mpr ⟨Finset.mem_range.mpr (y 0).isLt, by omega, by omega⟩
  · intro r hr
    have h := (Finset.mem_filter.mp hr).2
    refine Finset.mem_filter.mpr ⟨Finset.mem_univ _, (lands_rows idx hi _ i).mpr ⟨?_, rfl, rfl, rfl⟩⟩
    show rs r + ((i 0).val - rs r) = (i 0).val
    omega
  · intro y hy
    have h := (lands_rows idx hi y i).mp (Finset.mem_filter.mp hy).2
    funext a
    refine Fin.ext ?_
    match a with
    | ⟨0, _⟩ => rfl
    | ⟨1, _⟩ => show (i 0).val - rs (y 0).val = (y 1).val; omega
    | ⟨2, _⟩ => exact h.2.1.symm
    | ⟨3, _⟩ => exact h.2.2.1.symm
    | ⟨4, _⟩ => exact h.2.2.2.symm
  · intro r hr
    rfl
  · intro y hy
    have h := (lands_rows idx hi y i).mp (Finset.mem_filter.mp hy).2
    rw [hU, h.2.1, h.2.2.1, h.2.2.2]
    congr 1
    omega

theorem scatter_bias (x : S8x15x64x64.Idx → EReal) (idx : IVec S128x8x1 32) (hi : ∀ (r : Fin 128) (j : Fin 8), idx (ix3 r j 0) = BitVec.ofNat 32 (bs r.val + j.val))
    (upd : S8x128x8x64x64.Idx → EReal) (U : ℕ → ℕ → ℕ → ℕ → ℕ → EReal) (hU : ∀ y, upd y = U (y 0).val (y 1).val (y 2).val (y 3).val (y 4).val) (i : S8x15x64x64.Idx) :
    Ideal.hostScatterAdd DSb x idx upd i
      = x i + ∑ r ∈ Finset.range 128, if bs r ≤ (i 1).val ∧ (i 1).val < bs r + 8 then U (i 0).val r ((i 1).val - bs r) (i 2).val (i 3).val else 0 := by
  unfold Ideal.hostScatterAdd
  congr 1
  rw [← Finset.sum_filter]
  have hb : ∀ r, bs r ≤ (i 1).val ∧ (i 1).val < bs r + 8 → (i 1).val - bs r < 8 := fun r h => by omega
  refine Finset.sum_bij' (fun y _ => (y 1).val)
    (fun r hr => ix5 (i 0) (⟨r, Finset.mem_range.mp (Finset.mem_filter.mp hr).1⟩ : Fin 128) (⟨(i 1).val - bs r, hb r (Finset.mem_filter.mp hr).2⟩ : Fin 8) (i 2) (i 3))
    ?_ ?_ ?_ ?_ ?_
  · intro y hy
    have h := (lands_bias idx hi y i).mp (Finset.mem_filter.mp hy).2
    have h1 : (y 2).val < 8 := (y 2).isLt
    exact Finset.mem_filter.mpr ⟨Finset.mem_range.mpr (y 1).isLt, by omega, by omega⟩
  · intro r hr
    have h := (Finset.mem_filter.mp hr).2
    refine Finset.mem_filter.mpr ⟨Finset.mem_univ _, (lands_bias idx hi _ i).mpr ⟨?_, rfl, rfl, rfl⟩⟩
    show bs r + ((i 1).val - bs r) = (i 1).val
    omega
  · intro y hy
    have h := (lands_bias idx hi y i).mp (Finset.mem_filter.mp hy).2
    funext a
    refine Fin.ext ?_
    match a with
    | ⟨0, _⟩ => exact h.2.1.symm
    | ⟨1, _⟩ => rfl
    | ⟨2, _⟩ => show (i 1).val - bs (y 1).val = (y 2).val; omega
    | ⟨3, _⟩ => exact h.2.2.1.symm
    | ⟨4, _⟩ => exact h.2.2.2.symm
  · intro r hr
    rfl
  · intro y hy
    have h := (lands_bias idx hi y i).mp (Finset.mem_filter.mp hy).2
    rw [hU, h.2.1, h.2.2.1, h.2.2.2]
    congr 1
    omega

end Cert.Proof.Attn.Ref

end
-- ==== Proof.RefShape.lean ====
/-
  The elements the reference's reshapes read, in plain coordinates.
-/
module

public import proofs.«01_k».proof.Proof.Gen.ReferenceIdeal.Read

@[expose] public section

noncomputable section

namespace Cert.Proof.Attn.Ref

open Cert.ReferenceIdeal Cert.ReferenceIdeal.Gen Cert.ReferenceIdeal.Read Idealize.ShloMosaic

theorem i3_0 (i : S2x15x64x4x64.Idx) : (idx_main_v3 i 0).val = (i 0).val := by
  have h0 : (i 0).val < 2 := (i 0).isLt
  have h1 : (i 1).val < 15 := (i 1).isLt
  have h2 : (i 2).val < 64 := (i 2).isLt
  have h3 : (i 3).val < 4 := (i 3).isLt
  have h4 : (i 4).val < 64 := (i 4).isLt
  show (((((i 0).val * 15 + (i 1).val) * 64 + (i 2).val) * 4 + (i 3).val) * 64 + (i 4).val) / 245760 = (i 0).val
  omega
theorem i3_1 (i : S2x15x64x4x64.Idx) : (idx_main_v3 i 1).val = (i 1).val * 64 + (i 2).val := by
  have h0 : (i 0).val < 2 := (i 0).isLt
  have h1 : (i 1).val < 15 := (i 1).isLt
  have h2 : (i 2).val < 64 := (i 2).isLt
  have h3 : (i 3).val < 4 := (i 3).isLt
  have h4 : (i 4).val < 64 := (i 4).isLt
  show (((((i 0).val * 15 + (i 1).val) * 64 + (i 2).val) * 4 + (i 3).val) * 64 + (i 4).val) / 256 % 960 = (i 1).val * 64 + (i 2).val
  omega
theorem i3_2 (i : S2x15x64x4x64.Idx) : (idx_main_v3 i 2).val = (i 3).val * 64 + (i 4).val := by
  have h0 : (i 0).val < 2 := (i 0).isLt
  have h1 : (i 1).val < 15 := (i 1).isLt
  have h2 : (i 2).val < 64 := (i 2).isLt
  have h3 : (i 3).val < 4 := (i 3).isLt
  have h4 : (i 4).val < 64 := (i 4).isLt
  show (((((i 0).val * 15 + (i 1).val) * 64 + (i 2).val) * 4 + (i 3).val) * 64 + (i 4).val) % 256 = (i 3).val * 64 + (i 4).val
  omega
theorem i5_0 (i : S8x15x64x64.Idx) : (idx_main_v5 i 0).val = (i 0).val / 4 := by
  have h0 : (i 0).val < 8 := (i 0).isLt
  have h1 : (i 1).val < 15 := (i 1).isLt
  have h2 : (i 2).val < 64 := (i 2).isLt
  have h3 : (i 3).val < 64 := (i 3).isLt
  show ((((i 0).val * 15 + (i 1).val) * 64 + (i 2).val) * 64 + (i 3).val) / 245760 = (i 0).val / 4
  omega
theorem i5_1 (i : S8x15x64x64.Idx) : (idx_main_v5 i 1).val = (i 0).val % 4 := by
  have h0 : (i 0).val < 8 := (i 0).isLt
  have h1 : (i 1).val < 15 := (i 1).isLt
  have h2 : (i 2).val < 64 := (i 2).isLt
  have h3 : (i 3).val < 64 := (i 3).isLt
  show ((((i 0).val * 15 + (i 1).val) * 64 + (i 2).val) * 64 + (i 3).val) / 61440 % 4 = (i 0).val % 4
  omega
theorem i5_2 (i : S8x15x64x64.Idx) : (idx_main_v5 i 2).val = (i 1).val := by
  have h0 : (i 0).val < 8 := (i 0).isLt
  have h1 : (i 1).val < 15 := (i 1).isLt
  have h2 : (i 2).val < 64 := (i 2).isLt
  have h3 : (i 3).val < 64 := (i 3).isLt
  show ((((i 0).val * 15 + (i 1).val) * 64 + (i 2).val) * 64 + (i 3).val) / 4096 % 15 = (i 1).val
  omega
theorem i5_3 (i : S8x15x64x64.Idx) : (idx_main_v5 i 3).val = (i 2).val := by
  have h0 : (i 0).val < 8 := (i 0).isLt
  have h1 : (i 1).val < 15 := (i 1).isLt
  have h2 : (i 2).val < 64 := (i 2).isLt
  have h3 : (i 3).val < 64 := (i 3).isLt
  show ((((i 0).val * 15 + (i 1).val) * 64 + (i 2).val) * 64 + (i 3).val) / 64 % 64 = (i 2).val
  omega
theorem i5_4 (i : S8x15x64x64.Idx) : (idx_main_v5 i 4).val = (i 3).val := by
  have h0 : (i 0).val < 8 := (i 0).isLt
  have h1 : (i 1).val < 15 := (i 1).isLt
  have h2 : (i 2).val < 64 := (i 2).isLt
  have h3 : (i 3).val < 64 := (i 3).isLt
  show ((((i 0).val * 15 + (i 1).val) * 64 + (i 2).val) * 64 + (i 3).val) % 64 = (i 3).val
  omega
theorem i7_0 (i : S128x64x8x64.Idx) : (idx_main_v7 i 0).val = (i 0).val * 64 + (i 1).val := by
  have h0 : (i 0).val < 128 := (i 0).isLt
  have h1 : (i 1).val < 64 := (i 1).isLt
  have h2 : (i 2).val < 8 := (i 2).isLt
  have h3 : (i 3).val < 64 := (i 3).isLt
  show ((((i 0).val * 64 + (i 1).val) * 8 + (i 2).val) * 64 + (i 3).val) / 512 = (i 0).val * 64 + (i 1).val
  omega
theorem i7_1 (i : S128x64x8x64.Idx) : (idx_main_v7 i 1).val = (i 2).val * 64 + (i 3).val := by
  have h0 : (i 0).val < 128 := (i 0).isLt
  have h1 : (i 1).val < 64 := (i 1).isLt
  have h2 : (i 2).val < 8 := (i 2).isLt
  have h3 : (i 3).val < 64 := (i 3).isLt
  show ((((i 0).val * 64 + (i 1).val) * 8 + (i 2).val) * 64 + (i 3).val) % 512 = (i 2).val * 64 + (i 3).val
  omega
theorem i9_0 (i : S128x64x8x64.Idx) : (idx_main_v9 i 0).val = (i 0).val * 64 + (i 1).val := by
  have h0 : (i 0).val < 128 := (i 0).isLt
  have h1 : (i 1).val < 64 := (i 1).isLt
  have h2 : (i 2).val < 8 := (i 2).isLt
  have h3 : (i 3).val < 64 := (i 3).isLt
  show ((((i 0).val * 64 + (i 1).val) * 8 + (i 2).val) * 64 + (i 3).val) / 512 = (i 0).val * 64 + (i 1).val
  omega
theorem i9_1 (i : S128x64x8x64.Idx) : (idx_main_v9 i 1).val = (i 2).val * 64 + (i 3).val := by
  have h0 : (i 0).val < 128 := (i 0).isLt
  have h1 : (i 1).val < 64 := (i 1).isLt
  have h2 : (i 2).val < 8 := (i 2).isLt
  have h3 : (i 3).val < 64 := (i 3).isLt
  show ((((i 0).val * 64 + (i 1).val) * 8 + (i 2).val) * 64 + (i 3).val) % 512 = (i 2).val * 64 + (i 3).val
  omega
theorem i11_0 (i : S128x64x8x64.Idx) : (idx_main_v11 i 0).val = (i 0).val * 64 + (i 1).val := by
  have h0 : (i 0).val < 128 := (i 0).isLt
  have h1 : (i 1).val < 64 := (i 1).isLt
  have h2 : (i 2).val < 8 := (i 2).isLt
  have h3 : (i 3).val < 64 := (i 3).isLt
  show ((((i 0).val * 64 + (i 1).val) * 8 + (i 2).val) * 64 + (i 3).val) / 512 = (i 0).val * 64 + (i 1).val
  omega
theorem i11_1 (i : S128x64x8x64.Idx) : (idx_main_v11 i 1).val = (i 2).val * 64 + (i 3).val := by
  have h0 : (i 0).val < 128 := (i 0).isLt
  have h1 : (i 1).val < 64 := (i 1).isLt
  have h2 : (i 2).val < 8 := (i 2).isLt
  have h3 : (i 3).val < 64 := (i 3).isLt
  show ((((i 0).val * 64 + (i 1).val) * 8 + (i 2).val) * 64 + (i 3).val) % 512 = (i 2).val * 64 + (i 3).val
  omega
theorem i29_0 (i : S128x512x8x64.Idx) : (idx_main_v29 i 0).val = (i 0).val := by
  have h0 : (i 0).val < 128 := (i 0).isLt
  have h1 : (i 1).val < 512 := (i 1).isLt
  have h2 : (i 2).val < 8 := (i 2).isLt
  have h3 : (i 3).val < 64 := (i 3).isLt
  show ((((i 0).val * 512 + (i 1).val) * 8 + (i 2).val) * 64 + (i 3).val) / 262144 = (i 0).val
  omega
theorem i29_1 (i : S128x512x8x64.Idx) : (idx_main_v29 i 1).val = (i 1).val / 64 := by
  have h0 : (i 0).val < 128 := (i 0).isLt
  have h1 : (i 1).val < 512 := (i 1).isLt
  have h2 : (i 2).val < 8 := (i 2).isLt
  have h3 : (i 3).val < 64 := (i 3).isLt
  show ((((i 0).val * 512 + (i 1).val) * 8 + (i 2).val) * 64 + (i 3).val) / 32768 % 8 = (i 1).val / 64
  omega
theorem i29_2 (i : S128x512x8x64.Idx) : (idx_main_v29 i 2).val = (i 1).val % 64 := by
  have h0 : (i 0).val < 128 := (i 0).isLt
  have h1 : (i 1).val < 512 := (i 1).isLt
  have h2 : (i 2).val < 8 := (i 2).isLt
  have h3 : (i 3).val < 64 := (i 3).isLt
  show ((((i 0).val * 512 + (i 1).val) * 8 + (i 2).val) * 64 + (i 3).val) / 512 % 64 = (i 1).val % 64
  omega
theorem i29_3 (i : S128x512x8x64.Idx) : (idx_main_v29 i 3).val = (i 2).val := by
  have h0 : (i 0).val < 128 := (i 0).isLt
  have h1 : (i 1).val < 512 := (i 1).isLt
  have h2 : (i 2).val < 8 := (i 2).isLt
  have h3 : (i 3).val < 64 := (i 3).isLt
  show ((((i 0).val * 512 + (i 1).val) * 8 + (i 2).val) * 64 + (i 3).val) / 64 % 8 = (i 2).val
  omega
theorem i29_4 (i : S128x512x8x64.Idx) : (idx_main_v29 i 4).val = (i 3).val := by
  have h0 : (i 0).val < 128 := (i 0).isLt
  have h1 : (i 1).val < 512 := (i 1).isLt
  have h2 : (i 2).val < 8 := (i 2).isLt
  have h3 : (i 3).val < 64 := (i 3).isLt
  show ((((i 0).val * 512 + (i 1).val) * 8 + (i 2).val) * 64 + (i 3).val) % 64 = (i 3).val
  omega
theorem i37_0 (i : S128x512x8x64.Idx) : (idx_main_v37 i 0).val = (i 0).val := by
  have h0 : (i 0).val < 128 := (i 0).isLt
  have h1 : (i 1).val < 512 := (i 1).isLt
  have h2 : (i 2).val < 8 := (i 2).isLt
  have h3 : (i 3).val < 64 := (i 3).isLt
  show ((((i 0).val * 512 + (i 1).val) * 8 + (i 2).val) * 64 + (i 3).val) / 262144 = (i 0).val
  omega
theorem i37_1 (i : S128x512x8x64.Idx) : (idx_main_v37 i 1).val = (i 1).val / 64 := by
  have h0 : (i 0).val < 128 := (i 0).isLt
  have h1 : (i 1).val < 512 := (i 1).isLt
  have h2 : (i 2).val < 8 := (i 2).isLt
  have h3 : (i 3).val < 64 := (i 3).isLt
  show ((((i 0).val * 512 + (i 1).val) * 8 + (i 2).val) * 64 + (i 3).val) / 32768 % 8 = (i 1).val / 64
  omega
theorem i37_2 (i : S128x512x8x64.Idx) : (idx_main_v37 i 2).val = (i 1).val % 64 := by
  have h0 : (i 0).val < 128 := (i 0).isLt
  have h1 : (i 1).val < 512 := (i 1).isLt
  have h2 : (i 2).val < 8 := (i 2).isLt
  have h3 : (i 3).val < 64 := (i 3).isLt
  show ((((i 0).val * 512 + (i 1).val) * 8 + (i 2).val) * 64 + (i 3).val) / 512 % 64 = (i 1).val % 64
  omega
theorem i37_3 (i : S128x512x8x64.Idx) : (idx_main_v37 i 3).val = (i 2).val := by
  have h0 : (i 0).val < 128 := (i 0).isLt
  have h1 : (i 1).val < 512 := (i 1).isLt
  have h2 : (i 2).val < 8 := (i 2).isLt
  have h3 : (i 3).val < 64 := (i 3).isLt
  show ((((i 0).val * 512 + (i 1).val) * 8 + (i 2).val) * 64 + (i 3).val) / 64 % 8 = (i 2).val
  omega
theorem i37_4 (i : S128x512x8x64.Idx) : (idx_main_v37 i 4).val = (i 3).val := by
  have h0 : (i 0).val < 128 := (i 0).isLt
  have h1 : (i 1).val < 512 := (i 1).isLt
  have h2 : (i 2).val < 8 := (i 2).isLt
  have h3 : (i 3).val < 64 := (i 3).isLt
  show ((((i 0).val * 512 + (i 1).val) * 8 + (i 2).val) * 64 + (i 3).val) % 64 = (i 3).val
  omega
theorem i51_0 (i : S8x128x64x512.Idx) : (idx_main_v51 i 0).val = (i 0).val := by
  have h0 : (i 0).val < 8 := (i 0).isLt
  have h1 : (i 1).val < 128 := (i 1).isLt
  have h2 : (i 2).val < 64 := (i 2).isLt
  have h3 : (i 3).val < 512 := (i 3).isLt
  show ((((i 0).val * 128 + (i 1).val) * 64 + (i 2).val) * 512 + (i 3).val) / 4194304 = (i 0).val
  omega
theorem i51_1 (i : S8x128x64x512.Idx) : (idx_main_v51 i 1).val = (i 1).val := by
  have h0 : (i 0).val < 8 := (i 0).isLt
  have h1 : (i 1).val < 128 := (i 1).isLt
  have h2 : (i 2).val < 64 := (i 2).isLt
  have h3 : (i 3).val < 512 := (i 3).isLt
  show ((((i 0).val * 128 + (i 1).val) * 64 + (i 2).val) * 512 + (i 3).val) / 32768 % 128 = (i 1).val
  omega
theorem i51_2 (i : S8x128x64x512.Idx) : (idx_main_v51 i 2).val = (i 2).val := by
  have h0 : (i 0).val < 8 := (i 0).isLt
  have h1 : (i 1).val < 128 := (i 1).isLt
  have h2 : (i 2).val < 64 := (i 2).isLt
  have h3 : (i 3).val < 512 := (i 3).isLt
  show ((((i 0).val * 128 + (i 1).val) * 64 + (i 2).val) * 512 + (i 3).val) / 512 % 64 = (i 2).val
  omega
theorem i51_3 (i : S8x128x64x512.Idx) : (idx_main_v51 i 3).val = (i 3).val / 64 := by
  have h0 : (i 0).val < 8 := (i 0).isLt
  have h1 : (i 1).val < 128 := (i 1).isLt
  have h2 : (i 2).val < 64 := (i 2).isLt
  have h3 : (i 3).val < 512 := (i 3).isLt
  show ((((i 0).val * 128 + (i 1).val) * 64 + (i 2).val) * 512 + (i 3).val) / 64 % 8 = (i 3).val / 64
  omega
theorem i51_4 (i : S8x128x64x512.Idx) : (idx_main_v51 i 4).val = (i 3).val % 64 := by
  have h0 : (i 0).val < 8 := (i 0).isLt
  have h1 : (i 1).val < 128 := (i 1).isLt
  have h2 : (i 2).val < 64 := (i 2).isLt
  have h3 : (i 3).val < 512 := (i 3).isLt
  show ((((i 0).val * 128 + (i 1).val) * 64 + (i 2).val) * 512 + (i 3).val) % 64 = (i 3).val % 64
  omega
theorem i95_0 (i : S128x64x8x64.Idx) : (idx_main_v95 i 0).val = (i 0).val * 64 + (i 1).val := by
  have h0 : (i 0).val < 128 := (i 0).isLt
  have h1 : (i 1).val < 64 := (i 1).isLt
  have h2 : (i 2).val < 8 := (i 2).isLt
  have h3 : (i 3).val < 64 := (i 3).isLt
  show ((((i 0).val * 64 + (i 1).val) * 8 + (i 2).val) * 64 + (i 3).val) / 512 = (i 0).val * 64 + (i 1).val
  omega
theorem i95_1 (i : S128x64x8x64.Idx) : (idx_main_v95 i 1).val = (i 2).val * 64 + (i 3).val := by
  have h0 : (i 0).val < 128 := (i 0).isLt
  have h1 : (i 1).val < 64 := (i 1).isLt
  have h2 : (i 2).val < 8 := (i 2).isLt
  have h3 : (i 3).val < 64 := (i 3).isLt
  show ((((i 0).val * 64 + (i 1).val) * 8 + (i 2).val) * 64 + (i 3).val) % 512 = (i 2).val * 64 + (i 3).val
  omega
theorem i107_0 (i : S8x128x64x1.Idx) : (idx_main_v107 i 0).val = (i 0).val := by
  have h0 : (i 0).val < 8 := (i 0).isLt
  have h1 : (i 1).val < 128 := (i 1).isLt
  have h2 : (i 2).val < 64 := (i 2).isLt
  have h3 : (i 3).val < 1 := (i 3).isLt
  show ((((i 0).val * 128 + (i 1).val) * 64 + (i 2).val) * 1 + (i 3).val) / 8192 = (i 0).val
  omega
theorem i107_1 (i : S8x128x64x1.Idx) : (idx_main_v107 i 1).val = (i 1).val := by
  have h0 : (i 0).val < 8 := (i 0).isLt
  have h1 : (i 1).val < 128 := (i 1).isLt
  have h2 : (i 2).val < 64 := (i 2).isLt
  have h3 : (i 3).val < 1 := (i 3).isLt
  show ((((i 0).val * 128 + (i 1).val) * 64 + (i 2).val) * 1 + (i 3).val) / 64 % 128 = (i 1).val
  omega
theorem i107_2 (i : S8x128x64x1.Idx) : (idx_main_v107 i 2).val = (i 2).val := by
  have h0 : (i 0).val < 8 := (i 0).isLt
  have h1 : (i 1).val < 128 := (i 1).isLt
  have h2 : (i 2).val < 64 := (i 2).isLt
  have h3 : (i 3).val < 1 := (i 3).isLt
  show ((((i 0).val * 128 + (i 1).val) * 64 + (i 2).val) * 1 + (i 3).val) % 64 = (i 2).val
  omega
theorem i123_0 (i : S8x128x64x8x64.Idx) : (idx_main_v123 i 0).val = (i 0).val := by
  have h0 : (i 0).val < 8 := (i 0).isLt
  have h1 : (i 1).val < 128 := (i 1).isLt
  have h2 : (i 2).val < 64 := (i 2).isLt
  have h3 : (i 3).val < 8 := (i 3).isLt
  have h4 : (i 4).val < 64 := (i 4).isLt
  show (((((i 0).val * 128 + (i 1).val) * 64 + (i 2).val) * 8 + (i 3).val) * 64 + (i 4).val) / 4194304 = (i 0).val
  omega
theorem i123_1 (i : S8x128x64x8x64.Idx) : (idx_main_v123 i 1).val = (i 1).val := by
  have h0 : (i 0).val < 8 := (i 0).isLt
  have h1 : (i 1).val < 128 := (i 1).isLt
  have h2 : (i 2).val < 64 := (i 2).isLt
  have h3 : (i 3).val < 8 := (i 3).isLt
  have h4 : (i 4).val < 64 := (i 4).isLt
  show (((((i 0).val * 128 + (i 1).val) * 64 + (i 2).val) * 8 + (i 3).val) * 64 + (i 4).val) / 32768 % 128 = (i 1).val
  omega
theorem i123_2 (i : S8x128x64x8x64.Idx) : (idx_main_v123 i 2).val = (i 2).val := by
  have h0 : (i 0).val < 8 := (i 0).isLt
  have h1 : (i 1).val < 128 := (i 1).isLt
  have h2 : (i 2).val < 64 := (i 2).isLt
  have h3 : (i 3).val < 8 := (i 3).isLt
  have h4 : (i 4).val < 64 := (i 4).isLt
  show (((((i 0).val * 128 + (i 1).val) * 64 + (i 2).val) * 8 + (i 3).val) * 64 + (i 4).val) / 512 % 64 = (i 2).val
  omega
theorem i123_3 (i : S8x128x64x8x64.Idx) : (idx_main_v123 i 3).val = (i 3).val * 64 + (i 4).val := by
  have h0 : (i 0).val < 8 := (i 0).isLt
  have h1 : (i 1).val < 128 := (i 1).isLt
  have h2 : (i 2).val < 64 := (i 2).isLt
  have h3 : (i 3).val < 8 := (i 3).isLt
  have h4 : (i 4).val < 64 := (i 4).isLt
  show (((((i 0).val * 128 + (i 1).val) * 64 + (i 2).val) * 8 + (i 3).val) * 64 + (i 4).val) % 512 = (i 3).val * 64 + (i 4).val
  omega
theorem i127_0 (i : S128x8x64x8x64.Idx) : (idx_main_v127 i 0).val = (i 0).val := by
  have h0 : (i 0).val < 128 := (i 0).isLt
  have h1 : (i 1).val < 8 := (i 1).isLt
  have h2 : (i 2).val < 64 := (i 2).isLt
  have h3 : (i 3).val < 8 := (i 3).isLt
  have h4 : (i 4).val < 64 := (i 4).isLt
  show (((((i 0).val * 8 + (i 1).val) * 64 + (i 2).val) * 8 + (i 3).val) * 64 + (i 4).val) / 262144 = (i 0).val
  omega
theorem i127_1 (i : S128x8x64x8x64.Idx) : (idx_main_v127 i 1).val = (i 1).val * 64 + (i 2).val := by
  have h0 : (i 0).val < 128 := (i 0).isLt
  have h1 : (i 1).val < 8 := (i 1).isLt
  have h2 : (i 2).val < 64 := (i 2).isLt
  have h3 : (i 3).val < 8 := (i 3).isLt
  have h4 : (i 4).val < 64 := (i 4).isLt
  show (((((i 0).val * 8 + (i 1).val) * 64 + (i 2).val) * 8 + (i 3).val) * 64 + (i 4).val) / 512 % 512 = (i 1).val * 64 + (i 2).val
  omega
theorem i127_2 (i : S128x8x64x8x64.Idx) : (idx_main_v127 i 2).val = (i 3).val := by
  have h0 : (i 0).val < 128 := (i 0).isLt
  have h1 : (i 1).val < 8 := (i 1).isLt
  have h2 : (i 2).val < 64 := (i 2).isLt
  have h3 : (i 3).val < 8 := (i 3).isLt
  have h4 : (i 4).val < 64 := (i 4).isLt
  show (((((i 0).val * 8 + (i 1).val) * 64 + (i 2).val) * 8 + (i 3).val) * 64 + (i 4).val) / 64 % 8 = (i 3).val
  omega
theorem i127_3 (i : S128x8x64x8x64.Idx) : (idx_main_v127 i 3).val = (i 4).val := by
  have h0 : (i 0).val < 128 := (i 0).isLt
  have h1 : (i 1).val < 8 := (i 1).isLt
  have h2 : (i 2).val < 64 := (i 2).isLt
  have h3 : (i 3).val < 8 := (i 3).isLt
  have h4 : (i 4).val < 64 := (i 4).isLt
  show (((((i 0).val * 8 + (i 1).val) * 64 + (i 2).val) * 8 + (i 3).val) * 64 + (i 4).val) % 64 = (i 4).val
  omega
theorem i130_0 (i : S128x8x64x8x64.Idx) : (idx_main_v130 i 0).val = (i 0).val := by
  have h0 : (i 0).val < 128 := (i 0).isLt
  have h1 : (i 1).val < 8 := (i 1).isLt
  have h2 : (i 2).val < 64 := (i 2).isLt
  have h3 : (i 3).val < 8 := (i 3).isLt
  have h4 : (i 4).val < 64 := (i 4).isLt
  show (((((i 0).val * 8 + (i 1).val) * 64 + (i 2).val) * 8 + (i 3).val) * 64 + (i 4).val) / 262144 = (i 0).val
  omega
theorem i130_1 (i : S128x8x64x8x64.Idx) : (idx_main_v130 i 1).val = (i 1).val * 64 + (i 2).val := by
  have h0 : (i 0).val < 128 := (i 0).isLt
  have h1 : (i 1).val < 8 := (i 1).isLt
  have h2 : (i 2).val < 64 := (i 2).isLt
  have h3 : (i 3).val < 8 := (i 3).isLt
  have h4 : (i 4).val < 64 := (i 4).isLt
  show (((((i 0).val * 8 + (i 1).val) * 64 + (i 2).val) * 8 + (i 3).val) * 64 + (i 4).val) / 512 % 512 = (i 1).val * 64 + (i 2).val
  omega
theorem i130_2 (i : S128x8x64x8x64.Idx) : (idx_main_v130 i 2).val = (i 3).val := by
  have h0 : (i 0).val < 128 := (i 0).isLt
  have h1 : (i 1).val < 8 := (i 1).isLt
  have h2 : (i 2).val < 64 := (i 2).isLt
  have h3 : (i 3).val < 8 := (i 3).isLt
  have h4 : (i 4).val < 64 := (i 4).isLt
  show (((((i 0).val * 8 + (i 1).val) * 64 + (i 2).val) * 8 + (i 3).val) * 64 + (i 4).val) / 64 % 8 = (i 3).val
  omega
theorem i130_3 (i : S128x8x64x8x64.Idx) : (idx_main_v130 i 3).val = (i 4).val := by
  have h0 : (i 0).val < 128 := (i 0).isLt
  have h1 : (i 1).val < 8 := (i 1).isLt
  have h2 : (i 2).val < 64 := (i 2).isLt
  have h3 : (i 3).val < 8 := (i 3).isLt
  have h4 : (i 4).val < 64 := (i 4).isLt
  show (((((i 0).val * 8 + (i 1).val) * 64 + (i 2).val) * 8 + (i 3).val) * 64 + (i 4).val) % 64 = (i 4).val
  omega
theorem i133_0 (i : S8192x512.Idx) : (idx_main_v133 i 0).val = (i 0).val / 64 := by
  have h0 : (i 0).val < 8192 := (i 0).isLt
  have h1 : (i 1).val < 512 := (i 1).isLt
  show ((i 0).val * 512 + (i 1).val) / 32768 = (i 0).val / 64
  omega
theorem i133_1 (i : S8192x512.Idx) : (idx_main_v133 i 1).val = (i 0).val % 64 := by
  have h0 : (i 0).val < 8192 := (i 0).isLt
  have h1 : (i 1).val < 512 := (i 1).isLt
  show ((i 0).val * 512 + (i 1).val) / 512 % 64 = (i 0).val % 64
  omega
theorem i133_2 (i : S8192x512.Idx) : (idx_main_v133 i 2).val = (i 1).val / 64 := by
  have h0 : (i 0).val < 8192 := (i 0).isLt
  have h1 : (i 1).val < 512 := (i 1).isLt
  show ((i 0).val * 512 + (i 1).val) / 64 % 8 = (i 1).val / 64
  omega
theorem i133_3 (i : S8192x512.Idx) : (idx_main_v133 i 3).val = (i 1).val % 64 := by
  have h0 : (i 0).val < 8192 := (i 0).isLt
  have h1 : (i 1).val < 512 := (i 1).isLt
  show ((i 0).val * 512 + (i 1).val) % 64 = (i 1).val % 64
  omega
theorem i135_0 (i : S8192x512.Idx) : (idx_main_v135 i 0).val = (i 0).val / 64 := by
  have h0 : (i 0).val < 8192 := (i 0).isLt
  have h1 : (i 1).val < 512 := (i 1).isLt
  show ((i 0).val * 512 + (i 1).val) / 32768 = (i 0).val / 64
  omega
theorem i135_1 (i : S8192x512.Idx) : (idx_main_v135 i 1).val = (i 0).val % 64 := by
  have h0 : (i 0).val < 8192 := (i 0).isLt
  have h1 : (i 1).val < 512 := (i 1).isLt
  show ((i 0).val * 512 + (i 1).val) / 512 % 64 = (i 0).val % 64
  omega
theorem i135_2 (i : S8192x512.Idx) : (idx_main_v135 i 2).val = (i 1).val / 64 := by
  have h0 : (i 0).val < 8192 := (i 0).isLt
  have h1 : (i 1).val < 512 := (i 1).isLt
  show ((i 0).val * 512 + (i 1).val) / 64 % 8 = (i 1).val / 64
  omega
theorem i135_3 (i : S8192x512.Idx) : (idx_main_v135 i 3).val = (i 1).val % 64 := by
  have h0 : (i 0).val < 8192 := (i 0).isLt
  have h1 : (i 1).val < 512 := (i 1).isLt
  show ((i 0).val * 512 + (i 1).val) % 64 = (i 1).val % 64
  omega
theorem i137_0 (i : S8192x512.Idx) : (idx_main_v137 i 0).val = (i 0).val / 64 := by
  have h0 : (i 0).val < 8192 := (i 0).isLt
  have h1 : (i 1).val < 512 := (i 1).isLt
  show ((i 0).val * 512 + (i 1).val) / 32768 = (i 0).val / 64
  omega
theorem i137_1 (i : S8192x512.Idx) : (idx_main_v137 i 1).val = (i 0).val % 64 := by
  have h0 : (i 0).val < 8192 := (i 0).isLt
  have h1 : (i 1).val < 512 := (i 1).isLt
  show ((i 0).val * 512 + (i 1).val) / 512 % 64 = (i 0).val % 64
  omega
theorem i137_2 (i : S8192x512.Idx) : (idx_main_v137 i 2).val = (i 1).val / 64 := by
  have h0 : (i 0).val < 8192 := (i 0).isLt
  have h1 : (i 1).val < 512 := (i 1).isLt
  show ((i 0).val * 512 + (i 1).val) / 64 % 8 = (i 1).val / 64
  omega
theorem i137_3 (i : S8192x512.Idx) : (idx_main_v137 i 3).val = (i 1).val % 64 := by
  have h0 : (i 0).val < 8192 := (i 0).isLt
  have h1 : (i 1).val < 512 := (i 1).isLt
  show ((i 0).val * 512 + (i 1).val) % 64 = (i 1).val % 64
  omega
theorem i139_0 (i : S2x4x15x64x64.Idx) : (idx_main_v139 i 0).val = (i 0).val * 4 + (i 1).val := by
  have h0 : (i 0).val < 2 := (i 0).isLt
  have h1 : (i 1).val < 4 := (i 1).isLt
  have h2 : (i 2).val < 15 := (i 2).isLt
  have h3 : (i 3).val < 64 := (i 3).isLt
  have h4 : (i 4).val < 64 := (i 4).isLt
  show (((((i 0).val * 4 + (i 1).val) * 15 + (i 2).val) * 64 + (i 3).val) * 64 + (i 4).val) / 61440 = (i 0).val * 4 + (i 1).val
  omega
theorem i139_1 (i : S2x4x15x64x64.Idx) : (idx_main_v139 i 1).val = (i 2).val := by
  have h0 : (i 0).val < 2 := (i 0).isLt
  have h1 : (i 1).val < 4 := (i 1).isLt
  have h2 : (i 2).val < 15 := (i 2).isLt
  have h3 : (i 3).val < 64 := (i 3).isLt
  have h4 : (i 4).val < 64 := (i 4).isLt
  show (((((i 0).val * 4 + (i 1).val) * 15 + (i 2).val) * 64 + (i 3).val) * 64 + (i 4).val) / 4096 % 15 = (i 2).val
  omega
theorem i139_2 (i : S2x4x15x64x64.Idx) : (idx_main_v139 i 2).val = (i 3).val := by
  have h0 : (i 0).val < 2 := (i 0).isLt
  have h1 : (i 1).val < 4 := (i 1).isLt
  have h2 : (i 2).val < 15 := (i 2).isLt
  have h3 : (i 3).val < 64 := (i 3).isLt
  have h4 : (i 4).val < 64 := (i 4).isLt
  show (((((i 0).val * 4 + (i 1).val) * 15 + (i 2).val) * 64 + (i 3).val) * 64 + (i 4).val) / 64 % 64 = (i 3).val
  omega
theorem i139_3 (i : S2x4x15x64x64.Idx) : (idx_main_v139 i 3).val = (i 4).val := by
  have h0 : (i 0).val < 2 := (i 0).isLt
  have h1 : (i 1).val < 4 := (i 1).isLt
  have h2 : (i 2).val < 15 := (i 2).isLt
  have h3 : (i 3).val < 64 := (i 3).isLt
  have h4 : (i 4).val < 64 := (i 4).isLt
  show (((((i 0).val * 4 + (i 1).val) * 15 + (i 2).val) * 64 + (i 3).val) * 64 + (i 4).val) % 64 = (i 4).val
  omega
theorem i141_0 (i : S2x960x256.Idx) : (idx_main_v141 i 0).val = (i 0).val := by
  have h0 : (i 0).val < 2 := (i 0).isLt
  have h1 : (i 1).val < 960 := (i 1).isLt
  have h2 : (i 2).val < 256 := (i 2).isLt
  show (((i 0).val * 960 + (i 1).val) * 256 + (i 2).val) / 245760 = (i 0).val
  omega
theorem i141_1 (i : S2x960x256.Idx) : (idx_main_v141 i 1).val = (i 1).val / 64 := by
  have h0 : (i 0).val < 2 := (i 0).isLt
  have h1 : (i 1).val < 960 := (i 1).isLt
  have h2 : (i 2).val < 256 := (i 2).isLt
  show (((i 0).val * 960 + (i 1).val) * 256 + (i 2).val) / 16384 % 15 = (i 1).val / 64
  omega
theorem i141_2 (i : S2x960x256.Idx) : (idx_main_v141 i 2).val = (i 1).val % 64 := by
  have h0 : (i 0).val < 2 := (i 0).isLt
  have h1 : (i 1).val < 960 := (i 1).isLt
  have h2 : (i 2).val < 256 := (i 2).isLt
  show (((i 0).val * 960 + (i 1).val) * 256 + (i 2).val) / 256 % 64 = (i 1).val % 64
  omega
theorem i141_3 (i : S2x960x256.Idx) : (idx_main_v141 i 3).val = (i 2).val / 64 := by
  have h0 : (i 0).val < 2 := (i 0).isLt
  have h1 : (i 1).val < 960 := (i 1).isLt
  have h2 : (i 2).val < 256 := (i 2).isLt
  show (((i 0).val * 960 + (i 1).val) * 256 + (i 2).val) / 64 % 4 = (i 2).val / 64
  omega
theorem i141_4 (i : S2x960x256.Idx) : (idx_main_v141 i 4).val = (i 2).val % 64 := by
  have h0 : (i 0).val < 2 := (i 0).isLt
  have h1 : (i 1).val < 960 := (i 1).isLt
  have h2 : (i 2).val < 256 := (i 2).isLt
  show (((i 0).val * 960 + (i 1).val) * 256 + (i 2).val) % 64 = (i 2).val % 64
  omega

end Cert.Proof.Attn.Ref

end
-- ==== Proof.RefValue.lean ====
/-
  The reference's arrays at an index: the scores, the softmax, and the gradient of the scores.
-/
module

public import proofs.«01_k».proof.Proof.RefIndex
public import proofs.«01_k».proof.Proof.RefShape
public import Idealize.ShloMosaic.Lib.KernelVsHost

@[expose] public section

noncomputable section

namespace Cert.Proof.Attn.Ref

open Cert.ReferenceIdeal Cert.ReferenceIdeal.Gen Cert.ReferenceIdeal.Read
open Idealize.ShloMosaic Idealize.ShloMosaic.ValueIdx
open scoped BigOperators

abbrev XA := S8192x1536.Idx → EReal
abbrev BA := S2x960x256.Idx → EReal
abbrev GA := S8192x1024.Idx → EReal

/-- The arguments at natural indices. -/
abbrev nx (x0 : XA) : ℕ → ℕ → EReal := nat2 (n := 8192) (m' := 1536) x0
abbrev nb (x1 : BA) : ℕ → ℕ → ℕ → EReal := nat3 (n := 2) (m' := 960) (k := 256) x1
abbrev ng (x2 : GA) : ℕ → ℕ → EReal := nat2 (n := 8192) (m' := 1024) x2

variable (x0 : XA) (x1 : BA) (x2 : GA)

/-! ## Queries, keys, values, bias and the output's gradient -/

theorem q7 (i : S128x64x8x64.Idx) : val_main_v7 (F := Ideal) x0 i = nx x0 ((i 0).val * 64 + (i 1).val) ((i 2).val * 64 + (i 3).val) := by
  rw [val_main_v7_apply, val_main_v6_apply, val_main_v0_apply]
  refine (nat2_of x0 _).trans (congrArg₂ (nx x0) ?_ ?_)
  · exact i7_0 i
  · exact i7_1 i

theorem k9 (i : S128x64x8x64.Idx) : val_main_v9 (F := Ideal) x0 i = nx x0 ((i 0).val * 64 + (i 1).val) (512 + (i 2).val * 64 + (i 3).val) := by
  rw [val_main_v9_apply, val_main_v8_apply, val_main_v1_apply]
  refine (nat2_of x0 _).trans (congrArg₂ (nx x0) ?_ ?_)
  · exact i9_0 i
  · show 512 + (idx_main_v9 i 1).val = _
    rw [i9_1, Nat.add_assoc]

theorem v11 (i : S128x64x8x64.Idx) : val_main_v11 (F := Ideal) x0 i = nx x0 ((i 0).val * 64 + (i 1).val) (1024 + (i 2).val * 64 + (i 3).val) := by
  rw [val_main_v11_apply, val_main_v10_apply, val_main_v2_apply]
  refine (nat2_of x0 _).trans (congrArg₂ (nx x0) ?_ ?_)
  · exact i11_0 i
  · show 1024 + (idx_main_v11 i 1).val = _
    rw [i11_1, Nat.add_assoc]

theorem b5 (i : S8x15x64x64.Idx) : val_main_v5 (F := Ideal) x1 i = nb x1 ((i 0).val / 4) ((i 1).val * 64 + (i 3).val) ((i 0).val % 4 * 64 + (i 2).val) := by
  rw [val_main_v5_apply, val_main_v4_apply, val_main_v3_apply]
  refine (nat3_of x1 _).trans ?_
  rw [i3_0, i3_1, i3_2]
  show nb x1 (idx_main_v5 i 0).val ((idx_main_v5 i 2).val * 64 + (idx_main_v5 i 4).val) ((idx_main_v5 i 1).val * 64 + (idx_main_v5 i 3).val) = _
  rw [i5_0, i5_1, i5_2, i5_3, i5_4]

theorem k28 (i : S128x8x64x8x64.Idx) : val_main_v28 (F := Ideal) x0 i = nx x0 ((rs (i 0).val + (i 1).val) * 64 + (i 2).val) (512 + (i 3).val * 64 + (i 4).val) := by
  have h1 : (i 1).val < 8 := (i 1).isLt
  have hr := rs_le (i 0).val
  have key : ∀ (r : Fin 128) (j : Fin 8) (q : Fin 64) (h : Fin 8) (d : Fin 64),
      val_main_v28 (F := Ideal) x0 (ix5 r j q h d) = nx x0 ((rs r.val + j.val) * 64 + q.val) (512 + h.val * 64 + d.val) := fun r j q h d => by
    have hr := rs_le r.val
    exact (gather_rows (val_main_v9 (F := Ideal) x0) _ r j q h d (rs r.val + j.val) (by omega) (word27 r j)).trans (k9 x0 _)
  exact (congrArg _ (eq_ix5 i)).trans (key (i 0) (i 1) (i 2) (i 3) (i 4))

theorem v36 (i : S128x8x64x8x64.Idx) : val_main_v36 (F := Ideal) x0 i = nx x0 ((rs (i 0).val + (i 1).val) * 64 + (i 2).val) (1024 + (i 3).val * 64 + (i 4).val) := by
  have key : ∀ (r : Fin 128) (j : Fin 8) (q : Fin 64) (h : Fin 8) (d : Fin 64),
      val_main_v36 (F := Ideal) x0 (ix5 r j q h d) = nx x0 ((rs r.val + j.val) * 64 + q.val) (1024 + h.val * 64 + d.val) := fun r j q h d => by
    have hr := rs_le r.val
    exact (gather_rows (val_main_v11 (F := Ideal) x0) _ r j q h d (rs r.val + j.val) (by omega) (word35 r j)).trans (v11 x0 _)
  exact (congrArg _ (eq_ix5 i)).trans (key (i 0) (i 1) (i 2) (i 3) (i 4))

theorem b49 (i : S8x128x8x64x64.Idx) : val_main_v49 (F := Ideal) x1 i
    = nb x1 ((i 0).val / 4) ((bs (i 1).val + (i 2).val) * 64 + (i 4).val) ((i 0).val % 4 * 64 + (i 3).val) := by
  have key : ∀ (h : Fin 8) (r : Fin 128) (j : Fin 8) (q : Fin 64) (k : Fin 64),
      val_main_v49 (F := Ideal) x1 (ix5 h r j q k) = nb x1 (h.val / 4) ((bs r.val + j.val) * 64 + k.val) (h.val % 4 * 64 + q.val) := fun h r j q k => by
    have hr := bs_le r.val r.isLt
    exact (gather_bias (val_main_v5 (F := Ideal) x1) _ h r j q k (bs r.val + j.val) (by omega) (word48 r j)).trans (b5 x1 _)
  exact (congrArg _ (eq_ix5 i)).trans (key (i 0) (i 1) (i 2) (i 3) (i 4))

theorem k29 (i : S128x512x8x64.Idx) : val_main_v29 (F := Ideal) x0 i = nx x0 (rs (i 0).val * 64 + (i 1).val) (512 + (i 2).val * 64 + (i 3).val) := by
  rw [val_main_v29_apply, k28, i29_0, i29_1, i29_2, i29_3, i29_4]
  refine congrArg₂ (nx x0) ?_ rfl
  omega

theorem v37 (i : S128x512x8x64.Idx) : val_main_v37 (F := Ideal) x0 i = nx x0 (rs (i 0).val * 64 + (i 1).val) (1024 + (i 2).val * 64 + (i 3).val) := by
  rw [val_main_v37_apply, v36, i37_0, i37_1, i37_2, i37_3, i37_4]
  refine congrArg₂ (nx x0) ?_ rfl
  omega

theorem b51 (i : S8x128x64x512.Idx) : val_main_v51 (F := Ideal) x1 i
    = nb x1 ((i 0).val / 4) (bs (i 1).val * 64 + (i 3).val) ((i 0).val % 4 * 64 + (i 2).val) := by
  rw [val_main_v51_apply, val_main_v50_apply, b49]
  show nb x1 ((idx_main_v51 i 0).val / 4) ((bs (idx_main_v51 i 1).val + (idx_main_v51 i 3).val) * 64 + (idx_main_v51 i 4).val) ((idx_main_v51 i 0).val % 4 * 64 + (idx_main_v51 i 2).val) = _
  rw [i51_0, i51_1, i51_2, i51_3, i51_4]
  refine congrArg (fun p => nb x1 ((i 0).val / 4) p ((i 0).val % 4 * 64 + (i 2).val)) ?_
  omega

theorem g96 (i : S128x8x64x64.Idx) : val_main_v96 (F := Ideal) x2 i = ng x2 ((i 0).val * 64 + (i 3).val) (512 + (i 1).val * 64 + (i 2).val) := by
  rw [val_main_v96_apply, val_main_v95_apply, val_main_v94_apply, val_main_v93_apply, val_main_v92_apply]
  refine (nat2_of x2 _).trans (congrArg₂ (ng x2) ?_ ?_)
  · exact i95_0 _
  · show 512 + (idx_main_v95 (idx_main_v96 i) 1).val = _
    rw [i95_1, Nat.add_assoc]

/-! ## The softmax -/

theorem s57 (i : S8x128x64x512.Idx) : val_main_v57 (F := Ideal) x0 x1 i = sc (nx x0) (nb x1) (i 1).val (i 0).val (i 2).val (i 3).val := by
  rw [val_main_v57_apply, val_main_v56_apply, val_main_v54_apply, val_main_v53_apply, val_main_v55_apply, val_main_cst_apply, val_main_v52_apply, b51]
  unfold sc
  refine congrArg₂ (· + ·) (congrArg (· * scale) (Finset.sum_congr rfl fun k _ => ?_)) rfl
  exact congrArg₂ (· * ·) (q7 x0 _) (k29 x0 _)

theorem m58 (i : S8x128x64.Idx) : val_main_v58 (F := Ideal) x0 x1 i = mx (nx x0) (nb x1) (i 1).val (i 0).val (i 2).val := by
  have hy := s57 x0 x1
  unfold val_main_v58 mx
  generalize val_main_v57 (F := Ideal) x0 x1 = y at hy ⊢
  have e := congrFun (hostReduce_maximumf_eq_multiReduction (F := Ideal) (u := S_) (φ := .f32) y 0xFF800000#32 reducesTo_S8x128x64x512_S8x128x64_d3 h_S_ (by decide) (.inl rfl) rfl) i
  refine e.trans ?_
  refine (Ideal.multiReduction_maximumf_single _ _ _ _ _ _).trans ?_
  rw [show (FloatOps.ofBits (F := Ideal) .f32 0xFF800000#32) = (⊥ : EReal) by simp [Ideal.ofBits, Ideal.ieee]]
  refine congrArg (fun f => (Finset.univ : Finset (Fin 512)).fold max ⊥ f) (funext fun k => ?_)
  exact hy _

theorem m65 (i : S8x128x64.Idx) : val_main_v65 (F := Ideal) x0 x1 i = mx (nx x0) (nb x1) (i 1).val (i 0).val (i 2).val := by
  rw [val_main_v65_apply, val_main_v64_apply, val_main_cst_11_apply, m58]
  show max (FloatOps.ofBits (F := Ideal) .f32 0xFF800000#32) _ = _
  rw [show (FloatOps.ofBits (F := Ideal) .f32 0xFF800000#32) = (⊥ : EReal) by simp [Ideal.ofBits, Ideal.ieee]]
  exact max_eq_right bot_le

theorem e78 (i : S8x128x64x512.Idx) : val_main_v78 (F := Ideal) x0 x1 i = ex (nx x0) (nb x1) (i 1).val (i 0).val (i 2).val (i 3).val := by
  rw [val_main_v78_apply, val_main_v77_apply, val_main_v76_apply, val_main_v75_apply, m65, s57]
  rfl

theorem s79 (i : S8x128x64.Idx) : val_main_v79 (F := Ideal) x0 x1 i = sm (nx x0) (nb x1) (i 1).val (i 0).val (i 2).val := by
  rw [val_main_v79_apply, val_main_cst_17_apply]
  refine (congrArg₂ (· + ·) Ideal.ofBits_zero_f32 rfl).trans ((zero_add _).trans ?_)
  unfold sm
  exact Finset.sum_congr rfl fun k _ => e78 x0 x1 _

theorem s80 (i : S8x128x64x1.Idx) : val_main_v80 (F := Ideal) x0 x1 i = sm (nx x0) (nb x1) (i 1).val (i 0).val (i 2).val := by
  rw [val_main_v80_apply, s79]

theorem p87 (i : S8x128x64x512.Idx) : val_main_v87 (F := Ideal) x0 x1 i = pr (nx x0) (nb x1) (i 1).val (i 0).val (i 2).val (i 3).val := by
  rw [val_main_v87_apply, val_main_v86_apply, val_main_v82_apply, val_main_v81_apply, s80, e78]
  rfl

theorem r85 (i : S8x128x64x1.Idx) : val_main_v85 (F := Ideal) x0 x1 i
    = Ideal.div 1 (sm (nx x0) (nb x1) (i 1).val (i 0).val (i 2).val * sm (nx x0) (nb x1) (i 1).val (i 0).val (i 2).val) := by
  rw [val_main_v85_apply, val_main_v84_apply, val_main_cst_18_apply, val_main_v83_apply, s80]
  show Ideal.div (FloatOps.ofBits (F := Ideal) .f32 0x3F800000#32) _ = _
  rw [show (FloatOps.ofBits (F := Ideal) .f32 0x3F800000#32) = (1 : EReal) by simp [Ideal.ofBits, Ideal.ieee]; norm_num [← EReal.coe_mul]]
  rfl

/-! ## The gradients of the probabilities and of the scores -/

theorem d97 (i : S128x8x64x512.Idx) : val_main_v97 (F := Ideal) x0 x2 i = dp (nx x0) (ng x2) (i 0).val (i 1).val (i 2).val (i 3).val := by
  rw [val_main_v97_apply]
  unfold dp
  refine Finset.sum_congr rfl fun k _ => ?_
  exact congrArg₂ (· * ·) (g96 x2 _) (v37 x0 _)

theorem d102 (i : S8x128x64x512.Idx) : val_main_v102 (F := Ideal) x0 x2 i = dp (nx x0) (ng x2) (i 1).val (i 0).val (i 2).val (i 3).val := by
  rw [val_main_v102_apply, val_main_v101_apply, val_main_v98_apply]
  exact d97 x0 x2 _

theorem t105 (i : S8x128x64x512.Idx) : val_main_v105 (F := Ideal) x0 x1 x2 i
    = (dp (nx x0) (ng x2) (i 1).val (i 0).val (i 2).val (i 3).val
        * Ideal.div 1 (sm (nx x0) (nb x1) (i 1).val (i 0).val (i 2).val * sm (nx x0) (nb x1) (i 1).val (i 0).val (i 2).val))
      * ex (nx x0) (nb x1) (i 1).val (i 0).val (i 2).val (i 3).val := by
  rw [val_main_v105_apply, val_main_v104_apply, val_main_v103_apply, d102, r85, e78]
  rfl

theorem t106 (i : S8x128x64.Idx) : val_main_v106 (F := Ideal) x0 x1 x2 i
    = ∑ j : Fin 512, (dp (nx x0) (ng x2) (i 1).val (i 0).val (i 2).val j.val
        * Ideal.div 1 (sm (nx x0) (nb x1) (i 1).val (i 0).val (i 2).val * sm (nx x0) (nb x1) (i 1).val (i 0).val (i 2).val))
      * ex (nx x0) (nb x1) (i 1).val (i 0).val (i 2).val j.val := by
  rw [val_main_v106_apply, val_main_cst_19_apply]
  refine (congrArg₂ (· + ·) Ideal.ofBits_zero_f32 rfl).trans ((zero_add _).trans ?_)
  exact Finset.sum_congr rfl fun k _ => t105 x0 x1 x2 _

theorem t108 (i : S8x128x64x1.Idx) : val_main_v108 (F := Ideal) x0 x1 x2 i
    = -∑ j : Fin 512, (dp (nx x0) (ng x2) (i 1).val (i 0).val (i 2).val j.val
        * Ideal.div 1 (sm (nx x0) (nb x1) (i 1).val (i 0).val (i 2).val * sm (nx x0) (nb x1) (i 1).val (i 0).val (i 2).val))
      * ex (nx x0) (nb x1) (i 1).val (i 0).val (i 2).val j.val := by
  rw [val_main_v108_apply, val_main_v107_apply, t106, i107_0, i107_1, i107_2]
  rfl

theorem t111 (i : S8x128x64.Idx) : val_main_v111 (F := Ideal) x0 x1 x2 i
    = -∑ j : Fin 512, (dp (nx x0) (ng x2) (i 1).val (i 0).val (i 2).val j.val
        * Ideal.div 1 (sm (nx x0) (nb x1) (i 1).val (i 0).val (i 2).val * sm (nx x0) (nb x1) (i 1).val (i 0).val (i 2).val))
      * ex (nx x0) (nb x1) (i 1).val (i 0).val (i 2).val j.val := by
  rw [val_main_v111_apply, val_main_cst_20_apply]
  refine (congrArg₂ (· + ·) Ideal.ofBits_zero_f32 (Fin.sum_univ_one _)).trans ((zero_add _).trans ?_)
  exact t108 x0 x1 x2 _

theorem g114' (i : S8x128x64x512.Idx) : val_main_v114 (F := Ideal) x0 x1 x2 i
    = dsR (nx x0) (nb x1) (ng x2) (i 1).val (i 0).val (i 2).val (i 3).val := by
  rw [val_main_v114_apply, val_main_v113_apply, val_main_v112_apply, val_main_v110_apply, val_main_v109_apply, s80, d102, t111, e78]
  rfl

variable (hx : ∀ j, Fin' (x0 j)) (hb : ∀ j, Fin' (x1 j))
include hx hb

theorem g114 (i : S8x128x64x512.Idx) : val_main_v114 (F := Ideal) x0 x1 x2 i
    = ds (nx x0) (nb x1) (ng x2) (i 1).val (i 0).val (i 2).val (i 3).val :=
  (g114' x0 x1 x2 i).trans (dsR_eq (nx x0) (nb x1) (ng x2) (nat2_fin x0 hx) (nat3_fin x1 hb) _ _ _ _ (i 3).isLt)

theorem g118 (i : S8x128x64x512.Idx) : val_main_v118 (F := Ideal) x0 x1 x2 i
    = ds (nx x0) (nb x1) (ng x2) (i 1).val (i 0).val (i 2).val (i 3).val * scale := by
  rw [val_main_v118_apply, val_main_v117_apply, val_main_v116_apply, val_main_v115_apply, val_main_cst_21_apply, g114 x0 x1 x2 hx hb]
  rfl

end Cert.Proof.Attn.Ref

end
-- ==== Proof.RefGrad.lean ====
/-
  The reference's four results at an index.
-/
module

public import proofs.«01_k».proof.Proof.RefValue

@[expose] public section

noncomputable section

namespace Cert.Proof.Attn.Ref

open Cert.ReferenceIdeal Cert.ReferenceIdeal.Gen Cert.ReferenceIdeal.Read
open Idealize.ShloMosaic Idealize.ShloMosaic.ValueIdx
open scoped BigOperators

variable (x0 : XA) (x1 : BA) (x2 : GA)

/-! ## The values' gradient -/

/-- What row `r` adds to the values' gradient at row `j`, column `k` of its window. -/
def upV (r j k h d : ℕ) : EReal := ∑ q : Fin 64, ng x2 (r * 64 + q.val) (512 + h * 64 + d) * pr (nx x0) (nb x1) r h q.val (j * 64 + k)

theorem v100 (i : S128x512x8x64.Idx) : val_main_v100 (F := Ideal) x0 x1 x2 i
    = ∑ q : Fin 64, ng x2 ((i 0).val * 64 + q.val) (512 + (i 2).val * 64 + (i 3).val) * pr (nx x0) (nb x1) (i 0).val (i 2).val q.val (i 1).val := by
  rw [val_main_v100_apply, val_main_v99_apply]
  exact Finset.sum_congr rfl fun q _ => congrArg₂ (· * ·) (g96 x2 _) (p87 x0 x1 _)

theorem v127 (i : S128x8x64x8x64.Idx) : val_main_v127 (F := Ideal) x0 x1 x2 i
    = upV x0 x1 x2 (i 0).val (i 1).val (i 2).val (i 3).val (i 4).val := by
  rw [val_main_v127_apply, v100, i127_0, i127_1, i127_2, i127_3]
  rfl

theorem v129 (i : S128x64x8x64.Idx) : val_main_v129 (F := Ideal) x0 x1 x2 i
    = ∑ r ∈ Finset.range 128, if rs r ≤ (i 0).val ∧ (i 0).val < rs r + 8 then upV x0 x1 x2 r ((i 0).val - rs r) (i 1).val (i 2).val (i 3).val else 0 := by
  refine (scatter_rows (val_main_v128 (F := Ideal)) _ word35 (val_main_v127 (F := Ideal) x0 x1 x2) (upV x0 x1 x2) (v127 x0 x1 x2) i).trans ?_
  rw [val_main_v128_apply, val_main_cst_23_apply]
  exact (congrArg₂ (· + ·) Ideal.ofBits_zero_f32 rfl).trans (zero_add _)

theorem dv134 (i : S8192x512.Idx) : val_main_v134 (F := Ideal) x0 x1 x2 i = DV (nx x0) (nb x1) (ng x2) (i 0).val (i 1).val := by
  rw [val_main_v134_apply, val_main_v133_apply, v129, i133_0, i133_1, i133_2, i133_3]
  show (∑ r ∈ Finset.range 128, _) = _
  unfold DV
  refine Finset.sum_congr rfl fun r _ => ?_
  unfold dvRow upV
  by_cases h : rs r ≤ (i 0).val / 64 ∧ (i 0).val / 64 < rs r + 8
  · rw [if_pos h, if_pos h]
    refine Finset.sum_congr rfl fun q _ => ?_
    rw [mul_comm, show 512 + (i 1).val / 64 * 64 + (i 1).val % 64 = 512 + (i 1).val by omega,
      show ((i 0).val / 64 - rs r) * 64 + (i 0).val % 64 = (i 0).val - rs r * 64 by omega]
  · rw [if_neg h, if_neg h]

section Finite
variable (hx : ∀ j, Fin' (x0 j)) (hb : ∀ j, Fin' (x1 j))
include hx hb

/-! ## The queries' gradient -/

theorem q122 (i : S128x64x8x64.Idx) : val_main_v122 (F := Ideal) x0 x1 x2 i
    = ∑ k : Fin 512, (ds (nx x0) (nb x1) (ng x2) (i 0).val (i 2).val (i 1).val k.val * scale) * nx x0 (rs (i 0).val * 64 + k.val) (512 + (i 2).val * 64 + (i 3).val) := by
  rw [val_main_v122_apply, val_main_v121_apply]
  exact Finset.sum_congr rfl fun k _ => congrArg₂ (· * ·) (g118 x0 x1 x2 hx hb _) (k29 x0 _)

theorem dq138 (i : S8192x512.Idx) : val_main_v138 (F := Ideal) x0 x1 x2 i = DQ (nx x0) (nb x1) (ng x2) (i 0).val (i 1).val := by
  rw [val_main_v138_apply, val_main_v137_apply, q122 x0 x1 x2 hx hb, i137_0, i137_1, i137_2, i137_3]
  show (∑ k : Fin 512, _) = _
  unfold DQ
  rw [sum_mul' scale_nonneg scale_fin]
  refine Finset.sum_congr rfl fun k _ => ?_
  rw [mul_right_comm, show 512 + (i 1).val / 64 * 64 + (i 1).val % 64 = 512 + (i 1).val by omega]

/-! ## The keys' gradient -/

/-- What row `r` adds to the keys' gradient at row `j`, column `k` of its window. -/
def upK (r j k h d : ℕ) : EReal := ∑ q : Fin 64, (ds (nx x0) (nb x1) (ng x2) r h q.val (j * 64 + k) * scale) * nx x0 (r * 64 + q.val) (h * 64 + d)

theorem k120 (i : S128x512x8x64.Idx) : val_main_v120 (F := Ideal) x0 x1 x2 i
    = ∑ q : Fin 64, (ds (nx x0) (nb x1) (ng x2) (i 0).val (i 2).val q.val (i 1).val * scale) * nx x0 ((i 0).val * 64 + q.val) ((i 2).val * 64 + (i 3).val) := by
  rw [val_main_v120_apply, val_main_v119_apply]
  exact Finset.sum_congr rfl fun q _ => congrArg₂ (· * ·) (g118 x0 x1 x2 hx hb _) (q7 x0 _)

theorem k130 (i : S128x8x64x8x64.Idx) : val_main_v130 (F := Ideal) x0 x1 x2 i
    = upK x0 x1 x2 (i 0).val (i 1).val (i 2).val (i 3).val (i 4).val := by
  rw [val_main_v130_apply, k120 x0 x1 x2 hx hb, i130_0, i130_1, i130_2, i130_3]
  rfl

theorem k132 (i : S128x64x8x64.Idx) : val_main_v132 (F := Ideal) x0 x1 x2 i
    = ∑ r ∈ Finset.range 128, if rs r ≤ (i 0).val ∧ (i 0).val < rs r + 8 then upK x0 x1 x2 r ((i 0).val - rs r) (i 1).val (i 2).val (i 3).val else 0 := by
  refine (scatter_rows (val_main_v131 (F := Ideal)) _ word27 (val_main_v130 (F := Ideal) x0 x1 x2) (upK x0 x1 x2) (k130 x0 x1 x2 hx hb) i).trans ?_
  rw [val_main_v131_apply, val_main_cst_24_apply]
  exact (congrArg₂ (· + ·) Ideal.ofBits_zero_f32 rfl).trans (zero_add _)

theorem dk136 (i : S8192x512.Idx) : val_main_v136 (F := Ideal) x0 x1 x2 i = DK (nx x0) (nb x1) (ng x2) (i 0).val (i 1).val := by
  rw [val_main_v136_apply, val_main_v135_apply, k132 x0 x1 x2 hx hb, i135_0, i135_1, i135_2, i135_3]
  show (∑ r ∈ Finset.range 128, _) = _
  unfold DK
  refine Finset.sum_congr rfl fun r _ => ?_
  unfold dkRow upK
  by_cases h : rs r ≤ (i 0).val / 64 ∧ (i 0).val / 64 < rs r + 8
  · rw [if_pos h, if_pos h, sum_mul' scale_nonneg scale_fin]
    refine Finset.sum_congr rfl fun q _ => ?_
    rw [mul_right_comm, show (i 1).val / 64 * 64 + (i 1).val % 64 = (i 1).val by omega,
      show ((i 0).val / 64 - rs r) * 64 + (i 0).val % 64 = (i 0).val - rs r * 64 by omega]
  · rw [if_neg h, if_neg h]

/-! ## The bias's gradient -/

theorem b124 (i : S8x128x8x64x64.Idx) : val_main_v124 (F := Ideal) x0 x1 x2 i
    = ds (nx x0) (nb x1) (ng x2) (i 1).val (i 0).val (i 3).val ((i 2).val * 64 + (i 4).val) := by
  rw [val_main_v124_apply, val_main_v123_apply, g114 x0 x1 x2 hx hb, i123_0, i123_1, i123_2, i123_3]

theorem b126 (i : S8x15x64x64.Idx) : val_main_v126 (F := Ideal) x0 x1 x2 i
    = ∑ r ∈ Finset.range 128, if bs r ≤ (i 1).val ∧ (i 1).val < bs r + 8 then
        ds (nx x0) (nb x1) (ng x2) r (i 0).val (i 2).val (((i 1).val - bs r) * 64 + (i 3).val) else 0 := by
  refine (scatter_bias (val_main_v125 (F := Ideal)) _ word48 (val_main_v124 (F := Ideal) x0 x1 x2)
    (fun h r j q k => ds (nx x0) (nb x1) (ng x2) r h q (j * 64 + k)) (b124 x0 x1 x2 hx hb) i).trans ?_
  rw [val_main_v125_apply, val_main_cst_22_apply]
  exact (congrArg₂ (· + ·) Ideal.ofBits_zero_f32 rfl).trans (zero_add _)

theorem db141 (i : S2x960x256.Idx) : val_main_v141 (F := Ideal) x0 x1 x2 i = DB (nx x0) (nb x1) (ng x2) (i 0).val (i 1).val (i 2).val := by
  rw [val_main_v141_apply, val_main_v140_apply, val_main_v139_apply, b126 x0 x1 x2 hx hb, i139_0, i139_1, i139_2, i139_3]
  show (∑ r ∈ Finset.range 128, if bs r ≤ (idx_main_v141 i 1).val ∧ (idx_main_v141 i 1).val < bs r + 8 then
    ds (nx x0) (nb x1) (ng x2) r ((idx_main_v141 i 0).val * 4 + (idx_main_v141 i 3).val) (idx_main_v141 i 4).val (((idx_main_v141 i 1).val - bs r) * 64 + (idx_main_v141 i 2).val) else 0) = _
  rw [i141_0, i141_1, i141_2, i141_3, i141_4]
  unfold DB
  refine Finset.sum_congr rfl fun r _ => ?_
  unfold dbRow
  by_cases h : bs r ≤ (i 1).val / 64 ∧ (i 1).val / 64 < bs r + 8
  · rw [if_pos h, if_pos h, show ((i 1).val / 64 - bs r) * 64 + (i 1).val % 64 = (i 1).val - bs r * 64 by omega]
  · rw [if_neg h, if_neg h]

end Finite

end Cert.Proof.Attn.Ref

end
-- ==== Proof.GateUpGrad.lean ====
/-
  The gradient of the gate and up projections' weights: each quarter's block holds the gate's rows and then the up's, each the sum
  over all tokens of input times gradient.
-/
module

public import proofs.«01_k».proof.Proof.Gen.Kernel2Ideal.Value
public import proofs.«01_k».proof.Proof.Gen.Reference2Ideal.Read
public import Idealize.ShloMosaic.Lib.ValueIdx
public import Idealize.ShloMosaic.Lib.IdealHost
public import Idealize.ShloMosaic.Lib.Pipeline.ValueKit
public import Idealize.ShloMosaic.Lib.Pipeline.ReadBack

@[expose] public section

noncomputable section

namespace Cert.Proof.GateUp

open Cert.Kernel2Ideal Cert.Kernel2Ideal.Gen
open Idealize.ShloMosaic Idealize.ShloMosaic.TcCoe Idealize.SL.Sem
open Idealize.ShloMosaic.ValueIdx (contrEquiv1 contrEquiv1_symm_val)
open Facts₀ Facts
open scoped BigOperators

abbrev D : DotDims S2048x1024 S2048x704 S1024x704 := dot_S2048x1024_S2048x704_S1024x704_0_0_1_1_n_n

/-- The product of one block of tokens contracts the tokens. -/
theorem D_apply (a : FVec Ideal S2048x1024 .bf16) (y : FVec Ideal S2048x704 .bf16) (k : Fin 1024) (l : Fin 704) :
    matmul D none a y (constant S1024x704 .f32 0x00000000#32) (ix2 k l) = ∑ s : Fin 2048, a (ix2 s k) * y (ix2 s l) := by
  refine (Ideal.matmul_constant_zero_apply _ none a y _).trans ?_
  refine (Fintype.sum_equiv (contrEquiv1 D 2048 rfl rfl) _ (fun s => a (D.lhsIdx (ix2 k l) ((contrEquiv1 D 2048 rfl rfl).symm s)) * y (D.rhsIdx (ix2 k l) ((contrEquiv1 D 2048 rfl rfl).symm s)))
    (fun q => by rw [Equiv.symm_apply_apply])).trans ?_
  refine Finset.sum_congr rfl fun s _ => ?_
  congr 2
  · funext d
    refine Fin.ext ?_
    match d with
    | 0 => exact (D.lhsIdx_val_of_single rfl _ _).trans (contrEquiv1_symm_val D 2048 rfl rfl s)
    | 1 => rfl
  · funext d
    refine Fin.ext ?_
    match d with
    | 0 => exact (D.rhsIdx_val_of_single rfl _ _).trans (contrEquiv1_symm_val D 2048 rfl rfl s)
    | 1 => rfl

/-- One block of tokens adds its product to the accumulator. -/
theorem pay2_apply (x : Vec Ideal S2048x1024 .bf16) (acc : Vec Ideal S1x1024x704 .f32) (a : Vec Ideal S1x2048x704 .bf16) (k : Fin 1024) (l : Fin 704) :
    k0_pay2 x acc a (ix3 0 k l) = acc (ix3 0 k l) + ∑ s : Fin 2048, x (ix2 s k) * a (ix3 0 s l) := by
  unfold k0_pay2
  have e : (S1024x704.rowMajor (ix2 k l)).val = (S1x1024x704.rowMajor (ix3 0 k l)).val := by
    rw [Shape.rowMajor_val_two, Shape.rowMajor_val_three]; show k.val * 704 + l.val = (0 * 1024 + k.val) * 704 + l.val; omega
  rw [shapeCast_apply _ _ _ (ix2 k l) e]
  show shapeCast S1024x704 acc _ (ix2 k l) + matmul (F := Ideal) D none x (shapeCast S2048x704 a _) (constant S1024x704 .f32 0x00000000#32) (ix2 k l) = _
  rw [shapeCast_apply _ _ _ (ix3 0 k l) e.symm, D_apply]
  congr 1
  refine Finset.sum_congr rfl fun s _ => ?_
  rw [shapeCast_apply _ _ _ (ix3 0 s l) (by
    rw [Shape.rowMajor_val_two, Shape.rowMajor_val_three]; show (0 * 2048 + s.val) * 704 + l.val = s.val * 704 + l.val; omega)]

/-- The second half's payload is the first's. -/
theorem pay3_eq : @k0_pay3 Ideal _ = k0_pay2 := rfl

/-- The accumulator starts at zero. -/
theorem pay1_apply (j : S1x2048x704.Idx) : k0_pay1 (F := Ideal) j = 0 := by
  unfold k0_pay1
  refine (shapeCast_apply _ _ j (ix2 (j 1) (j 2)) (by
    have h0 : (j 0).val < 1 := (j 0).isLt
    rw [Shape.rowMajor_val_two, Shape.rowMajor_val_three]; show (j 1).val * 704 + (j 2).val = ((j 0).val * 2048 + (j 1).val) * 704 + (j 2).val; omega)).trans ?_
  exact Ideal.ofBits_zero .f32

/-- The block's two halves. -/
abbrev lo : Rect S1x2048x704 := Rect.unit ![0, 0, 0] ![1, 1024, 704] Gen.inb_S1x2048x704_S1x1024x704_0_0_0
abbrev hi : Rect S1x2048x704 := Rect.unit ![0, 1024, 0] ![1, 1024, 704] Gen.inb_S1x2048x704_S1x1024x704_0_1024_0

theorem mem_lo (j : S1x2048x704.Idx) : j ∈ lo.set → (j 1).val < 1024 := fun h => by
  rw [Rect.mem_set_unit] at h
  have h1 : 0 ≤ (j 1).val ∧ (j 1).val < 0 + 1024 := h 1
  omega
theorem mem_hi (j : S1x2048x704.Idx) : j ∈ hi.set → 1024 ≤ (j 1).val := fun h => by
  rw [Rect.mem_set_unit] at h
  have h1 : 1024 ≤ (j 1).val ∧ (j 1).val < 1024 + 1024 := h 1
  omega
/-- A row of the block is a row of one half. -/
theorem emb_lo (j : S1x2048x704.Idx) (h : (j 1).val < 1024) : j = lo.emb (ix3 (0 : Fin 1) (⟨(j 1).val, h⟩ : Fin 1024) (j 2)) := by
  funext d
  match d with
  | 0 => exact Fin.ext (by have h0 : (j 0).val < 1 := (j 0).isLt; show (j 0).val = 0 + 1 * 0; omega)
  | 1 => exact Fin.ext (by show (j 1).val = 0 + 1 * (j 1).val; omega)
  | 2 => exact Fin.ext (by show (j 2).val = 0 + 1 * (j 2).val; omega)
theorem emb_hi (j : S1x2048x704.Idx) (h : ¬(j 1).val < 1024) (h' : (j 1).val - 1024 < 1024) : j = hi.emb (ix3 (0 : Fin 1) (⟨(j 1).val - 1024, h'⟩ : Fin 1024) (j 2)) := by
  funext d
  match d with
  | 0 => exact Fin.ext (by have h0 : (j 0).val < 1 := (j 0).isLt; show (j 0).val = 0 + 1 * 0; omega)
  | 1 => exact Fin.ext (by show (j 1).val = 1024 + 1 * ((j 1).val - 1024); omega)
  | 2 => exact Fin.ext (by show (j 2).val = 0 + 1 * (j 2).val; omega)

variable (m : (ℓ : Loc nD τ sig) → Buf (Elt Ideal) ℓ)

/-- The input and the two gradients, as the call finds them. -/
abbrev X (c : Dev nD) : S8192x1024.Idx → EReal := m ((c : Thread nD τ).loc main_arg0)
abbrev A (c : Dev nD) : S4x8192x704.Idx → EReal := m ((c : Thread nD τ).loc main_arg1)
abbrev B (c : Dev nD) : S4x8192x704.Idx → EReal := m ((c : Thread nD τ).loc main_arg2)

theorem index_facts : ∀ t : Fin cfg0.N, win0_0.index t = ![t.val % 4, 0] ∧ win0_1.index t = ![t.val / 4, t.val % 4, 0] ∧ win0_2.index t = ![t.val / 4, t.val % 4, 0] ∧ win0_3.index t = ![t.val / 4, 0, 0] :=
  (by decide +kernel : ∀ t : Fin grid0.N, _)

/-- What one point adds at a row of the block: gate below 1024, up from there. -/
def part (x : S2048x1024.Idx → EReal) (a b : S1x2048x704.Idx → EReal) (j : S1x2048x704.Idx) : EReal :=
  if h : (j 1).val < 1024 then ∑ s : Fin 2048, x (ix2 s ⟨(j 1).val, h⟩) * a (ix3 0 s (j 2))
  else ∑ s : Fin 2048, x (ix2 s ⟨(j 1).val - 1024, by have h1 : (j 1).val < 2048 := (j 1).isLt; omega⟩) * b (ix3 0 s (j 2))

/-- Storing the two halves, each over the same `old`, adds the point's part. -/
theorem halves (x : Vec Ideal S2048x1024 .bf16) (a b : Vec Ideal S1x2048x704 .bf16) (old : Vec Ideal S1x2048x704 .f32) (L : List (View.Piece (Elt Ideal) S1x2048x704 .f32)) (j : S1x2048x704.Idx) :
    View.canon (⟨hi, k0_pay3 x (View.ld old hi) b⟩ :: ⟨lo, k0_pay2 x (View.ld old lo) a⟩ :: L) j = old j + part x a b j := by
  rw [pay3_eq]
  unfold part
  by_cases h : (j 1).val < 1024
  · rw [dif_pos h, View.canon_cons_of_not_mem _ _ (fun hm => by have := mem_hi j hm; omega)]
    conv_lhs => rw [emb_lo j h]
    rw [View.canon_cons_emb]
    refine (pay2_apply ..).trans ?_
    exact congrArg (· + _) (congrArg old (emb_lo j h).symm)
  · have h' : (j 1).val - 1024 < 1024 := by have h1 : (j 1).val < 2048 := (j 1).isLt; omega
    rw [dif_neg h]
    conv_lhs => rw [emb_hi j h h']
    rw [View.canon_cons_emb]
    refine (pay2_apply ..).trans ?_
    exact congrArg (· + _) (congrArg old (emb_hi j h h').symm)

theorem out_B (c : Dev nD) (t : Fin cfg0.N) (h0 : ¬t.val % 4 = 0) (j : S1x2048x704.Idx) :
    outsAt0 m c t.val t.isLt j = outsAt0 m c (t.val - 1) (Nat.lt_of_le_of_lt (Nat.sub_le _ _) t.isLt) j + part (iblk m c 0 t) (iblk m c 1 t) (iblk m c 2 t) j := by
  rw [outsAt0_B m c t h0]
  generalize outsAt0 m c (t.val - 1) (Nat.lt_of_le_of_lt (Nat.sub_le _ _) t.isLt) = old
  frame_out
  exact halves ..

theorem out_A (c : Dev nD) (t : Fin cfg0.N) (h0 : t.val % 4 = 0) (j : S1x2048x704.Idx) :
    outsAt0 m c t.val t.isLt j = 0 + part (iblk m c 0 t) (iblk m c 1 t) (iblk m c 2 t) j := by
  rw [outsAt0_A m c t h0]
  frame_out
  rw [View.readCov_skip _ _ _ _ _ (by decide), View.readCov_fill _ _ _ _ _ (by decide), View.readCov_fill _ _ _ _ _ (by decide)]
  refine (halves ..).trans ?_
  rw [pay1_apply]

/-- The array after the run. -/
def W (c : Dev nD) : S4x2048x704.Idx → EReal := fun i =>
  if h : (i 1).val < 1024 then ∑ s : Fin 8192, X m c (ix2 s ⟨(i 1).val, h⟩) * A m c (ix3 (i 0) s (i 2))
  else ∑ s : Fin 8192, X m c (ix2 s ⟨(i 1).val - 1024, by have h1 : (i 1).val < 2048 := (i 1).isLt; omega⟩) * B m c (ix3 (i 0) s (i 2))

theorem final (c : Dev nD) : (dats m 0 c).arrAt 3 cfg0.N = W m c := by
  refine (dats m 0 c).arrAt_eq_of_covers 3 _ (by decide +kernel) fun t hf y => ?_
  blk_simp
  rw [after0_3]
  refine (Pipeline.eq_sum_fin_of_reset_step_apply_of_flush (fun n h => outsAt0 m c n h) 4 (fun _ => 0) _
    (fun t h j => out_A m c t h j) (fun t h j => out_B m c t h j) t ((flush0_3 t).mp hf) _).trans ?_
  rw [zero_add]
  have ht : t.val < 16 := lt_of_lt_of_eq t.isLt N_0
  obtain ⟨_, _, _, h3⟩ := index_facts t
  have e1 : ((win0_3.blk t).view.emb y 1).val = (y 1).val := by
    have e : (win0_3.blk t).view.emb y = ix3 (⟨t.val / 4, by omega⟩ : Fin 4) (y 1) (y 2) := by blk_ext [h3]
    exact congrArg (fun i : S4x2048x704.Idx => (i 1).val) e
  unfold W part
  by_cases h : (y 1).val < 1024
  · rw [dif_pos (e1.trans_lt h)]
    simp only [dif_pos h]
    refine Fin.sum_mul_add_congr fun s k hl => ?_
    obtain ⟨h0, h1, _, _⟩ := index_facts ⟨4 * (t.val / 4) + s.val, lt_of_lt_of_eq (show 4 * (t.val / 4) + s.val < 16 by omega) N_0.symm⟩
    congr 1
    · blk_ext [iblk, V, h0, h3]
    · blk_ext [iblk, V, h1, h3]
  · rw [dif_neg (by omega)]
    simp only [dif_neg h]
    refine Fin.sum_mul_add_congr fun s k hl => ?_
    obtain ⟨h0, _, h2, _⟩ := index_facts ⟨4 * (t.val / 4) + s.val, lt_of_lt_of_eq (show 4 * (t.val / 4) + s.val < 16 by omega) N_0.symm⟩
    congr 1
    · blk_ext [iblk, V, h0, h3]
    · blk_ext [iblk, V, h2, h3]

/-- The reference's value is the same sums. -/
theorem reference_apply (x : S8192x1024.Idx → EReal) (a b : S4x8192x704.Idx → EReal) (i : S4x2048x704.Idx) :
    Cert.Reference2Ideal.Read.val_main_v14 (F := Ideal) x a b i =
      if h : (i 1).val < 1024 then ∑ s : Fin 8192, x (ix2 s ⟨(i 1).val, h⟩) * a (ix3 (i 0) s (i 2))
      else ∑ s : Fin 8192, x (ix2 s ⟨(i 1).val - 1024, by have h1 : (i 1).val < 2048 := (i 1).isLt; omega⟩) * b (ix3 (i 0) s (i 2)) := by
  unfold Cert.Reference2Ideal.Read.val_main_v14
  by_cases h : (i 1).val < 1024
  · rw [dif_pos h]
    refine (concatenate_pair_apply_left (s₁ := Cert.Reference2Ideal.S4x1024x704) (s₂ := Cert.Reference2Ideal.S4x1024x704) _ _ _ _ i rfl (ix3 (i 0) (⟨(i 1).val, h⟩ : Fin 1024) (i 2)) (fun d => by match d with
      | 0 => rfl
      | 1 => rfl
      | 2 => rfl)).trans ?_
    rw [Cert.Reference2Ideal.Read.val_main_v13_apply, Cert.Reference2Ideal.Read.val_main_v12_apply]
    refine Finset.sum_congr rfl fun s _ => ?_
    rw [Cert.Reference2Ideal.Read.val_main_v11_apply, mul_comm]
    refine congr (congrArg _ ?_) ?_
    · exact congrArg x (funext fun d => by match d with
        | 0 => rfl
        | 1 => rfl)
    · exact congrArg a (funext fun d => by match d with
        | 0 => rfl
        | 1 => rfl
        | 2 => rfl)
  · rw [dif_neg h]
    refine (concatenate_pair_apply_right (s₁ := Cert.Reference2Ideal.S4x1024x704) (s₂ := Cert.Reference2Ideal.S4x1024x704) _ _ _ _ i rfl rfl (ix3 (i 0) (⟨(i 1).val - 1024, by have h1 : (i 1).val < 2048 := (i 1).isLt; omega⟩ : Fin 1024) (i 2)) (fun d hd => by match d with
      | 0 => rfl
      | 1 => exact absurd rfl hd
      | 2 => rfl) (by show (i 1).val - 1024 + 1024 = (i 1).val; omega)).trans ?_
    rw [Cert.Reference2Ideal.Read.val_main_v10_apply, Cert.Reference2Ideal.Read.val_main_v9_apply]
    refine Finset.sum_congr rfl fun s _ => ?_
    rw [Cert.Reference2Ideal.Read.val_main_v8_apply, mul_comm]
    refine congr (congrArg _ ?_) ?_
    · exact congrArg x (funext fun d => by match d with
        | 0 => rfl
        | 1 => rfl)
    · exact congrArg b (funext fun d => by match d with
        | 0 => rfl
        | 1 => rfl
        | 2 => rfl)

end Cert.Proof.GateUp

end
-- ==== Proof.DownGrad.lean ====
/-
  The gradient of the down projection's weight: each quarter's block is the sum over all tokens of hidden value times gradient.
-/
module

public import proofs.«01_k».proof.Proof.Gen.Kernel3Ideal.Value
public import proofs.«01_k».proof.Proof.Gen.Reference3Ideal.Read
public import Idealize.ShloMosaic.Lib.ValueIdx
public import Idealize.ShloMosaic.Lib.IdealHost
public import Idealize.ShloMosaic.Lib.Pipeline.ValueKit

@[expose] public section

noncomputable section

namespace Cert.Proof.Down

open Cert.Kernel3Ideal Cert.Kernel3Ideal.Gen
open Idealize.ShloMosaic Idealize.ShloMosaic.TcCoe Idealize.SL.Sem
open Idealize.ShloMosaic.ValueIdx (contrEquiv1 contrEquiv1_symm_val)
open Facts₀ Facts
open scoped BigOperators

abbrev D : DotDims S2048x704 S2048x1024 S704x1024 := dot_S2048x704_S2048x1024_S704x1024_0_0_1_1_n_n

/-- The product of one block of tokens contracts the tokens. -/
theorem D_apply (a : FVec Ideal S2048x704 .bf16) (y : FVec Ideal S2048x1024 .bf16) (k : Fin 704) (l : Fin 1024) :
    matmul D none a y (constant S704x1024 .f32 0x00000000#32) (ix2 k l) = ∑ s : Fin 2048, a (ix2 s k) * y (ix2 s l) := by
  refine (Ideal.matmul_constant_zero_apply _ none a y _).trans ?_
  refine (Fintype.sum_equiv (contrEquiv1 D 2048 rfl rfl) _ (fun s => a (D.lhsIdx (ix2 k l) ((contrEquiv1 D 2048 rfl rfl).symm s)) * y (D.rhsIdx (ix2 k l) ((contrEquiv1 D 2048 rfl rfl).symm s)))
    (fun q => by rw [Equiv.symm_apply_apply])).trans ?_
  refine Finset.sum_congr rfl fun s _ => ?_
  congr 2
  · funext d
    refine Fin.ext ?_
    match d with
    | 0 => exact (D.lhsIdx_val_of_single rfl _ _).trans (contrEquiv1_symm_val D 2048 rfl rfl s)
    | 1 => rfl
  · funext d
    refine Fin.ext ?_
    match d with
    | 0 => exact (D.rhsIdx_val_of_single rfl _ _).trans (contrEquiv1_symm_val D 2048 rfl rfl s)
    | 1 => rfl

/-- One block of tokens adds its product to the accumulator. -/
theorem pay2_apply (acc : Vec Ideal S1x704x1024 .f32) (a : Vec Ideal S1x2048x704 .bf16) (y : Vec Ideal S2048x1024 .bf16) (k : Fin 704) (l : Fin 1024) :
    k0_pay2 acc a y (ix3 0 k l) = acc (ix3 0 k l) + ∑ s : Fin 2048, a (ix3 0 s k) * y (ix2 s l) := by
  unfold k0_pay2
  have e : (S704x1024.rowMajor (ix2 k l)).val = (S1x704x1024.rowMajor (ix3 0 k l)).val := by
    rw [Shape.rowMajor_val_two, Shape.rowMajor_val_three]; show k.val * 1024 + l.val = (0 * 704 + k.val) * 1024 + l.val; omega
  rw [shapeCast_apply _ _ _ (ix2 k l) e]
  show shapeCast S704x1024 acc _ (ix2 k l) + matmul (F := Ideal) D none (shapeCast S2048x704 a _) y (constant S704x1024 .f32 0x00000000#32) (ix2 k l) = _
  rw [shapeCast_apply _ _ _ (ix3 0 k l) e.symm, D_apply]
  congr 1
  refine Finset.sum_congr rfl fun s _ => ?_
  rw [shapeCast_apply _ _ _ (ix3 0 s k) (by
    rw [Shape.rowMajor_val_two, Shape.rowMajor_val_three]; show (0 * 2048 + s.val) * 704 + k.val = s.val * 704 + k.val; omega)]

/-- An index of one block has leading coordinate zero. -/
theorem eq_block (j : S1x704x1024.Idx) : ∃ (k : Fin 704) (l : Fin 1024), j = ix3 0 k l := by
  refine ⟨j 1, j 2, ?_⟩
  funext d
  match d with
  | 0 => exact Fin.ext (by have h0 : (j 0).val < 1 := (j 0).isLt; show (j 0).val = 0; omega)
  | 1 => rfl
  | 2 => rfl

/-- The accumulator starts at zero. -/
theorem pay1_apply (j : S1x704x1024.Idx) : k0_pay1 (F := Ideal) j = 0 := by
  obtain ⟨k, l, rfl⟩ := eq_block j
  unfold k0_pay1
  have e : (S704x1024.rowMajor (ix2 k l)).val = (S1x704x1024.rowMajor (ix3 0 k l)).val := by
    rw [Shape.rowMajor_val_two, Shape.rowMajor_val_three]; show k.val * 1024 + l.val = (0 * 704 + k.val) * 1024 + l.val; omega
  rw [shapeCast_apply _ _ _ (ix2 k l) e]
  exact Ideal.ofBits_zero .f32

variable (m : (ℓ : Loc nD τ sig) → Buf (Elt Ideal) ℓ)

/-- The hidden values and the output's gradient, as the call finds them. -/
abbrev A (c : Dev nD) : S4x8192x704.Idx → EReal := m ((c : Thread nD τ).loc main_arg0)
abbrev G (c : Dev nD) : S8192x1024.Idx → EReal := m ((c : Thread nD τ).loc main_arg1)

theorem index_facts : ∀ t : Fin cfg0.N, win0_0.index t = ![t.val / 4, t.val % 4, 0] ∧ win0_1.index t = ![t.val % 4, 0] ∧ win0_2.index t = ![t.val / 4, 0, 0] :=
  (by decide +kernel : ∀ t : Fin grid0.N, _)

/-- What one point adds: the product of its two blocks. -/
def part (a : S1x2048x704.Idx → EReal) (y : S2048x1024.Idx → EReal) (j : S1x704x1024.Idx) : EReal :=
  ∑ s : Fin 2048, a (ix3 0 s (j 1)) * y (ix2 s (j 2))

theorem pay2_part (acc : Vec Ideal S1x704x1024 .f32) (a : Vec Ideal S1x2048x704 .bf16) (y : Vec Ideal S2048x1024 .bf16) (j : S1x704x1024.Idx) :
    k0_pay2 acc a y j = acc j + part a y j := by
  obtain ⟨k, l, rfl⟩ := eq_block j
  exact pay2_apply ..

/-- The array after the run. -/
def W (c : Dev nD) : S4x704x1024.Idx → EReal := fun i => ∑ s : Fin 8192, A m c (ix3 (i 0) s (i 1)) * G m c (ix2 s (i 2))

theorem final (c : Dev nD) : (dats m 0 c).arrAt 2 cfg0.N = W m c := by
  refine (dats m 0 c).arrAt_eq_of_covers 2 _ (by decide +kernel) fun t hf y => ?_
  blk_simp
  rw [after0_2]
  refine (Pipeline.eq_sum_fin_of_reset_step_apply_of_flush (fun n h => outsAt0 m c n h) 4 (fun _ => 0) _
    (fun t h j => by rw [outsAt0_A m c t h, Value.out_A_2_eq, pay2_part, pay1_apply])
    (fun t h j => by rw [outsAt0_B m c t h, Value.out_B_2_eq, pay2_part]) t ((flush0_2 t).mp hf) _).trans ?_
  rw [zero_add]
  have ht : t.val < 16 := lt_of_lt_of_eq t.isLt N_0
  obtain ⟨_, _, h2⟩ := index_facts t
  refine Fin.sum_mul_add_congr fun s k hl => ?_
  obtain ⟨h0, h1, _⟩ := index_facts ⟨4 * (t.val / 4) + s.val, lt_of_lt_of_eq (show 4 * (t.val / 4) + s.val < 16 by omega) N_0.symm⟩
  congr 1
  · blk_ext [iblk, V, h0, h2]
  · blk_ext [iblk, V, h1, h2]

/-- The reference's value is the same sums. -/
theorem reference_apply (x : S4x8192x704.Idx → EReal) (y : S8192x1024.Idx → EReal) (i : S4x704x1024.Idx) :
    Cert.Reference3Ideal.Read.val_main_v5 (F := Ideal) x y i = ∑ s : Fin 8192, x (ix3 (i 0) s (i 1)) * y (ix2 s (i 2)) := by
  rw [Cert.Reference3Ideal.Read.val_main_v5_apply, Cert.Reference3Ideal.Read.val_main_v4_apply]
  refine Finset.sum_congr rfl fun s _ => ?_
  rw [mul_comm]
  refine congr (congrArg _ ?_) ?_
  · exact congrArg x (funext fun d => by match d with
      | 0 => rfl
      | 1 => rfl
      | 2 => rfl)
  · exact congrArg y (funext fun d => by match d with
      | 0 => rfl
      | 1 => rfl)

end Cert.Proof.Down

end
-- ==== Proof.FfnModel.lean ====
/-
  One token's feed-forward half step over extended reals: the gated hidden layer in quarters, the residual sum before the layer
  norm, and the layer norm.
-/
module

public import Idealize.ShloMosaic.PureOps
public import Idealize.ShloMosaic.PureOps.Ideal.Laws

@[expose] public section

noncomputable section

namespace Cert.Proof.Ffn

open Idealize.ShloMosaic
open scoped BigOperators

/-- The step's constants: the residual's scale, one half, the width and the norm's small addend. -/
abbrev cA : EReal := FloatOps.ofBits (F := Ideal) .f32 0x3FD744FD#32
abbrev cH : EReal := FloatOps.ofBits (F := Ideal) .f32 0x3F000000#32
abbrev cN : EReal := FloatOps.ofBits (F := Ideal) .f32 0x44800000#32
abbrev cE : EReal := FloatOps.ofBits (F := Ideal) .f32 0x3727C5AC#32

/-- A token's row times one quarter of a weight. -/
def lin (r : Fin 1024 → EReal) (w : Fin 1024 → Fin 704 → EReal) (f : Fin 704) : EReal := ∑ d, r d * w d f

/-- The gated hidden value of one quarter. -/
def gated (r : Fin 1024 → EReal) (wg wu : Fin 1024 → Fin 704 → EReal) (f : Fin 704) : EReal :=
  lin r wg f * Ideal.logistic (lin r wg f) * lin r wu f

/-- The hidden layer times the down projection, over all quarters. -/
def down (r : Fin 1024 → EReal) (wg wu : Fin 4 → Fin 1024 → Fin 704 → EReal) (wd : Fin 4 → Fin 704 → Fin 1024 → EReal) (j : Fin 1024) : EReal :=
  ∑ q, ∑ f, gated r (wg q) (wu q) f * wd q f j

/-- The residual sum before the layer norm. -/
def pre (r : Fin 1024 → EReal) (wg wu : Fin 4 → Fin 1024 → Fin 704 → EReal) (wd : Fin 4 → Fin 704 → Fin 1024 → EReal) (j : Fin 1024) : EReal :=
  cA * r j + cH * down r wg wu wd j

def mean (v : Fin 1024 → EReal) : EReal := Ideal.div (∑ j, v j) cN

def var (v : Fin 1024 → EReal) : EReal := mean fun j => (v j - mean v) * (v j - mean v)

/-- The layer norm with scale `g` and shift `b`. -/
def norm (v g b : Fin 1024 → EReal) (j : Fin 1024) : EReal := (v j - mean v) * Ideal.rsqrt (var v + cE) * g j + b j

end Cert.Proof.Ffn

end
-- ==== Proof.FfnFwd.lean ====
/-
  The feed-forward half step's call: what each of its five arrays holds after the run.
-/
module

public import proofs.«01_k».proof.Proof.FfnModel
public import proofs.«01_k».proof.Proof.Gen.Kernel4Ideal.Frame
public import Idealize.ShloMosaic.Lib.ValueIdx
public import Idealize.ShloMosaic.Lib.IdealHost
public import Idealize.ShloMosaic.Lib.Pipeline.ValueKit

@[expose] public section

noncomputable section

namespace Cert.Proof.Ffn

open Cert.Kernel4Ideal Cert.Kernel4Ideal.Gen
open Idealize.ShloMosaic Idealize.ShloMosaic.TcCoe Idealize.SL.Sem
open Idealize.ShloMosaic.ValueIdx (contrEquiv1 contrEquiv1_symm_val)
open scoped BigOperators

/-! ## The products of one block of tokens -/

abbrev D1 : DotDims S512x1024 S1024x704 S512x704 := dot_S512x1024_S1024x704_S512x704_1_0_0_1_n_n
abbrev D2 : DotDims S512x704 S704x1024 S512x1024 := dot_S512x704_S704x1024_S512x1024_1_0_0_1_n_n

theorem D1_apply (x : FVec Ideal S512x1024 .bf16) (w : FVec Ideal S1024x704 .bf16) (s : Fin 512) (f : Fin 704) :
    matmul D1 none x w (constant S512x704 .f32 0x00000000#32) (ix2 s f) = ∑ d : Fin 1024, x (ix2 s d) * w (ix2 d f) := by
  refine (Ideal.matmul_constant_zero_apply _ none x w _).trans ?_
  refine (Fintype.sum_equiv (contrEquiv1 D1 1024 rfl rfl) _ (fun d => x (D1.lhsIdx (ix2 s f) ((contrEquiv1 D1 1024 rfl rfl).symm d)) * w (D1.rhsIdx (ix2 s f) ((contrEquiv1 D1 1024 rfl rfl).symm d)))
    (fun q => by rw [Equiv.symm_apply_apply])).trans ?_
  refine Finset.sum_congr rfl fun d _ => ?_
  congr 2
  · funext a
    refine Fin.ext ?_
    match a with
    | 0 => rfl
    | 1 => exact (D1.lhsIdx_val_of_single rfl _ _).trans (contrEquiv1_symm_val D1 1024 rfl rfl d)
  · funext a
    refine Fin.ext ?_
    match a with
    | 0 => exact (D1.rhsIdx_val_of_single rfl _ _).trans (contrEquiv1_symm_val D1 1024 rfl rfl d)
    | 1 => rfl

theorem D2_apply (x : FVec Ideal S512x704 .bf16) (w : FVec Ideal S704x1024 .bf16) (s : Fin 512) (j : Fin 1024) :
    matmul D2 none x w (constant S512x1024 .f32 0x00000000#32) (ix2 s j) = ∑ f : Fin 704, x (ix2 s f) * w (ix2 f j) := by
  refine (Ideal.matmul_constant_zero_apply _ none x w _).trans ?_
  refine (Fintype.sum_equiv (contrEquiv1 D2 704 rfl rfl) _ (fun d => x (D2.lhsIdx (ix2 s j) ((contrEquiv1 D2 704 rfl rfl).symm d)) * w (D2.rhsIdx (ix2 s j) ((contrEquiv1 D2 704 rfl rfl).symm d)))
    (fun q => by rw [Equiv.symm_apply_apply])).trans ?_
  refine Finset.sum_congr rfl fun d _ => ?_
  congr 2
  · funext a
    refine Fin.ext ?_
    match a with
    | 0 => rfl
    | 1 => exact (D2.lhsIdx_val_of_single rfl _ _).trans (contrEquiv1_symm_val D2 704 rfl rfl d)
  · funext a
    refine Fin.ext ?_
    match a with
    | 0 => exact (D2.rhsIdx_val_of_single rfl _ _).trans (contrEquiv1_symm_val D2 704 rfl rfl d)
    | 1 => rfl

/-- A token's row in a block, and one quarter of a weight. -/
abbrev row (x : S512x1024.Idx → EReal) (s : Fin 512) : Fin 1024 → EReal := fun d => x (ix2 s d)
abbrev quarter (w : S4x1024x704.Idx → EReal) (q : Fin 4) : Fin 1024 → Fin 704 → EReal := fun d f => w (ix3 q d f)
abbrev quarterD (w : S4x704x1024.Idx → EReal) (q : Fin 4) : Fin 704 → Fin 1024 → EReal := fun f j => w (ix3 q f j)
abbrev one (w : S1x1024x704.Idx → EReal) : Fin 1024 → Fin 704 → EReal := fun d f => w (ix3 0 d f)
abbrev oneD (w : S1x704x1024.Idx → EReal) : Fin 704 → Fin 1024 → EReal := fun f j => w (ix3 0 f j)

/-- A block of tokens times a quarter that a load brought. -/
def prod (x : FVec Ideal S512x1024 .bf16) (w : Vec Ideal S1x1024x704 .bf16) : FVec Ideal S512x704 .f32 :=
  matmul (φ₁ := .bf16) (φ₂ := .bf16) D1 none x (shapeCast S1024x704 w shapeCasts_S1x1024x704_S1024x704) (constant S512x704 .f32 0x00000000#32)

theorem prod_apply (x : FVec Ideal S512x1024 .bf16) (w : Vec Ideal S1x1024x704 .bf16) (s : Fin 512) (f : Fin 704) :
    prod x w (ix2 s f) = lin (row x s) (one w) f := by
  unfold prod
  rw [D1_apply]
  refine Finset.sum_congr rfl fun d _ => ?_
  rw [shapeCast_apply _ _ _ (ix3 0 d f) (by
    rw [Shape.rowMajor_val_two, Shape.rowMajor_val_three]; show (0 * 1024 + d.val) * 704 + f.val = d.val * 704 + f.val; omega)]

/-- What one quarter adds to the down projection. -/
def addQ (x : S512x1024.Idx → EReal) (wg wu : S1x1024x704.Idx → EReal) (wd : S1x704x1024.Idx → EReal) (s : Fin 512) (j : Fin 1024) : EReal :=
  ∑ f, gated (row x s) (one wg) (one wu) f * oneD wd f j

/-- A block's gated hidden values times one quarter of the down projection. -/
def hid (x : FVec Ideal S512x1024 .bf16) (wg wu : Vec Ideal S1x1024x704 .bf16) (wd : Vec Ideal S1x704x1024 .bf16) : FVec Ideal S512x1024 .f32 :=
  matmul (φ₁ := .bf16) (φ₂ := .bf16) D2 none (truncf .bf16 (mulf (mulf (prod x wg) (logistic (prod x wg))) (prod x wu)) Gen.bitsLt_bf16_f32) (shapeCast S704x1024 wd shapeCasts_S1x704x1024_S704x1024)
    (constant S512x1024 .f32 0x00000000#32)

theorem hid_apply (x : FVec Ideal S512x1024 .bf16) (wg wu : Vec Ideal S1x1024x704 .bf16) (wd : Vec Ideal S1x704x1024 .bf16) (s : Fin 512) (j : Fin 1024) :
    hid x wg wu wd (ix2 s j) = addQ x wg wu wd s j := by
  unfold hid
  rw [D2_apply]
  refine Finset.sum_congr rfl fun f _ => ?_
  rw [shapeCast_apply _ _ _ (ix3 0 f j) (by
    rw [Shape.rowMajor_val_two, Shape.rowMajor_val_three]; show (0 * 704 + f.val) * 1024 + j.val = f.val * 1024 + j.val; omega)]
  show prod x wg (ix2 s f) * Ideal.logistic (prod x wg (ix2 s f)) * prod x wu (ix2 s f) * _ = _
  rw [prod_apply, prod_apply]
  rfl

theorem pay9_apply (x : Vec Ideal S512x1024 .f32) (wg wu : Vec Ideal S1x1024x704 .bf16) (wd : Vec Ideal S1x704x1024 .bf16) (s : Fin 512) (j : Fin 1024) :
    k0_pay9 x wg wu wd (ix2 s j) = addQ x wg wu wd s j := by
  refine (congrArg₂ (· + ·) (Ideal.ofBits_zero .f32) (hid_apply x wg wu wd s j)).trans ?_
  exact zero_add _

theorem pay14_apply (x : FVec Ideal S512x1024 .bf16) (acc : FVec Ideal S512x1024 .f32) (wg wu : Vec Ideal S1x1024x704 .bf16) (wd : Vec Ideal S1x704x1024 .bf16) (s : Fin 512) (j : Fin 1024) :
    k0_pay14 x acc (prod x wg) wu wd (ix2 s j) = acc (ix2 s j) + addQ x wg wu wd s j :=
  congrArg (acc (ix2 s j) + ·) (hid_apply x wg wu wd s j)

theorem pay23_apply (x : FVec Ideal S512x1024 .bf16) (acc : FVec Ideal S512x1024 .f32) (wg wu wg' wu' : Vec Ideal S1x1024x704 .bf16) (wd wd' : Vec Ideal S1x704x1024 .bf16) (s : Fin 512) (j : Fin 1024) :
    k0_pay23 x acc (prod x wg) (prod x wu) wd wg' wu' wd' (ix2 s j) = acc (ix2 s j) + addQ x wg wu wd s j + addQ x wg' wu' wd' s j :=
  congrArg₂ (· + ·) (congrArg (acc (ix2 s j) + ·) (hid_apply x wg wu wd s j)) (hid_apply x wg' wu' wd' s j)

/-! ## Loads -/

theorem ld0 (x : Vec Ideal S512x1024 .f32) : View.ld x r0_0 = x := View.ld_unit_lit _ x (fun a => by match a with | 0 => rfl | 1 => rfl)
theorem ld13 (x : Vec Ideal S1x1024 .f32) : View.ld x r0_13 = x := View.ld_unit_lit _ x (fun a => by match a with | 0 => rfl | 1 => rfl)

/-- Reading a block of one quarter off a stack of four. -/
theorem one_ld (w : Vec Ideal S4x1024x704 .bf16) (q : Fin 4) (inb) :
    one (View.ld (Val := Elt Ideal) (e' := .bf16) w (Rect.unit (s := S4x1024x704) ![q.val, 0, 0] S1x1024x704.size inb)) = quarter w q := by
  funext d f
  refine congrArg w (funext fun a => ?_)
  match a with
  | 0 => exact Fin.ext (by show q.val + 1 * 0 = q.val; omega)
  | 1 => exact Fin.ext (by show 0 + 1 * d.val = d.val; omega)
  | 2 => exact Fin.ext (by show 0 + 1 * f.val = f.val; omega)

theorem oneD_ld (w : Vec Ideal S4x704x1024 .bf16) (q : Fin 4) (inb) :
    oneD (View.ld (Val := Elt Ideal) (e' := .bf16) w (Rect.unit (s := S4x704x1024) ![q.val, 0, 0] S1x704x1024.size inb)) = quarterD w q := by
  funext d f
  refine congrArg w (funext fun a => ?_)
  match a with
  | 0 => exact Fin.ext (by show q.val + 1 * 0 = q.val; omega)
  | 1 => exact Fin.ext (by show 0 + 1 * d.val = d.val; omega)
  | 2 => exact Fin.ext (by show 0 + 1 * f.val = f.val; omega)

theorem acc_eq (x0 : Vec Ideal S512x1024 .f32) (x1 x2 : Vec Ideal S4x1024x704 .bf16) (x3 : Vec Ideal S4x704x1024 .bf16) (x4 x5 : Vec Ideal S1x1024 .f32) :
    k0_pay28 x0 x1 x2 x3 x4 x5 = k0_pay23 (F := Ideal) (View.ld x0 r0_0) (k0_pay14 (F := Ideal) (View.ld x0 r0_0) (k0_pay9 (View.ld x0 r0_0) (View.ld x1 r0_1) (View.ld x2 r0_1) (View.ld x3 r0_3)) (prod (View.ld x0 r0_0) (View.ld x1 r0_4)) (View.ld x2 r0_4) (View.ld x3 r0_6))
      (prod (View.ld x0 r0_0) (View.ld x1 r0_7)) (prod (View.ld x0 r0_0) (View.ld x2 r0_7)) (View.ld x3 r0_9) (View.ld x1 r0_10) (View.ld x2 r0_10) (View.ld x3 r0_12) := rfl

/-- The down projection accumulated over the quarters. -/
theorem acc_apply (x0 : Vec Ideal S512x1024 .f32) (x1 x2 : Vec Ideal S4x1024x704 .bf16) (x3 : Vec Ideal S4x704x1024 .bf16) (x4 x5 : Vec Ideal S1x1024 .f32) (s : Fin 512) (j : Fin 1024) :
    k0_pay28 x0 x1 x2 x3 x4 x5 (ix2 s j) = down (row x0 s) (quarter x1) (quarter x2) (quarterD x3) j := by
  rw [acc_eq, pay23_apply, pay14_apply, pay9_apply]
  unfold down addQ
  rw [Fin.sum_univ_four, ld0]
  rw [show one (View.ld x1 r0_1) = _ from one_ld x1 0 _, show one (View.ld x1 r0_4) = _ from one_ld x1 1 _, show one (View.ld x1 r0_7) = _ from one_ld x1 2 _, show one (View.ld x1 r0_10) = _ from one_ld x1 3 _,
    show one (View.ld x2 r0_1) = _ from one_ld x2 0 _, show one (View.ld x2 r0_4) = _ from one_ld x2 1 _, show one (View.ld x2 r0_7) = _ from one_ld x2 2 _, show one (View.ld x2 r0_10) = _ from one_ld x2 3 _,
    show oneD (View.ld x3 r0_3) = _ from oneD_ld x3 0 _, show oneD (View.ld x3 r0_6) = _ from oneD_ld x3 1 _, show oneD (View.ld x3 r0_9) = _ from oneD_ld x3 2 _, show oneD (View.ld x3 r0_12) = _ from oneD_ld x3 3 _]

/-- The residual sum of a block. -/
def zBlk (x0 : Vec Ideal S512x1024 .f32) (x1 x2 : Vec Ideal S4x1024x704 .bf16) (x3 : Vec Ideal S4x704x1024 .bf16) (x4 x5 : Vec Ideal S1x1024 .f32) : FVec Ideal S512x1024 .f32 :=
  k0_pay1 (k0_pay28 x0 x1 x2 x3 x4 x5) (k0_pay29 x0 x1 x2 x3 x4 x5) (k0_pay30 x0 x1 x2 x3 x4 x5)

theorem zBlk_apply (x0 : Vec Ideal S512x1024 .f32) (x1 x2 : Vec Ideal S4x1024x704 .bf16) (x3 : Vec Ideal S4x704x1024 .bf16) (x4 x5 : Vec Ideal S1x1024 .f32) (s : Fin 512) (j : Fin 1024) :
    zBlk x0 x1 x2 x3 x4 x5 (ix2 s j) = pre (row x0 s) (quarter x1) (quarter x2) (quarterD x3) j := by
  show cA * View.ld x0 r0_0 (ix2 s j) + cH * k0_pay28 x0 x1 x2 x3 x4 x5 (ix2 s j) = _
  rw [acc_apply, ld0]
  rfl

/-! ## The layer norm of a block -/

/-- A block's row sums. -/
def rowSum (y : FVec Ideal S512x1024 .f32) : FVec Ideal S512x1 .f32 :=
  shapeCast S512x1 (multiReduction .add [1] S512 y 0x00000000#32 reduces_S512x1024_S512 (.inl rfl) rfl) shapeCasts_S512_S512x1

theorem rowSum_apply (y : FVec Ideal S512x1024 .f32) (s : Fin 512) : rowSum y (ix2 s 0) = ∑ j : Fin 1024, y (ix2 s j) := by
  unfold rowSum
  rw [shapeCast_apply _ _ _ (ix1 s) (by rw [Shape.rowMajor_val_two]; show _ = s.val * 1 + 0; rw [Shape.rowMajor_val_one]; simp)]
  refine (Ideal.multiReduction_add_single y _ _ _ _ _).trans ?_
  refine Finset.sum_congr rfl fun j _ => congrArg y (funext fun d => ?_)
  match d with
  | 0 => rfl
  | 1 => rfl

theorem bcast_apply (y : FVec Ideal S512x1 .f32) (s : Fin 512) (j : Fin 1024) : broadcastTo S512x1024 y broadcasts_S512x1_S512x1024 (ix2 s j) = y (ix2 s 0) :=
  broadcastTo_apply _ _ _ (ix2 s (0 : Fin 1)) (fun a => match a with | 0 => rfl | 1 => rfl)

theorem bcastRow_apply (y : FVec Ideal S1x1024 .f32) (s : Fin 512) (j : Fin 1024) : broadcastTo S512x1024 y broadcasts_S1x1024_S512x1024 (ix2 s j) = y (ix2 0 j) :=
  broadcastTo_apply _ _ _ (ix2 (0 : Fin 1) j) (fun a => match a with | 0 => rfl | 1 => rfl)

def meanV (y : FVec Ideal S512x1024 .f32) : FVec Ideal S512x1 .f32 := divf (rowSum y) (broadcast S512x1 (Scalar.ofBits .f32 0x44800000#32))

theorem meanV_apply (y : FVec Ideal S512x1024 .f32) (s : Fin 512) : meanV y (ix2 s 0) = mean (row y s) := by
  show Ideal.div (rowSum y (ix2 s 0)) cN = _
  rw [rowSum_apply]
  rfl

def cen (y : FVec Ideal S512x1024 .f32) : FVec Ideal S512x1024 .f32 := subf y (broadcastTo S512x1024 (meanV y) broadcasts_S512x1_S512x1024)

theorem cen_apply (y : FVec Ideal S512x1024 .f32) (s : Fin 512) (j : Fin 1024) : cen y (ix2 s j) = y (ix2 s j) - mean (row y s) := by
  show y (ix2 s j) - broadcastTo S512x1024 (meanV y) broadcasts_S512x1_S512x1024 (ix2 s j) = _
  rw [bcast_apply, meanV_apply]

def rs (y : FVec Ideal S512x1024 .f32) : FVec Ideal S512x1 .f32 := rsqrt (addf (meanV (mulf (cen y) (cen y))) (broadcast S512x1 (Scalar.ofBits .f32 0x3727C5AC#32)))

theorem rs_apply (y : FVec Ideal S512x1024 .f32) (s : Fin 512) : rs y (ix2 s 0) = Ideal.rsqrt (var (row y s) + cE) := by
  show Ideal.rsqrt (meanV (mulf (cen y) (cen y)) (ix2 s 0) + cE) = _
  rw [meanV_apply]
  refine congrArg (fun v => Ideal.rsqrt (mean v + cE)) (funext fun j => ?_)
  show cen y (ix2 s j) * cen y (ix2 s j) = _
  rw [cen_apply]

def lnV (y : FVec Ideal S512x1024 .f32) (g b : FVec Ideal S1x1024 .f32) : FVec Ideal S512x1024 .f32 :=
  addf (mulf (mulf (cen y) (broadcastTo S512x1024 (rs y) broadcasts_S512x1_S512x1024)) (broadcastTo S512x1024 g broadcasts_S1x1024_S512x1024)) (broadcastTo S512x1024 b broadcasts_S1x1024_S512x1024)

theorem lnV_apply (y : FVec Ideal S512x1024 .f32) (g b : FVec Ideal S1x1024 .f32) (s : Fin 512) (j : Fin 1024) :
    lnV y g b (ix2 s j) = norm (row y s) (fun d => g (ix2 0 d)) (fun d => b (ix2 0 d)) j := by
  show cen y (ix2 s j) * broadcastTo S512x1024 (rs y) broadcasts_S512x1_S512x1024 (ix2 s j) * broadcastTo S512x1024 g broadcasts_S1x1024_S512x1024 (ix2 s j) + broadcastTo S512x1024 b broadcasts_S1x1024_S512x1024 (ix2 s j) = _
  rw [cen_apply, bcast_apply, rs_apply, bcastRow_apply, bcastRow_apply]
  rfl

/-! ## What a point leaves in each output block -/

theorem out8_apply (x0 : Vec Ideal S512x1024 .f32) (x1 x2 : Vec Ideal S4x1024x704 .bf16) (x3 : Vec Ideal S4x704x1024 .bf16) (x4 x5 : Vec Ideal S1x1024 .f32) (s : Fin 512) (j : Fin 1024) :
    out0_8 x0 x1 x2 x3 x4 x5 (ix2 s j) = pre (row x0 s) (quarter x1) (quarter x2) (quarterD x3) j := by
  unfold out0_8
  rw [View.canon_cons_unit_lit _ _ _ (fun a => by match a with | 0 => rfl | 1 => rfl)]
  exact zBlk_apply x0 x1 x2 x3 x4 x5 s j

theorem out6_apply (x0 : Vec Ideal S512x1024 .f32) (x1 x2 : Vec Ideal S4x1024x704 .bf16) (x3 : Vec Ideal S4x704x1024 .bf16) (x4 x5 : Vec Ideal S1x1024 .f32) (s : Fin 512) (j : Fin 1024) :
    out0_6 x0 x1 x2 x3 x4 x5 (ix2 s j) = norm (pre (row x0 s) (quarter x1) (quarter x2) (quarterD x3)) (fun d => x4 (ix2 0 d)) (fun d => x5 (ix2 0 d)) j := by
  unfold out0_6
  rw [View.canon_cons_unit_lit _ _ _ (fun a => by match a with | 0 => rfl | 1 => rfl), ld13, ld13]
  refine (lnV_apply (zBlk x0 x1 x2 x3 x4 x5) x4 x5 s j).trans ?_
  exact congrArg (norm · _ _ j) (funext fun d => zBlk_apply x0 x1 x2 x3 x4 x5 s d)

theorem out7_eq (x0 : Vec Ideal S512x1024 .f32) (x1 x2 : Vec Ideal S4x1024x704 .bf16) (x3 : Vec Ideal S4x704x1024 .bf16) (x4 x5 : Vec Ideal S1x1024 .f32) (i : S512x1024.Idx) :
    out0_7 x0 x1 x2 x3 x4 x5 i = out0_6 x0 x1 x2 x3 x4 x5 i := by
  unfold out0_7 out0_6
  rw [View.canon_cons_unit_lit _ _ _ (fun a => by match a with | 0 => rfl | 1 => rfl), View.canon_cons_unit_lit _ _ _ (fun a => by match a with | 0 => rfl | 1 => rfl)]
  rfl

/-- The block a store of one quarter leaves. -/
def lift (y : FVec Ideal S512x704 .f32) : FVec Ideal S1x512x704 .bf16 :=
  shapeCast S1x512x704 (truncf .bf16 y Gen.bitsLt_bf16_f32) shapeCasts_S512x704_S1x512x704

theorem lift_prod_apply (x : FVec Ideal S512x1024 .bf16) (w : Vec Ideal S1x1024x704 .bf16) (i : S1x512x704.Idx) :
    lift (prod x w) i = lin (row x (i 1)) (one w) (i 2) := by
  unfold lift
  refine (shapeCast_apply _ _ i (ix2 (i 1) (i 2)) (by
    have h0 : (i 0).val < 1 := (i 0).isLt
    rw [Shape.rowMajor_val_two, Shape.rowMajor_val_three]; show (i 1).val * 704 + (i 2).val = ((i 0).val * 512 + (i 1).val) * 704 + (i 2).val; omega)).trans ?_
  exact prod_apply x w (i 1) (i 2)

/-- One quarter's store agrees with the block's values. -/
theorem piece (x0 : Vec Ideal S512x1024 .f32) (w : Vec Ideal S4x1024x704 .bf16) (q : Fin 4) (inb) (inb')
    (i : (Rect.unit (s := S4x512x704) ![q.val, 0, 0] S1x512x704.size inb).shape.Idx) :
    lift (prod (View.ld x0 r0_0) (View.ld (Val := Elt Ideal) (e' := .bf16) w (Rect.unit (s := S4x1024x704) ![q.val, 0, 0] S1x1024x704.size inb'))) i
      = (fun y : S4x512x704.Idx => lin (row x0 (y 1)) (quarter w (y 0)) (y 2)) ((Rect.unit (s := S4x512x704) ![q.val, 0, 0] S1x512x704.size inb).emb i) := by
  refine (lift_prod_apply _ _ i).trans ?_
  rw [ld0, one_ld]
  have e0 : (Rect.unit (s := S4x512x704) ![q.val, 0, 0] S1x512x704.size inb).emb i 0 = q :=
    Fin.ext (by have h0 : (i 0).val < 1 := (i 0).isLt; show q.val + 1 * (i 0).val = q.val; omega)
  have e1 : (Rect.unit (s := S4x512x704) ![q.val, 0, 0] S1x512x704.size inb).emb i 1 = i 1 := Fin.ext (by show 0 + 1 * (i 1).val = (i 1).val; omega)
  have e2 : (Rect.unit (s := S4x512x704) ![q.val, 0, 0] S1x512x704.size inb).emb i 2 = i 2 := Fin.ext (by show 0 + 1 * (i 2).val = (i 2).val; omega)
  show _ = lin (row x0 _) (quarter w _) _
  rw [e0, e1, e2]

theorem out9_apply (x0 : Vec Ideal S512x1024 .f32) (x1 x2 : Vec Ideal S4x1024x704 .bf16) (x3 : Vec Ideal S4x704x1024 .bf16) (x4 x5 : Vec Ideal S1x1024 .f32) (y : S4x512x704.Idx) :
    out0_9 x0 x1 x2 x3 x4 x5 y = lin (row x0 (y 1)) (quarter x1 (y 0)) (y 2) := by
  unfold out0_9
  refine View.canon_apply_of_pieces (Val := Elt Ideal) (S := S4x512x704) (e := .bf16) (fun y : S4x512x704.Idx => lin (row x0 (y 1)) (quarter x1 (y 0)) (y 2)) _ ?_ y ?_
  swap
  · exact View.cover_of_tiled_head _ _ _ rfl y
  simp only [List.forall_mem_cons, List.not_mem_nil, false_imp_iff, implies_true, and_true]
  exact ⟨fun i => piece x0 x1 3 _ _ i, fun i => piece x0 x1 2 _ _ i, fun i => piece x0 x1 1 _ _ i, fun i => piece x0 x1 0 _ _ i⟩

theorem out10_apply (x0 : Vec Ideal S512x1024 .f32) (x1 x2 : Vec Ideal S4x1024x704 .bf16) (x3 : Vec Ideal S4x704x1024 .bf16) (x4 x5 : Vec Ideal S1x1024 .f32) (y : S4x512x704.Idx) :
    out0_10 x0 x1 x2 x3 x4 x5 y = lin (row x0 (y 1)) (quarter x2 (y 0)) (y 2) := by
  unfold out0_10
  refine View.canon_apply_of_pieces (Val := Elt Ideal) (S := S4x512x704) (e := .bf16) (fun y : S4x512x704.Idx => lin (row x0 (y 1)) (quarter x2 (y 0)) (y 2)) _ ?_ y ?_
  swap
  · exact View.cover_of_tiled_head _ _ _ rfl y
  simp only [List.forall_mem_cons, List.not_mem_nil, false_imp_iff, implies_true, and_true]
  exact ⟨fun i => piece x0 x2 3 _ _ i, fun i => piece x0 x2 2 _ _ i, fun i => piece x0 x2 1 _ _ i, fun i => piece x0 x2 0 _ _ i⟩

/-! ## The arrays after the run -/

variable (m : (ℓ : Loc nD τ sig) → Buf (Elt Ideal) ℓ)

/-- The operands, as the call finds them. -/
abbrev X (c : Dev nD) : S8192x1024.Idx → EReal := m ((c : Thread nD τ).loc main_arg0)
abbrev WG (c : Dev nD) : S4x1024x704.Idx → EReal := m ((c : Thread nD τ).loc main_arg1)
abbrev WU (c : Dev nD) : S4x1024x704.Idx → EReal := m ((c : Thread nD τ).loc main_arg2)
abbrev WD (c : Dev nD) : S4x704x1024.Idx → EReal := m ((c : Thread nD τ).loc main_arg3)
abbrev G (c : Dev nD) : S1x1024.Idx → EReal := m ((c : Thread nD τ).loc main_arg4)
abbrev B (c : Dev nD) : S1x1024.Idx → EReal := m ((c : Thread nD τ).loc main_arg5)

theorem index_facts : ∀ t : Fin cfg0.N, (win0_0.index t = ![t.val, 0] ∧ win0_1.index t = ![0, 0, 0] ∧ win0_2.index t = ![0, 0, 0] ∧ win0_3.index t = ![0, 0, 0] ∧ win0_4.index t = ![0, 0] ∧ win0_5.index t = ![0, 0])
    ∧ win0_6.index t = ![t.val, 0] ∧ win0_7.index t = ![t.val, 0] ∧ win0_8.index t = ![t.val, 0] ∧ win0_9.index t = ![0, t.val, 0] ∧ win0_10.index t = ![0, t.val, 0] :=
  (by decide +kernel : ∀ t : Fin grid0.N, _)

theorem blk1 (c : Dev nD) (t : Fin cfg0.N) : (iblk m c 1 t : S4x1024x704.Idx → EReal) = WG m c := funext fun y => by
  obtain ⟨⟨_, h, _⟩, _⟩ := index_facts t
  blk_ext [iblk, V, h]
theorem blk2 (c : Dev nD) (t : Fin cfg0.N) : (iblk m c 2 t : S4x1024x704.Idx → EReal) = WU m c := funext fun y => by
  obtain ⟨⟨_, _, h, _⟩, _⟩ := index_facts t
  blk_ext [iblk, V, h]
theorem blk3 (c : Dev nD) (t : Fin cfg0.N) : (iblk m c 3 t : S4x704x1024.Idx → EReal) = WD m c := funext fun y => by
  obtain ⟨⟨_, _, _, h, _⟩, _⟩ := index_facts t
  blk_ext [iblk, V, h]
theorem blk4 (c : Dev nD) (t : Fin cfg0.N) : (iblk m c 4 t : S1x1024.Idx → EReal) = G m c := funext fun y => by
  obtain ⟨⟨_, _, _, _, h, _⟩, _⟩ := index_facts t
  blk_ext [iblk, V, h]
theorem blk5 (c : Dev nD) (t : Fin cfg0.N) : (iblk m c 5 t : S1x1024.Idx → EReal) = B m c := funext fun y => by
  obtain ⟨⟨_, _, _, _, _, h⟩, _⟩ := index_facts t
  blk_ext [iblk, V, h]

/-- A token's row of the whole input. -/
abbrev tok (x : S8192x1024.Idx → EReal) (s : Fin 8192) : Fin 1024 → EReal := fun d => x (ix2 s d)
abbrev vec (g : S1x1024.Idx → EReal) : Fin 1024 → EReal := fun d => g (ix2 0 d)

theorem blk0 (c : Dev nD) (t : Fin cfg0.N) (s : Fin 512) (h : t.val * 512 + s.val < 8192) : row (iblk m c 0 t : S512x1024.Idx → EReal) s = tok (X m c) ⟨t.val * 512 + s.val, h⟩ := funext fun d => by
  obtain ⟨⟨h0, _⟩, _⟩ := index_facts t
  show (iblk m c 0 t : S512x1024.Idx → EReal) (ix2 s d) = X m c (ix2 ⟨t.val * 512 + s.val, h⟩ d)
  blk_ext [iblk, V, h0]

/-- The five results over whole arrays. -/
def Zv (x : S8192x1024.Idx → EReal) (wg wu : S4x1024x704.Idx → EReal) (wd : S4x704x1024.Idx → EReal) (i : S8192x1024.Idx) : EReal :=
  pre (tok x (i 0)) (quarter wg) (quarter wu) (quarterD wd) (i 1)
def Yv (x : S8192x1024.Idx → EReal) (wg wu : S4x1024x704.Idx → EReal) (wd : S4x704x1024.Idx → EReal) (g b : S1x1024.Idx → EReal) (i : S8192x1024.Idx) : EReal :=
  norm (pre (tok x (i 0)) (quarter wg) (quarter wu) (quarterD wd)) (vec g) (vec b) (i 1)
def Hv (x : S8192x1024.Idx → EReal) (w : S4x1024x704.Idx → EReal) (i : S4x8192x704.Idx) : EReal := lin (tok x (i 1)) (quarter w (i 0)) (i 2)

theorem final8 (c : Dev nD) : (dats m 0 c).arrAt 8 cfg0.N = Zv (X m c) (WG m c) (WU m c) (WD m c) := by
  refine (dats m 0 c).arrAt_eq_of_covers 8 _ (by decide +kernel) fun t hf y => ?_
  blk_simp
  rw [after0_8]
  obtain ⟨s, j, rfl⟩ : ∃ (s : Fin 512) (j : Fin 1024), y = ix2 s j := ⟨y 0, y 1, eq_ix2 y⟩
  have ht : t.val < 16 := lt_of_lt_of_eq t.isLt N_0
  have hs : t.val * 512 + s.val < 8192 := by omega
  obtain ⟨_, _, _, h8, _⟩ := index_facts t
  have e : (win0_8.blk t).view.emb (ix2 s j) = ix2 (⟨t.val * 512 + s.val, hs⟩ : Fin 8192) j := by blk_ext [h8]
  refine (out8_apply ..).trans ?_
  rw [blk0 m c t s hs, blk1, blk2, blk3]
  exact (congrArg (Zv (X m c) (WG m c) (WU m c) (WD m c)) e).symm

theorem final6 (c : Dev nD) : (dats m 0 c).arrAt 6 cfg0.N = Yv (X m c) (WG m c) (WU m c) (WD m c) (G m c) (B m c) := by
  refine (dats m 0 c).arrAt_eq_of_covers 6 _ (by decide +kernel) fun t hf y => ?_
  blk_simp
  rw [after0_6]
  obtain ⟨s, j, rfl⟩ : ∃ (s : Fin 512) (j : Fin 1024), y = ix2 s j := ⟨y 0, y 1, eq_ix2 y⟩
  have ht : t.val < 16 := lt_of_lt_of_eq t.isLt N_0
  have hs : t.val * 512 + s.val < 8192 := by omega
  obtain ⟨_, h6, _⟩ := index_facts t
  have e : (win0_6.blk t).view.emb (ix2 s j) = ix2 (⟨t.val * 512 + s.val, hs⟩ : Fin 8192) j := by blk_ext [h6]
  refine (out6_apply ..).trans ?_
  rw [blk0 m c t s hs, blk1, blk2, blk3, blk4, blk5]
  exact (congrArg (Yv (X m c) (WG m c) (WU m c) (WD m c) (G m c) (B m c)) e).symm

theorem final7 (c : Dev nD) : (dats m 0 c).arrAt 7 cfg0.N = Yv (X m c) (WG m c) (WU m c) (WD m c) (G m c) (B m c) := by
  refine (dats m 0 c).arrAt_eq_of_covers 7 _ (by decide +kernel) fun t hf y => ?_
  blk_simp
  rw [after0_7]
  obtain ⟨s, j, rfl⟩ : ∃ (s : Fin 512) (j : Fin 1024), y = ix2 s j := ⟨y 0, y 1, eq_ix2 y⟩
  have ht : t.val < 16 := lt_of_lt_of_eq t.isLt N_0
  have hs : t.val * 512 + s.val < 8192 := by omega
  obtain ⟨_, _, h7, _⟩ := index_facts t
  have e : (win0_7.blk t).view.emb (ix2 s j) = ix2 (⟨t.val * 512 + s.val, hs⟩ : Fin 8192) j := by blk_ext [h7]
  refine (out7_eq ..).trans ((out6_apply ..).trans ?_)
  rw [blk0 m c t s hs, blk1, blk2, blk3, blk4, blk5]
  exact (congrArg (Yv (X m c) (WG m c) (WU m c) (WD m c) (G m c) (B m c)) e).symm

theorem final9 (c : Dev nD) : (dats m 0 c).arrAt 9 cfg0.N = Hv (X m c) (WG m c) := by
  refine (dats m 0 c).arrAt_eq_of_covers 9 _ (by decide +kernel) fun t hf y => ?_
  blk_simp
  rw [after0_9]
  have ht : t.val < 16 := lt_of_lt_of_eq t.isLt N_0
  have h1 : (y 1).val < 512 := (y 1).isLt
  have hs : t.val * 512 + (y 1).val < 8192 := by omega
  obtain ⟨_, _, _, _, h9, _⟩ := index_facts t
  have e : (win0_9.blk t).view.emb y = ix3 (y 0) (⟨t.val * 512 + (y 1).val, hs⟩ : Fin 8192) (y 2) := by blk_ext [h9]
  refine (out9_apply ..).trans ?_
  refine (congrArg₂ (lin · · _) (blk0 m c t (y 1) hs) (congrArg (quarter · _) (blk1 m c t))).trans ?_
  exact (congrArg (Hv (X m c) (WG m c)) e).symm

theorem final10 (c : Dev nD) : (dats m 0 c).arrAt 10 cfg0.N = Hv (X m c) (WU m c) := by
  refine (dats m 0 c).arrAt_eq_of_covers 10 _ (by decide +kernel) fun t hf y => ?_
  blk_simp
  rw [after0_10]
  have ht : t.val < 16 := lt_of_lt_of_eq t.isLt N_0
  have h1 : (y 1).val < 512 := (y 1).isLt
  have hs : t.val * 512 + (y 1).val < 8192 := by omega
  obtain ⟨_, _, _, _, _, h10⟩ := index_facts t
  have e : (win0_10.blk t).view.emb y = ix3 (y 0) (⟨t.val * 512 + (y 1).val, hs⟩ : Fin 8192) (y 2) := by blk_ext [h10]
  refine (out10_apply ..).trans ?_
  refine (congrArg₂ (lin · · _) (blk0 m c t (y 1) hs) (congrArg (quarter · _) (blk2 m c t))).trans ?_
  exact (congrArg (Hv (X m c) (WU m c)) e).symm

end Cert.Proof.Ffn

end
-- ==== Proof.FfnRef.lean ====
/-
  The reference of the feed-forward half step: its five results are the same values.
-/
module

public import proofs.«01_k».proof.Proof.FfnFwd
public import proofs.«01_k».proof.Proof.Gen.Reference4Ideal.Read

@[expose] public section

noncomputable section

namespace Cert.Proof.Ffn

open Cert.Reference4Ideal.Read
open Idealize.ShloMosaic Idealize.ShloMosaic.TcCoe Idealize.SL.Sem
open Cert.Kernel4Ideal (S8192x1024 S4x1024x704 S4x704x1024 S1x1024 S4x8192x704)
open Cert.Reference4Ideal (S1024x2816 S2816x1024 S8192x2816)
open scoped BigOperators

/-- A hidden column from its quarter and its place there. -/
def fl (q : Fin 4) (f : Fin 704) : Fin 2816 := ⟨q.val * 704 + f.val, by omega⟩

variable (x : S8192x1024.Idx → EReal) (wg wu : S4x1024x704.Idx → EReal) (wd : S4x704x1024.Idx → EReal) (g b : S1x1024.Idx → EReal)

theorem wgate_apply (d : Fin 1024) (q : Fin 4) (f : Fin 704) : val_main_v2 (F := Ideal) wg (ix2 d (fl q f)) = wg (ix3 q d f) := by
  rw [val_main_v2_apply, val_main_v1_apply, val_main_v0_apply]
  refine congrArg wg (funext fun a => ?_)
  match a with
  | 0 => exact Fin.ext (by show (d.val * 2816 + (q.val * 704 + f.val)) / 704 % 4 = q.val; omega)
  | 1 => exact Fin.ext (by show (d.val * 2816 + (q.val * 704 + f.val)) / 2816 = d.val; omega)
  | 2 => exact Fin.ext (by show (d.val * 2816 + (q.val * 704 + f.val)) % 704 = f.val; omega)

theorem wup_apply (d : Fin 1024) (q : Fin 4) (f : Fin 704) : val_main_v5 (F := Ideal) wu (ix2 d (fl q f)) = wu (ix3 q d f) := by
  rw [val_main_v5_apply, val_main_v4_apply, val_main_v3_apply]
  refine congrArg wu (funext fun a => ?_)
  match a with
  | 0 => exact Fin.ext (by show (d.val * 2816 + (q.val * 704 + f.val)) / 704 % 4 = q.val; omega)
  | 1 => exact Fin.ext (by show (d.val * 2816 + (q.val * 704 + f.val)) / 2816 = d.val; omega)
  | 2 => exact Fin.ext (by show (d.val * 2816 + (q.val * 704 + f.val)) % 704 = f.val; omega)

theorem wdown_apply (q : Fin 4) (f : Fin 704) (j : Fin 1024) : val_main_v7 (F := Ideal) wd (ix2 (fl q f) j) = wd (ix3 q f j) := by
  rw [val_main_v7_apply, val_main_v6_apply]
  refine congrArg wd (funext fun a => ?_)
  match a with
  | 0 => exact Fin.ext (by show ((q.val * 704 + f.val) * 1024 + j.val) / 720896 = q.val; omega)
  | 1 => exact Fin.ext (by show ((q.val * 704 + f.val) * 1024 + j.val) / 1024 % 704 = f.val; omega)
  | 2 => exact Fin.ext (by show ((q.val * 704 + f.val) * 1024 + j.val) % 1024 = j.val; omega)

theorem gate_apply (s : Fin 8192) (q : Fin 4) (f : Fin 704) : val_main_v8 (F := Ideal) x wg (ix2 s (fl q f)) = lin (tok x s) (quarter wg q) f := by
  rw [val_main_v8_apply]
  refine Finset.sum_congr rfl fun d _ => congrArg₂ (· * ·) (congrArg x (funext fun a => ?_)) ?_
  · match a with
    | 0 => rfl
    | 1 => rfl
  · refine Eq.trans (congrArg (val_main_v2 (F := Ideal) wg) (funext fun a => ?_)) (wgate_apply wg d q f)
    match a with
    | 0 => rfl
    | 1 => rfl

theorem up_apply (s : Fin 8192) (q : Fin 4) (f : Fin 704) : val_main_v9 (F := Ideal) x wu (ix2 s (fl q f)) = lin (tok x s) (quarter wu q) f := by
  rw [val_main_v9_apply]
  refine Finset.sum_congr rfl fun d _ => congrArg₂ (· * ·) (congrArg x (funext fun a => ?_)) ?_
  · match a with
    | 0 => rfl
    | 1 => rfl
  · refine Eq.trans (congrArg (val_main_v5 (F := Ideal) wu) (funext fun a => ?_)) (wup_apply wu d q f)
    match a with
    | 0 => rfl
    | 1 => rfl

theorem one_bits : FloatOps.ofBits (F := Ideal) .f32 0x3F800000#32 = (1 : EReal) := Ideal.ofBits_one_f32

theorem hidden_apply (s : Fin 8192) (q : Fin 4) (f : Fin 704) :
    val_main_v13 (F := Ideal) x wg wu (ix2 s (fl q f)) = gated (tok x s) (quarter wg q) (quarter wu q) f := by
  rw [val_main_v13_apply, val_main_v12_apply, val_main_call0_v5_apply, val_main_call0_v4_apply, val_main_call0_cst_0_apply, val_main_call0_v3_apply, val_main_call0_v2_apply,
    val_main_call0_cst_apply, val_main_call0_v1_apply, val_main_call0_v0_apply, gate_apply, up_apply, one_bits]
  rfl

theorem downR_apply (s : Fin 8192) (j : Fin 1024) :
    val_main_v14 (F := Ideal) x wg wu wd (ix2 s j) = down (tok x s) (quarter wg) (quarter wu) (quarterD wd) j := by
  rw [val_main_v14_apply]
  refine (Fin.sum_mul_add_congr fun q f hl => ?_).symm
  have e1 : lidx_main_v14 (ix2 s j) ⟨q.val * 704 + f.val, hl⟩ = ix2 s (fl q f) := funext fun a => by
    match a with
    | 0 => rfl
    | 1 => rfl
  have e2 : ridx_main_v14 (ix2 s j) ⟨q.val * 704 + f.val, hl⟩ = ix2 (fl q f) j := funext fun a => by
    match a with
    | 0 => rfl
    | 1 => rfl
  rw [e1, e2, hidden_apply, wdown_apply]

theorem z_apply (s : Fin 8192) (j : Fin 1024) :
    val_main_v17 (F := Ideal) x wg wu wd (ix2 s j) = pre (tok x s) (quarter wg) (quarter wu) (quarterD wd) j := by
  rw [val_main_v17_apply, val_main_v11_apply, val_main_v10_apply, val_main_cst_apply, val_main_v16_apply, val_main_v15_apply, val_main_cst_0_apply, downR_apply]
  rfl

theorem mean_apply (s : Fin 8192) (z : Fin 1) :
    val_main_v21 (F := Ideal) x wg wu wd (ix2 s z) = mean (pre (tok x s) (quarter wg) (quarter wu) (quarterD wd)) := by
  rw [val_main_v21_apply, val_main_v19_apply, val_main_v20_apply, val_main_cst_2_apply, val_main_v18_apply, val_main_cst_1_apply]
  refine congrArg (Ideal.div · cN) ?_
  refine (congrArg₂ (· + ·) (Ideal.ofBits_zero .f32) (Finset.sum_congr rfl fun k _ => ?_)).trans (zero_add _)
  refine Eq.trans (congrArg (val_main_v17 (F := Ideal) x wg wu wd) (funext fun a => ?_)) (z_apply x wg wu wd s k)
  match a with
  | 0 => rfl
  | 1 => rfl

theorem cenR_apply (s : Fin 8192) (j : Fin 1024) :
    val_main_v23 (F := Ideal) x wg wu wd (ix2 s j) = pre (tok x s) (quarter wg) (quarter wu) (quarterD wd) j - mean (pre (tok x s) (quarter wg) (quarter wu) (quarterD wd)) := by
  have e : idx_main_v22 (ix2 s j) = ix2 s (0 : Fin 1) := funext fun a => by
    match a with
    | 0 => rfl
    | 1 => rfl
  rw [val_main_v23_apply, val_main_v22_apply, e, mean_apply, z_apply]
  rfl

theorem cenR'_apply (s : Fin 8192) (j : Fin 1024) :
    val_main_v30 (F := Ideal) x wg wu wd (ix2 s j) = pre (tok x s) (quarter wg) (quarter wu) (quarterD wd) j - mean (pre (tok x s) (quarter wg) (quarter wu) (quarterD wd)) := by
  have e : idx_main_v29 (ix2 s j) = ix2 s (0 : Fin 1) := funext fun a => by
    match a with
    | 0 => rfl
    | 1 => rfl
  rw [val_main_v30_apply, val_main_v29_apply, e, mean_apply, z_apply]
  rfl

theorem var_apply (s : Fin 8192) (z : Fin 1) :
    val_main_v28 (F := Ideal) x wg wu wd (ix2 s z) = var (pre (tok x s) (quarter wg) (quarter wu) (quarterD wd)) := by
  rw [val_main_v28_apply, val_main_v26_apply, val_main_v27_apply, val_main_cst_4_apply, val_main_v25_apply, val_main_cst_3_apply]
  refine congrArg (Ideal.div · cN) ?_
  refine (congrArg₂ (· + ·) (Ideal.ofBits_zero .f32) (Finset.sum_congr rfl fun k _ => ?_)).trans (zero_add _)
  have e : idx_main_v25 (idx_main_v26 (ix2 s z)) k = ix2 s k := funext fun a => by
    match a with
    | 0 => rfl
    | 1 => rfl
  rw [e, val_main_v24_apply, cenR_apply]
  rfl

theorem y_apply (s : Fin 8192) (j : Fin 1024) :
    val_main_v39 (F := Ideal) x wg wu wd g b (ix2 s j) = norm (pre (tok x s) (quarter wg) (quarter wu) (quarterD wd)) (vec g) (vec b) j := by
  have e : idx_main_v34 (ix2 s j) = ix2 s (0 : Fin 1) := funext fun a => by
    match a with
    | 0 => rfl
    | 1 => rfl
  have e1 : idx_main_v36 (ix2 s j) = ix2 (0 : Fin 1) j := funext fun a => by
    match a with
    | 0 => rfl
    | 1 => rfl
  have e2 : idx_main_v38 (ix2 s j) = ix2 (0 : Fin 1) j := funext fun a => by
    match a with
    | 0 => rfl
    | 1 => rfl
  rw [val_main_v39_apply, val_main_v37_apply, val_main_v35_apply, val_main_v34_apply, e, val_main_v33_apply, val_main_v32_apply, val_main_v31_apply, val_main_cst_5_apply,
    val_main_v36_apply, e1, val_main_v38_apply, e2, cenR'_apply, var_apply]
  rfl

/-- The five results. -/
theorem ref_z : val_main_v17 (F := Ideal) x wg wu wd = Zv x wg wu wd := funext fun i => by
  obtain ⟨s, j, rfl⟩ : ∃ (s : Fin 8192) (j : Fin 1024), i = ix2 s j := ⟨i 0, i 1, eq_ix2 i⟩
  exact z_apply x wg wu wd s j

theorem ref_y : val_main_v39 (F := Ideal) x wg wu wd g b = Yv x wg wu wd g b := funext fun i => by
  obtain ⟨s, j, rfl⟩ : ∃ (s : Fin 8192) (j : Fin 1024), i = ix2 s j := ⟨i 0, i 1, eq_ix2 i⟩
  exact y_apply x wg wu wd g b s j

theorem ref_yb : val_main_v46 (F := Ideal) x wg wu wd g b = Yv x wg wu wd g b :=
  (funext fun i => val_main_v46_apply (F := Ideal) x wg wu wd g b i).trans (ref_y x wg wu wd g b)

theorem ref_gate : val_main_v42 (F := Ideal) x wg = Hv x wg := funext fun i => by
  rw [val_main_v42_apply, val_main_v41_apply, val_main_v40_apply]
  refine Eq.trans (congrArg (val_main_v8 (F := Ideal) x wg) (funext fun a => ?_)) (gate_apply x wg (i 1) (i 0) (i 2))
  have h0 : (i 0).val < 4 := (i 0).isLt
  have h2 : (i 2).val < 704 := (i 2).isLt
  match a with
  | 0 => exact Fin.ext (by show (((i 1).val * 4 + (i 0).val) * 704 + (i 2).val) / 2816 = (i 1).val; omega)
  | 1 => exact Fin.ext (by show (((i 1).val * 4 + (i 0).val) * 704 + (i 2).val) % 2816 = (i 0).val * 704 + (i 2).val; omega)

theorem ref_up : val_main_v45 (F := Ideal) x wu = Hv x wu := funext fun i => by
  rw [val_main_v45_apply, val_main_v44_apply, val_main_v43_apply]
  refine Eq.trans (congrArg (val_main_v9 (F := Ideal) x wu) (funext fun a => ?_)) (up_apply x wu (i 1) (i 0) (i 2))
  have h0 : (i 0).val < 4 := (i 0).isLt
  have h2 : (i 2).val < 704 := (i 2).isLt
  match a with
  | 0 => exact Fin.ext (by show (((i 1).val * 4 + (i 0).val) * 704 + (i 2).val) / 2816 = (i 1).val; omega)
  | 1 => exact Fin.ext (by show (((i 1).val * 4 + (i 0).val) * 704 + (i 2).val) % 2816 = (i 0).val * 704 + (i 2).val; omega)

end Cert.Proof.Ffn

end
-- ==== Proof.BwdModel.lean ====
/-
  One token's backward half step over extended reals: the layer norm's gradient, the hidden gradients in quarters and the input's
  gradient; on finite values the layer norm's and the gate's gradients as differentiating line by line gives them are the same.
-/
module

public import proofs.«01_k».proof.Proof.FfnModel
public import proofs.«01_k».proof.Proof.Model

@[expose] public section

noncomputable section

namespace Cert.Proof.Bwd

open Idealize.ShloMosaic
open Cert.Proof.Ffn (cA cH cN cE mean var)
open Cert.Proof.Attn (Fin')
open scoped BigOperators

/-- The constants of the line-by-line gradient. -/
abbrev cM : EReal := FloatOps.ofBits (F := Ideal) .f32 0xBF000000#32
abbrev c2 : EReal := FloatOps.ofBits (F := Ideal) .f32 0x40000000#32

/-- The normalised row, and the row of the output's gradient times the scale. -/
def xhat (z : Fin 1024 → EReal) (j : Fin 1024) : EReal := (z j - mean z) * Ideal.rsqrt (var z + cE)
def gdy (dy g : Fin 1024 → EReal) (j : Fin 1024) : EReal := dy j * g j

/-- The layer norm's gradient as the kernel takes it. -/
def dzv (dy z g : Fin 1024 → EReal) (j : Fin 1024) : EReal :=
  Ideal.rsqrt (var z + cE) * (gdy dy g j - mean (gdy dy g) - xhat z j * mean fun k => gdy dy g k * xhat z k)

/-- The same line by line. -/
def vs (dy z g : Fin 1024 → EReal) : EReal :=
  Ideal.div ((∑ k, (z k - mean z) * gdy dy g k) * (cM * Ideal.div (Ideal.rsqrt (var z + cE)) (var z + cE))) cN
def vt (dy z g : Fin 1024 → EReal) (k : Fin 1024) : EReal := vs dy z g * (c2 * (z k - mean z))
def dzR (dy z g : Fin 1024 → EReal) (j : Fin 1024) : EReal :=
  gdy dy g j * Ideal.rsqrt (var z + cE) + vt dy z g j
    + Ideal.div ((∑ k, -(gdy dy g k * Ideal.rsqrt (var z + cE))) + ∑ k, -vt dy z g k) cN

/-- The hidden gradients of one quarter, from the row of the residual's gradient. -/
def da (d : Fin 1024 → EReal) (w : Fin 704 → Fin 1024 → EReal) (f : Fin 704) : EReal := ∑ j, cH * d j * w f j
def dup (d : Fin 1024 → EReal) (w : Fin 704 → Fin 1024 → EReal) (a : Fin 704 → EReal) (f : Fin 704) : EReal :=
  da d w f * (a f * Ideal.logistic (a f))
def dgate (d : Fin 1024 → EReal) (w : Fin 704 → Fin 1024 → EReal) (a u : Fin 704 → EReal) (f : Fin 704) : EReal :=
  da d w f * u f * (Ideal.logistic (a f) * (1 + a f * (1 - Ideal.logistic (a f))))

/-- What one quarter adds to the input's gradient. -/
def back (d : Fin 1024 → EReal) (w : Fin 704 → Fin 1024 → EReal) (a u : Fin 704 → EReal) (wg wu : Fin 1024 → Fin 704 → EReal) (j : Fin 1024) : EReal :=
  (∑ f, dgate d w a u f * wg j f) + ∑ f, dup d w a f * wu j f

/-! ## Finite values -/

theorem coe_sum {ι : Type} [Fintype ι] (f : ι → ℝ) : (∑ j, (f j : EReal)) = ((∑ j, f j : ℝ) : EReal) := by
  have : ∀ s : Finset ι, ∑ j ∈ s, (f j : EReal) = ((∑ j ∈ s, f j : ℝ) : EReal) := by
    intro s
    classical
    induction s using Finset.induction_on with
    | empty => simp
    | insert a s ha ih => rw [Finset.sum_insert ha, Finset.sum_insert ha, ih, EReal.coe_add]
  exact this _

theorem cN_eq : cN = ((1024 : ℝ) : EReal) := by
  show Ideal.ofBits .f32 0x44800000#32 = _
  simp [Ideal.ofBits, Ideal.ieee]
  norm_num [← EReal.coe_mul]
theorem cM_eq : cM = ((-(1 / 2) : ℝ) : EReal) := by
  show Ideal.ofBits .f32 0xBF000000#32 = _
  simp [Ideal.ofBits, Ideal.ieee]
  norm_num [← EReal.coe_mul]
theorem c2_eq : c2 = ((2 : ℝ) : EReal) := by
  show Ideal.ofBits .f32 0x40000000#32 = _
  simp [Ideal.ofBits, Ideal.ieee]
  norm_num [← EReal.coe_mul]
theorem cE_pos : ∃ r : ℝ, 0 < r ∧ cE = (r : EReal) := by
  refine ⟨10995116 * 2 ^ (-40 : ℤ), by positivity, ?_⟩
  show Ideal.ofBits .f32 0x3727C5AC#32 = _
  simp [Ideal.ofBits, Ideal.ieee]
theorem cH_fin : Fin' cH := ⟨1 / 2, by
  show Ideal.ofBits .f32 0x3F000000#32 = _
  simp [Ideal.ofBits, Ideal.ieee]
  norm_num [← EReal.coe_mul]⟩
theorem cA_fin : Fin' cA := by
  show Fin' (Ideal.ofBits .f32 0x3FD744FD#32)
  refine ⟨14107901 * 2 ^ (-23 : ℤ), ?_⟩
  simp [Ideal.ofBits, Ideal.ieee]

theorem mean_coe (f : Fin 1024 → ℝ) : mean (fun j => (f j : EReal)) = (((∑ j, f j) * (1 / 1024) : ℝ) : EReal) := by
  unfold mean
  rw [coe_sum, cN_eq, Ideal.div_coe (by norm_num), ← EReal.coe_mul]

/-- On finite rows the two gradients agree, and the result is finite. -/
theorem dz_both (dy z g : Fin 1024 → EReal) (hy : ∀ j, Fin' (dy j)) (hz : ∀ j, Fin' (z j)) (hg : ∀ j, Fin' (g j)) (j : Fin 1024) :
    dzR dy z g j = dzv dy z g j ∧ Fin' (dzv dy z g j) := by
  choose y hy using fun j => (hy j).mul (hg j)
  choose x hx using hz
  obtain rfl : z = fun j => (x j : EReal) := funext hx
  have hgdy : gdy dy g = fun j => (y j : EReal) := funext hy
  obtain ⟨e, he, hcE⟩ := cE_pos
  obtain ⟨M, hM⟩ : ∃ M : ℝ, M = (∑ j, x j) * (1 / 1024) := ⟨_, rfl⟩
  have hmean : mean (fun j => (x j : EReal)) = (M : EReal) := by rw [mean_coe, hM]
  have hcen : ∀ k, (x k : EReal) - mean (fun j => (x j : EReal)) = ((x k - M : ℝ) : EReal) := fun k => by rw [hmean, EReal.coe_sub]
  obtain ⟨V, hV⟩ : ∃ V : ℝ, V = (∑ j, (x j - M) * (x j - M)) * (1 / 1024) + e := ⟨_, rfl⟩
  have hVp : 0 < V := by
    have : 0 ≤ ∑ j, (x j - M) * (x j - M) := Finset.sum_nonneg fun j _ => mul_self_nonneg _
    rw [hV]; positivity
  have hvar : var (fun j => (x j : EReal)) + cE = (V : EReal) := by
    unfold var
    rw [show (fun k => ((x k : EReal) - mean fun j => (x j : EReal)) * ((x k : EReal) - mean fun j => (x j : EReal))) = fun k => (((x k - M) * (x k - M) : ℝ) : EReal) from
      funext fun k => by rw [hcen, EReal.coe_mul], mean_coe, hcE, ← EReal.coe_add, hV]
  obtain ⟨r, hr⟩ : ∃ r : ℝ, r = (Real.sqrt V)⁻¹ := ⟨_, rfl⟩
  have hrs : Ideal.rsqrt (V : EReal) = (r : EReal) := by
    show (if V < 0 then (⊥ : EReal) else if V = 0 then ⊤ else (((Real.sqrt V)⁻¹ : ℝ) : EReal)) = _
    rw [if_neg hVp.le.not_gt, if_neg hVp.ne', hr]
  have hrV : 1 / V = r * r := by
    rw [hr, ← mul_inv, Real.mul_self_sqrt hVp.le, one_div]
  have hS0 : ∑ k, (x k - M) = 0 := by
    rw [Finset.sum_sub_distrib, Finset.sum_const, Finset.card_univ, Fintype.card_fin, hM, nsmul_eq_mul]
    push_cast
    ring
  obtain ⟨S, hS⟩ : ∃ S : ℝ, S = ∑ k, (x k - M) * y k := ⟨_, rfl⟩
  have hvs : vs dy (fun j => (x j : EReal)) g = ((S * (-(1 / 2) * (r * (r * r))) * (1 / 1024) : ℝ) : EReal) := by
    unfold vs
    rw [hvar, hrs, Ideal.div_coe hVp.ne', hrV, hgdy, cM_eq, cN_eq, Ideal.div_coe (by norm_num)]
    simp only [hcen, ← EReal.coe_mul, coe_sum]
    rw [hS]
  have hvt : ∀ k, vt dy (fun j => (x j : EReal)) g k = ((S * (-(1 / 2) * (r * (r * r))) * (1 / 1024) * (2 * (x k - M)) : ℝ) : EReal) := fun k => by
    unfold vt
    rw [hvs, hcen, c2_eq, ← EReal.coe_mul, ← EReal.coe_mul]
  have hR : dzR dy (fun j => (x j : EReal)) g j = ((y j * r + S * (-(1 / 2) * (r * (r * r))) * (1 / 1024) * (2 * (x j - M))
      + ((∑ k, -(y k * r)) + ∑ k, -(S * (-(1 / 2) * (r * (r * r))) * (1 / 1024) * (2 * (x k - M)))) * (1 / 1024) : ℝ) : EReal) := by
    unfold dzR
    rw [hvar, hrs, hgdy, cN_eq, Ideal.div_coe (by norm_num)]
    simp only [hvt, ← EReal.coe_mul, ← EReal.coe_neg, coe_sum, ← EReal.coe_add]
  have hv : dzv dy (fun j => (x j : EReal)) g j = ((r * (y j - (∑ k, y k) * (1 / 1024) - (x j - M) * r * ((∑ k, y k * ((x k - M) * r)) * (1 / 1024))) : ℝ) : EReal) := by
    unfold dzv xhat
    rw [hvar, hrs, hgdy, mean_coe]
    simp only [hcen, ← EReal.coe_mul]
    rw [mean_coe]
    simp only [← EReal.coe_mul, ← EReal.coe_sub]
  refine ⟨?_, ⟨_, hv⟩⟩
  rw [hR, hv]
  congr 1
  have e1 : ∑ k, -(y k * r) = -((∑ k, y k) * r) := by rw [Finset.sum_neg_distrib, Finset.sum_mul]
  have e2 : ∑ k, -(S * (-(1 / 2) * (r * (r * r))) * (1 / 1024) * (2 * (x k - M))) = 0 := by
    rw [Finset.sum_neg_distrib, ← Finset.mul_sum, ← Finset.mul_sum, hS0]
    ring
  have e3 : ∑ k, y k * ((x k - M) * r) = S * r := by
    rw [hS, Finset.sum_mul]
    exact Finset.sum_congr rfl fun k _ => by ring
  rw [e1, e2, e3]
  ring

theorem logistic_coe (a : ℝ) : Fin' (Ideal.logistic (a : EReal)) := by
  unfold Ideal.logistic
  have h : Ideal.exp (-(a : EReal)) = ((Real.exp (-a) : ℝ) : EReal) := by rw [← EReal.coe_neg]; rfl
  have hp : 0 < 1 + Real.exp (-a) := by positivity
  rw [h, ← EReal.coe_one, ← EReal.coe_add, Ideal.div_coe hp.ne', ← EReal.coe_mul]
  exact ⟨_, rfl⟩

/-- The gate's gradient line by line. -/
theorem gate_grad {p a : EReal} (hp : Fin' p) (ha : Fin' a) :
    p * Ideal.logistic a + a * p * (Ideal.logistic a * (1 - Ideal.logistic a)) = p * (Ideal.logistic a * (1 + a * (1 - Ideal.logistic a))) := by
  obtain ⟨p, rfl⟩ := hp
  obtain ⟨a, rfl⟩ := ha
  obtain ⟨s, hs⟩ := logistic_coe a
  rw [hs, ← EReal.coe_one]
  simp only [← EReal.coe_mul, ← EReal.coe_sub, ← EReal.coe_add]
  congr 1
  ring

end Cert.Proof.Bwd

end
-- ==== Proof.BwdBlock.lean ====
/-
  One block of tokens of the backward half step: what each stored value is, at an index.
-/
module

public import proofs.«01_k».proof.Proof.BwdModel
public import proofs.«01_k».proof.Proof.Gen.Kernel5Ideal.Skeleton
public import Idealize.ShloMosaic.Lib.ValueIdx
public import Idealize.ShloMosaic.Lib.IdealHost
public import Idealize.ShloMosaic.Lib.Pipeline.ValueKit

@[expose] public section

noncomputable section

namespace Cert.Proof.Bwd

open Cert.Kernel5Ideal Cert.Kernel5Ideal.Gen
open Idealize.ShloMosaic Idealize.ShloMosaic.TcCoe Idealize.SL.Sem
open Idealize.ShloMosaic.ValueIdx (contrEquiv1 contrEquiv1_symm_val)
open Cert.Proof.Ffn (cA cH cN cE mean var)
open scoped BigOperators

abbrev D1 : DotDims S256x1024 S704x1024 S256x704 := dot_S256x1024_S704x1024_S256x704_1_1_0_0_n_n
abbrev D2 : DotDims S256x704 S1024x704 S256x1024 := dot_S256x704_S1024x704_S256x1024_1_1_0_0_n_n

theorem D1_apply (x : FVec Ideal S256x1024 .bf16) (w : FVec Ideal S704x1024 .bf16) (s : Fin 256) (f : Fin 704) :
    matmul D1 none x w (constant S256x704 .f32 0x00000000#32) (ix2 s f) = ∑ d : Fin 1024, x (ix2 s d) * w (ix2 f d) := by
  refine (Ideal.matmul_constant_zero_apply _ none x w _).trans ?_
  refine (Fintype.sum_equiv (contrEquiv1 D1 1024 rfl rfl) _ (fun d => x (D1.lhsIdx (ix2 s f) ((contrEquiv1 D1 1024 rfl rfl).symm d)) * w (D1.rhsIdx (ix2 s f) ((contrEquiv1 D1 1024 rfl rfl).symm d)))
    (fun q => by rw [Equiv.symm_apply_apply])).trans ?_
  refine Finset.sum_congr rfl fun d _ => ?_
  congr 2
  · funext a
    refine Fin.ext ?_
    match a with
    | 0 => rfl
    | 1 => exact (D1.lhsIdx_val_of_single rfl _ _).trans (contrEquiv1_symm_val D1 1024 rfl rfl d)
  · funext a
    refine Fin.ext ?_
    match a with
    | 0 => rfl
    | 1 => exact (D1.rhsIdx_val_of_single rfl _ _).trans (contrEquiv1_symm_val D1 1024 rfl rfl d)

theorem D2_apply (x : FVec Ideal S256x704 .bf16) (w : FVec Ideal S1024x704 .bf16) (s : Fin 256) (j : Fin 1024) :
    matmul D2 none x w (constant S256x1024 .f32 0x00000000#32) (ix2 s j) = ∑ f : Fin 704, x (ix2 s f) * w (ix2 j f) := by
  refine (Ideal.matmul_constant_zero_apply _ none x w _).trans ?_
  refine (Fintype.sum_equiv (contrEquiv1 D2 704 rfl rfl) _ (fun d => x (D2.lhsIdx (ix2 s j) ((contrEquiv1 D2 704 rfl rfl).symm d)) * w (D2.rhsIdx (ix2 s j) ((contrEquiv1 D2 704 rfl rfl).symm d)))
    (fun q => by rw [Equiv.symm_apply_apply])).trans ?_
  refine Finset.sum_congr rfl fun d _ => ?_
  congr 2
  · funext a
    refine Fin.ext ?_
    match a with
    | 0 => rfl
    | 1 => exact (D2.lhsIdx_val_of_single rfl _ _).trans (contrEquiv1_symm_val D2 704 rfl rfl d)
  · funext a
    refine Fin.ext ?_
    match a with
    | 0 => rfl
    | 1 => exact (D2.rhsIdx_val_of_single rfl _ _).trans (contrEquiv1_symm_val D2 704 rfl rfl d)

/-- A token's row in a block, and one quarter that a load brought. -/
abbrev row (x : S256x1024.Idx → EReal) (s : Fin 256) : Fin 1024 → EReal := fun d => x (ix2 s d)
abbrev one (w : S1x1024x704.Idx → EReal) : Fin 1024 → Fin 704 → EReal := fun d f => w (ix3 0 d f)
abbrev oneD (w : S1x704x1024.Idx → EReal) : Fin 704 → Fin 1024 → EReal := fun f j => w (ix3 0 f j)
abbrev oneH (a : S1x256x704.Idx → EReal) (s : Fin 256) : Fin 704 → EReal := fun f => a (ix3 0 s f)
abbrev vec (g : S1x1024.Idx → EReal) : Fin 1024 → EReal := fun d => g (ix2 0 d)

/-! ## The layer norm's gradient -/

def rowSum (y : FVec Ideal S256x1024 .f32) : FVec Ideal S256x1 .f32 :=
  shapeCast S256x1 (multiReduction .add [1] S256 y 0x00000000#32 reduces_S256x1024_S256 (.inl rfl) rfl) shapeCasts_S256_S256x1

theorem rowSum_apply (y : FVec Ideal S256x1024 .f32) (s : Fin 256) : rowSum y (ix2 s 0) = ∑ j : Fin 1024, y (ix2 s j) := by
  unfold rowSum
  rw [shapeCast_apply _ _ _ (ix1 s) (by rw [Shape.rowMajor_val_two]; show _ = s.val * 1 + 0; rw [Shape.rowMajor_val_one]; simp)]
  refine (Ideal.multiReduction_add_single y _ _ _ _ _).trans ?_
  refine Finset.sum_congr rfl fun j _ => congrArg y (funext fun d => ?_)
  match d with
  | 0 => rfl
  | 1 => rfl

/-- A block's column sums. -/
def colSum (y : FVec Ideal S256x1024 .f32) : FVec Ideal S1x1024 .f32 :=
  shapeCast S1x1024 (multiReduction .add [0] S1024 y 0x00000000#32 reduces_S256x1024_S1024 (.inl rfl) rfl) shapeCasts_S1024_S1x1024

theorem colSum_apply (y : FVec Ideal S256x1024 .f32) (j : Fin 1024) : colSum y (ix2 0 j) = ∑ s : Fin 256, y (ix2 s j) := by
  unfold colSum
  rw [shapeCast_apply _ _ _ (ix1 j) (by rw [Shape.rowMajor_val_two]; show _ = 0 * 1024 + j.val; rw [Shape.rowMajor_val_one]; simp)]
  refine (Ideal.multiReduction_add_single y _ _ _ _ _).trans ?_
  refine Finset.sum_congr rfl fun s _ => congrArg y (funext fun d => ?_)
  match d with
  | 0 => rfl
  | 1 => rfl

theorem bcast_apply (y : FVec Ideal S256x1 .f32) (s : Fin 256) (j : Fin 1024) : broadcastTo S256x1024 y broadcasts_S256x1_S256x1024 (ix2 s j) = y (ix2 s 0) :=
  broadcastTo_apply _ _ _ (ix2 s (0 : Fin 1)) (fun a => match a with | 0 => rfl | 1 => rfl)

theorem bcastRow_apply (y : FVec Ideal S1x1024 .f32) (s : Fin 256) (j : Fin 1024) : broadcastTo S256x1024 y broadcasts_S1x1024_S256x1024 (ix2 s j) = y (ix2 0 j) :=
  broadcastTo_apply _ _ _ (ix2 (0 : Fin 1) j) (fun a => match a with | 0 => rfl | 1 => rfl)

def meanV (y : FVec Ideal S256x1024 .f32) : FVec Ideal S256x1 .f32 := divf (rowSum y) (broadcast S256x1 (Scalar.ofBits .f32 0x44800000#32))

theorem meanV_apply (y : FVec Ideal S256x1024 .f32) (s : Fin 256) : meanV y (ix2 s 0) = mean (row y s) := by
  show Ideal.div (rowSum y (ix2 s 0)) cN = _
  rw [rowSum_apply]
  rfl

def cen (y : FVec Ideal S256x1024 .f32) : FVec Ideal S256x1024 .f32 := subf y (broadcastTo S256x1024 (meanV y) broadcasts_S256x1_S256x1024)

theorem cen_apply (y : FVec Ideal S256x1024 .f32) (s : Fin 256) (j : Fin 1024) : cen y (ix2 s j) = y (ix2 s j) - mean (row y s) := by
  show y (ix2 s j) - broadcastTo S256x1024 (meanV y) broadcasts_S256x1_S256x1024 (ix2 s j) = _
  rw [bcast_apply, meanV_apply]

def rs (y : FVec Ideal S256x1024 .f32) : FVec Ideal S256x1 .f32 := rsqrt (addf (meanV (mulf (cen y) (cen y))) (broadcast S256x1 (Scalar.ofBits .f32 0x3727C5AC#32)))

theorem rs_apply (y : FVec Ideal S256x1024 .f32) (s : Fin 256) : rs y (ix2 s 0) = Ideal.rsqrt (var (row y s) + cE) := by
  show Ideal.rsqrt (meanV (mulf (cen y) (cen y)) (ix2 s 0) + cE) = _
  rw [meanV_apply]
  refine congrArg (fun v => Ideal.rsqrt (mean v + cE)) (funext fun j => ?_)
  show cen y (ix2 s j) * cen y (ix2 s j) = _
  rw [cen_apply]

/-- The normalised block. -/
def xh (z : FVec Ideal S256x1024 .f32) : FVec Ideal S256x1024 .f32 := mulf (cen z) (broadcastTo S256x1024 (rs z) broadcasts_S256x1_S256x1024)

theorem xh_apply (z : FVec Ideal S256x1024 .f32) (s : Fin 256) (j : Fin 1024) : xh z (ix2 s j) = xhat (row z s) j := by
  show cen z (ix2 s j) * broadcastTo S256x1024 (rs z) broadcasts_S256x1_S256x1024 (ix2 s j) = _
  rw [cen_apply, bcast_apply, rs_apply]
  rfl

def gd (y : FVec Ideal S256x1024 .f32) (g : FVec Ideal S1x1024 .f32) : FVec Ideal S256x1024 .f32 := mulf y (broadcastTo S256x1024 g broadcasts_S1x1024_S256x1024)

theorem gd_apply (y : FVec Ideal S256x1024 .f32) (g : FVec Ideal S1x1024 .f32) (s : Fin 256) (j : Fin 1024) : gd y g (ix2 s j) = gdy (row y s) (vec g) j := by
  show y (ix2 s j) * broadcastTo S256x1024 g broadcasts_S1x1024_S256x1024 (ix2 s j) = _
  rw [bcastRow_apply]
  rfl

/-- The gradient before the layer norm, of one block. -/
def dzB (y z : FVec Ideal S256x1024 .f32) (g : FVec Ideal S1x1024 .f32) : FVec Ideal S256x1024 .f32 :=
  mulf (broadcastTo S256x1024 (rs z) broadcasts_S256x1_S256x1024) (subf (subf (gd y g) (broadcastTo S256x1024 (meanV (gd y g)) broadcasts_S256x1_S256x1024))
    (mulf (xh z) (broadcastTo S256x1024 (meanV (mulf (gd y g) (xh z))) broadcasts_S256x1_S256x1024)))

theorem dzB_apply (y z : FVec Ideal S256x1024 .f32) (g : FVec Ideal S1x1024 .f32) (s : Fin 256) (j : Fin 1024) :
    dzB y z g (ix2 s j) = dzv (row y s) (row z s) (vec g) j := by
  show broadcastTo S256x1024 (rs z) broadcasts_S256x1_S256x1024 (ix2 s j) * (gd y g (ix2 s j) - broadcastTo S256x1024 (meanV (gd y g)) broadcasts_S256x1_S256x1024 (ix2 s j)
    - xh z (ix2 s j) * broadcastTo S256x1024 (meanV (mulf (gd y g) (xh z))) broadcasts_S256x1_S256x1024 (ix2 s j)) = _
  rw [bcast_apply, bcast_apply, bcast_apply, rs_apply, gd_apply, meanV_apply, meanV_apply, xh_apply]
  have e1 : row (gd y g) s = gdy (row y s) (vec g) := funext fun k => gd_apply y g s k
  have e2 : row (mulf (gd y g) (xh z)) s = fun k => gdy (row y s) (vec g) k * xhat (row z s) k := funext fun k => by
    show gd y g (ix2 s k) * xh z (ix2 s k) = _
    rw [gd_apply, xh_apply]
  rw [e1, e2]
  rfl

theorem pay7_eq (z : Vec Ideal S256x1024 .f32) : k0_pay7 z = xh z := by
  unfold k0_pay7 k0_pay6 k0_pay5
  dsimp only
  rw [shapeCast_self]
  rfl

theorem pay63_eq (z : Vec Ideal S256x1024 .f32) : k0_pay63 z = xh z := by
  unfold k0_pay63 k0_pay62 k0_pay61
  dsimp only
  rw [shapeCast_self]
  rfl

theorem pay8_eq (y z : Vec Ideal S256x1024 .f32) (g : Vec Ideal S1x1024 .f32) : k0_pay8 y z g = dzB y z g := by
  unfold k0_pay8
  dsimp only
  rw [shapeCast_self, pay7_eq]
  unfold k0_pay6 k0_pay5
  dsimp only
  rw [shapeCast_self]
  rfl

theorem pay4_eq (y z : Vec Ideal S256x1024 .f32) (g : Vec Ideal S1x1024 .f32) :
    k0_pay4 (k0_pay62 z) (k0_pay63 z) (k0_pay64 y g) (k0_pay65 y g) (k0_pay66 y z g) = dzB y z g := by
  unfold k0_pay66
  rw [pay63_eq]
  unfold k0_pay4 k0_pay62 k0_pay61
  dsimp only
  rw [shapeCast_self, shapeCast_self]
  rfl

/-! ## One quarter of the hidden width -/

theorem da_apply (d : Vec Ideal S256x1024 .f32) (w : Vec Ideal S1x704x1024 .bf16) (s : Fin 256) (f : Fin 704) : k0_pay14 d w (ix2 s f) = da (row d s) (oneD w) f := by
  unfold k0_pay14
  rw [D1_apply]
  refine Finset.sum_congr rfl fun j _ => ?_
  rw [shapeCast_apply _ _ _ (ix3 0 f j) (by
    rw [Shape.rowMajor_val_two, Shape.rowMajor_val_three]; show (0 * 704 + f.val) * 1024 + j.val = f.val * 1024 + j.val; omega)]
  rfl

theorem pay15_apply (a : Vec Ideal S1x256x704 .bf16) (s : Fin 256) (f : Fin 704) : k0_pay15 a (ix2 s f) = oneH a s f := by
  unfold k0_pay15
  exact shapeCast_apply _ _ _ (ix3 0 s f) (by
    rw [Shape.rowMajor_val_two, Shape.rowMajor_val_three]; show (0 * 256 + s.val) * 704 + f.val = s.val * 704 + f.val; omega)

theorem pay16_apply (a : Vec Ideal S1x256x704 .bf16) (s : Fin 256) (f : Fin 704) : k0_pay16 a (ix2 s f) = oneH a s f := pay15_apply a s f

theorem one_bits : FloatOps.ofBits (F := Ideal) .f32 0x3F800000#32 = (1 : EReal) := Ideal.ofBits_one_f32

def dgB (d : Vec Ideal S256x1024 .f32) (w : Vec Ideal S1x704x1024 .bf16) (a u : Vec Ideal S1x256x704 .bf16) : FVec Ideal S256x704 .bf16 := k0_pay22 (k0_pay20 d w u) (k0_pay21 a)
def duB (d : Vec Ideal S256x1024 .f32) (w : Vec Ideal S1x704x1024 .bf16) (a : Vec Ideal S1x256x704 .bf16) : FVec Ideal S256x704 .bf16 := k0_pay23 (k0_pay14 d w) (k0_pay18 a)

theorem dgB_apply (d : Vec Ideal S256x1024 .f32) (w : Vec Ideal S1x704x1024 .bf16) (a u : Vec Ideal S1x256x704 .bf16) (s : Fin 256) (f : Fin 704) :
    dgB d w a u (ix2 s f) = dgate (row d s) (oneD w) (oneH a s) (oneH u s) f := by
  show k0_pay14 d w (ix2 s f) * k0_pay16 u (ix2 s f) * (Ideal.logistic (k0_pay15 a (ix2 s f)) * (FloatOps.ofBits (F := Ideal) .f32 0x3F800000#32
    + k0_pay15 a (ix2 s f) * (FloatOps.ofBits (F := Ideal) .f32 0x3F800000#32 - Ideal.logistic (k0_pay15 a (ix2 s f))))) = _
  rw [da_apply, pay16_apply, pay15_apply, one_bits]
  rfl

theorem duB_apply (d : Vec Ideal S256x1024 .f32) (w : Vec Ideal S1x704x1024 .bf16) (a : Vec Ideal S1x256x704 .bf16) (s : Fin 256) (f : Fin 704) :
    duB d w a (ix2 s f) = dup (row d s) (oneD w) (oneH a s) f := by
  show k0_pay14 d w (ix2 s f) * (k0_pay15 a (ix2 s f) * Ideal.logistic (k0_pay15 a (ix2 s f))) = _
  rw [da_apply, pay15_apply]
  rfl

/-- A quarter added to the input's gradient. -/
def stepQ (acc : FVec Ideal S256x1024 .f32) (d : Vec Ideal S256x1024 .f32) (w : Vec Ideal S1x704x1024 .bf16) (a u : Vec Ideal S1x256x704 .bf16) (wg wu : Vec Ideal S1x1024x704 .bf16) : FVec Ideal S256x1024 .f32 :=
  addf (addf acc (matmul (φ₁ := .bf16) (φ₂ := .bf16) D2 none (dgB d w a u) (shapeCast S1024x704 wg shapeCasts_S1x1024x704_S1024x704) (constant S256x1024 .f32 0x00000000#32)))
    (matmul (φ₁ := .bf16) (φ₂ := .bf16) D2 none (duB d w a) (shapeCast S1024x704 wu shapeCasts_S1x1024x704_S1024x704) (constant S256x1024 .f32 0x00000000#32))

theorem stepQ_apply (acc : FVec Ideal S256x1024 .f32) (d : Vec Ideal S256x1024 .f32) (w : Vec Ideal S1x704x1024 .bf16) (a u : Vec Ideal S1x256x704 .bf16) (wg wu : Vec Ideal S1x1024x704 .bf16) (s : Fin 256) (j : Fin 1024) :
    stepQ acc d w a u wg wu (ix2 s j) = acc (ix2 s j) + back (row d s) (oneD w) (oneH a s) (oneH u s) (one wg) (one wu) j := by
  have hw : ∀ (v : Vec Ideal S1x1024x704 .bf16) (f : Fin 704), shapeCast S1024x704 v shapeCasts_S1x1024x704_S1024x704 (ix2 j f) = one v j f := fun v f =>
    shapeCast_apply _ _ _ (ix3 0 j f) (by
      rw [Shape.rowMajor_val_two, Shape.rowMajor_val_three]; show (0 * 1024 + j.val) * 704 + f.val = j.val * 704 + f.val; omega)
  refine (congrArg₂ (· + ·) (congrArg (acc (ix2 s j) + ·) (D2_apply _ _ s j)) (D2_apply _ _ s j)).trans ?_
  rw [add_assoc]
  refine congrArg (acc (ix2 s j) + ·) (congrArg₂ (· + ·) (Finset.sum_congr rfl fun f _ => ?_) (Finset.sum_congr rfl fun f _ => ?_))
  · rw [dgB_apply, hw]
  · rw [duB_apply, hw]

theorem lift_apply (y : FVec Ideal S256x704 .bf16) (i : S1x256x704.Idx) : shapeCast S1x256x704 y shapeCasts_S256x704_S1x256x704 i = y (ix2 (i 1) (i 2)) :=
  shapeCast_apply _ _ i (ix2 (i 1) (i 2)) (by
    have h0 : (i 0).val < 1 := (i 0).isLt
    rw [Shape.rowMajor_val_two, Shape.rowMajor_val_three]; show (i 1).val * 704 + (i 2).val = ((i 0).val * 256 + (i 1).val) * 704 + (i 2).val; omega)

/-- What the three stores of a quarter hold. -/
def dgP (d : Vec Ideal S256x1024 .f32) (w : Vec Ideal S1x704x1024 .bf16) (a u : Vec Ideal S1x256x704 .bf16) : FVec Ideal S1x256x704 .bf16 :=
  shapeCast S1x256x704 (dgB d w a u) shapeCasts_S256x704_S1x256x704
def duP (d : Vec Ideal S256x1024 .f32) (w : Vec Ideal S1x704x1024 .bf16) (a : Vec Ideal S1x256x704 .bf16) : FVec Ideal S1x256x704 .bf16 :=
  shapeCast S1x256x704 (duB d w a) shapeCasts_S256x704_S1x256x704

theorem aP_apply (a u : Vec Ideal S1x256x704 .bf16) (i : S1x256x704.Idx) : k0_pay19 a u i = oneH a (i 1) (i 2) * Ideal.logistic (oneH a (i 1) (i 2)) * oneH u (i 1) (i 2) := by
  have h : ∀ (s : Fin 256) (f : Fin 704), k0_pay15 a (ix2 s f) * Ideal.logistic (k0_pay15 a (ix2 s f)) * k0_pay16 u (ix2 s f)
      = oneH a s f * Ideal.logistic (oneH a s f) * oneH u s f := fun s f => by rw [pay15_apply, pay16_apply]
  unfold k0_pay19
  refine (lift_apply _ i).trans ?_
  exact h (i 1) (i 2)

theorem dgP_apply (d : Vec Ideal S256x1024 .f32) (w : Vec Ideal S1x704x1024 .bf16) (a u : Vec Ideal S1x256x704 .bf16) (i : S1x256x704.Idx) :
    dgP d w a u i = dgate (row d (i 1)) (oneD w) (oneH a (i 1)) (oneH u (i 1)) (i 2) :=
  (lift_apply _ i).trans (dgB_apply d w a u (i 1) (i 2))

theorem duP_apply (d : Vec Ideal S256x1024 .f32) (w : Vec Ideal S1x704x1024 .bf16) (a : Vec Ideal S1x256x704 .bf16) (i : S1x256x704.Idx) :
    duP d w a i = dup (row d (i 1)) (oneD w) (oneH a (i 1)) (i 2) :=
  (lift_apply _ i).trans (duB_apply d w a (i 1) (i 2))

end Cert.Proof.Bwd

end
-- ==== Proof.BwdStores.lean ====
/-
  What one point of the backward half step leaves in its blocks: the input's gradient, the gradients of the down, gate and up products and the
  gated hidden values, each at an index, from the block's gradient before the layer norm.
-/
module

public import proofs.«01_k».proof.Proof.BwdBlock
public import proofs.«01_k».proof.Proof.FfnFwd
public import proofs.«01_k».proof.Proof.Gen.Kernel5Ideal.Frame

@[expose] public section

noncomputable section

namespace Cert.Proof.Bwd

open Cert.Kernel5Ideal Cert.Kernel5Ideal.Gen
open Idealize.ShloMosaic Idealize.ShloMosaic.TcCoe Idealize.SL.Sem
open Cert.Proof.Ffn (cA cH cN cE mean var quarter quarterD)
open scoped BigOperators

theorem z2 : ∀ a : Fin 2, (![0, 0] : Fin 2 → ℕ) a = 0 := fun a => by match a with | 0 => rfl | 1 => rfl
theorem ldB (x : Vec Ideal S256x1024 .f32) (inb) : View.ld (Val := Elt Ideal) (e' := .f32) x (Rect.unit (s := S256x1024) ![0, 0] ![256, 1024] inb) = x :=
  View.ld_unit_lit _ x z2
theorem ldG (x : Vec Ideal S1x1024 .f32) (inb) : View.ld (Val := Elt Ideal) (e' := .f32) x (Rect.unit (s := S1x1024) ![0, 0] ![1, 1024] inb) = x :=
  View.ld_unit_lit _ x z2
theorem rdB (v : View sig .tc .vmem S256x1024 .f32) (x : Vec Ideal S256x1024 .f32) (inb) (inb') :
    v.readCov (Val := Elt Ideal) [⟨Rect.unit (s := S256x1024) ![0, 0] ![256, 1024] inb, x⟩] (Rect.unit (s := S256x1024) ![0, 0] ![256, 1024] inb').toLoadRect = x :=
  View.readCov_unit_lit _ _ _ z2

theorem one_ld (w : Vec Ideal S4x1024x704 .bf16) (q : Fin 4) (inb) :
    one (View.ld (Val := Elt Ideal) (e' := .bf16) w (Rect.unit (s := S4x1024x704) ![q.val, 0, 0] S1x1024x704.size inb)) = quarter w q := by
  funext d f
  refine congrArg w (funext fun a => ?_)
  match a with
  | 0 => exact Fin.ext (by show q.val + 1 * 0 = q.val; omega)
  | 1 => exact Fin.ext (by show 0 + 1 * d.val = d.val; omega)
  | 2 => exact Fin.ext (by show 0 + 1 * f.val = f.val; omega)

theorem oneD_ld (w : Vec Ideal S4x704x1024 .bf16) (q : Fin 4) (inb) :
    oneD (View.ld (Val := Elt Ideal) (e' := .bf16) w (Rect.unit (s := S4x704x1024) ![q.val, 0, 0] S1x704x1024.size inb)) = quarterD w q := by
  funext d f
  refine congrArg w (funext fun a => ?_)
  match a with
  | 0 => exact Fin.ext (by show q.val + 1 * 0 = q.val; omega)
  | 1 => exact Fin.ext (by show 0 + 1 * d.val = d.val; omega)
  | 2 => exact Fin.ext (by show 0 + 1 * f.val = f.val; omega)

/-- A token's hidden values in one quarter of a block. -/
abbrev quarterH (a : S4x256x704.Idx → EReal) (q : Fin 4) (s : Fin 256) : Fin 704 → EReal := fun f => a (ix3 q s f)

theorem oneH_ld (w : Vec Ideal S4x256x704 .bf16) (q : Fin 4) (inb) (s : Fin 256) :
    oneH (View.ld (Val := Elt Ideal) (e' := .bf16) w (Rect.unit (s := S4x256x704) ![q.val, 0, 0] S1x256x704.size inb)) s = quarterH w q s := by
  funext f
  refine congrArg w (funext fun a => ?_)
  match a with
  | 0 => exact Fin.ext (by show q.val + 1 * 0 = q.val; omega)
  | 1 => exact Fin.ext (by show 0 + 1 * s.val = s.val; omega)
  | 2 => exact Fin.ext (by show 0 + 1 * f.val = f.val; omega)

/-! ## The four quarters, as they are stored -/

section
variable (acc d : Vec Ideal S256x1024 .f32) (w : Vec Ideal S1x704x1024 .bf16) (a u : Vec Ideal S1x256x704 .bf16) (wg wu : Vec Ideal S1x1024x704 .bf16)

theorem step0 : k0_pay26 acc (k0_pay14 d w) (k0_pay18 a) (k0_pay20 d w u) (k0_pay21 a) wg wu = stepQ acc d w a u wg wu := rfl
theorem step1 : k0_pay38 acc (k0_pay27 (k0_pay12 d) w) (k0_pay28 a) (k0_pay29 u) (k0_pay30 a) (k0_pay31 a) wg wu = stepQ acc d w a u wg wu := rfl
theorem step2 : k0_pay49 acc (k0_pay39 (k0_pay12 d) w) (k0_pay40 a) u wg wu = stepQ acc d w a u wg wu := rfl
theorem step3 : k0_pay60 acc (k0_pay56 (k0_pay12 d) w a u) (k0_pay57 (k0_pay12 d) w a) wg wu = stepQ acc d w a u wg wu := rfl

theorem dg0 : k0_pay24 (k0_pay20 d w u) (k0_pay21 a) = dgP d w a u := rfl
theorem dg1 : k0_pay36 (k0_pay27 (k0_pay12 d) w) (k0_pay28 a) (k0_pay29 u) (k0_pay30 a) = dgP d w a u := rfl
theorem dg2 : k0_pay47 (k0_pay39 (k0_pay12 d) w) (k0_pay40 a) u = dgP d w a u := rfl
theorem dg3 : k0_pay58 (k0_pay12 d) w a u = dgP d w a u := rfl

theorem du0 : k0_pay25 (k0_pay14 d w) (k0_pay18 a) = duP d w a := rfl
theorem du1 : k0_pay37 (k0_pay27 (k0_pay12 d) w) (k0_pay31 a) = duP d w a := rfl
theorem du2 : k0_pay48 (k0_pay39 (k0_pay12 d) w) (k0_pay40 a) = duP d w a := rfl
theorem du3 : k0_pay59 (k0_pay12 d) w a = duP d w a := rfl

theorem aq1 : k0_pay33 (k0_pay32 a u) = k0_pay19 a u := rfl
theorem aq2 : k0_pay44 (k0_pay40 a) u = k0_pay19 a u := rfl
theorem aq3 : k0_pay55 a u = k0_pay19 a u := rfl

end

/-! ## The blocks -/

/-- The five blocks that a point leaves, from the block's gradient before the layer norm. -/
def dxO (d : S256x1024.Idx → EReal) (a u : S4x256x704.Idx → EReal) (wg wu : S4x1024x704.Idx → EReal) (w : S4x704x1024.Idx → EReal) (s : Fin 256) (j : Fin 1024) : EReal :=
  cA * d (ix2 s j) + back (row d s) (quarterD w 0) (quarterH a 0 s) (quarterH u 0 s) (quarter wg 0) (quarter wu 0) j
    + back (row d s) (quarterD w 1) (quarterH a 1 s) (quarterH u 1 s) (quarter wg 1) (quarter wu 1) j
    + back (row d s) (quarterD w 2) (quarterH a 2 s) (quarterH u 2 s) (quarter wg 2) (quarter wu 2) j
    + back (row d s) (quarterD w 3) (quarterH a 3 s) (quarterH u 3 s) (quarter wg 3) (quarter wu 3) j
def dgO (d : S256x1024.Idx → EReal) (a u : S4x256x704.Idx → EReal) (w : S4x704x1024.Idx → EReal) (y : S4x256x704.Idx) : EReal :=
  dgate (row d (y 1)) (quarterD w (y 0)) (quarterH a (y 0) (y 1)) (quarterH u (y 0) (y 1)) (y 2)
def duO (d : S256x1024.Idx → EReal) (a : S4x256x704.Idx → EReal) (w : S4x704x1024.Idx → EReal) (y : S4x256x704.Idx) : EReal :=
  dup (row d (y 1)) (quarterD w (y 0)) (quarterH a (y 0) (y 1)) (y 2)
def aO (a u : S4x256x704.Idx → EReal) (y : S4x256x704.Idx) : EReal := a y * Ideal.logistic (a y) * u y

section
variable (q : Fin 4) (inb) (inb2) (inb3) (inb4) (d : Vec Ideal S256x1024 .f32) (a u : Vec Ideal S4x256x704 .bf16) (w : Vec Ideal S4x704x1024 .bf16)
  (wg wu : Vec Ideal S4x1024x704 .bf16) (i : (Rect.unit (s := S4x256x704) ![q.val, 0, 0] S1x256x704.size inb).shape.Idx)

abbrev hq (a : Vec Ideal S4x256x704 .bf16) (inb2 : ∀ b : Fin S4x256x704.rank, (![q.val, 0, 0] : Fin 3 → ℕ) b + S1x256x704.size b ≤ S4x256x704.size b) : Vec Ideal S1x256x704 .bf16 := View.ld (Val := Elt Ideal) (e' := .bf16) a (Rect.unit (s := S4x256x704) ![q.val, 0, 0] S1x256x704.size inb2)
abbrev wq (a : Vec Ideal S4x704x1024 .bf16) (inb2 : ∀ b : Fin S4x704x1024.rank, (![q.val, 0, 0] : Fin 3 → ℕ) b + S1x704x1024.size b ≤ S4x704x1024.size b) : Vec Ideal S1x704x1024 .bf16 := View.ld (Val := Elt Ideal) (e' := .bf16) a (Rect.unit (s := S4x704x1024) ![q.val, 0, 0] S1x704x1024.size inb2)
abbrev vq (a : Vec Ideal S4x1024x704 .bf16) (inb2 : ∀ b : Fin S4x1024x704.rank, (![q.val, 0, 0] : Fin 3 → ℕ) b + S1x1024x704.size b ≤ S4x1024x704.size b) : Vec Ideal S1x1024x704 .bf16 := View.ld (Val := Elt Ideal) (e' := .bf16) a (Rect.unit (s := S4x1024x704) ![q.val, 0, 0] S1x1024x704.size inb2)

theorem emb_q : (Rect.unit (s := S4x256x704) ![q.val, 0, 0] S1x256x704.size inb).emb i = ix3 q (i 1) (i 2) := funext fun b => by
  match b with
  | 0 => exact Fin.ext (by have h0 : (i 0).val < 1 := (i 0).isLt; show q.val + 1 * (i 0).val = q.val; omega)
  | 1 => exact Fin.ext (by show 0 + 1 * (i 1).val = (i 1).val; omega)
  | 2 => exact Fin.ext (by show 0 + 1 * (i 2).val = (i 2).val; omega)

theorem dg_piece : dgP d (wq q w inb2) (hq q a inb3) (hq q u inb4) i = dgO d a u w ((Rect.unit (s := S4x256x704) ![q.val, 0, 0] S1x256x704.size inb).emb i) := by
  refine (dgP_apply _ _ _ _ i).trans ?_
  refine Eq.trans ?_ (congrArg (dgO d a u w) (emb_q q inb i).symm)
  rw [oneD_ld]
  exact congrArg₂ (dgate _ _ · · _) (oneH_ld a q inb3 (i 1)) (oneH_ld u q inb4 (i 1))

theorem du_piece : duP d (wq q w inb2) (hq q a inb3) i = duO d a w ((Rect.unit (s := S4x256x704) ![q.val, 0, 0] S1x256x704.size inb).emb i) := by
  refine (duP_apply _ _ _ i).trans ?_
  refine Eq.trans ?_ (congrArg (duO d a w) (emb_q q inb i).symm)
  rw [oneD_ld]
  exact congrArg (dup _ _ · _) (oneH_ld a q inb3 (i 1))

theorem a_piece : k0_pay19 (hq q a inb3) (hq q u inb4) i = aO a u ((Rect.unit (s := S4x256x704) ![q.val, 0, 0] S1x256x704.size inb).emb i) := by
  refine (aP_apply _ _ i).trans ?_
  refine Eq.trans ?_ (congrArg (aO a u) (emb_q q inb i).symm)
  exact congrArg₂ (fun h k : EReal => h * Ideal.logistic h * k) (congrFun (oneH_ld a q inb3 (i 1)) (i 2)) (congrFun (oneH_ld u q inb4 (i 1)) (i 2))

theorem step_q (acc : FVec Ideal S256x1024 .f32) (inb5) (inb6) (s : Fin 256) (j : Fin 1024) :
    stepQ acc d (wq q w inb2) (hq q a inb3) (hq q u inb4) (vq q wg inb5) (vq q wu inb6) (ix2 s j)
      = acc (ix2 s j) + back (row d s) (quarterD w q) (quarterH a q s) (quarterH u q s) (quarter wg q) (quarter wu q) j := by
  rw [stepQ_apply, oneD_ld, oneH_ld, oneH_ld, one_ld, one_ld]

end

section
variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S4x256x704 .bf16) (harg5 : arg5.IsWhole) (arg6 : Memref sig .tc .vmem S4x256x704 .bf16) (harg6 : arg6.IsWhole) (arg7 : Memref sig .tc .vmem S4x1024x704 .bf16) (harg7 : arg7.IsWhole) (arg8 : Memref sig .tc .vmem S4x1024x704 .bf16) (harg8 : arg8.IsWhole) (arg9 : Memref sig .tc .vmem S4x704x1024 .bf16) (harg9 : arg9.IsWhole) (arg10 : Memref sig .tc .vmem S1x1024 .f32) (harg10 : arg10.IsWhole) (arg11 : Memref sig .tc .vmem S256x1024 .f32) (harg11 : arg11.IsWhole) (arg12 : Memref sig .tc .vmem S256x1024 .bf16) (harg12 : arg12.IsWhole) (arg13 : Memref sig .tc .vmem S4x256x704 .bf16) (harg13 : arg13.IsWhole) (arg14 : Memref sig .tc .vmem S4x256x704 .bf16) (harg14 : arg14.IsWhole) (arg15 : Memref sig .tc .vmem S4x256x704 .bf16) (harg15 : arg15.IsWhole) (arg16 : Memref sig .tc .vmem S8x1024 .f32) (harg16 : arg16.IsWhole) (arg17 : Memref sig .tc .vmem S256x1024 .f32) (harg17 : arg17.IsWhole)
  (x0 : Vec Ideal S256x1024 .f32) (x1 : Vec Ideal S256x1024 .f32) (x2 : Vec Ideal S256x1024 .f32) (x3 : Vec Ideal S256x1024 .f32) (x4 : Vec Ideal S4x256x704 .bf16) (x5 : Vec Ideal S4x256x704 .bf16) (x6 : Vec Ideal S4x1024x704 .bf16) (x7 : Vec Ideal S4x1024x704 .bf16) (x8 : Vec Ideal S4x704x1024 .bf16) (x9 : Vec Ideal S1x1024 .f32)

theorem sout_B (hc0 : ¬cond0_0 i) (xo15 : Vec Ideal S8x1024 .f32) (xs0 : Vec Ideal S256x1024 .f32) : sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo15 xs0 = dzB x2 x3 x9 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo15 xs0)]
  unfold kernelRun0_B
  dsimp only
  try sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, ldB, ldG]
  rw [View.canon_cons_unit_lit _ _ _ z2, pay4_eq]

theorem out_B_10 (hc0 : ¬cond0_0 i) (xo15 : Vec Ideal S8x1024 .f32) (xs0 : Vec Ideal S256x1024 .f32) (s : Fin 256) (j : Fin 1024) : out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo15 xs0 (ix2 s j) = dxO xs0 x4 x5 x6 x7 x8 s j := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo15 xs0)]
  unfold kernelRun0_B
  dsimp only
  try sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, ldB, ldG]
  rw [View.canon_cons_unit_lit _ _ _ z2, step0, step1, step2, step3]
  refine (step_q (q := 3) ..).trans ?_
  refine congrArg (· + _) ((step_q (q := 2) ..).trans ?_)
  refine congrArg (· + _) ((step_q (q := 1) ..).trans ?_)
  refine congrArg (· + _) ((step_q (q := 0) ..).trans ?_)
  rfl

theorem out_B_11 (hc0 : ¬cond0_0 i) (xo15 : Vec Ideal S8x1024 .f32) (xs0 : Vec Ideal S256x1024 .f32) (y : S256x1024.Idx) : out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo15 xs0 y = cH * xs0 y := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo15 xs0)]
  unfold kernelRun0_B
  dsimp only
  try sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, ldB, ldG]
  rw [View.canon_cons_unit_lit _ _ _ z2]
  unfold k0_pay12
  try dsimp only
  try rw [shapeCast_self]
  rfl

theorem out_B_12 (hc0 : ¬cond0_0 i) (xo15 : Vec Ideal S8x1024 .f32) (xs0 : Vec Ideal S256x1024 .f32) (y : S4x256x704.Idx) : out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo15 xs0 y = dgO xs0 x4 x5 x8 y := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo15 xs0)]
  unfold kernelRun0_B
  dsimp only
  try sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, ldB, ldG]
  rw [dg0, dg1, dg2, dg3]
  refine View.canon_apply_of_pieces (Val := Elt Ideal) (S := S4x256x704) (e := .bf16) (dgO xs0 x4 x5 x8) _ ?_ y ?_
  swap
  · exact View.cover_of_tiled_head _ _ _ rfl y
  simp only [List.forall_mem_cons, List.not_mem_nil, false_imp_iff, implies_true, and_true]
  exact ⟨fun i => dg_piece (q := 3) .., fun i => dg_piece (q := 2) .., fun i => dg_piece (q := 1) .., fun i => dg_piece (q := 0) ..⟩

theorem out_B_13 (hc0 : ¬cond0_0 i) (xo15 : Vec Ideal S8x1024 .f32) (xs0 : Vec Ideal S256x1024 .f32) (y : S4x256x704.Idx) : out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo15 xs0 y = duO xs0 x4 x8 y := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo15 xs0)]
  unfold kernelRun0_B
  dsimp only
  try sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, ldB, ldG]
  rw [du0, du1, du2, du3]
  refine View.canon_apply_of_pieces (Val := Elt Ideal) (S := S4x256x704) (e := .bf16) (duO xs0 x4 x8) _ ?_ y ?_
  swap
  · exact View.cover_of_tiled_head _ _ _ rfl y
  simp only [List.forall_mem_cons, List.not_mem_nil, false_imp_iff, implies_true, and_true]
  exact ⟨fun i => du_piece (q := 3) .., fun i => du_piece (q := 2) .., fun i => du_piece (q := 1) .., fun i => du_piece (q := 0) ..⟩

theorem out_B_14 (hc0 : ¬cond0_0 i) (xo15 : Vec Ideal S8x1024 .f32) (xs0 : Vec Ideal S256x1024 .f32) (y : S4x256x704.Idx) : out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo15 xs0 y = aO x4 x5 y := by
  unfold out0_B_14
  rw [View.read_writes_eq_canon _ _ _ (cover0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo15 xs0)]
  unfold kernelRun0_B
  dsimp only
  try sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, ldB, ldG]
  rw [aq1, aq2, aq3]
  refine View.canon_apply_of_pieces (Val := Elt Ideal) (S := S4x256x704) (e := .bf16) (aO x4 x5) _ ?_ y ?_
  swap
  · exact View.cover_of_tiled_head _ _ _ rfl y
  simp only [List.forall_mem_cons, List.not_mem_nil, false_imp_iff, implies_true, and_true]
  exact ⟨fun i => a_piece (q := 3) .., fun i => a_piece (q := 2) .., fun i => a_piece (q := 1) .., fun i => a_piece (q := 0) ..⟩

theorem sout_A (hc0 : cond0_0 i)  : sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9  = dzB x2 x3 x9 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 )]
  unfold kernelRun0_A
  dsimp only
  try sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, rdB, ldB, ldG]
  rw [View.canon_cons_unit_lit _ _ _ z2, pay4_eq]

theorem out_A_10 (hc0 : cond0_0 i)  (s : Fin 256) (j : Fin 1024) : out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9  (ix2 s j) = dxO (dzB x0 x1 x9) x4 x5 x6 x7 x8 s j := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 )]
  unfold kernelRun0_A
  dsimp only
  try sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, rdB, ldB, ldG]
  rw [View.canon_cons_unit_lit _ _ _ z2, pay8_eq, step0, step1, step2, step3]
  refine (step_q (q := 3) ..).trans ?_
  refine congrArg (· + _) ((step_q (q := 2) ..).trans ?_)
  refine congrArg (· + _) ((step_q (q := 1) ..).trans ?_)
  refine congrArg (· + _) ((step_q (q := 0) ..).trans ?_)
  rfl

theorem out_A_11 (hc0 : cond0_0 i)  (y : S256x1024.Idx) : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9  y = cH * (dzB x0 x1 x9) y := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 )]
  unfold kernelRun0_A
  dsimp only
  try sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, rdB, ldB, ldG]
  rw [View.canon_cons_unit_lit _ _ _ z2, pay8_eq]
  unfold k0_pay12
  try dsimp only
  try rw [shapeCast_self]
  rfl

theorem out_A_12 (hc0 : cond0_0 i)  (y : S4x256x704.Idx) : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9  y = dgO (dzB x0 x1 x9) x4 x5 x8 y := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 )]
  unfold kernelRun0_A
  dsimp only
  try sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, rdB, ldB, ldG]
  rw [pay8_eq, dg0, dg1, dg2, dg3]
  refine View.canon_apply_of_pieces (Val := Elt Ideal) (S := S4x256x704) (e := .bf16) (dgO (dzB x0 x1 x9) x4 x5 x8) _ ?_ y ?_
  swap
  · exact View.cover_of_tiled_head _ _ _ rfl y
  simp only [List.forall_mem_cons, List.not_mem_nil, false_imp_iff, implies_true, and_true]
  exact ⟨fun i => dg_piece (q := 3) .., fun i => dg_piece (q := 2) .., fun i => dg_piece (q := 1) .., fun i => dg_piece (q := 0) ..⟩

theorem out_A_13 (hc0 : cond0_0 i)  (y : S4x256x704.Idx) : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9  y = duO (dzB x0 x1 x9) x4 x8 y := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 )]
  unfold kernelRun0_A
  dsimp only
  try sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, rdB, ldB, ldG]
  rw [pay8_eq, du0, du1, du2, du3]
  refine View.canon_apply_of_pieces (Val := Elt Ideal) (S := S4x256x704) (e := .bf16) (duO (dzB x0 x1 x9) x4 x8) _ ?_ y ?_
  swap
  · exact View.cover_of_tiled_head _ _ _ rfl y
  simp only [List.forall_mem_cons, List.not_mem_nil, false_imp_iff, implies_true, and_true]
  exact ⟨fun i => du_piece (q := 3) .., fun i => du_piece (q := 2) .., fun i => du_piece (q := 1) .., fun i => du_piece (q := 0) ..⟩

theorem out_A_14 (hc0 : cond0_0 i)  (y : S4x256x704.Idx) : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9  y = aO x4 x5 y := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 )]
  unfold kernelRun0_A
  dsimp only
  try sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, rdB, ldB, ldG]
  rw [aq1, aq2, aq3]
  refine View.canon_apply_of_pieces (Val := Elt Ideal) (S := S4x256x704) (e := .bf16) (aO x4 x5) _ ?_ y ?_
  swap
  · exact View.cover_of_tiled_head _ _ _ rfl y
  simp only [List.forall_mem_cons, List.not_mem_nil, false_imp_iff, implies_true, and_true]
  exact ⟨fun i => a_piece (q := 3) .., fun i => a_piece (q := 2) .., fun i => a_piece (q := 1) .., fun i => a_piece (q := 0) ..⟩

end

end Cert.Proof.Bwd

end
-- ==== Proof.BwdSums.lean ====
/-
  The two column sums that the backward half step gathers block by block: the gradients of the layer norm's scale and shift.
-/
module

public import proofs.«01_k».proof.Proof.BwdStores
public import Idealize.ShloMosaic.Lib.Pipeline.ReadBack

@[expose] public section

noncomputable section

namespace Cert.Proof.Bwd

open Cert.Kernel5Ideal Cert.Kernel5Ideal.Gen
open Idealize.ShloMosaic Idealize.ShloMosaic.TcCoe Idealize.SL.Sem
open scoped BigOperators

/-- One block's part of each sum. -/
def sg (y z : S256x1024.Idx → EReal) (j : Fin 1024) : EReal := ∑ s, y (ix2 s j) * xhat (row z s) j
def sb (y : S256x1024.Idx → EReal) (j : Fin 1024) : EReal := ∑ s, y (ix2 s j)

theorem sum_xh (y z : FVec Ideal S256x1024 .f32) (j : Fin 1024) : colSum (mulf y (xh z)) (ix2 0 j) = sg y z j := by
  rw [colSum_apply]
  exact Finset.sum_congr rfl fun s _ => congrArg (y (ix2 s j) * ·) (xh_apply z s j)

theorem pay10_apply (y z : Vec Ideal S256x1024 .f32) (r : Vec Ideal S1x1024 .f32) (j : Fin 1024) : k0_pay10 y (k0_pay7 z) r (ix2 0 j) = r (ix2 0 j) + sg y z j := by
  rw [pay7_eq, ← sum_xh]
  unfold k0_pay10
  rw [shapeCast_self]
  rfl

theorem pay11_apply (y : Vec Ideal S256x1024 .f32) (r : Vec Ideal S1x1024 .f32) (j : Fin 1024) : k0_pay11 y r (ix2 0 j) = r (ix2 0 j) + sb y j := by
  refine Eq.trans ?_ (congrArg (r (ix2 0 j) + ·) (colSum_apply y j))
  unfold k0_pay11
  rw [shapeCast_self]
  rfl

theorem pay2_apply (n : BitVec 32) (y z : Vec Ideal S256x1024 .f32) (r : Vec Ideal S1x1024 .f32) (j : Fin 1024) :
    k0_pay2 n y (k0_pay63 z) r (ix2 0 j) = r (ix2 0 j) + k0_pay1 (F := Ideal) n * sg y z j := by
  rw [pay63_eq, ← sum_xh]
  unfold k0_pay2
  rw [shapeCast_self]
  rfl

theorem pay3_apply (n : BitVec 32) (y : Vec Ideal S256x1024 .f32) (r : Vec Ideal S1x1024 .f32) (j : Fin 1024) :
    k0_pay3 n y r (ix2 0 j) = r (ix2 0 j) + k0_pay1 (F := Ideal) n * sb y j := by
  refine Eq.trans ?_ (congrArg (fun v => r (ix2 0 j) + k0_pay1 (F := Ideal) n * v) (colSum_apply y j))
  unfold k0_pay3
  rw [shapeCast_self]
  rfl

/-- The factor of the next block's part: one, but zero at the last point. -/
theorem pay1_eq (n : Fin 32) : k0_pay1 (F := Ideal) (BitVec.ofNat 32 n.val) = if n.val < 31 then 1 else 0 := by
  have h : Scalar.extui (Scalar.cmpi .slt (BitVec.ofNat 32 n.val) 31#32) = if n.val < 31 then (1 : BitVec 32) else 0 := by
    revert n
    decide
  unfold k0_pay1
  show Scalar.sitofp (F := Ideal) .f32 (Scalar.extui (Scalar.cmpi .slt (BitVec.ofNat 32 n.val) 31#32)) = _
  rw [h]
  by_cases hn : n.val < 31
  · rw [if_pos hn, if_pos hn]
    show (((1 : BitVec 32).toInt : ℝ) : EReal) = 1
    norm_num
    decide
  · rw [if_neg hn, if_neg hn]
    show (((0 : BitVec 32).toInt : ℝ) : EReal) = 0
    norm_num
    decide

/-! ## Rows of the block of sums -/

theorem row_emb (k : Fin 8) (inb) (j : Fin 1024) : (Rect.unit (s := S8x1024) ![k.val, 0] ![1, 1024] inb).emb (ix2 0 j) = ix2 k j := funext fun b => by
  match b with
  | 0 => exact Fin.ext (by show k.val + 1 * 0 = k.val; omega)
  | 1 => exact Fin.ext (by show 0 + 1 * j.val = j.val; omega)

theorem row_not_mem (k r : Fin 8) (inb) (j : Fin 1024) (h : r ≠ k) : (ix2 r j : S8x1024.Idx) ∉ (Rect.unit (s := S8x1024) ![k.val, 0] ![1, 1024] inb).set := by
  refine Rect.not_mem_set_of_axis _ _ (0 : Fin 2) k.val 1 rfl rfl rfl ?_
  have : r.val ≠ k.val := fun e => h (Fin.ext e)
  show r.val < k.val ∨ k.val + 1 ≤ r.val
  omega

theorem ld_row (x : Vec Ideal S8x1024 .f32) (k : Fin 8) (inb) (j : Fin 1024) :
    View.ld (Val := Elt Ideal) (e' := .f32) x (Rect.unit (s := S8x1024) ![k.val, 0] ![1, 1024] inb) (ix2 0 j) = x (ix2 k j) := congrArg x (row_emb k inb j)

theorem canon_hit (k : Fin 8) (inb) (w : S1x1024.Idx → EReal) (L : List (View.Piece (Elt Ideal) S8x1024 .f32)) (j : Fin 1024) :
    View.canon (Val := Elt Ideal) ((⟨Rect.unit (s := S8x1024) ![k.val, 0] ![1, 1024] inb, w⟩ : View.Piece (Elt Ideal) S8x1024 .f32) :: L) (ix2 k j) = w (ix2 0 j) := by
  rw [← row_emb k inb j]
  exact View.canon_cons_emb _ _ _ _

theorem canon_miss (k r : Fin 8) (inb) (w : S1x1024.Idx → EReal) (L : List (View.Piece (Elt Ideal) S8x1024 .f32)) (j : Fin 1024) (h : r ≠ k) :
    View.canon (Val := Elt Ideal) ((⟨Rect.unit (s := S8x1024) ![k.val, 0] ![1, 1024] inb, w⟩ : View.Piece (Elt Ideal) S8x1024 .f32) :: L) (ix2 r j) = View.canon (Val := Elt Ideal) L (ix2 r j) :=
  View.canon_cons_of_not_mem _ _ (row_not_mem k r inb j h)

theorem rd_hit (v : View sig .tc .vmem S8x1024 .f32) (f : v.ty.Contents (Elt Ideal)) (k : Fin 8) (inb) (w : S1x1024.Idx → EReal) (L : List (View.Piece (Elt Ideal) S8x1024 .f32)) (j : Fin 1024) :
    v.read (Elt Ideal) (v.writes (Elt Ideal) f ((⟨Rect.unit (s := S8x1024) ![k.val, 0] ![1, 1024] inb, w⟩ : View.Piece (Elt Ideal) S8x1024 .f32) :: L)) (ix2 k j) = w (ix2 0 j) := by
  rw [← row_emb k inb j]
  exact View.read_writes_cons_emb _ _ _ _ _ _

theorem rd_miss (v : View sig .tc .vmem S8x1024 .f32) (f : v.ty.Contents (Elt Ideal)) (k r : Fin 8) (inb) (w : S1x1024.Idx → EReal) (L : List (View.Piece (Elt Ideal) S8x1024 .f32)) (j : Fin 1024) (h : r ≠ k) :
    v.read (Elt Ideal) (v.writes (Elt Ideal) f ((⟨Rect.unit (s := S8x1024) ![k.val, 0] ![1, 1024] inb, w⟩ : View.Piece (Elt Ideal) S8x1024 .f32) :: L)) (ix2 r j) = v.read (Elt Ideal) (v.writes (Elt Ideal) f L) (ix2 r j) :=
  View.read_writes_cons_miss _ _ _ _ _ (row_not_mem k r inb j h)

section
variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S4x256x704 .bf16) (harg5 : arg5.IsWhole) (arg6 : Memref sig .tc .vmem S4x256x704 .bf16) (harg6 : arg6.IsWhole) (arg7 : Memref sig .tc .vmem S4x1024x704 .bf16) (harg7 : arg7.IsWhole) (arg8 : Memref sig .tc .vmem S4x1024x704 .bf16) (harg8 : arg8.IsWhole) (arg9 : Memref sig .tc .vmem S4x704x1024 .bf16) (harg9 : arg9.IsWhole) (arg10 : Memref sig .tc .vmem S1x1024 .f32) (harg10 : arg10.IsWhole) (arg11 : Memref sig .tc .vmem S256x1024 .f32) (harg11 : arg11.IsWhole) (arg12 : Memref sig .tc .vmem S256x1024 .bf16) (harg12 : arg12.IsWhole) (arg13 : Memref sig .tc .vmem S4x256x704 .bf16) (harg13 : arg13.IsWhole) (arg14 : Memref sig .tc .vmem S4x256x704 .bf16) (harg14 : arg14.IsWhole) (arg15 : Memref sig .tc .vmem S4x256x704 .bf16) (harg15 : arg15.IsWhole) (arg16 : Memref sig .tc .vmem S8x1024 .f32) (harg16 : arg16.IsWhole) (arg17 : Memref sig .tc .vmem S256x1024 .f32) (harg17 : arg17.IsWhole)
  (x0 : Vec Ideal S256x1024 .f32) (x1 : Vec Ideal S256x1024 .f32) (x2 : Vec Ideal S256x1024 .f32) (x3 : Vec Ideal S256x1024 .f32) (x4 : Vec Ideal S4x256x704 .bf16) (x5 : Vec Ideal S4x256x704 .bf16) (x6 : Vec Ideal S4x1024x704 .bf16) (x7 : Vec Ideal S4x1024x704 .bf16) (x8 : Vec Ideal S4x704x1024 .bf16) (x9 : Vec Ideal S1x1024 .f32)

theorem sum_B_0 (hc0 : ¬cond0_0 i) (xo15 : Vec Ideal S8x1024 .f32) (xs0 : Vec Ideal S256x1024 .f32) (j : Fin 1024) : out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo15 xs0 (ix2 (0 : Fin 8) j) = xo15 (ix2 (0 : Fin 8) j) + k0_pay1 (F := Ideal) (BitVec.ofNat 32 (i 0).val) * sg x2 x3 j := by
  unfold out0_B_15
  unfold kernelRun0_B
  dsimp only
  try sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, ldB, ldG]
  refine (rd_miss _ _ 1 0 _ _ _ j (by decide)).trans ((rd_hit _ _ 0 _ _ _ j).trans ((pay2_apply _ _ _ _ j).trans ?_))
  exact congrArg (· + _) (ld_row xo15 0 _ j)

theorem sum_B_1 (hc0 : ¬cond0_0 i) (xo15 : Vec Ideal S8x1024 .f32) (xs0 : Vec Ideal S256x1024 .f32) (j : Fin 1024) : out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo15 xs0 (ix2 (1 : Fin 8) j) = xo15 (ix2 (1 : Fin 8) j) + k0_pay1 (F := Ideal) (BitVec.ofNat 32 (i 0).val) * sb x2 j := by
  unfold out0_B_15
  unfold kernelRun0_B
  dsimp only
  try sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, ldB, ldG]
  refine (rd_hit _ _ 1 _ _ _ j).trans ((pay3_apply _ _ _ j).trans ?_)
  exact congrArg (· + _) (ld_row xo15 1 _ j)

theorem sum_B_r (hc0 : ¬cond0_0 i) (xo15 : Vec Ideal S8x1024 .f32) (xs0 : Vec Ideal S256x1024 .f32) (r : Fin 8) (h0 : r ≠ 0) (h1 : r ≠ 1) (j : Fin 1024) : out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo15 xs0 (ix2 r j) = xo15 (ix2 r j) := by
  unfold out0_B_15
  unfold kernelRun0_B
  dsimp only
  try sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, ldB, ldG]
  refine (rd_miss _ _ 1 r _ _ _ j h1).trans ((rd_miss _ _ 0 r _ _ _ j h0).trans ?_)
  exact congrFun (harg16.read_unread xo15) _

theorem sum_A_0 (hc0 : cond0_0 i) (j : Fin 1024) : out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 (ix2 (0 : Fin 8) j) = 0 + sg x0 x1 j + k0_pay1 (F := Ideal) (BitVec.ofNat 32 (i 0).val) * sg x2 x3 j := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9)]
  unfold kernelRun0_A
  dsimp only
  try sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, ldB, ldG]
  refine (canon_miss 1 0 _ _ _ j (by decide)).trans ((canon_hit 0 _ _ _ j).trans ((pay2_apply _ _ _ _ j).trans (congrArg (· + _) ?_)))
  refine (congrFun (View.readCov_skip _ _ _ _ _ (by decide)) _).trans ((congrFun (View.readCov_cons_toLoadRect _ _ _ _) _).trans ?_)
  refine (pay10_apply _ _ _ j).trans (congrArg (· + _) ?_)
  exact (congrFun (View.readCov_fill _ _ _ _ _ z2) _).trans (Ideal.ofBits_zero .f32)

theorem sum_A_1 (hc0 : cond0_0 i) (j : Fin 1024) : out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 (ix2 (1 : Fin 8) j) = 0 + sb x0 j + k0_pay1 (F := Ideal) (BitVec.ofNat 32 (i 0).val) * sb x2 j := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9)]
  unfold kernelRun0_A
  dsimp only
  try sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, ldB, ldG]
  refine (canon_hit 1 _ _ _ j).trans ((pay3_apply _ _ _ j).trans (congrArg (· + _) ?_))
  refine (congrFun (View.readCov_skip _ _ _ _ _ (by decide)) _).trans ((congrFun (View.readCov_cons_toLoadRect _ _ _ _) _).trans ?_)
  refine (pay11_apply _ _ j).trans (congrArg (· + _) ?_)
  exact (congrFun (View.readCov_skip _ _ _ _ _ (by decide)) _).trans ((congrFun (View.readCov_fill _ _ _ _ _ z2) _).trans (Ideal.ofBits_zero .f32))

theorem sum_A_r (hc0 : cond0_0 i) (r : Fin 8) (h0 : r ≠ 0) (h1 : r ≠ 1) (j : Fin 1024) : out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 (ix2 r j) = 0 := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9)]
  unfold kernelRun0_A
  dsimp only
  try sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, ldB, ldG]
  refine (canon_miss 1 r _ _ _ j h1).trans ((canon_miss 0 r _ _ _ j h0).trans ((canon_miss 1 r _ _ _ j h1).trans ((canon_miss 0 r _ _ _ j h0).trans ?_)))
  rw [View.canon_cons_unit_lit _ _ _ z2]
  exact Ideal.ofBits_zero .f32

end

end Cert.Proof.Bwd

end
-- ==== Proof.BwdArrays.lean ====
/-
  The results of the backward half step over whole arrays, from the output's gradient, the residual sum and the gate and up products.
-/
module

public import proofs.«01_k».proof.Proof.BwdModel
public import proofs.«01_k».proof.Proof.FfnFwd

@[expose] public section

noncomputable section

namespace Cert.Proof.Bwd

open Idealize.ShloMosaic Idealize.ShloMosaic.TcCoe Idealize.SL.Sem
open Cert.Kernel4Ideal (S8192x1024 S4x1024x704 S4x704x1024 S1x1024 S4x8192x704)
open Cert.Proof.Ffn (cA cH cN cE mean var quarter quarterD tok)
open scoped BigOperators

abbrev S8 : Shape := ⟨2, ![8, 1024]⟩

/-- A token's hidden values, by quarter. -/
abbrev hid (a : S4x8192x704.Idx → EReal) (s : Fin 8192) : Fin 4 → Fin 704 → EReal := fun q f => a (ix3 q s f)

/-- The input's gradient at one token. -/
def dxT (d : Fin 1024 → EReal) (a u : Fin 4 → Fin 704 → EReal) (wg wu : Fin 4 → Fin 1024 → Fin 704 → EReal) (w : Fin 4 → Fin 704 → Fin 1024 → EReal) (j : Fin 1024) : EReal :=
  cA * d j + back d (w 0) (a 0) (u 0) (wg 0) (wu 0) j + back d (w 1) (a 1) (u 1) (wg 1) (wu 1) j + back d (w 2) (a 2) (u 2) (wg 2) (wu 2) j
    + back d (w 3) (a 3) (u 3) (wg 3) (wu 3) j

/-- The gradient before the layer norm. -/
def Dv (y z : S8192x1024.Idx → EReal) (g : S1x1024.Idx → EReal) (i : S8192x1024.Idx) : EReal := dzv (tok y (i 0)) (tok z (i 0)) (fun d => g (ix2 0 d)) (i 1)

section
variable (d : S8192x1024.Idx → EReal) (a u : S4x8192x704.Idx → EReal) (wg wu : S4x1024x704.Idx → EReal) (w : S4x704x1024.Idx → EReal)

def DXv (i : S8192x1024.Idx) : EReal := dxT (tok d (i 0)) (hid a (i 0)) (hid u (i 0)) (quarter wg) (quarter wu) (quarterD w) (i 1)
def DFv (i : S8192x1024.Idx) : EReal := cH * d i
def DGv (i : S4x8192x704.Idx) : EReal := dgate (tok d (i 1)) (quarterD w (i 0)) (hid a (i 1) (i 0)) (hid u (i 1) (i 0)) (i 2)
def DUv (i : S4x8192x704.Idx) : EReal := dup (tok d (i 1)) (quarterD w (i 0)) (hid a (i 1) (i 0)) (i 2)
def Av (i : S4x8192x704.Idx) : EReal := a i * Ideal.logistic (a i) * u i
end

/-- The layer norm's two gradients, in the first two of eight rows. -/
def LNv (y z : S8192x1024.Idx → EReal) (i : S8.Idx) : EReal :=
  if (i 0).val = 0 then ∑ s : Fin 8192, y (ix2 s (i 1)) * xhat (tok z s) (i 1)
  else if (i 0).val = 1 then ∑ s : Fin 8192, y (ix2 s (i 1)) else 0

end Cert.Proof.Bwd

end
-- ==== Proof.BwdPrologue.lean ====
/-
  The arrays that the backward call takes from the host: the residual sum, and the gate and up products in quarters.
-/
module

public import proofs.«01_k».proof.Proof.FfnRef
public import proofs.«01_k».proof.Proof.Gen.Kernel5Ideal.Frame
public import Idealize.ShloMosaic.Lib.StableHlo.RunRead

@[expose] public section

noncomputable section

namespace Cert.Proof.Bwd

open Cert.Kernel5Ideal Cert.Kernel5Ideal.Gen
open Idealize.ShloMosaic Idealize.ShloMosaic.TcCoe Idealize.SL.Sem

variable (m : (ℓ : Loc nD τ sig) → Buf (Elt Ideal) ℓ)

/-- The arguments. -/
abbrev X (c : Dev nD) : S8192x1024.Idx → EReal := m ((c : Thread nD τ).loc main_arg0)
abbrev WG (c : Dev nD) : S4x1024x704.Idx → EReal := m ((c : Thread nD τ).loc main_arg1)
abbrev WU (c : Dev nD) : S4x1024x704.Idx → EReal := m ((c : Thread nD τ).loc main_arg2)
abbrev WD (c : Dev nD) : S4x704x1024.Idx → EReal := m ((c : Thread nD τ).loc main_arg3)
abbrev G (c : Dev nD) : S1x1024.Idx → EReal := m ((c : Thread nD τ).loc main_arg4)
abbrev DY (c : Dev nD) : S8192x1024.Idx → EReal := m ((c : Thread nD τ).loc main_arg5)

theorem V_z (c : Dev nD) : V m c main_v17 = Ffn.Zv (X m c) (WG m c) (WU m c) (WD m c) := by
  refine Eq.trans ?_ (Ffn.ref_z _ _ _ _)
  unfold V
  simp only [List.flatten_cons, List.flatten_nil, List.append_nil, List.cons_append, List.nil_append]
  after_reads_simp
  rfl

theorem V_gate (c : Dev nD) : V m c main_v20 = Ffn.Hv (X m c) (WG m c) := by
  refine Eq.trans ?_ (Ffn.ref_gate _ _)
  unfold V
  simp only [List.flatten_cons, List.flatten_nil, List.append_nil, List.cons_append, List.nil_append]
  after_reads_simp
  rfl

theorem V_up (c : Dev nD) : V m c main_v23 = Ffn.Hv (X m c) (WU m c) := by
  refine Eq.trans ?_ (Ffn.ref_up _ _)
  unfold V
  simp only [List.flatten_cons, List.flatten_nil, List.append_nil, List.cons_append, List.nil_append]
  after_reads_simp
  rfl

end Cert.Proof.Bwd

end
-- ==== Proof.BwdFinal.lean ====
/-
  The arrays that the backward half step's call leaves: every point's blocks, and the sums over all points.
-/
module

public import proofs.«01_k».proof.Proof.BwdSums
public import proofs.«01_k».proof.Proof.BwdArrays
public import proofs.«01_k».proof.Proof.BwdPrologue

@[expose] public section

noncomputable section

namespace Cert.Proof.Bwd

open Cert.Kernel5Ideal Cert.Kernel5Ideal.Gen
open Idealize.ShloMosaic Idealize.ShloMosaic.TcCoe Idealize.SL.Sem
open Cert.Proof.Ffn (cA cH cN cE mean var quarter quarterD tok)
open scoped BigOperators

/-- The token at a place of a block, and a block of an array. -/
def tk (b : ℕ) (s : Fin 256) : Fin 8192 := ⟨(b * 256 + s.val) % 8192, Nat.mod_lt _ (by decide)⟩
def Bk (x : S8192x1024.Idx → EReal) (b : ℕ) (y : S256x1024.Idx) : EReal := x (ix2 (tk b (y 0)) (y 1))
def Bh (a : S4x8192x704.Idx → EReal) (b : ℕ) (y : S4x256x704.Idx) : EReal := a (ix3 (y 0) (tk b (y 1)) (y 2))

theorem row_Bk (x : S8192x1024.Idx → EReal) (b : ℕ) (s : Fin 256) : row (Bk x b) s = tok x (tk b s) := rfl
theorem quarterH_Bh (a : S4x8192x704.Idx → EReal) (b : ℕ) (q : Fin 4) (s : Fin 256) : quarterH (Bh a b) q s = hid a (tk b s) q := rfl

theorem dz_Bk (y z : S8192x1024.Idx → EReal) (g : S1x1024.Idx → EReal) (b : ℕ) : dzB (Bk y b) (Bk z b) g = Bk (Dv y z g) b := funext fun i => by
  obtain ⟨s, j, rfl⟩ : ∃ (s : Fin 256) (j : Fin 1024), i = ix2 s j := ⟨i 0, i 1, eq_ix2 i⟩
  exact dzB_apply _ _ _ s j

variable (m : (ℓ : Loc nD τ sig) → Buf (Elt Ideal) ℓ)

/-- What the host hands over. -/
abbrev Z (c : Dev nD) : S8192x1024.Idx → EReal := V m c main_v17
abbrev GA (c : Dev nD) : S4x8192x704.Idx → EReal := V m c main_v20
abbrev UP (c : Dev nD) : S4x8192x704.Idx → EReal := V m c main_v23
abbrev DZ (c : Dev nD) : S8192x1024.Idx → EReal := Dv (DY m c) (Z m c) (G m c)

theorem in_facts : ∀ t : Fin cfg0.N, (win0_0.index t = ![0, 0] ∧ win0_1.index t = ![0, 0] ∧ win0_2.index t = ![min (t.val + 1) 31, 0] ∧ win0_3.index t = ![min (t.val + 1) 31, 0]
    ∧ win0_4.index t = ![0, t.val, 0] ∧ win0_5.index t = ![0, t.val, 0] ∧ win0_6.index t = ![0, 0, 0] ∧ win0_7.index t = ![0, 0, 0] ∧ win0_8.index t = ![0, 0, 0] ∧ win0_9.index t = ![0, 0]) :=
  (by decide +kernel : ∀ t : Fin grid0.N, _)

theorem out_facts : ∀ t : Fin cfg0.N, (win0_10.index t = ![t.val, 0] ∧ win0_11.index t = ![t.val, 0] ∧ win0_12.index t = ![0, t.val, 0] ∧ win0_13.index t = ![0, t.val, 0]
    ∧ win0_14.index t = ![0, t.val, 0] ∧ win0_15.index t = ![0, 0]) :=
  (by decide +kernel : ∀ t : Fin grid0.N, _)

theorem coord_eq : ∀ t : Fin cfg0.N, (grid0.coords t 0).val = t.val := (by decide +kernel : ∀ t : Fin grid0.N, _)

theorem blk0 (c : Dev nD) (t : Fin cfg0.N) : (iblk m c 0 t : S256x1024.Idx → EReal) = Bk (DY m c) 0 := funext fun y => by
  obtain ⟨h, _⟩ := in_facts t
  have h0 : (y 0).val < 256 := (y 0).isLt
  refine Eq.trans ?_ (congrFun (V_main_arg5 m c) _)
  show V m c main_arg5 _ = V m c main_arg5 _
  refine congrArg (V m c main_arg5) (funext fun a => Fin.ext ?_)
  match a with
  | 0 => show win0_0.index t 0 * 256 + 1 * (y 0).val = (0 * 256 + (y 0).val) % 8192; rw [h]; show 0 * 256 + 1 * (y 0).val = _; omega
  | 1 => show win0_0.index t 1 * 1024 + 1 * (y 1).val = (y 1).val; rw [h]; show 0 * 1024 + 1 * (y 1).val = _; omega

theorem blk1 (c : Dev nD) (t : Fin cfg0.N) : (iblk m c 1 t : S256x1024.Idx → EReal) = Bk (Z m c) 0 := funext fun y => by
  obtain ⟨_, h, _⟩ := in_facts t
  have h0 : (y 0).val < 256 := (y 0).isLt
  show V m c main_v17 _ = V m c main_v17 _
  refine congrArg (V m c main_v17) (funext fun a => Fin.ext ?_)
  match a with
  | 0 => show win0_1.index t 0 * 256 + 1 * (y 0).val = (0 * 256 + (y 0).val) % 8192; rw [h]; show 0 * 256 + 1 * (y 0).val = _; omega
  | 1 => show win0_1.index t 1 * 1024 + 1 * (y 1).val = (y 1).val; rw [h]; show 0 * 1024 + 1 * (y 1).val = _; omega

theorem blk2 (c : Dev nD) (t : Fin cfg0.N) : (iblk m c 2 t : S256x1024.Idx → EReal) = Bk (DY m c) (min (t.val + 1) 31) := funext fun y => by
  obtain ⟨_, _, h, _⟩ := in_facts t
  have h0 : (y 0).val < 256 := (y 0).isLt
  refine Eq.trans ?_ (congrFun (V_main_arg5 m c) _)
  show V m c main_arg5 _ = V m c main_arg5 _
  refine congrArg (V m c main_arg5) (funext fun a => Fin.ext ?_)
  match a with
  | 0 => show win0_2.index t 0 * 256 + 1 * (y 0).val = (min (t.val + 1) 31 * 256 + (y 0).val) % 8192; rw [h]; show min (t.val + 1) 31 * 256 + 1 * (y 0).val = _; omega
  | 1 => show win0_2.index t 1 * 1024 + 1 * (y 1).val = (y 1).val; rw [h]; show 0 * 1024 + 1 * (y 1).val = _; omega

theorem blk3 (c : Dev nD) (t : Fin cfg0.N) : (iblk m c 3 t : S256x1024.Idx → EReal) = Bk (Z m c) (min (t.val + 1) 31) := funext fun y => by
  obtain ⟨_, _, _, h, _⟩ := in_facts t
  have h0 : (y 0).val < 256 := (y 0).isLt
  show V m c main_v17 _ = V m c main_v17 _
  refine congrArg (V m c main_v17) (funext fun a => Fin.ext ?_)
  match a with
  | 0 => show win0_3.index t 0 * 256 + 1 * (y 0).val = (min (t.val + 1) 31 * 256 + (y 0).val) % 8192; rw [h]; show min (t.val + 1) 31 * 256 + 1 * (y 0).val = _; omega
  | 1 => show win0_3.index t 1 * 1024 + 1 * (y 1).val = (y 1).val; rw [h]; show 0 * 1024 + 1 * (y 1).val = _; omega

theorem blk4 (c : Dev nD) (t : Fin cfg0.N) : (iblk m c 4 t : S4x256x704.Idx → EReal) = Bh (GA m c) t.val := funext fun y => by
  obtain ⟨_, _, _, _, h, _⟩ := in_facts t
  have ht : t.val < 32 := lt_of_lt_of_eq t.isLt N_0
  have h0 : (y 1).val < 256 := (y 1).isLt
  show V m c main_v20 _ = V m c main_v20 _
  refine congrArg (V m c main_v20) (funext fun a => Fin.ext ?_)
  match a with
  | 0 => show win0_4.index t 0 * 4 + 1 * (y 0).val = (y 0).val; rw [h]; show 0 * 4 + 1 * (y 0).val = _; omega
  | 1 => show win0_4.index t 1 * 256 + 1 * (y 1).val = (t.val * 256 + (y 1).val) % 8192; rw [h]; show t.val * 256 + 1 * (y 1).val = _; omega
  | 2 => show win0_4.index t 2 * 704 + 1 * (y 2).val = (y 2).val; rw [h]; show 0 * 704 + 1 * (y 2).val = _; omega

theorem blk5 (c : Dev nD) (t : Fin cfg0.N) : (iblk m c 5 t : S4x256x704.Idx → EReal) = Bh (UP m c) t.val := funext fun y => by
  obtain ⟨_, _, _, _, _, h, _⟩ := in_facts t
  have ht : t.val < 32 := lt_of_lt_of_eq t.isLt N_0
  have h0 : (y 1).val < 256 := (y 1).isLt
  show V m c main_v23 _ = V m c main_v23 _
  refine congrArg (V m c main_v23) (funext fun a => Fin.ext ?_)
  match a with
  | 0 => show win0_5.index t 0 * 4 + 1 * (y 0).val = (y 0).val; rw [h]; show 0 * 4 + 1 * (y 0).val = _; omega
  | 1 => show win0_5.index t 1 * 256 + 1 * (y 1).val = (t.val * 256 + (y 1).val) % 8192; rw [h]; show t.val * 256 + 1 * (y 1).val = _; omega
  | 2 => show win0_5.index t 2 * 704 + 1 * (y 2).val = (y 2).val; rw [h]; show 0 * 704 + 1 * (y 2).val = _; omega

theorem blk6 (c : Dev nD) (t : Fin cfg0.N) : (iblk m c 6 t : S4x1024x704.Idx → EReal) = WG m c := funext fun y => by
  obtain ⟨_, _, _, _, _, _, h, _⟩ := in_facts t
  refine Eq.trans ?_ (congrFun (V_main_arg1 m c) y)
  show V m c main_arg1 _ = V m c main_arg1 _
  refine congrArg (V m c main_arg1) (funext fun a => Fin.ext ?_)
  match a with
  | 0 => show win0_6.index t 0 * 4 + 1 * (y 0).val = (y 0).val; rw [h]; show 0 * 4 + 1 * (y 0).val = _; omega
  | 1 => show win0_6.index t 1 * 1024 + 1 * (y 1).val = (y 1).val; rw [h]; show 0 * 1024 + 1 * (y 1).val = _; omega
  | 2 => show win0_6.index t 2 * 704 + 1 * (y 2).val = (y 2).val; rw [h]; show 0 * 704 + 1 * (y 2).val = _; omega

theorem blk7 (c : Dev nD) (t : Fin cfg0.N) : (iblk m c 7 t : S4x1024x704.Idx → EReal) = WU m c := funext fun y => by
  obtain ⟨_, _, _, _, _, _, _, h, _⟩ := in_facts t
  refine Eq.trans ?_ (congrFun (V_main_arg2 m c) y)
  show V m c main_arg2 _ = V m c main_arg2 _
  refine congrArg (V m c main_arg2) (funext fun a => Fin.ext ?_)
  match a with
  | 0 => show win0_7.index t 0 * 4 + 1 * (y 0).val = (y 0).val; rw [h]; show 0 * 4 + 1 * (y 0).val = _; omega
  | 1 => show win0_7.index t 1 * 1024 + 1 * (y 1).val = (y 1).val; rw [h]; show 0 * 1024 + 1 * (y 1).val = _; omega
  | 2 => show win0_7.index t 2 * 704 + 1 * (y 2).val = (y 2).val; rw [h]; show 0 * 704 + 1 * (y 2).val = _; omega

theorem blk8 (c : Dev nD) (t : Fin cfg0.N) : (iblk m c 8 t : S4x704x1024.Idx → EReal) = WD m c := funext fun y => by
  obtain ⟨_, _, _, _, _, _, _, _, h, _⟩ := in_facts t
  refine Eq.trans ?_ (congrFun (V_main_arg3 m c) y)
  show V m c main_arg3 _ = V m c main_arg3 _
  refine congrArg (V m c main_arg3) (funext fun a => Fin.ext ?_)
  match a with
  | 0 => show win0_8.index t 0 * 4 + 1 * (y 0).val = (y 0).val; rw [h]; show 0 * 4 + 1 * (y 0).val = _; omega
  | 1 => show win0_8.index t 1 * 704 + 1 * (y 1).val = (y 1).val; rw [h]; show 0 * 704 + 1 * (y 1).val = _; omega
  | 2 => show win0_8.index t 2 * 1024 + 1 * (y 2).val = (y 2).val; rw [h]; show 0 * 1024 + 1 * (y 2).val = _; omega

theorem blk9 (c : Dev nD) (t : Fin cfg0.N) : (iblk m c 9 t : S1x1024.Idx → EReal) = G m c := funext fun y => by
  obtain ⟨_, _, _, _, _, _, _, _, _, h⟩ := in_facts t
  refine Eq.trans ?_ (congrFun (V_main_arg4 m c) y)
  show V m c main_arg4 _ = V m c main_arg4 _
  refine congrArg (V m c main_arg4) (funext fun a => Fin.ext ?_)
  match a with
  | 0 => show win0_9.index t 0 * 1 + 1 * (y 0).val = (y 0).val; rw [h]; show 0 * 1 + 1 * (y 0).val = _; omega
  | 1 => show win0_9.index t 1 * 1024 + 1 * (y 1).val = (y 1).val; rw [h]; show 0 * 1024 + 1 * (y 1).val = _; omega

/-! ## What a point starts from -/

theorem start_A (c : Dev nD) (t : Fin cfg0.N) (h0 : t.val % 32 = 0) : dzB (iblk m c 0 t) (iblk m c 1 t) (iblk m c 9 t) = Bk (DZ m c) t.val := by
  have ht : t.val < 32 := lt_of_lt_of_eq t.isLt N_0
  rw [blk0, blk1, blk9, show t.val = 0 by omega]
  exact dz_Bk _ _ _ 0

theorem scratch_eq (c : Dev nD) (t : Fin cfg0.N) : (outsAt0 m c t.val t.isLt).2.2.2.2.2.2 = Bk (DZ m c) (min (t.val + 1) 31) := by
  have e : dzB (iblk m c 2 t) (iblk m c 3 t) (iblk m c 9 t) = Bk (DZ m c) (min (t.val + 1) 31) := by
    rw [blk2, blk3, blk9]
    exact dz_Bk _ _ _ _
  by_cases h0 : t.val % 32 = 0
  · rw [outsAt0_A m c t h0]
    dsimp only
    exact (sout_A ..).trans e
  · rw [outsAt0_B m c t h0]
    dsimp only
    exact (sout_B ..).trans e

theorem start_B (c : Dev nD) (t : Fin cfg0.N) (h0 : ¬t.val % 32 = 0) (hl : t.val - 1 < cfg0.N) : (outsAt0 m c (t.val - 1) hl).2.2.2.2.2.2 = Bk (DZ m c) t.val := by
  have ht : t.val < 32 := lt_of_lt_of_eq t.isLt N_0
  refine (scratch_eq m c ⟨t.val - 1, hl⟩).trans ?_
  rw [show min ((⟨t.val - 1, hl⟩ : Fin cfg0.N).val + 1) 31 = t.val by show min (t.val - 1 + 1) 31 = t.val; omega]

theorem outs10 (c : Dev nD) (t : Fin cfg0.N) (s : Fin 256) (j : Fin 1024) :
    (outsAt0 m c t.val t.isLt).1 (ix2 s j) = dxO (Bk (DZ m c) t.val) (Bh (GA m c) t.val) (Bh (UP m c) t.val) (WG m c) (WU m c) (WD m c) s j := by
  by_cases h0 : t.val % 32 = 0
  · rw [outsAt0_A m c t h0]
    dsimp only
    refine (out_A_10 ..).trans ?_
    rw [start_A m c t h0, blk4, blk5, blk6, blk7, blk8]
  · rw [outsAt0_B m c t h0]
    dsimp only
    refine (out_B_10 ..).trans ?_
    rw [start_B m c t h0, blk4, blk5, blk6, blk7, blk8]

theorem outs11 (c : Dev nD) (t : Fin cfg0.N) (y : S256x1024.Idx) : (outsAt0 m c t.val t.isLt).2.1 y = cH * Bk (DZ m c) t.val y := by
  by_cases h0 : t.val % 32 = 0
  · rw [outsAt0_A m c t h0]
    dsimp only
    refine (out_A_11 ..).trans ?_
    rw [start_A m c t h0]
  · rw [outsAt0_B m c t h0]
    dsimp only
    refine (out_B_11 ..).trans ?_
    rw [start_B m c t h0]

theorem outs12 (c : Dev nD) (t : Fin cfg0.N) (y : S4x256x704.Idx) :
    (outsAt0 m c t.val t.isLt).2.2.1 y = dgO (Bk (DZ m c) t.val) (Bh (GA m c) t.val) (Bh (UP m c) t.val) (WD m c) y := by
  by_cases h0 : t.val % 32 = 0
  · rw [outsAt0_A m c t h0]
    dsimp only
    refine (out_A_12 ..).trans ?_
    rw [start_A m c t h0, blk4, blk5, blk8]
  · rw [outsAt0_B m c t h0]
    dsimp only
    refine (out_B_12 ..).trans ?_
    rw [start_B m c t h0, blk4, blk5, blk8]

theorem outs13 (c : Dev nD) (t : Fin cfg0.N) (y : S4x256x704.Idx) :
    (outsAt0 m c t.val t.isLt).2.2.2.1 y = duO (Bk (DZ m c) t.val) (Bh (GA m c) t.val) (WD m c) y := by
  by_cases h0 : t.val % 32 = 0
  · rw [outsAt0_A m c t h0]
    dsimp only
    refine (out_A_13 ..).trans ?_
    rw [start_A m c t h0, blk4, blk8]
  · rw [outsAt0_B m c t h0]
    dsimp only
    refine (out_B_13 ..).trans ?_
    rw [start_B m c t h0, blk4, blk8]

theorem outs14 (c : Dev nD) (t : Fin cfg0.N) (y : S4x256x704.Idx) :
    (outsAt0 m c t.val t.isLt).2.2.2.2.1 y = aO (Bh (GA m c) t.val) (Bh (UP m c) t.val) y := by
  by_cases h0 : t.val % 32 = 0
  · rw [outsAt0_A m c t h0]
    dsimp only
    refine (out_A_14 ..).trans ?_
    rw [blk4, blk5]
  · rw [outsAt0_B m c t h0]
    dsimp only
    refine (out_B_14 ..).trans ?_
    rw [blk4, blk5]

/-! ## The sums over the points -/

theorem factor (t : Fin cfg0.N) : k0_pay1 (F := Ideal) (BitVec.ofNat 32 (grid0.coords t 0).val) = if t.val < 31 then 1 else 0 := by
  rw [coord_eq]
  exact pay1_eq ⟨t.val, lt_of_lt_of_eq t.isLt N_0⟩

/-- A sum that starts with the first two terms and at every later point but the last takes one more. -/
theorem sum_points (a p : ℕ → EReal) (h0 : a 0 = 0 + p 0 + (if 0 < 31 then 1 else 0) * p (min 1 31))
    (hs : ∀ n, n + 1 < 32 → a (n + 1) = a n + (if n + 1 < 31 then 1 else 0) * p (min (n + 1 + 1) 31)) :
    ∀ n, n < 32 → a n = ∑ b ∈ Finset.range (min (n + 2) 32), p b := by
  intro n
  induction n with
  | zero =>
    intro _
    rw [h0, zero_add, if_pos (by decide), one_mul]
    show p 0 + p 1 = ∑ b ∈ Finset.range 2, p b
    rw [Finset.sum_range_succ, Finset.sum_range_one]
  | succ n ih =>
    intro hn
    rw [hs n hn, ih (by omega)]
    by_cases h : n + 1 < 31
    · rw [if_pos h, one_mul, show min (n + 1 + 1) 31 = n + 2 by omega, show min (n + 2) 32 = n + 2 by omega, show min (n + 1 + 2) 32 = n + 2 + 1 by omega]
      exact (Finset.sum_range_succ p (n + 2)).symm
    · rw [if_neg h, zero_mul, add_zero, show min (n + 2) 32 = min (n + 1 + 2) 32 by omega]

/-- The block of sums after point `n`. -/
def ln (c : Dev nD) (n : ℕ) (r : Fin 8) (j : Fin 1024) : EReal := if h : n < cfg0.N then (outsAt0 m c n h).2.2.2.2.2.1 (ix2 r j) else 0

theorem ln_eq (c : Dev nD) (t : Fin cfg0.N) (r : Fin 8) (j : Fin 1024) : ln m c t.val r j = (outsAt0 m c t.val t.isLt).2.2.2.2.2.1 (ix2 r j) := dif_pos t.isLt

theorem ln_pred (c : Dev nD) (n : ℕ) (h : n < 32) (r : Fin 8) (j : Fin 1024) (hl : n < cfg0.N) : (outsAt0 m c n hl).2.2.2.2.2.1 (ix2 r j) = ln m c n r j := (ln_eq m c ⟨n, hl⟩ r j).symm

theorem ln_0 (c : Dev nD) (j : Fin 1024) : ∀ n, n < 32 → ln m c n 0 j = ∑ b ∈ Finset.range (min (n + 2) 32), sg (Bk (DY m c) b) (Bk (Z m c) b) j := by
  refine sum_points _ _ ?_ ?_
  · have hN : 0 < cfg0.N := lt_of_lt_of_eq (by decide) N_0.symm
    refine (ln_eq m c ⟨0, hN⟩ 0 j).trans ?_
    rw [outsAt0_A m c ⟨0, hN⟩ rfl]
    dsimp only
    refine (sum_A_0 ..).trans ?_
    rw [factor, blk0, blk1, blk2, blk3]
  · intro n hn
    have hN : n + 1 < cfg0.N := lt_of_lt_of_eq hn N_0.symm
    refine (ln_eq m c ⟨n + 1, hN⟩ 0 j).trans ?_
    rw [outsAt0_B m c ⟨n + 1, hN⟩ (by show ¬(n + 1) % 32 = 0; omega)]
    dsimp only
    refine (sum_B_0 ..).trans ?_
    rw [factor, blk2, blk3]
    exact congrArg (· + _) (ln_pred m c n (by omega) 0 j _)

theorem ln_1 (c : Dev nD) (j : Fin 1024) : ∀ n, n < 32 → ln m c n 1 j = ∑ b ∈ Finset.range (min (n + 2) 32), sb (Bk (DY m c) b) j := by
  refine sum_points _ _ ?_ ?_
  · have hN : 0 < cfg0.N := lt_of_lt_of_eq (by decide) N_0.symm
    refine (ln_eq m c ⟨0, hN⟩ 1 j).trans ?_
    rw [outsAt0_A m c ⟨0, hN⟩ rfl]
    dsimp only
    refine (sum_A_1 ..).trans ?_
    rw [factor, blk0, blk2]
  · intro n hn
    have hN : n + 1 < cfg0.N := lt_of_lt_of_eq hn N_0.symm
    refine (ln_eq m c ⟨n + 1, hN⟩ 1 j).trans ?_
    rw [outsAt0_B m c ⟨n + 1, hN⟩ (by show ¬(n + 1) % 32 = 0; omega)]
    dsimp only
    refine (sum_B_1 ..).trans ?_
    rw [factor, blk2]
    exact congrArg (· + _) (ln_pred m c n (by omega) 1 j _)

theorem ln_r (c : Dev nD) (r : Fin 8) (h0 : r ≠ 0) (h1 : r ≠ 1) (j : Fin 1024) : ∀ n, n < 32 → ln m c n r j = 0 := by
  intro n
  induction n with
  | zero =>
    intro _
    have hN : 0 < cfg0.N := lt_of_lt_of_eq (by decide) N_0.symm
    refine (ln_eq m c ⟨0, hN⟩ r j).trans ?_
    rw [outsAt0_A m c ⟨0, hN⟩ rfl]
    dsimp only
    exact sum_A_r (h0 := h0) (h1 := h1) ..
  | succ n ih =>
    intro hn
    have hN : n + 1 < cfg0.N := lt_of_lt_of_eq hn N_0.symm
    refine (ln_eq m c ⟨n + 1, hN⟩ r j).trans ?_
    rw [outsAt0_B m c ⟨n + 1, hN⟩ (by show ¬(n + 1) % 32 = 0; omega)]
    dsimp only
    refine (sum_B_r (h0 := h0) (h1 := h1) ..).trans ?_
    exact (ln_pred m c n (by omega) r j _).trans (ih (by omega))

theorem flat (f : Fin 8192 → EReal) : ∑ b ∈ Finset.range 32, ∑ s : Fin 256, f (tk b s) = ∑ s : Fin 8192, f s := by
  rw [Finset.sum_range]
  refine Fin.sum_mul_add_congr (fun q s hl => ?_)
  refine congrArg f (Fin.ext ?_)
  show (q.val * 256 + s.val) % 8192 = q.val * 256 + s.val
  omega

theorem last_eq (c : Dev nD) (t : Fin cfg0.N) (h : t.val = 31) (r : Fin 8) (j : Fin 1024) :
    (outsAt0 m c t.val t.isLt).2.2.2.2.2.1 (ix2 r j) = LNv (DY m c) (Z m c) (ix2 r j) := by
  rw [← ln_eq, h]
  unfold LNv
  by_cases h0 : r = 0
  · subst h0
    rw [ln_0 m c j 31 (by decide)]
    refine Eq.trans ?_ (if_pos rfl).symm
    exact flat fun s => DY m c (ix2 s j) * xhat (tok (Z m c) s) j
  · by_cases h1 : r = 1
    · subst h1
      rw [ln_1 m c j 31 (by decide)]
      refine Eq.trans ?_ ((if_neg (show ¬(1 : Fin 8).val = 0 by decide)).trans (if_pos rfl)).symm
      exact flat fun s => DY m c (ix2 s j)
    · rw [ln_r m c r h0 h1 j 31 (by decide)]
      refine ((if_neg fun e => h0 (Fin.ext e)).trans (if_neg fun e => h1 (Fin.ext e))).symm

theorem host_dz (c : Dev nD) : DZ m c = Dv (DY m c) (Ffn.Zv (X m c) (WG m c) (WU m c) (WD m c)) (G m c) := congrArg (fun z => Dv (DY m c) z (G m c)) (V_z m c)
theorem host_gate (c : Dev nD) : GA m c = Ffn.Hv (X m c) (WG m c) := V_gate m c
theorem host_up (c : Dev nD) : UP m c = Ffn.Hv (X m c) (WU m c) := V_up m c

/-! ## The arrays after the run -/

theorem fin10 (c : Dev nD) : (dats m 0 c).arrAt 10 cfg0.N = DXv (DZ m c) (GA m c) (UP m c) (WG m c) (WU m c) (WD m c) := by
  refine (dats m 0 c).arrAt_eq_of_covers 10 _ (by decide +kernel) fun t hf y => ?_
  blk_simp
  rw [after0_10]
  obtain ⟨s, j, rfl⟩ : ∃ (s : Fin 256) (j : Fin 1024), y = ix2 s j := ⟨y 0, y 1, eq_ix2 y⟩
  have ht : t.val < 32 := lt_of_lt_of_eq t.isLt N_0
  have hs : t.val * 256 + s.val < 8192 := by omega
  have hk : tk t.val s = ⟨t.val * 256 + s.val, hs⟩ := Fin.ext (Nat.mod_eq_of_lt hs)
  obtain ⟨h10, _⟩ := out_facts t
  have e : (win0_10.blk t).view.emb (ix2 s j) = ix2 (tk t.val s) j := by rw [hk]; blk_ext [h10]
  refine (outs10 ..).trans ?_
  exact (congrArg (DXv (DZ m c) (GA m c) (UP m c) (WG m c) (WU m c) (WD m c)) e).symm

theorem fin11 (c : Dev nD) : (dats m 0 c).arrAt 11 cfg0.N = DFv (DZ m c) := by
  refine (dats m 0 c).arrAt_eq_of_covers 11 _ (by decide +kernel) fun t hf y => ?_
  blk_simp
  rw [after0_11]
  obtain ⟨s, j, rfl⟩ : ∃ (s : Fin 256) (j : Fin 1024), y = ix2 s j := ⟨y 0, y 1, eq_ix2 y⟩
  have ht : t.val < 32 := lt_of_lt_of_eq t.isLt N_0
  have hs : t.val * 256 + s.val < 8192 := by omega
  have hk : tk t.val s = ⟨t.val * 256 + s.val, hs⟩ := Fin.ext (Nat.mod_eq_of_lt hs)
  obtain ⟨_, h11, _⟩ := out_facts t
  have e : (win0_11.blk t).view.emb (ix2 s j) = ix2 (tk t.val s) j := by rw [hk]; blk_ext [h11]
  refine (outs11 ..).trans ?_
  exact (congrArg (DFv (DZ m c)) e).symm

theorem fin12 (c : Dev nD) : (dats m 0 c).arrAt 12 cfg0.N = DGv (DZ m c) (GA m c) (UP m c) (WD m c) := by
  refine (dats m 0 c).arrAt_eq_of_covers 12 _ (by decide +kernel) fun t hf y => ?_
  blk_simp
  rw [after0_12]
  have ht : t.val < 32 := lt_of_lt_of_eq t.isLt N_0
  have h1 : (y 1).val < 256 := (y 1).isLt
  have hs : t.val * 256 + (y 1).val < 8192 := by omega
  have hk : tk t.val (y 1) = ⟨t.val * 256 + (y 1).val, hs⟩ := Fin.ext (Nat.mod_eq_of_lt hs)
  obtain ⟨_, _, h12, _⟩ := out_facts t
  have e : (win0_12.blk t).view.emb y = ix3 (y 0) (tk t.val (y 1)) (y 2) := by rw [hk]; blk_ext [h12]
  refine (outs12 ..).trans ?_
  exact (congrArg (DGv (DZ m c) (GA m c) (UP m c) (WD m c)) e).symm

theorem fin13 (c : Dev nD) : (dats m 0 c).arrAt 13 cfg0.N = DUv (DZ m c) (GA m c) (WD m c) := by
  refine (dats m 0 c).arrAt_eq_of_covers 13 _ (by decide +kernel) fun t hf y => ?_
  blk_simp
  rw [after0_13]
  have ht : t.val < 32 := lt_of_lt_of_eq t.isLt N_0
  have h1 : (y 1).val < 256 := (y 1).isLt
  have hs : t.val * 256 + (y 1).val < 8192 := by omega
  have hk : tk t.val (y 1) = ⟨t.val * 256 + (y 1).val, hs⟩ := Fin.ext (Nat.mod_eq_of_lt hs)
  obtain ⟨_, _, _, h13, _⟩ := out_facts t
  have e : (win0_13.blk t).view.emb y = ix3 (y 0) (tk t.val (y 1)) (y 2) := by rw [hk]; blk_ext [h13]
  refine (outs13 ..).trans ?_
  exact (congrArg (DUv (DZ m c) (GA m c) (WD m c)) e).symm

theorem fin14 (c : Dev nD) : (dats m 0 c).arrAt 14 cfg0.N = Av (GA m c) (UP m c) := by
  refine (dats m 0 c).arrAt_eq_of_covers 14 _ (by decide +kernel) fun t hf y => ?_
  blk_simp
  rw [after0_14]
  have ht : t.val < 32 := lt_of_lt_of_eq t.isLt N_0
  have h1 : (y 1).val < 256 := (y 1).isLt
  have hs : t.val * 256 + (y 1).val < 8192 := by omega
  have hk : tk t.val (y 1) = ⟨t.val * 256 + (y 1).val, hs⟩ := Fin.ext (Nat.mod_eq_of_lt hs)
  obtain ⟨_, _, _, _, h14, _⟩ := out_facts t
  have e : (win0_14.blk t).view.emb y = ix3 (y 0) (tk t.val (y 1)) (y 2) := by rw [hk]; blk_ext [h14]
  refine (outs14 ..).trans ?_
  exact (congrArg (Av (GA m c) (UP m c)) e).symm

theorem fin15 (c : Dev nD) : (dats m 0 c).arrAt 15 cfg0.N = LNv (DY m c) (Z m c) := by
  refine (dats m 0 c).arrAt_eq_of_covers 15 _ (by decide +kernel) fun t hf y => ?_
  blk_simp
  rw [after0_15]
  obtain ⟨r, j, rfl⟩ : ∃ (r : Fin 8) (j : Fin 1024), y = ix2 r j := ⟨y 0, y 1, eq_ix2 y⟩
  have ht : t.val < 32 := lt_of_lt_of_eq t.isLt N_0
  have h31 := (flush0_15 t).mp hf
  obtain ⟨_, _, _, _, _, h15⟩ := out_facts t
  have e : (win0_15.blk t).view.emb (ix2 r j) = ix2 r j := by blk_ext [h15]
  refine (last_eq m c t (by omega) r j).trans ?_
  exact (congrArg (LNv (DY m c) (Z m c)) e).symm

end Cert.Proof.Bwd

end
-- ==== Proof.BwdRun.lean ====
/-
  The backward half step's call as a whole: what every weakly fair execution leaves in its six results and its arguments.
-/
module

public import proofs.«01_k».proof.Proof.BwdFinal

@[expose] public section

noncomputable section

namespace Cert.Proof.Bwd

open Cert.Kernel5Ideal Cert.Kernel5Ideal.Gen
open Idealize.ShloMosaic Idealize.ShloMosaic.TcCoe Idealize.SL.Sem

variable (m : (ℓ : Loc nD τ sig) → Buf (Elt Ideal) ℓ) (ρ : Dev nD → PrngReg)

/-- The norm's backward pass and the two products, of the arguments alone. -/
abbrev DH (c : Dev nD) : S8192x1024.Idx → EReal := Dv (DY m c) (Ffn.Zv (X m c) (WG m c) (WU m c) (WD m c)) (G m c)
abbrev GH (c : Dev nD) : S4x8192x704.Idx → EReal := Ffn.Hv (X m c) (WG m c)
abbrev UH (c : Dev nD) : S4x8192x704.Idx → EReal := Ffn.Hv (X m c) (WU m c)

/-- An equation with a function's value, taken on through equations of the arguments. -/
theorem through1 {α δ : Sort*} (f : α → δ) {a a' : α} {r : δ} (h : r = f a) (ha : a = a') : r = f a' := by subst ha; exact h
theorem through2 {α β δ : Sort*} (f : α → β → δ) {a a' : α} {b b' : β} {r : δ} (h : r = f a b) (ha : a = a') (hb : b = b') : r = f a' b' := by
  subst ha hb; exact h
theorem through3 {α β γ δ : Sort*} (f : α → β → γ → δ) {a a' : α} {b b' : β} {d d' : γ} {r : δ} (h : r = f a b d) (ha : a = a') (hb : b = b')
    (hd : d = d') : r = f a' b' d' := by
  subst ha hb hd; exact h

/-- The six arrays of the call, from the program's arguments alone. -/
theorem res10 (c : Dev nD) : (dats m 0 c).arrAt 10 cfg0.N = DXv (DH m c) (GH m c) (UH m c) (WG m c) (WU m c) (WD m c) :=
  through3 (fun d a b => DXv d a b (WG m c) (WU m c) (WD m c)) (fin10 m c) (host_dz m c) (host_gate m c) (host_up m c)

theorem res11 (c : Dev nD) : (dats m 0 c).arrAt 11 cfg0.N = DFv (DH m c) :=
  through1 DFv (fin11 m c) (host_dz m c)

theorem res12 (c : Dev nD) : (dats m 0 c).arrAt 12 cfg0.N = DGv (DH m c) (GH m c) (UH m c) (WD m c) :=
  through3 (fun d a b => DGv d a b (WD m c)) (fin12 m c) (host_dz m c) (host_gate m c) (host_up m c)

theorem res13 (c : Dev nD) : (dats m 0 c).arrAt 13 cfg0.N = DUv (DH m c) (GH m c) (WD m c) :=
  through2 (fun d a => DUv d a (WD m c)) (fin13 m c) (host_dz m c) (host_gate m c)

theorem res14 (c : Dev nD) : (dats m 0 c).arrAt 14 cfg0.N = Av (GH m c) (UH m c) :=
  through2 Av (fin14 m c) (host_gate m c) (host_up m c)

theorem res15 (c : Dev nD) : (dats m 0 c).arrAt 15 cfg0.N = LNv (DY m c) (Ffn.Zv (X m c) (WG m c) (WU m c) (WD m c)) :=
  through1 (LNv (DY m c)) (fin15 m c) (V_z m c)

section

variable {m} {r : PUnit × MemSt nD τ sig (Elt Ideal)} (h : Pipeline.FramePost cfgs (dats m) 0 (V m) r) (c : Dev nD)
include h

/-- What a final state holds in each result. -/
theorem mem_out0 : r.2.mem ((c.tc : Thread nD τ).loc main_v24_0) = DXv (DH m c) (GH m c) (UH m c) (WG m c) (WU m c) (WD m c) :=
  ((h c).1 10).trans (res10 m c)

theorem mem_out1 : r.2.mem ((c.tc : Thread nD τ).loc main_v24_1) = DFv (DH m c) :=
  ((h c).1 11).trans (res11 m c)

theorem mem_out2 : r.2.mem ((c.tc : Thread nD τ).loc main_v24_2) = DGv (DH m c) (GH m c) (UH m c) (WD m c) :=
  ((h c).1 12).trans (res12 m c)

theorem mem_out3 : r.2.mem ((c.tc : Thread nD τ).loc main_v24_3) = DUv (DH m c) (GH m c) (WD m c) :=
  ((h c).1 13).trans (res13 m c)

theorem mem_out4 : r.2.mem ((c.tc : Thread nD τ).loc main_v24_4) = Av (GH m c) (UH m c) :=
  ((h c).1 14).trans (res14 m c)

theorem mem_out5 : r.2.mem ((c.tc : Thread nD τ).loc main_v24_5) = LNv (DY m c) (Ffn.Zv (X m c) (WG m c) (WU m c) (WD m c)) :=
  ((h c).1 15).trans (res15 m c)

/-- A final state has every argument as it was. -/
theorem mem_arg0 : r.2.mem ((c.tc : Thread nD τ).loc main_arg0) = m ((c.tc : Thread nD τ).loc main_arg0) :=
  ((h c).2 main_arg0 (Pipeline.mem_restRefs_of main_arg0 (by decide) (by decide))).trans (V_main_arg0 m c)

theorem mem_arg1 : r.2.mem ((c.tc : Thread nD τ).loc main_arg1) = m ((c.tc : Thread nD τ).loc main_arg1) :=
  ((h c).1 6).trans (((dats m 0 c).arrAt_in 6 rfl _).trans ((A_eq m c 6).trans (V_main_arg1 m c)))

theorem mem_arg2 : r.2.mem ((c.tc : Thread nD τ).loc main_arg2) = m ((c.tc : Thread nD τ).loc main_arg2) :=
  ((h c).1 7).trans (((dats m 0 c).arrAt_in 7 rfl _).trans ((A_eq m c 7).trans (V_main_arg2 m c)))

theorem mem_arg3 : r.2.mem ((c.tc : Thread nD τ).loc main_arg3) = m ((c.tc : Thread nD τ).loc main_arg3) :=
  ((h c).1 8).trans (((dats m 0 c).arrAt_in 8 rfl _).trans ((A_eq m c 8).trans (V_main_arg3 m c)))

theorem mem_arg4 : r.2.mem ((c.tc : Thread nD τ).loc main_arg4) = m ((c.tc : Thread nD τ).loc main_arg4) :=
  ((h c).1 9).trans (((dats m 0 c).arrAt_in 9 rfl _).trans ((A_eq m c 9).trans (V_main_arg4 m c)))

theorem mem_arg5 : r.2.mem ((c.tc : Thread nD τ).loc main_arg5) = m ((c.tc : Thread nD τ).loc main_arg5) :=
  ((h c).1 2).trans (((dats m 0 c).arrAt_in 2 rfl _).trans ((A_eq m c 2).trans (V_main_arg5 m c)))

end

end Cert.Proof.Bwd

end
-- ==== Proof.BwdInfinite.lean ====
/-
  The backward half step where a token's values are infinite: the layer norm then passes no gradient on, and the gate's gradient
  line by line is still the same.
-/
module

public import proofs.«01_k».proof.Proof.BwdModel

@[expose] public section

noncomputable section

namespace Cert.Proof.Bwd

open Idealize.ShloMosaic
open Cert.Proof.Ffn (cA cH cN cE mean var)
open Cert.Proof.Attn (Fin' fin'_of_lt)
open scoped BigOperators

theorem fin_iff {a : EReal} : Fin' a ↔ a ≠ ⊥ ∧ a ≠ ⊤ :=
  ⟨fun ⟨r, hr⟩ => hr ▸ ⟨EReal.coe_ne_bot r, EReal.coe_ne_top r⟩, fun h => fin'_of_lt (bot_lt_iff_ne_bot.mpr h.1) (lt_top_iff_ne_top.mpr h.2)⟩

theorem cH_ne : cH ≠ 0 := by
  show Ideal.ofBits .f32 0x3F000000#32 ≠ 0
  simp [Ideal.ofBits, Ideal.ieee]

theorem fin_add {a b : EReal} (h : Fin' (a + b)) : Fin' a ∧ Fin' b := by
  rw [fin_iff] at h
  have ha : a ≠ ⊥ := fun e => h.1 (by rw [e, EReal.bot_add])
  have hb : b ≠ ⊥ := fun e => h.1 (by rw [e, EReal.add_bot])
  exact ⟨fin_iff.mpr ⟨ha, fun e => h.2 (by rw [e, EReal.top_add_of_ne_bot hb])⟩, fin_iff.mpr ⟨hb, fun e => h.2 (by rw [e, EReal.add_top_of_ne_bot ha])⟩⟩

theorem fin_sum {ι : Type} [Fintype ι] (f : ι → EReal) (h : Fin' (∑ i, f i)) (i : ι) : Fin' (f i) := by
  classical
  rw [← Finset.add_sum_erase _ _ (Finset.mem_univ i)] at h
  exact (fin_add h).1

theorem fin_of_mul {k : ℝ} (hk : k ≠ 0) {w : EReal} (h : Fin' ((k : EReal) * w)) : Fin' w := by
  rw [fin_iff] at h ⊢
  refine ⟨fun e => ?_, fun e => ?_⟩ <;> subst e <;> rcases lt_or_gt_of_ne hk with hn | hp
  · exact h.2 (EReal.coe_mul_bot_of_neg hn)
  · exact h.1 (EReal.coe_mul_bot_of_pos hp)
  · exact h.1 (EReal.coe_mul_top_of_neg hn)
  · exact h.2 (EReal.coe_mul_top_of_pos hp)

theorem zero_of_top_mul {w : EReal} (h : Fin' (⊤ * w)) : w = 0 := by
  rw [fin_iff] at h
  by_contra hw
  rcases lt_or_gt_of_ne hw with hn | hp
  · exact h.1 (EReal.top_mul_of_neg hn)
  · exact h.2 (EReal.top_mul_of_pos hp)

theorem zero_of_bot_mul {w : EReal} (h : Fin' (⊥ * w)) : w = 0 := by
  rw [fin_iff] at h
  by_contra hw
  rcases lt_or_gt_of_ne hw with hn | hp
  · exact h.2 (EReal.bot_mul_of_neg hn)
  · exact h.1 (EReal.bot_mul_of_pos hp)

/-! ## The layer norm -/

theorem fin_mean {v : Fin 1024 → EReal} (h : Fin' (mean v)) : ∀ j, Fin' (v j) := by
  unfold mean at h
  rw [cN_eq, Ideal.div_coe (by norm_num), mul_comm] at h
  exact fin_sum _ (fin_of_mul (by norm_num) h)

theorem sum_top : ∑ _ : Fin 1024, (⊤ : EReal) = ⊤ := by
  rw [← Finset.add_sum_erase _ _ (Finset.mem_univ 0)]
  exact EReal.top_add_of_ne_bot (ne_of_gt (lt_of_lt_of_le EReal.bot_lt_zero (Finset.sum_nonneg fun _ _ => le_top)))

theorem square_inf {z : Fin 1024 → EReal} (hz : ¬∀ j, Fin' (z j)) (k : Fin 1024) : (z k - mean z) * (z k - mean z) = ⊤ := by
  have hm : mean z = ⊥ ∨ mean z = ⊤ := by
    by_contra hn
    exact hz (fin_mean (fin_iff.mpr ⟨fun e => hn (Or.inl e), fun e => hn (Or.inr e)⟩))
  rcases hm with e | e <;> rw [e, sub_eq_add_neg]
  · rw [EReal.neg_bot]
    by_cases hk : z k = ⊥
    · rw [hk, EReal.bot_add, EReal.bot_mul_bot]
    · rw [EReal.add_top_of_ne_bot hk, EReal.top_mul_top]
  · rw [EReal.neg_top, EReal.add_bot, EReal.bot_mul_bot]

theorem rsqrt_inf {z : Fin 1024 → EReal} (hz : ¬∀ j, Fin' (z j)) : var z + cE = ⊤ ∧ Ideal.rsqrt (var z + cE) = 0 := by
  obtain ⟨e, he, hcE⟩ := cE_pos
  have hv : var z = ⊤ := by
    unfold var
    rw [funext fun k => square_inf hz k]
    unfold mean
    rw [sum_top, cN_eq, Ideal.div_coe (by norm_num)]
    exact EReal.top_mul_coe_of_pos (by norm_num)
  have h : var z + cE = ⊤ := by rw [hv, hcE]; exact EReal.top_add_of_ne_bot (EReal.coe_ne_bot e)
  exact ⟨h, by rw [h]; rfl⟩

theorem dz_inf (dy z g : Fin 1024 → EReal) (hz : ¬∀ j, Fin' (z j)) (j : Fin 1024) : dzR dy z g j = 0 ∧ dzv dy z g j = 0 := by
  obtain ⟨hv, hr⟩ := rsqrt_inf hz
  have hd : Ideal.div 0 ⊤ = 0 := by
    unfold Ideal.div
    rw [if_neg EReal.top_ne_zero, zero_mul]
  have hn : Ideal.div 0 cN = 0 := by rw [cN_eq, Ideal.div_coe (by norm_num), zero_mul]
  have hs : vs dy z g = 0 := by
    unfold vs
    rw [hr, hv, hd, mul_zero, mul_zero, hn]
  have ht : ∀ k, vt dy z g k = 0 := fun k => by unfold vt; rw [hs, zero_mul]
  constructor
  · unfold dzR
    simp only [hr, ht, mul_zero, neg_zero, Finset.sum_const_zero, add_zero, hn]
  · unfold dzv
    rw [hr, zero_mul]

/-- With a finite cotangent and scale the two gradients agree, whatever the row is. -/
theorem dz_all (dy z g : Fin 1024 → EReal) (hy : ∀ j, Fin' (dy j)) (hg : ∀ j, Fin' (g j)) (j : Fin 1024) : dzR dy z g j = dzv dy z g j := by
  by_cases hz : ∀ j, Fin' (z j)
  · exact (dz_both dy z g hy hz hg j).1
  · exact (dz_inf dy z g hz j).1.trans (dz_inf dy z g hz j).2.symm

/-! ## The gate -/

theorem logistic_pos (a : ℝ) : ∃ r : ℝ, 0 < r ∧ Ideal.logistic (a : EReal) = (r : EReal) := by
  unfold Ideal.logistic
  have h : Ideal.exp (-(a : EReal)) = ((Real.exp (-a) : ℝ) : EReal) := by rw [← EReal.coe_neg]; rfl
  have hp : 0 < 1 + Real.exp (-a) := by positivity
  rw [h, ← EReal.coe_one, ← EReal.coe_add, Ideal.div_coe hp.ne', ← EReal.coe_mul]
  exact ⟨_, by positivity, rfl⟩

theorem logistic_bot : Ideal.logistic ⊥ = 0 := by
  unfold Ideal.logistic
  rw [EReal.neg_bot, show Ideal.exp ⊤ = ⊤ from rfl, EReal.add_top_of_ne_bot (by rw [← EReal.coe_one]; exact EReal.coe_ne_bot 1)]
  unfold Ideal.div
  rw [if_neg EReal.top_ne_zero, EReal.inv_top, mul_zero]

theorem logistic_top : Ideal.logistic ⊤ = 1 := by
  unfold Ideal.logistic
  rw [EReal.neg_top, show Ideal.exp ⊥ = 0 from rfl, add_zero, ← EReal.coe_one, Ideal.div_coe one_ne_zero, ← EReal.coe_mul]
  norm_num

theorem gate_all {p a : EReal} (h : Fin' a → a ≠ 0 → Fin' p) :
    p * Ideal.logistic a + a * p * (Ideal.logistic a * (1 - Ideal.logistic a)) = p * (Ideal.logistic a * (1 + a * (1 - Ideal.logistic a))) := by
  by_cases hb : a = ⊥
  · subst hb
    simp only [logistic_bot, mul_zero, zero_mul, add_zero]
  by_cases ht : a = ⊤
  · subst ht
    have e : (1 : EReal) - 1 = 0 := by rw [← EReal.coe_one, ← EReal.coe_sub, sub_self, EReal.coe_zero]
    simp only [logistic_top, e, mul_zero, add_zero, mul_one]
  by_cases h0 : a = 0
  · subst h0
    simp only [zero_mul, add_zero, mul_one]
  exact gate_grad (h (fin_iff.mpr ⟨hb, ht⟩) h0) (fin_iff.mpr ⟨hb, ht⟩)

/-- Where a finite gate's hidden value times the down weights is finite, so is the gradient of the gated value times the up value. -/
theorem fin_hidden {a u : EReal} {w d : Fin 1024 → EReal} (ha : Fin' a) (h0 : a ≠ 0) (hd : ∀ j, Fin' (d j)) (h : ∀ j, Fin' (a * Ideal.logistic a * u * w j)) :
    Fin' ((∑ j, cH * d j * w j) * u) := by
  obtain ⟨a, rfl⟩ := ha
  obtain ⟨l, hl, el⟩ := logistic_pos a
  have hk : a * l ≠ 0 := mul_ne_zero (fun e => h0 (by rw [e, EReal.coe_zero])) hl.ne'
  simp only [el, ← EReal.coe_mul, mul_assoc] at h
  have hw : ∀ j, Fin' (u * w j) := fun j => fin_of_mul hk (h j)
  have hz : (∀ j, w j = 0) → Fin' ((∑ j, cH * d j * w j) * u) := fun e => by
    simp only [e, mul_zero, Finset.sum_const_zero, zero_mul]
    exact ⟨0, EReal.coe_zero.symm⟩
  by_cases hb : u = ⊥
  · exact hz fun j => zero_of_bot_mul (hb ▸ hw j)
  by_cases ht : u = ⊤
  · exact hz fun j => zero_of_top_mul (ht ▸ hw j)
  obtain ⟨u, rfl⟩ := fin_iff.mpr ⟨hb, ht⟩
  by_cases hu : u = 0
  · rw [hu, EReal.coe_zero, mul_zero]
    exact ⟨0, EReal.coe_zero.symm⟩
  exact (Fin'.sum _ _ fun j => (cH_fin.mul (hd j)).mul (fin_of_mul hu (hw j))).mul ⟨u, rfl⟩

end Cert.Proof.Bwd

end
-- ==== Proof.BwdRef.lean ====
/-
  The reference of the backward half step: with a finite cotangent and scale its six results are the same values.
-/
module

public import proofs.«01_k».proof.Proof.BwdArrays
public import proofs.«01_k».proof.Proof.BwdInfinite
public import proofs.«01_k».proof.Proof.FfnRef
public import proofs.«01_k».proof.Proof.Gen.Reference5Ideal.Read
public import Idealize.ShloMosaic.Lib.Pipeline.Value

@[expose] public section

noncomputable section

namespace Cert.Proof.Bwd.Ref

open Cert.Reference5Ideal.Read
open Idealize.ShloMosaic Idealize.ShloMosaic.TcCoe Idealize.SL.Sem
open Cert.Kernel4Ideal (S8192x1024 S4x1024x704 S4x704x1024 S1x1024 S4x8192x704)
open Cert.Reference5Ideal (S1024x2816 S2816x1024 S8192x2816 S8192x1 S8192 S1024)
open Cert.Proof.Ffn (cA cH cN cE mean var quarter quarterD tok lin gated down pre fl one_bits Zv Hv)
open Cert.Proof.Attn (Fin')
open scoped BigOperators

/-- The one row of a scale. -/
abbrev vec (g : S1x1024.Idx → EReal) : Fin 1024 → EReal := fun d => g (ix2 0 d)

variable (x : S8192x1024.Idx → EReal) (wg wu : S4x1024x704.Idx → EReal) (wd : S4x704x1024.Idx → EReal) (g : S1x1024.Idx → EReal) (dy : S8192x1024.Idx → EReal)

/-- The row before the layer norm. -/
abbrev zr (s : Fin 8192) : Fin 1024 → EReal := pre (tok x s) (quarter wg) (quarter wu) (quarterD wd)

theorem wgate_apply (d : Fin 1024) (q : Fin 4) (f : Fin 704) : val_main_v2 (F := Ideal) wg (ix2 d (fl q f)) = wg (ix3 q d f) := by
  rw [val_main_v2_apply, val_main_v1_apply, val_main_v0_apply]
  refine congrArg wg (funext fun a => ?_)
  match a with
  | 0 => exact Fin.ext (by show (d.val * 2816 + (q.val * 704 + f.val)) / 704 % 4 = q.val; omega)
  | 1 => exact Fin.ext (by show (d.val * 2816 + (q.val * 704 + f.val)) / 2816 = d.val; omega)
  | 2 => exact Fin.ext (by show (d.val * 2816 + (q.val * 704 + f.val)) % 704 = f.val; omega)

theorem wup_apply (d : Fin 1024) (q : Fin 4) (f : Fin 704) : val_main_v5 (F := Ideal) wu (ix2 d (fl q f)) = wu (ix3 q d f) := by
  rw [val_main_v5_apply, val_main_v4_apply, val_main_v3_apply]
  refine congrArg wu (funext fun a => ?_)
  match a with
  | 0 => exact Fin.ext (by show (d.val * 2816 + (q.val * 704 + f.val)) / 704 % 4 = q.val; omega)
  | 1 => exact Fin.ext (by show (d.val * 2816 + (q.val * 704 + f.val)) / 2816 = d.val; omega)
  | 2 => exact Fin.ext (by show (d.val * 2816 + (q.val * 704 + f.val)) % 704 = f.val; omega)

theorem wdown_apply (q : Fin 4) (f : Fin 704) (j : Fin 1024) : val_main_v7 (F := Ideal) wd (ix2 (fl q f) j) = wd (ix3 q f j) := by
  rw [val_main_v7_apply, val_main_v6_apply]
  refine congrArg wd (funext fun a => ?_)
  match a with
  | 0 => exact Fin.ext (by show ((q.val * 704 + f.val) * 1024 + j.val) / 720896 = q.val; omega)
  | 1 => exact Fin.ext (by show ((q.val * 704 + f.val) * 1024 + j.val) / 1024 % 704 = f.val; omega)
  | 2 => exact Fin.ext (by show ((q.val * 704 + f.val) * 1024 + j.val) % 1024 = j.val; omega)

theorem gate_apply (s : Fin 8192) (q : Fin 4) (f : Fin 704) : val_main_v8 (F := Ideal) x wg (ix2 s (fl q f)) = lin (tok x s) (quarter wg q) f := by
  rw [val_main_v8_apply]
  refine Finset.sum_congr rfl fun d _ => congrArg₂ (· * ·) (congrArg x (funext fun a => ?_)) ?_
  · match a with
    | 0 => rfl
    | 1 => rfl
  · refine Eq.trans (congrArg (val_main_v2 (F := Ideal) wg) (funext fun a => ?_)) (wgate_apply wg d q f)
    match a with
    | 0 => rfl
    | 1 => rfl

theorem up_apply (s : Fin 8192) (q : Fin 4) (f : Fin 704) : val_main_v9 (F := Ideal) x wu (ix2 s (fl q f)) = lin (tok x s) (quarter wu q) f := by
  rw [val_main_v9_apply]
  refine Finset.sum_congr rfl fun d _ => congrArg₂ (· * ·) (congrArg x (funext fun a => ?_)) ?_
  · match a with
    | 0 => rfl
    | 1 => rfl
  · refine Eq.trans (congrArg (val_main_v5 (F := Ideal) wu) (funext fun a => ?_)) (wup_apply wu d q f)
    match a with
    | 0 => rfl
    | 1 => rfl

theorem sig_apply (s : Fin 8192) (q : Fin 4) (f : Fin 704) :
    val_main_v10_2 (F := Ideal) x wg (ix2 s (fl q f)) = Ideal.logistic (lin (tok x s) (quarter wg q) f) := by
  rw [val_main_v10_2_apply, val_main_call0_v4_apply, val_main_call0_cst_0_apply, val_main_call0_v3_apply, val_main_call0_v2_apply, val_main_call0_cst_apply, val_main_call0_v1_apply, val_main_call0_v0_apply, gate_apply, one_bits]
  rfl

theorem dsig_apply (s : Fin 8192) (q : Fin 4) (f : Fin 704) :
    val_main_v10_1 (F := Ideal) x wg (ix2 s (fl q f)) = Ideal.logistic (lin (tok x s) (quarter wg q) f) * (1 - Ideal.logistic (lin (tok x s) (quarter wg q) f)) := by
  rw [val_main_v10_1_apply, val_main_call0_v7_apply, val_main_call0_v6_apply, val_main_call0_cst_1_apply, one_bits, sig_apply]
  rfl

theorem silu_apply (s : Fin 8192) (q : Fin 4) (f : Fin 704) :
    val_main_v10_0 (F := Ideal) x wg (ix2 s (fl q f)) = lin (tok x s) (quarter wg q) f * Ideal.logistic (lin (tok x s) (quarter wg q) f) := by
  rw [val_main_v10_0_apply, sig_apply, gate_apply]
  rfl

theorem hidden_apply (s : Fin 8192) (q : Fin 4) (f : Fin 704) :
    val_main_v11 (F := Ideal) x wg wu (ix2 s (fl q f)) = gated (tok x s) (quarter wg q) (quarter wu q) f := by
  rw [val_main_v11_apply, silu_apply, up_apply]
  rfl

theorem down_apply (s : Fin 8192) (j : Fin 1024) :
    val_main_v12 (F := Ideal) x wg wu wd (ix2 s j) = down (tok x s) (quarter wg) (quarter wu) (quarterD wd) j := by
  rw [val_main_v12_apply]
  refine (Fin.sum_mul_add_congr fun q f hl => ?_).symm
  have e1 : lidx_main_v12 (ix2 s j) ⟨q.val * 704 + f.val, hl⟩ = ix2 s (fl q f) := funext fun a => by
    match a with
    | 0 => rfl
    | 1 => rfl
  have e2 : ridx_main_v12 (ix2 s j) ⟨q.val * 704 + f.val, hl⟩ = ix2 (fl q f) j := funext fun a => by
    match a with
    | 0 => rfl
    | 1 => rfl
  rw [e1, e2, hidden_apply, wdown_apply]

theorem z_apply (s : Fin 8192) (j : Fin 1024) :
    val_main_v17 (F := Ideal) x wg wu wd (ix2 s j) = zr x wg wu wd s j := by
  rw [val_main_v17_apply, val_main_v14_apply, val_main_v13_apply, val_main_cst_apply, val_main_v16_apply, val_main_v15_apply, val_main_cst_0_apply, down_apply]
  rfl

theorem mean_apply (s : Fin 8192) (z : Fin 1) :
    val_main_v22 (F := Ideal) x wg wu wd (ix2 s z) = mean (zr x wg wu wd s) := by
  rw [val_main_v22_apply, val_main_v20_apply, val_main_v21_apply, val_main_cst_3_apply, val_main_v19_apply, val_main_cst_2_apply]
  refine congrArg (Ideal.div · cN) ?_
  refine (congrArg₂ (· + ·) (Ideal.ofBits_zero .f32) (Finset.sum_congr rfl fun k _ => ?_)).trans (zero_add _)
  exact (congrArg (val_main_v17 (F := Ideal) x wg wu wd) (funext fun a => by
    match a with
    | 0 => rfl
    | 1 => rfl)).trans (z_apply x wg wu wd s k)

theorem v24_at (s : Fin 8192) (j : Fin 1024) :
    val_main_v24 (F := Ideal) x wg wu wd (ix2 s j) = zr x wg wu wd s j - mean (zr x wg wu wd s) := by
  have e : idx_main_v23 (ix2 s j) = ix2 s (0 : Fin 1) := funext fun a => by
    match a with
    | 0 => rfl
    | 1 => rfl
  rw [val_main_v24_apply, val_main_v23_apply, e, mean_apply, z_apply]
  rfl

theorem v33_at (s : Fin 8192) (j : Fin 1024) :
    val_main_v33 (F := Ideal) x wg wu wd (ix2 s j) = zr x wg wu wd s j - mean (zr x wg wu wd s) := by
  have e : idx_main_v32 (ix2 s j) = ix2 s (0 : Fin 1) := funext fun a => by
    match a with
    | 0 => rfl
    | 1 => rfl
  rw [val_main_v33_apply, val_main_v32_apply, e, mean_apply, z_apply]
  rfl

theorem var_apply (s : Fin 8192) (z : Fin 1) :
    val_main_v31 (F := Ideal) x wg wu wd (ix2 s z) = var (zr x wg wu wd s) := by
  rw [val_main_v31_apply, val_main_v29_apply, val_main_v30_apply, val_main_cst_6_apply, val_main_v28_apply, val_main_cst_5_apply]
  refine congrArg (Ideal.div · cN) ?_
  refine (congrArg₂ (· + ·) (Ideal.ofBits_zero .f32) (Finset.sum_congr rfl fun k _ => ?_)).trans (zero_add _)
  have e : idx_main_v28 (idx_main_v29 (ix2 s z)) k = ix2 s k := funext fun a => by
    match a with
    | 0 => rfl
    | 1 => rfl
  rw [e, val_main_v25_apply, v24_at]
  rfl

theorem vare_apply (s : Fin 8192) (z : Fin 1) :
    val_main_v35 (F := Ideal) x wg wu wd (ix2 s z) = var (zr x wg wu wd s) + cE := by
  rw [val_main_v35_apply, val_main_v34_apply, val_main_cst_7_apply, var_apply]
  rfl

theorem rs_apply (s : Fin 8192) (z : Fin 1) :
    val_main_v36 (F := Ideal) x wg wu wd (ix2 s z) = Ideal.rsqrt (var (zr x wg wu wd s) + cE) := by
  rw [val_main_v36_apply, vare_apply]
  rfl

theorem v39_at (s : Fin 8192) (z : Fin 1) :
    val_main_v39 (F := Ideal) x wg wu wd (ix2 s z) = cM * Ideal.div (Ideal.rsqrt (var (zr x wg wu wd s) + cE)) (var (zr x wg wu wd s) + cE) := by
  rw [val_main_v39_apply, val_main_v38_apply, val_main_cst_8_apply, val_main_v37_apply, rs_apply, vare_apply]
  rfl

theorem xhat_apply (s : Fin 8192) (j : Fin 1024) :
    val_main_v41 (F := Ideal) x wg wu wd (ix2 s j) = xhat (zr x wg wu wd s) j := by
  have e : idx_main_v40 (ix2 s j) = ix2 s (0 : Fin 1) := funext fun a => by
    match a with
    | 0 => rfl
    | 1 => rfl
  rw [val_main_v41_apply, v33_at, val_main_v40_apply, e, rs_apply]
  rfl

theorem dy_apply (s : Fin 8192) (j : Fin 1024) :
    val_main_v46 (F := Ideal) dy (ix2 s j) = dy (ix2 s j) := by
  rw [val_main_v46_apply]
  refine congrArg dy (funext fun a => ?_)
  match a with
  | 0 => exact Fin.ext (by show (s.val * 1024 + j.val) / 1024 = s.val; omega)
  | 1 => exact Fin.ext (by show (s.val * 1024 + j.val) % 1024 = j.val; omega)

theorem gdy_apply (s : Fin 8192) (j : Fin 1024) :
    val_main_v53 (F := Ideal) g dy (ix2 s j) = gdy (tok dy s) (vec g) j := by
  have e : idx_main_v52 (ix2 s j) = ix2 (0 : Fin 1) j := funext fun a => by
    match a with
    | 0 => rfl
    | 1 => rfl
  rw [val_main_v53_apply, dy_apply, val_main_v52_apply, e]
  rfl

theorem v54_at (s : Fin 8192) (j : Fin 1024) :
    val_main_v54 (F := Ideal) x wg wu wd g dy (ix2 s j) = (zr x wg wu wd s j - mean (zr x wg wu wd s)) * gdy (tok dy s) (vec g) j := by
  rw [val_main_v54_apply, v33_at, gdy_apply]
  rfl

theorem v56_at (s : Fin 8192) (z : Fin 1) :
    val_main_v56 (F := Ideal) x wg wu wd g dy (ix2 s z) = ∑ k, (zr x wg wu wd s k - mean (zr x wg wu wd s)) * gdy (tok dy s) (vec g) k := by
  rw [val_main_v56_apply, val_main_v55_apply, val_main_cst_11_apply]
  refine (congrArg₂ (· + ·) (Ideal.ofBits_zero .f32) (Finset.sum_congr rfl fun k _ => ?_)).trans (zero_add _)
  have e : idx_main_v55 (idx_main_v56 (ix2 s z)) k = ix2 s k := funext fun a => by
    match a with
    | 0 => exact Fin.ext (by show s.val * 1 + z.val = s.val; omega)
    | 1 => rfl
  rw [e, v54_at]

theorem v58_at (s : Fin 8192) (j : Fin 1024) :
    val_main_v58 (F := Ideal) x wg wu wd g dy (ix2 s j) = gdy (tok dy s) (vec g) j * Ideal.rsqrt (var (zr x wg wu wd s) + cE) := by
  have e : idx_main_v57 (ix2 s j) = ix2 s (0 : Fin 1) := funext fun a => by
    match a with
    | 0 => rfl
    | 1 => rfl
  rw [val_main_v58_apply, gdy_apply, val_main_v57_apply, e, rs_apply]
  rfl

theorem v60_at (s : Fin 8192) (j : Fin 1024) :
    val_main_v60 (F := Ideal) x wg wu wd g dy (ix2 s j) = -(gdy (tok dy s) (vec g) j * Ideal.rsqrt (var (zr x wg wu wd s) + cE)) := by
  rw [val_main_v60_apply, v58_at]
  rfl

theorem v62_at (s : Fin 8192) (z : Fin 1) :
    val_main_v62 (F := Ideal) x wg wu wd g dy (ix2 s z) = ∑ k, -(gdy (tok dy s) (vec g) k * Ideal.rsqrt (var (zr x wg wu wd s) + cE)) := by
  rw [val_main_v62_apply, val_main_v61_apply, val_main_cst_12_apply]
  refine (congrArg₂ (· + ·) (Ideal.ofBits_zero .f32) (Finset.sum_congr rfl fun k _ => ?_)).trans (zero_add _)
  have e : idx_main_v61 (idx_main_v62 (ix2 s z)) k = ix2 s k := funext fun a => by
    match a with
    | 0 => exact Fin.ext (by show s.val * 1 + z.val = s.val; omega)
    | 1 => rfl
  rw [e, v60_at]

theorem v64_at (s : Fin 8192) (z : Fin 1) :
    val_main_v64 (F := Ideal) x wg wu wd g dy (ix2 s z) = vs (tok dy s) (zr x wg wu wd s) (vec g) := by
  rw [val_main_v64_apply, val_main_v63_apply, val_main_cst_13_apply, val_main_v59_apply, v56_at, v39_at]
  rfl

theorem v66_at (s : Fin 8192) (j : Fin 1024) :
    val_main_v66 (F := Ideal) x wg wu wd g dy (ix2 s j) = vs (tok dy s) (zr x wg wu wd s) (vec g) := by
  rw [val_main_v66_apply, val_main_v65_apply, val_main_cst_14_apply, Fin.sum_univ_one]
  have e : idx_main_v65 (idx_main_v66 (ix2 s j)) 0 = ix2 s (0 : Fin 1) := funext fun a => by
    match a with
    | 0 => rfl
    | 1 => rfl
  rw [e, v64_at]
  exact (congrArg (· + _) (Ideal.ofBits_zero .f32)).trans (zero_add _)

theorem v27_at (s : Fin 8192) (j : Fin 1024) :
    val_main_v27 (F := Ideal) x wg wu wd (ix2 s j) = c2 * (zr x wg wu wd s j - mean (zr x wg wu wd s)) := by
  rw [val_main_v27_apply, val_main_v26_apply, val_main_cst_4_apply, v24_at]
  rfl

theorem v67_at (s : Fin 8192) (j : Fin 1024) :
    val_main_v67 (F := Ideal) x wg wu wd g dy (ix2 s j) = vt (tok dy s) (zr x wg wu wd s) (vec g) j := by
  rw [val_main_v67_apply, v66_at, v27_at]
  rfl

theorem v68_at (s : Fin 8192) (j : Fin 1024) :
    val_main_v68 (F := Ideal) x wg wu wd g dy (ix2 s j) = -vt (tok dy s) (zr x wg wu wd s) (vec g) j := by
  rw [val_main_v68_apply, v67_at]
  rfl

theorem v70_at (s : Fin 8192) (z : Fin 1) :
    val_main_v70 (F := Ideal) x wg wu wd g dy (ix2 s z) = ∑ k, -vt (tok dy s) (zr x wg wu wd s) (vec g) k := by
  rw [val_main_v70_apply, val_main_v69_apply, val_main_cst_15_apply]
  refine (congrArg₂ (· + ·) (Ideal.ofBits_zero .f32) (Finset.sum_congr rfl fun k _ => ?_)).trans (zero_add _)
  have e : idx_main_v69 (idx_main_v70 (ix2 s z)) k = ix2 s k := funext fun a => by
    match a with
    | 0 => exact Fin.ext (by show s.val * 1 + z.val = s.val; omega)
    | 1 => rfl
  rw [e, v68_at]

theorem v74_at (s : Fin 8192) (z : Fin 1) :
    val_main_v74 (F := Ideal) x wg wu wd g dy (ix2 s z) = Ideal.div ((∑ k, -(gdy (tok dy s) (vec g) k * Ideal.rsqrt (var (zr x wg wu wd s) + cE))) + ∑ k, -vt (tok dy s) (zr x wg wu wd s) (vec g) k) cN := by
  rw [val_main_v74_apply, val_main_v73_apply, val_main_cst_16_apply, val_main_v72_apply, v62_at, v70_at]
  rfl

theorem v76_at (s : Fin 8192) (j : Fin 1024) :
    val_main_v76 (F := Ideal) x wg wu wd g dy (ix2 s j) = Ideal.div ((∑ k, -(gdy (tok dy s) (vec g) k * Ideal.rsqrt (var (zr x wg wu wd s) + cE))) + ∑ k, -vt (tok dy s) (zr x wg wu wd s) (vec g) k) cN := by
  rw [val_main_v76_apply, val_main_v75_apply, val_main_cst_17_apply, Fin.sum_univ_one]
  have e : idx_main_v75 (idx_main_v76 (ix2 s j)) 0 = ix2 s (0 : Fin 1) := funext fun a => by
    match a with
    | 0 => rfl
    | 1 => rfl
  rw [e, v74_at]
  exact (congrArg (· + _) (Ideal.ofBits_zero .f32)).trans (zero_add _)

theorem v77_at (s : Fin 8192) (j : Fin 1024) :
    val_main_v77 (F := Ideal) x wg wu wd g dy (ix2 s j) = dzR (tok dy s) (zr x wg wu wd s) (vec g) j := by
  rw [val_main_v77_apply, val_main_v71_apply, v58_at, v67_at, v76_at]
  rfl

/-! ## A finite cotangent and scale -/

section
variable (hg : ∀ i, Fin' (g i)) (hdy : ∀ i, Fin' (dy i))

/-- The residual's gradient. -/
abbrev Dz : S8192x1024.Idx → EReal := Dv dy (Zv x wg wu wd) g

include hg hdy in
theorem dz_apply (s : Fin 8192) (j : Fin 1024) : val_main_v77 (F := Ideal) x wg wu wd g dy (ix2 s j) = Dz x wg wu wd g dy (ix2 s j) :=
  (v77_at x wg wu wd g dy s j).trans (dz_all (tok dy s) (zr x wg wu wd s) (vec g) (fun j => hdy _) (fun j => hg _) j)

/-- Where a gate is finite and not zero, so is what its gradient takes. -/
theorem gate_ok (hg : ∀ i, Fin' (g i)) (hdy : ∀ i, Fin' (dy i)) (s : Fin 8192) (q : Fin 4) (f : Fin 704)
    (ha : Fin' (lin (tok x s) (quarter wg q) f)) (h0 : lin (tok x s) (quarter wg q) f ≠ 0) :
    Fin' (da (tok (Dz x wg wu wd g dy) s) (quarterD wd q) f * lin (tok x s) (quarter wu q) f) := by
  by_cases hz : ∀ j, Fin' (zr x wg wu wd s j)
  · refine fin_hidden ha h0 (fun j => (dz_both (tok dy s) (zr x wg wu wd s) (vec g) (fun j => hdy _) hz (fun j => hg _) j).2) fun j => ?_
    obtain ⟨h, eh⟩ := cH_fin
    have hh : h ≠ 0 := fun e => cH_ne (by rw [eh, e, EReal.coe_zero])
    have hd := (fin_add (hz j)).2
    rw [eh] at hd
    exact fin_sum _ (fin_sum _ (fin_of_mul hh hd) q) f
  · have e : ∀ j, tok (Dz x wg wu wd g dy) s j = 0 := fun j => (dz_inf (tok dy s) (zr x wg wu wd s) (vec g) hz j).2
    unfold da
    simp only [e, mul_zero, zero_mul, Finset.sum_const_zero]
    exact ⟨0, EReal.coe_zero.symm⟩

include hg hdy in
theorem df_apply (s : Fin 8192) (j : Fin 1024) : val_main_v79 (F := Ideal) x wg wu wd g dy (ix2 s j) = cH * Dz x wg wu wd g dy (ix2 s j) := by
  rw [val_main_v79_apply, val_main_v78_apply, val_main_cst_18_apply, dz_apply x wg wu wd g dy hg hdy]
  rfl

include hg hdy in
theorem da_apply (s : Fin 8192) (q : Fin 4) (f : Fin 704) :
    val_main_v82 (F := Ideal) x wg wu wd g dy (ix2 s (fl q f)) = da (tok (Dz x wg wu wd g dy) s) (quarterD wd q) f := by
  rw [val_main_v82_apply]
  refine Finset.sum_congr rfl fun k _ => ?_
  have e1 : lidx_main_v82 (ix2 s (fl q f)) k = ix2 s k := funext fun a => by
    match a with
    | 0 => rfl
    | 1 => rfl
  have e2 : ridx_main_v82 (ix2 s (fl q f)) k = ix2 (fl q f) k := funext fun a => by
    match a with
    | 0 => rfl
    | 1 => rfl
  rw [e1, e2, df_apply x wg wu wd g dy hg hdy, wdown_apply]

include hg hdy in
theorem dup_apply (s : Fin 8192) (q : Fin 4) (f : Fin 704) :
    val_main_v83 (F := Ideal) x wg wu wd g dy (ix2 s (fl q f)) = dup (tok (Dz x wg wu wd g dy) s) (quarterD wd q) (lin (tok x s) (quarter wg q)) f := by
  rw [val_main_v83_apply, silu_apply, da_apply x wg wu wd g dy hg hdy]
  exact mul_comm _ _

include hg hdy in
theorem dgate_apply (s : Fin 8192) (q : Fin 4) (f : Fin 704) :
    val_main_v85 (F := Ideal) x wg wu wd g dy (ix2 s (fl q f))
      = dgate (tok (Dz x wg wu wd g dy) s) (quarterD wd q) (lin (tok x s) (quarter wg q)) (lin (tok x s) (quarter wu q)) f := by
  rw [val_main_v85_apply, val_main_call1_v1_apply, val_main_call1_v2_apply, val_main_call1_v0_apply, val_main_v84_apply, gate_apply, sig_apply, dsig_apply, up_apply,
    da_apply x wg wu wd g dy hg hdy]
  exact gate_all (gate_ok x wg wu wd g dy hg hdy s q f)

include hg hdy in
theorem backu_apply (s : Fin 8192) (j : Fin 1024) : val_main_v86 (F := Ideal) x wg wu wd g dy (ix2 s j)
    = ∑ q : Fin 4, ∑ f, dup (tok (Dz x wg wu wd g dy) s) (quarterD wd q) (lin (tok x s) (quarter wg q)) f * quarter wu q j f := by
  rw [val_main_v86_apply]
  refine (Fin.sum_mul_add_congr fun q f hl => ?_).symm
  have e1 : lidx_main_v86 (ix2 s j) ⟨q.val * 704 + f.val, hl⟩ = ix2 s (fl q f) := funext fun a => by
    match a with
    | 0 => rfl
    | 1 => rfl
  have e2 : ridx_main_v86 (ix2 s j) ⟨q.val * 704 + f.val, hl⟩ = ix2 j (fl q f) := funext fun a => by
    match a with
    | 0 => rfl
    | 1 => rfl
  rw [e1, e2, dup_apply x wg wu wd g dy hg hdy, wup_apply]

include hg hdy in
theorem backg_apply (s : Fin 8192) (j : Fin 1024) : val_main_v87 (F := Ideal) x wg wu wd g dy (ix2 s j)
    = ∑ q : Fin 4, ∑ f, dgate (tok (Dz x wg wu wd g dy) s) (quarterD wd q) (lin (tok x s) (quarter wg q)) (lin (tok x s) (quarter wu q)) f * quarter wg q j f := by
  rw [val_main_v87_apply]
  refine (Fin.sum_mul_add_congr fun q f hl => ?_).symm
  have e1 : lidx_main_v87 (ix2 s j) ⟨q.val * 704 + f.val, hl⟩ = ix2 s (fl q f) := funext fun a => by
    match a with
    | 0 => rfl
    | 1 => rfl
  have e2 : ridx_main_v87 (ix2 s j) ⟨q.val * 704 + f.val, hl⟩ = ix2 j (fl q f) := funext fun a => by
    match a with
    | 0 => rfl
    | 1 => rfl
  rw [e1, e2, dgate_apply x wg wu wd g dy hg hdy, wgate_apply]

theorem sum_four (c : EReal) (a b t : Fin 4 → EReal) (h : ∀ q, t q = a q + b q) : c + ((∑ q, b q) + ∑ q, a q) = c + t 0 + t 1 + t 2 + t 3 := by
  rw [add_comm (∑ q, b q), ← Finset.sum_add_distrib, Finset.sum_congr rfl fun q _ => (h q).symm, Fin.sum_univ_four]
  simp only [add_assoc]

/-! ## The six results -/

include hg hdy in
theorem ref_dx : val_main_v89 (F := Ideal) x wg wu wd g dy = DXv (Dz x wg wu wd g dy) (Hv x wg) (Hv x wu) wg wu wd := funext fun i => by
  obtain ⟨s, j, rfl⟩ : ∃ (s : Fin 8192) (j : Fin 1024), i = ix2 s j := ⟨i 0, i 1, eq_ix2 i⟩
  rw [val_main_v89_apply, val_main_v88_apply, val_main_v81_apply, val_main_v80_apply, val_main_cst_19_apply, dz_apply x wg wu wd g dy hg hdy,
    backu_apply x wg wu wd g dy hg hdy, backg_apply x wg wu wd g dy hg hdy]
  exact sum_four _ _ _
    (fun q => back (tok (Dz x wg wu wd g dy) s) (quarterD wd q) (lin (tok x s) (quarter wg q)) (lin (tok x s) (quarter wu q)) (quarter wg q) (quarter wu q) j) fun q => rfl

include hg hdy in
theorem ref_df : val_main_v99 (F := Ideal) x wg wu wd g dy = DFv (Dz x wg wu wd g dy) := funext fun i => by
  obtain ⟨s, j, rfl⟩ : ∃ (s : Fin 8192) (j : Fin 1024), i = ix2 s j := ⟨i 0, i 1, eq_ix2 i⟩
  rw [val_main_v99_apply, df_apply x wg wu wd g dy hg hdy]
  rfl

theorem place (i : S4x8192x704.Idx) (j : S8192x2816.Idx) (h0 : (j 0).val = (((i 1).val * 4 + (i 0).val) * 704 + (i 2).val) / 2816)
    (h1 : (j 1).val = (((i 1).val * 4 + (i 0).val) * 704 + (i 2).val) % 2816) : j = ix2 (i 1) (fl (i 0) (i 2)) := funext fun a => by
  have i0 : (i 0).val < 4 := (i 0).isLt
  have i2 : (i 2).val < 704 := (i 2).isLt
  match a with
  | 0 => exact Fin.ext (h0.trans (by show _ = (i 1).val; omega))
  | 1 => exact Fin.ext (h1.trans (by show _ = (i 0).val * 704 + (i 2).val; omega))

include hg hdy in
theorem ref_dgate : val_main_v92 (F := Ideal) x wg wu wd g dy = DGv (Dz x wg wu wd g dy) (Hv x wg) (Hv x wu) wd := funext fun i => by
  rw [val_main_v92_apply, val_main_v91_apply, val_main_v90_apply]
  exact (congrArg (val_main_v85 (F := Ideal) x wg wu wd g dy) (place i _ rfl rfl)).trans (dgate_apply x wg wu wd g dy hg hdy (i 1) (i 0) (i 2))

include hg hdy in
theorem ref_dup : val_main_v95 (F := Ideal) x wg wu wd g dy = DUv (Dz x wg wu wd g dy) (Hv x wg) wd := funext fun i => by
  rw [val_main_v95_apply, val_main_v94_apply, val_main_v93_apply]
  exact (congrArg (val_main_v83 (F := Ideal) x wg wu wd g dy) (place i _ rfl rfl)).trans (dup_apply x wg wu wd g dy hg hdy (i 1) (i 0) (i 2))

end

theorem ref_a : val_main_v98 (F := Ideal) x wg wu = Av (Hv x wg) (Hv x wu) := funext fun i => by
  rw [val_main_v98_apply, val_main_v97_apply, val_main_v96_apply]
  exact (congrArg (val_main_v11 (F := Ideal) x wg wu) (place i _ rfl rfl)).trans (hidden_apply x wg wu (i 1) (i 0) (i 2))

theorem db_apply (j : Fin 1024) : val_main_v48 (F := Ideal) dy (ix2 0 j) = ∑ s : Fin 8192, dy (ix2 s j) := by
  rw [val_main_v48_apply, val_main_v47_apply, val_main_cst_9_apply]
  refine (congrArg₂ (· + ·) (Ideal.ofBits_zero .f32) (Finset.sum_congr rfl fun k _ => ?_)).trans (zero_add _)
  refine congrArg dy (funext fun a => ?_)
  match a with
  | 0 => rfl
  | 1 => exact Fin.ext (by show 0 * 1024 + j.val = j.val; omega)

theorem dg_apply (j : Fin 1024) : val_main_v51 (F := Ideal) x wg wu wd dy (ix2 0 j) = ∑ s : Fin 8192, dy (ix2 s j) * xhat (tok (Zv x wg wu wd) s) j := by
  rw [val_main_v51_apply, val_main_v50_apply, val_main_cst_10_apply]
  refine (congrArg₂ (· + ·) (Ideal.ofBits_zero .f32) (Finset.sum_congr rfl fun k _ => ?_)).trans (zero_add _)
  have e : idx_main_v50 (idx_main_v51 (ix2 0 j)) k = ix2 k j := funext fun a => by
    match a with
    | 0 => rfl
    | 1 => exact Fin.ext (by show 0 * 1024 + j.val = j.val; omega)
  rw [e, val_main_v49_apply, xhat_apply, dy_apply]
  exact mul_comm _ _

theorem zero_apply (i : Cert.Reference5Ideal.S6x1024.Idx) : val_main_v101 (F := Ideal) i = (0 : EReal) := by
  rw [val_main_v101_apply, val_main_cst_20_apply]
  exact Ideal.ofBits_zero .f32

theorem ref_ln : val_main_v102 (F := Ideal) x wg wu wd dy = LNv dy (Zv x wg wu wd) := funext fun i => by
  obtain ⟨r, j, rfl⟩ : ∃ (r : Fin 8) (j : Fin 1024), i = ix2 r j := ⟨i 0, i 1, eq_ix2 i⟩
  unfold val_main_v102 LNv
  by_cases h0 : r = 0
  · subst h0
    refine Eq.trans ?_ (if_pos rfl).symm
    refine (concatenate_pair_apply_left (t := Cert.Reference5Ideal.S8x1024) (s₁ := Cert.Reference5Ideal.S2x1024) (s₂ := Cert.Reference5Ideal.S6x1024) 0 _ _ _ (ix2 (0 : Fin 8) j) rfl (ix2 (0 : Fin 2) j) fun a => by
      match a with
      | 0 => rfl
      | 1 => rfl).trans ?_
    unfold val_main_v100
    exact (concatenate_pair_apply_left (t := Cert.Reference5Ideal.S2x1024) (s₁ := S1x1024) (s₂ := S1x1024) 0 _ _ _ (ix2 (0 : Fin 2) j) rfl (ix2 (0 : Fin 1) j) fun a => by
      match a with
      | 0 => rfl
      | 1 => rfl).trans (dg_apply x wg wu wd dy j)
  · by_cases h1 : r = 1
    · subst h1
      refine Eq.trans ?_ ((if_neg (show ¬(1 : Fin 8).val = 0 by decide)).trans (if_pos rfl)).symm
      refine (concatenate_pair_apply_left (t := Cert.Reference5Ideal.S8x1024) (s₁ := Cert.Reference5Ideal.S2x1024) (s₂ := Cert.Reference5Ideal.S6x1024) 0 _ _ _ (ix2 (1 : Fin 8) j) rfl (ix2 (1 : Fin 2) j) fun a => by
        match a with
        | 0 => rfl
        | 1 => rfl).trans ?_
      unfold val_main_v100
      exact (concatenate_pair_apply_right (t := Cert.Reference5Ideal.S2x1024) (s₁ := S1x1024) (s₂ := S1x1024) 0 _ _ _ (ix2 (1 : Fin 2) j) rfl rfl (ix2 (0 : Fin 1) j) (fun a ha => by
        match a with
        | 0 => exact absurd rfl ha
        | 1 => rfl) rfl).trans (db_apply dy j)
    · have k0 : r.val ≠ 0 := fun e => h0 (Fin.ext e)
      have k1 : r.val ≠ 1 := fun e => h1 (Fin.ext e)
      refine Eq.trans ?_ ((if_neg k0).trans (if_neg k1)).symm
      exact (concatenate_pair_apply_right (t := Cert.Reference5Ideal.S8x1024) (s₁ := Cert.Reference5Ideal.S2x1024) (s₂ := Cert.Reference5Ideal.S6x1024) 0 _ _ _ (ix2 r j) rfl rfl (ix2 (⟨r.val - 2, by omega⟩ : Fin 6) j) (fun a ha => by
        match a with
        | 0 => exact absurd rfl ha
        | 1 => rfl) (by show r.val - 2 + 2 = r.val; omega)).trans (zero_apply _)

end Cert.Proof.Bwd.Ref

end
-- ==== Proof.Finite.lean ====
/-
  The precondition read at an element: every query, key, value and bias is finite.
-/
module

public import proofs.«01_k».proof.Pre_finite_inputs
public import proofs.«01_k».proof.Proof.Model
public import Idealize.ShloMosaic.Lib.ReduceAll
public import Idealize.ShloMosaic.Lib.Affine
public import Idealize.ShloMosaic.Lib.Decide

@[expose] public section

noncomputable section

namespace Cert.Proof.Attn

open Idealize.ShloMosaic

theorem pre_facts : Cert.Pre_finite_inputs.Facts where
  bitsLt_bf16_f32 := by decide
  bcast_S_S8192x1536 := by decide
  reducesTo_S8192x1536_S_d0_1 := by decide
  h_S_ := by decide
  bcast_S_S2x960x256 := by decide
  reducesTo_S2x960x256_S_d0_1_2 := by decide

/-- A value below infinity in size is finite. -/
theorem fin'_of_abs (a : EReal) (h : Ideal.cmp .olt (max a (-a)) (Ideal.ofBits .f32 0x7F800000#32) = 1#1) : Fin' a := by
  rw [show Ideal.ofBits .f32 0x7F800000#32 = (⊤ : EReal) by simp [Ideal.ofBits, Ideal.ieee]] at h
  have hlt : max a (-a) < ⊤ := by
    by_contra hn
    simp only [Ideal.cmp, decide_eq_false hn] at h
    exact absurd h (by decide)
  refine fin'_of_lt ?_ (lt_of_le_of_lt (le_max_left _ _) hlt)
  have h2 := lt_of_le_of_lt (le_max_right a (-a)) hlt
  refine bot_lt_iff_ne_bot.mpr fun hb => ?_
  rw [hb, EReal.neg_bot] at h2
  exact absurd h2 (lt_irrefl _)

theorem finite_of_pre [h : Cert.Pre_finite_inputs.Facts] (x0 : Cert.Pre_finite_inputs.S8192x1536.Idx → EReal) (x1 : Cert.Pre_finite_inputs.S2x960x256.Idx → EReal)
    (x2 : Cert.Pre_finite_inputs.S8192x1024.Idx → EReal) (e : Cert.Pre_finite_inputs.fn (F := Ideal) x0 x1 x2 = fun _ => 1#1) :
    (∀ j, Fin' (x0 j)) ∧ ∀ j, Fin' (x1 j) := by
  have e' := congrFun e (Shape.Idx.first h.h_S_)
  unfold Cert.Pre_finite_inputs.fn at e'
  have e2 := IntOp.andi_eq_one.mp e'
  have sub : Subsingleton Cert.Pre_finite_inputs.S_.Idx := ⟨fun a b => funext fun k => k.elim0⟩
  exact ⟨fun j => fin'_of_abs _ (Host.reduce_andi_all _ _ _ _ _ e2.1 j), fun j => fin'_of_abs _ (Host.reduce_andi_all _ _ _ _ _ e2.2 j)⟩

end Cert.Proof.Attn

end
-- ==== Proof.BwdFinite.lean ====
/-
  The backward half step's precondition read at an element: every entry of the layer norm's scale and of its cotangent is finite.
-/
module

public import proofs.«01_k».proof.Pre_finite_norm
public import proofs.«01_k».proof.Proof.Finite

@[expose] public section

noncomputable section

namespace Cert.Proof.Bwd

open Idealize.ShloMosaic Cert.Pre_finite_norm
open Cert.Proof.Attn (Fin' fin'_of_abs)

theorem pre_facts : Cert.Pre_finite_norm.Facts where
  bcast_S_S1x1024 := by decide
  reducesTo_S1x1024_S_d0_1 := by decide
  h_S_ := by decide
  bcast_S_S8192x1024 := by decide
  reducesTo_S8192x1024_S_d0_1 := by decide

theorem finite_of_pre [h : Cert.Pre_finite_norm.Facts] (x0 : S8192x1024.Idx → EReal) (x1 x2 : S4x1024x704.Idx → EReal) (x3 : S4x704x1024.Idx → EReal)
    (x4 : S1x1024.Idx → EReal) (x5 : S8192x1024.Idx → EReal) (e : fn (F := Ideal) x0 x1 x2 x3 x4 x5 = fun _ => 1#1) : (∀ j, Fin' (x4 j)) ∧ ∀ j, Fin' (x5 j) := by
  have e' := congrFun e (Shape.Idx.first h.h_S_)
  unfold fn at e'
  have e2 := IntOp.andi_eq_one.mp e'
  have sub : Subsingleton S_.Idx := ⟨fun a b => funext fun k => k.elim0⟩
  exact ⟨fun j => fin'_of_abs _ (Host.reduce_andi_all _ _ _ _ _ e2.1 j), fun j => fin'_of_abs _ (Host.reduce_andi_all _ _ _ _ _ e2.2 j)⟩

end Cert.Proof.Bwd

end
-- ==== Proof.lean ====
/-
  The proof of `Cert.Claim`: for the attention's gradient, the gradients of the feed-forward weights and the feed-forward half
  step and its backward pass, the frames of the kernel at machine and at ideal floats and of the reference, the preservation, and that kernel and
  reference compute the same values.
-/
module

public import proofs.«01_k».proof.Defs
public import proofs.«01_k».proof.Proof.RunMain
public import proofs.«01_k».proof.Proof.Arrays
public import proofs.«01_k».proof.Proof.RefGrad
public import proofs.«01_k».proof.Proof.GateUpGrad
public import proofs.«01_k».proof.Proof.DownGrad
public import proofs.«01_k».proof.Proof.Gen.Kernel2.Frame
public import proofs.«01_k».proof.Proof.Gen.Kernel3.Frame
public import proofs.«01_k».proof.Proof.Gen.Reference2Ideal
public import proofs.«01_k».proof.Proof.Gen.Reference2Ideal.Run
public import proofs.«01_k».proof.Proof.Gen.Reference3Ideal
public import proofs.«01_k».proof.Proof.Gen.Reference3Ideal.Run
public import proofs.«01_k».proof.Proof.Gen.Kernel4.Frame
public import proofs.«01_k».proof.Proof.Gen.Reference4Ideal
public import proofs.«01_k».proof.Proof.Gen.Reference4Ideal.Run
public import proofs.«01_k».proof.Proof.FfnRef
public import proofs.«01_k».proof.Proof.Gen.Kernel5.Frame
public import proofs.«01_k».proof.Proof.Gen.Reference5Ideal
public import proofs.«01_k».proof.Proof.Gen.Reference5Ideal.Run
public import proofs.«01_k».proof.Proof.BwdRun
public import proofs.«01_k».proof.Proof.BwdRef
public import proofs.«01_k».proof.Proof.BwdFinite
public import proofs.«01_k».proof.Proof.Finite
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem Cert.Proof.Attn

local instance : Cert.Pre_finite_inputs.Facts := pre_facts
local instance : Cert.Pre_finite_norm.Facts := Bwd.pre_facts

/-! ## The frames -/

/-- The two printings of the kernel have the same body. -/
theorem body_eq {F : FTy → Type} [FloatOps F] : Cert.Kernel.cc0_attn_bwd (F := F) = Cert.KernelIdeal.cc0_attn_bwd (F := F) := rfl

theorem defs₀_eq {F : FTy → Type} [FloatOps F] : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rfl

theorem defs_eq {F : FTy → Type} [FloatOps F] : Cert.Kernel.defs (F := F) = Cert.KernelIdeal.defs (F := F) :=
  congrArg (Pipeline.defs Cert.KernelIdeal.pcfgs) defs₀_eq

theorem frame_kernel : Cert.quiescent_Kernel := fun m ρ _ => by
  rw [defs_eq]
  exact run_frame (F := Bits) m ρ

theorem frame_ideal : Cert.quiescent_KernelIdeal := fun m ρ _ => run_frame (F := Ideal) m ρ

theorem frame_reference : Cert.quiescent_ReferenceIdeal := fun m ρ _ =>
  (θ_run Cert.ReferenceIdeal.defs _ _).mono (fun r h => ⟨fun c => (h c).2.2.2.2, Idealize.ShloMosaic.sem_eq_zero_of_no_sems (by decide) r.2⟩)
    (Cert.ReferenceIdeal.Value.run (F := Ideal) m ρ)

/-! ## The values -/

theorem algebraic : Cert.algebraic_KernelIdeal_ReferenceIdeal_pre_finite_inputs := by
  intro m ρ m' ρ' hpre hagree
  refine ⟨fun c => (fun j : Cert.KernelIdeal.S8192x512.Idx => DQ (xOf m c) (bOf m c) (gOf m c) (j 0).val (j 1).val),
    fun c => (fun j : Cert.KernelIdeal.S8192x512.Idx => DK (xOf m c) (bOf m c) (gOf m c) (j 0).val (j 1).val),
    fun c => (fun j : Cert.KernelIdeal.S8192x512.Idx => DV (xOf m c) (bOf m c) (gOf m c) (j 0).val (j 1).val),
    fun c => (fun j : Cert.KernelIdeal.S2x960x256.Idx => DB (xOf m c) (bOf m c) (gOf m c) (j 0).val (j 1).val (j 2).val), ?_, ?_⟩
  · refine (θ_run Cert.KernelIdeal.defs _ _).mono (fun _ h c => ?_) (run_main (F := Ideal) m ρ)
    exact ⟨((h.1 c).1 5).trans (final_dq m c), ((h.1 c).1 6).trans (final_dk m c), ((h.1 c).1 7).trans (final_dv m c), ((h.1 c).1 8).trans (final_db m c),
      ((h.1 c).1 2).trans ((dats m c 0).arrAt_in 2 rfl _), ((h.1 c).1 3).trans ((dats m c 0).arrAt_in 3 rfl _), ((h.1 c).1 4).trans ((dats m c 0).arrAt_in 4 rfl _)⟩
  · refine (θ_run Cert.ReferenceIdeal.defs _ _).mono (fun _ h c => ?_) (Cert.ReferenceIdeal.Value.run (F := Ideal) m' ρ')
    obtain ⟨hx, hb⟩ := finite_of_pre _ _ _ (hpre c)
    obtain ⟨h0, h1, h2⟩ := hagree c
    refine ⟨(h c).1.trans ?_, (h c).2.1.trans ?_, (h c).2.2.1.trans ?_, (h c).2.2.2.1.trans ?_, (h c).2.2.2.2⟩
    · rw [Cert.ReferenceIdeal.Read.val_main_v138_eq]
      refine (congr (congr (congrArg _ h0) h1) h2).trans ?_
      exact funext fun j => Ref.dq138 _ _ _ hx hb j
    · rw [Cert.ReferenceIdeal.Read.val_main_v136_eq]
      refine (congr (congr (congrArg _ h0) h1) h2).trans ?_
      exact funext fun j => Ref.dk136 _ _ _ hx hb j
    · rw [Cert.ReferenceIdeal.Read.val_main_v134_eq]
      refine (congr (congr (congrArg _ h0) h1) h2).trans ?_
      exact funext fun j => Ref.dv134 _ _ _ j
    · rw [Cert.ReferenceIdeal.Read.val_main_v141_eq]
      refine (congr (congr (congrArg _ h0) h1) h2).trans ?_
      exact funext fun j => Ref.db141 _ _ _ hx hb j

/-! ## The gate and up projections' weights -/

theorem frame_reference2 : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

theorem algebraic2 : Cert.algebraic_Kernel2Ideal_Reference2Ideal := by
  intro m ρ m' ρ' _ hagree
  refine ⟨fun c => GateUp.W m c, ?_, ?_⟩
  · refine (θ_run Cert.Kernel2Ideal.defs _ _).mono (fun _ h c => ?_) (Cert.Kernel2Ideal.Value.run_blocks (F := Ideal) m ρ)
    exact ⟨(h c).1.trans (GateUp.final m c), (h c).2⟩
  · refine (θ_run Cert.Reference2Ideal.defs _ _).mono (fun _ h c => ?_) (Cert.Reference2Ideal.Value.run (F := Ideal) m' ρ')
    obtain ⟨h0, h1, h2⟩ := hagree c
    refine ⟨(h c).1.trans ?_, (h c).2⟩
    rw [Cert.Reference2Ideal.Read.val_main_v14_eq]
    refine (congr (congr (congrArg _ h0) h1) h2).trans ?_
    exact funext fun i => GateUp.reference_apply _ _ _ i

/-! ## The down projection's weights -/

theorem frame_reference3 : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

theorem algebraic3 : Cert.algebraic_Kernel3Ideal_Reference3Ideal := by
  intro m ρ m' ρ' _ hagree
  refine ⟨fun c => Down.W m c, ?_, ?_⟩
  · refine (θ_run Cert.Kernel3Ideal.defs _ _).mono (fun _ h c => ?_) (Cert.Kernel3Ideal.Gen.run_main (F := Ideal) m ρ)
    exact ⟨((h c).1 2).trans (Down.final m c), Cert.Kernel3Ideal.Value.kept_main_arg0 m _ h c, Cert.Kernel3Ideal.Value.kept_main_arg1 m _ h c⟩
  · refine (θ_run Cert.Reference3Ideal.defs _ _).mono (fun _ h c => ?_) (Cert.Reference3Ideal.Value.run (F := Ideal) m' ρ')
    obtain ⟨h0, h1⟩ := hagree c
    refine ⟨(h c).1.trans ?_, (h c).2⟩
    rw [Cert.Reference3Ideal.Read.val_main_v5_eq]
    refine (congr (congrArg _ h0) h1).trans ?_
    exact funext fun i => Down.reference_apply _ _ i

/-! ## The feed-forward half step -/

theorem frame_reference4 : Cert.quiescent_Reference4Ideal := fun m ρ _ =>
  (θ_run Cert.Reference4Ideal.defs _ _).mono (fun r h => ⟨fun c => (h c).2.2.2.2.2, Idealize.ShloMosaic.sem_eq_zero_of_no_sems (by decide) r.2⟩)
    (Cert.Reference4Ideal.Value.run (F := Ideal) m ρ)

theorem algebraic4 : Cert.algebraic_Kernel4Ideal_Reference4Ideal := by
  intro m ρ m' ρ' _ hagree
  refine ⟨fun c => Ffn.Yv (Ffn.X m c) (Ffn.WG m c) (Ffn.WU m c) (Ffn.WD m c) (Ffn.G m c) (Ffn.B m c), fun c => Ffn.Yv (Ffn.X m c) (Ffn.WG m c) (Ffn.WU m c) (Ffn.WD m c) (Ffn.G m c) (Ffn.B m c),
    fun c => Ffn.Zv (Ffn.X m c) (Ffn.WG m c) (Ffn.WU m c) (Ffn.WD m c), fun c => Ffn.Hv (Ffn.X m c) (Ffn.WG m c), fun c => Ffn.Hv (Ffn.X m c) (Ffn.WU m c), ?_, ?_⟩
  · refine (θ_run Cert.Kernel4Ideal.defs _ _).mono (fun _ h c => ?_) (Cert.Kernel4Ideal.Gen.run_main (F := Ideal) m ρ)
    exact ⟨((h c).1 6).trans (Ffn.final6 m c), ((h c).1 7).trans (Ffn.final7 m c), ((h c).1 8).trans (Ffn.final8 m c), ((h c).1 9).trans (Ffn.final9 m c), ((h c).1 10).trans (Ffn.final10 m c),
      ((h c).1 0).trans (((Cert.Kernel4Ideal.Gen.dats m 0 c).arrAt_in 0 rfl _).trans ((Cert.Kernel4Ideal.Gen.A_eq m c 0).trans (Cert.Kernel4Ideal.Gen.V_main_arg0 m c))), ((h c).1 1).trans (((Cert.Kernel4Ideal.Gen.dats m 0 c).arrAt_in 1 rfl _).trans ((Cert.Kernel4Ideal.Gen.A_eq m c 1).trans (Cert.Kernel4Ideal.Gen.V_main_arg1 m c))), ((h c).1 2).trans (((Cert.Kernel4Ideal.Gen.dats m 0 c).arrAt_in 2 rfl _).trans ((Cert.Kernel4Ideal.Gen.A_eq m c 2).trans (Cert.Kernel4Ideal.Gen.V_main_arg2 m c))), ((h c).1 3).trans (((Cert.Kernel4Ideal.Gen.dats m 0 c).arrAt_in 3 rfl _).trans ((Cert.Kernel4Ideal.Gen.A_eq m c 3).trans (Cert.Kernel4Ideal.Gen.V_main_arg3 m c))), ((h c).1 4).trans (((Cert.Kernel4Ideal.Gen.dats m 0 c).arrAt_in 4 rfl _).trans ((Cert.Kernel4Ideal.Gen.A_eq m c 4).trans (Cert.Kernel4Ideal.Gen.V_main_arg4 m c))), ((h c).1 5).trans (((Cert.Kernel4Ideal.Gen.dats m 0 c).arrAt_in 5 rfl _).trans ((Cert.Kernel4Ideal.Gen.A_eq m c 5).trans (Cert.Kernel4Ideal.Gen.V_main_arg5 m c)))⟩
  · refine (θ_run Cert.Reference4Ideal.defs _ _).mono (fun _ h c => ?_) (Cert.Reference4Ideal.Value.run (F := Ideal) m' ρ')
    obtain ⟨h0, h1, h2, h3, h4, h5⟩ := hagree c
    refine ⟨(h c).1.trans ?_, (h c).2.1.trans ?_, (h c).2.2.1.trans ?_, (h c).2.2.2.1.trans ?_, (h c).2.2.2.2.1.trans ?_, (h c).2.2.2.2.2⟩
    · rw [Cert.Reference4Ideal.Read.val_main_v39_eq]
      refine (congr (congr (congr (congr (congr (congrArg _ h0) h1) h2) h3) h4) h5).trans ?_
      exact Ffn.ref_y _ _ _ _ _ _
    · rw [Cert.Reference4Ideal.Read.val_main_v46_eq]
      refine (congr (congr (congr (congr (congr (congrArg _ h0) h1) h2) h3) h4) h5).trans ?_
      exact Ffn.ref_yb _ _ _ _ _ _
    · rw [Cert.Reference4Ideal.Read.val_main_v17_eq]
      refine (congr (congr (congr (congrArg _ h0) h1) h2) h3).trans ?_
      exact Ffn.ref_z _ _ _ _
    · rw [Cert.Reference4Ideal.Read.val_main_v42_eq]
      refine (congr (congrArg _ h0) h1).trans ?_
      exact Ffn.ref_gate _ _
    · rw [Cert.Reference4Ideal.Read.val_main_v45_eq]
      refine (congr (congrArg _ h0) h2).trans ?_
      exact Ffn.ref_up _ _

/-! ## The backward half step -/

theorem frame_reference5 : Cert.quiescent_Reference5Ideal := fun m ρ _ =>
  (θ_run Cert.Reference5Ideal.defs _ _).mono (fun r h => ⟨fun c => (h c).2.2.2.2.2.2, Idealize.ShloMosaic.sem_eq_zero_of_no_sems (by decide) r.2⟩)
    (Cert.Reference5Ideal.Value.run (F := Ideal) m ρ)

set_option maxHeartbeats 2000000 in
theorem algebraic5 : Cert.algebraic_Kernel5Ideal_Reference5Ideal_pre_finite_norm := by
  intro m ρ m' ρ' hpre hagree
  refine ⟨fun c => Bwd.DXv (Bwd.Ref.Dz (Bwd.X m c) (Bwd.WG m c) (Bwd.WU m c) (Bwd.WD m c) (Bwd.G m c) (Bwd.DY m c)) (Ffn.Hv (Bwd.X m c) (Bwd.WG m c)) (Ffn.Hv (Bwd.X m c) (Bwd.WU m c)) (Bwd.WG m c) (Bwd.WU m c) (Bwd.WD m c),
    fun c => Bwd.DFv (Bwd.Ref.Dz (Bwd.X m c) (Bwd.WG m c) (Bwd.WU m c) (Bwd.WD m c) (Bwd.G m c) (Bwd.DY m c)),
    fun c => Bwd.DGv (Bwd.Ref.Dz (Bwd.X m c) (Bwd.WG m c) (Bwd.WU m c) (Bwd.WD m c) (Bwd.G m c) (Bwd.DY m c)) (Ffn.Hv (Bwd.X m c) (Bwd.WG m c)) (Ffn.Hv (Bwd.X m c) (Bwd.WU m c)) (Bwd.WD m c),
    fun c => Bwd.DUv (Bwd.Ref.Dz (Bwd.X m c) (Bwd.WG m c) (Bwd.WU m c) (Bwd.WD m c) (Bwd.G m c) (Bwd.DY m c)) (Ffn.Hv (Bwd.X m c) (Bwd.WG m c)) (Bwd.WD m c),
    fun c => Bwd.Av (Ffn.Hv (Bwd.X m c) (Bwd.WG m c)) (Ffn.Hv (Bwd.X m c) (Bwd.WU m c)),
    fun c => Bwd.LNv (Bwd.DY m c) (Ffn.Zv (Bwd.X m c) (Bwd.WG m c) (Bwd.WU m c) (Bwd.WD m c)), ?_, ?_⟩
  · refine (θ_run Cert.Kernel5Ideal.defs _ _).mono (fun _ h c => ?_) (Cert.Kernel5Ideal.Gen.run_main (F := Ideal) m ρ)
    exact ⟨Bwd.mem_out0 h c, Bwd.mem_out1 h c, Bwd.mem_out2 h c, Bwd.mem_out3 h c, Bwd.mem_out4 h c, Bwd.mem_out5 h c,
      Bwd.mem_arg0 h c, Bwd.mem_arg1 h c, Bwd.mem_arg2 h c, Bwd.mem_arg3 h c, Bwd.mem_arg4 h c, Bwd.mem_arg5 h c⟩
  · refine (θ_run Cert.Reference5Ideal.defs _ _).mono (fun _ h c => ?_) (Cert.Reference5Ideal.Value.run (F := Ideal) m' ρ')
    obtain ⟨hg, hdy⟩ := Bwd.finite_of_pre _ _ _ _ _ _ (hpre c)
    obtain ⟨h0, h1, h2, h3, h4, h5⟩ := hagree c
    refine ⟨(h c).1.trans ?_, (h c).2.1.trans ?_, (h c).2.2.1.trans ?_, (h c).2.2.2.1.trans ?_, (h c).2.2.2.2.1.trans ?_, (h c).2.2.2.2.2.1.trans ?_, (h c).2.2.2.2.2.2⟩
    · rw [Cert.Reference5Ideal.Read.val_main_v89_eq]
      refine (congr (congr (congr (congr (congr (congrArg _ h0) h1) h2) h3) h4) h5).trans ?_
      exact Bwd.Ref.ref_dx _ _ _ _ _ _ hg hdy
    · rw [Cert.Reference5Ideal.Read.val_main_v99_eq]
      refine (congr (congr (congr (congr (congr (congrArg _ h0) h1) h2) h3) h4) h5).trans ?_
      exact Bwd.Ref.ref_df _ _ _ _ _ _ hg hdy
    · rw [Cert.Reference5Ideal.Read.val_main_v92_eq]
      refine (congr (congr (congr (congr (congr (congrArg _ h0) h1) h2) h3) h4) h5).trans ?_
      exact Bwd.Ref.ref_dgate _ _ _ _ _ _ hg hdy
    · rw [Cert.Reference5Ideal.Read.val_main_v95_eq]
      refine (congr (congr (congr (congr (congr (congrArg _ h0) h1) h2) h3) h4) h5).trans ?_
      exact Bwd.Ref.ref_dup _ _ _ _ _ _ hg hdy
    · rw [Cert.Reference5Ideal.Read.val_main_v98_eq]
      refine (congr (congr (congrArg _ h0) h1) h2).trans ?_
      exact Bwd.Ref.ref_a _ _ _
    · rw [Cert.Reference5Ideal.Read.val_main_v102_eq]
      refine (congr (congr (congr (congr (congrArg _ h0) h1) h2) h3) h5).trans ?_
      exact Bwd.Ref.ref_ln _ _ _ _ _

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, pre_facts, Bwd.pre_facts,
    frame_kernel, frame_ideal, fun m ρ _ => frame_ideal m ρ trivial, frame_reference, fun m ρ _ => frame_reference m ρ trivial,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, fun m ρ _ => Cert.Kernel5Ideal.Gen.frame m ρ, frame_reference5,
    fun m ρ _ => frame_reference5 m ρ trivial,
    trivial, algebraic, trivial, algebraic2, trivial, algebraic3, trivial, algebraic4, trivial, algebraic5⟩

end Cert.Proof

end
